-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite [hPre_all_finite : Cert.Pre_all_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite [hPre_all_finite : Cert.Pre_all_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_all_finite [hKernel3Ideal : Cert.Kernel3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_all_finite [hReference3Ideal : Cert.Reference3Ideal.Facts] [hPre_all_finite : Cert.Pre_all_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_all_finite [hKernel3Ideal : Cert.Kernel3Ideal.Facts] [hReference3Ideal : Cert.Reference3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_all_finite (hKernel3Ideal := hKernel3Ideal) (hPre_all_finite := hPre_all_finite)
    ∧ quiescent_Reference3Ideal (hReference3Ideal := hReference3Ideal)
    ∧ quiescent_Reference3Ideal_pre_all_finite (hReference3Ideal := hReference3Ideal) (hPre_all_finite := hPre_all_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_all_finite (hKernel3Ideal := hKernel3Ideal) (hReference3Ideal := hReference3Ideal) (hPre_all_finite := hPre_all_finite)
    ∧ preserves_Kernel4_Kernel4Ideal
    ∧ algebraic_Kernel4Ideal_Reference4Ideal (hKernel4Ideal := hKernel4Ideal) (hReference4Ideal := hReference4Ideal)
-- ==== Pre_all_finite.lean ====
abbrev S4x32 : Shape := ⟨2, ![4, 32]⟩
abbrev S64 : Shape := ⟨1, ![64]⟩
abbrev S2x16384x4x2x32 : Shape := ⟨5, ![2, 16384, 4, 2, 32]⟩
abbrev S2x16384x4x64 : Shape := ⟨4, ![2, 16384, 4, 64]⟩
abbrev S_ : Shape := ⟨0, ![]⟩

class Facts : Prop where
  bcast_S_S4x32 : S_.BroadcastsInDim S4x32 (![] : Fin 0 → Fin S4x32.rank)
  reducesTo_S4x32_S_d0_1 : S4x32.ReducesTo [0, 1] S_
  h_S_ : 0 < S_.numel
  bcast_S_S2x16384x4x2x32 : S_.BroadcastsInDim S2x16384x4x2x32 (![] : Fin 0 → Fin S2x16384x4x2x32.rank)
  reducesTo_S2x16384x4x2x32_S_d0_1_2_3_4 : S2x16384x4x2x32.ReducesTo [0, 1, 2, 3, 4] S_
  bcast_S_S2x16384x4x64 : S_.BroadcastsInDim S2x16384x4x64 (![] : Fin 0 → Fin S2x16384x4x64.rank)
  reducesTo_S2x16384x4x64_S_d0_1_2_3 : S2x16384x4x64.ReducesTo [0, 1, 2, 3] S_

variable [Facts]

def fn_part1 {F : FTy → Type} [FloatOps F] (main_v13 : IVec S_ 1) (main_v16 : IVec S2x16384x4x64 1) : IVec S_ 1 :=
  let main_c_5 : IVec S_ 1 := constantI S_ 1 1#1
  let main_v17 : IVec S_ 1 := (fun x v => Host.reduce IntOp.andi x v reducesTo_S2x16384x4x64_S_d0_1_2_3 h_S_) main_v16 main_c_5
  let main_v18 : IVec S_ 1 := andi main_v13 main_v17
  main_v18

def fn {F : FTy → Type} [FloatOps F] (main_arg0 : FVec F S4x32 .f32) (main_arg1 : FVec F S64 .f32) (main_arg2 : FVec F S2x16384x4x2x32 .f32) (main_arg3 : FVec F S2x16384x4x2x32 .f32) (main_arg4 : FVec F S2x16384x4x64 .f32) : IVec S_ 1 :=
  let main_v0 : FVec F S4x32 .f32 := Host.absf main_arg0
  let main_cst : FVec F S_ .f32 := constant S_ .f32 0x7F800000#32
  let main_v1 : FVec F S4x32 .f32 := broadcastInDim S4x32 ![] bcast_S_S4x32 main_cst
  let main_v2 : IVec S4x32 1 := cmpf .olt main_v0 main_v1
  let main_c : IVec S_ 1 := constantI S_ 1 1#1
  let main_v3 : IVec S_ 1 := (fun x v => Host.reduce IntOp.andi x v reducesTo_S4x32_S_d0_1 h_S_) main_v2 main_c
  let main_v4 : FVec F S2x16384x4x2x32 .f32 := Host.absf main_arg2
  let main_cst_0 : FVec F S_ .f32 := constant S_ .f32 0x7F800000#32
  let main_v5 : FVec F S2x16384x4x2x32 .f32 := broadcastInDim S2x16384x4x2x32 ![] bcast_S_S2x16384x4x2x32 main_cst_0
  let main_v6 : IVec S2x16384x4x2x32 1 := cmpf .olt main_v4 main_v5
  let main_c_1 : IVec S_ 1 := constantI S_ 1 1#1
  let main_v7 : IVec S_ 1 := (fun x v => Host.reduce IntOp.andi x v reducesTo_S2x16384x4x2x32_S_d0_1_2_3_4 h_S_) main_v6 main_c_1
  let main_v8 : IVec S_ 1 := andi main_v3 main_v7
  let main_v9 : FVec F S2x16384x4x2x32 .f32 := Host.absf main_arg3
  let main_cst_2 : FVec F S_ .f32 := constant S_ .f32 0x7F800000#32
  let main_v10 : FVec F S2x16384x4x2x32 .f32 := broadcastInDim S2x16384x4x2x32 ![] bcast_S_S2x16384x4x2x32 main_cst_2
  let main_v11 : IVec S2x16384x4x2x32 1 := cmpf .olt main_v9 main_v10
  let main_c_3 : IVec S_ 1 := constantI S_ 1 1#1
  let main_v12 : IVec S_ 1 := (fun x v => Host.reduce IntOp.andi x v reducesTo_S2x16384x4x2x32_S_d0_1_2_3_4 h_S_) main_v11 main_c_3
  let main_v13 : IVec S_ 1 := andi main_v8 main_v12
  let main_v14 : FVec F S2x16384x4x64 .f32 := Host.absf main_arg4
  let main_cst_4 : FVec F S_ .f32 := constant S_ .f32 0x7F800000#32
  let main_v15 : FVec F S2x16384x4x64 .f32 := broadcastInDim S2x16384x4x64 ![] bcast_S_S2x16384x4x64 main_cst_4
  let main_v16 : IVec S2x16384x4x64 1 := cmpf .olt main_v14 main_v15
  fn_part1 (F := F) main_v13 main_v16
-- ==== Pre_finite.lean ====
abbrev S2x16384x4x96 : Shape := ⟨4, ![2, 16384, 4, 96]⟩
abbrev S2x16384x4x64 : Shape := ⟨4, ![2, 16384, 4, 64]⟩
abbrev S_ : Shape := ⟨0, ![]⟩

class Facts : Prop where
  bcast_S_S2x16384x4x96 : S_.BroadcastsInDim S2x16384x4x96 (![] : Fin 0 → Fin S2x16384x4x96.rank)

variable [Facts]

def fn {F : FTy → Type} [FloatOps F] (main_arg0 : FVec F S2x16384x4x96 .f32) (main_arg1 : FVec F S2x16384x4x96 .f32) (main_arg2 : FVec F S2x16384x4x64 .f32) : IVec S2x16384x4x96 1 :=
  let main_v0 : FVec F S2x16384x4x96 .f32 := Host.absf main_arg0
  let main_cst : FVec F S_ .f32 := constant S_ .f32 0x7F800000#32
  let main_v1 : FVec F S2x16384x4x96 .f32 := broadcastInDim S2x16384x4x96 ![] bcast_S_S2x16384x4x96 main_cst
  let main_v2 : IVec S2x16384x4x96 1 := cmpf .olt main_v0 main_v1
  let main_v3 : FVec F S2x16384x4x96 .f32 := Host.absf main_arg1
  let main_cst_0 : FVec F S_ .f32 := constant S_ .f32 0x7F800000#32
  let main_v4 : FVec F S2x16384x4x96 .f32 := broadcastInDim S2x16384x4x96 ![] bcast_S_S2x16384x4x96 main_cst_0
  let main_v5 : IVec S2x16384x4x96 1 := cmpf .olt main_v3 main_v4
  let main_v6 : IVec S2x16384x4x96 1 := andi main_v2 main_v5
  main_v6
-- ==== Kernel.lean ====
abbrev S2x16384x4x96 : Shape := ⟨4, ![2, 16384, 4, 96]⟩
abbrev S2x16384x4x64 : Shape := ⟨4, ![2, 16384, 4, 64]⟩
abbrev S_ : Shape := ⟨0, ![]⟩
abbrev S2x16384x4x128 : Shape := ⟨4, ![2, 16384, 4, 128]⟩
abbrev S2x16384x512 : Shape := ⟨3, ![2, 16384, 512]⟩
abbrev S2x512x16384 : Shape := ⟨3, ![2, 512, 16384]⟩
abbrev S2x32x512x4x64 : Shape := ⟨5, ![2, 32, 512, 4, 64]⟩
abbrev S2x4x32x64x512 : Shape := ⟨5, ![2, 4, 32, 64, 512]⟩
abbrev S2x4x32x16x512 : Shape := ⟨5, ![2, 4, 32, 16, 512]⟩
abbrev S2x4x32x80x512 : Shape := ⟨5, ![2, 4, 32, 80, 512]⟩
abbrev S2x256x16384 : Shape := ⟨3, ![2, 256, 16384]⟩
abbrev S1x128x1024 : Shape := ⟨3, ![1, 128, 1024]⟩
abbrev S1x16384x128 : Shape := ⟨3, ![1, 16384, 128]⟩
abbrev S1x1x32x80x512 : Shape := ⟨5, ![1, 1, 32, 80, 512]⟩
abbrev S1x64x1024 : Shape := ⟨3, ![1, 64, 1024]⟩
abbrev S4x512x1024 : Shape := ⟨3, ![4, 512, 1024]⟩
abbrev S8x128 : Shape := ⟨2, ![8, 128]⟩
abbrev S1x128 : Shape := ⟨2, ![1, 128]⟩
abbrev S1x1024x128 : Shape := ⟨3, ![1, 1024, 128]⟩
abbrev S1024x128 : Shape := ⟨2, ![1024, 128]⟩
abbrev S128 : Shape := ⟨1, ![128]⟩
abbrev S128x1024 : Shape := ⟨2, ![128, 1024]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1024 : Shape := ⟨1, ![1024]⟩
abbrev S1x1024 : Shape := ⟨2, ![1, 1024]⟩
abbrev S8x1024 : Shape := ⟨2, ![8, 1024]⟩
abbrev S1x1x1024 : Shape := ⟨3, ![1, 1, 1024]⟩
abbrev S1 : Shape := ⟨1, ![1]⟩
abbrev S1x1x1 : Shape := ⟨3, ![1, 1, 1]⟩
abbrev S80x1024 : Shape := ⟨2, ![80, 1024]⟩
abbrev S1x1x1x80x512 : Shape := ⟨5, ![1, 1, 1, 80, 512]⟩
abbrev S80x512 : Shape := ⟨2, ![80, 512]⟩
abbrev S64x1024 : Shape := ⟨2, ![64, 1024]⟩

abbrev nBuf : Space → Nat
  | .hbm => 28
  | .vmem => 11
  | .smem => 0
  | _ => 0

abbrev bufTy : (tb : Table) → Fin (tcTables nBuf tb) → BufTy
  | .hbm, ⟨0, _⟩ => ⟨S2x16384x4x96, .f32⟩
  | .hbm, ⟨1, _⟩ => ⟨S2x16384x4x96, .f32⟩
  | .hbm, ⟨2, _⟩ => ⟨S2x16384x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S2x16384x4x128, .f32⟩
  | .hbm, ⟨11, _⟩ => ⟨S2x16384x512, .f32⟩
  | .hbm, ⟨12, _⟩ => ⟨S2x16384x512, .f32⟩
  | .hbm, ⟨13, _⟩ => ⟨S2x16384x512, .f32⟩
  | .hbm, ⟨14, _⟩ => ⟨S2x512x16384, .f32⟩
  | .hbm, ⟨15, _⟩ => ⟨S2x512x16384, .bf16⟩
  | .hbm, ⟨16, _⟩ => ⟨S_, .i32⟩
  | .hbm, ⟨17, _⟩ => ⟨S_, .f32⟩
  | .hbm, ⟨18, _⟩ => ⟨S2x16384x4x128, .f32⟩
  | .hbm, ⟨19, _⟩ => ⟨S2x16384x512, .f32⟩
  | .hbm, ⟨20, _⟩ => ⟨S2x16384x512, .bf16⟩
  | .hbm, ⟨21, _⟩ => ⟨S2x16384x4x64, .bf16⟩
  | .hbm, ⟨22, _⟩ => ⟨S2x32x512x4x64, .bf16⟩
  | .hbm, ⟨23, _⟩ => ⟨S2x4x32x64x512, .bf16⟩
  | .hbm, ⟨24, _⟩ => ⟨S_, .bf16⟩
  | .hbm, ⟨25, _⟩ => ⟨S2x4x32x16x512, .bf16⟩
  | .hbm, ⟨26, _⟩ => ⟨S2x4x32x80x512, .bf16⟩
  | .hbm, ⟨27, _⟩ => ⟨S2x256x16384, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x1x32x80x512, .bf16⟩
  | .local _ .vmem, ⟨5, _⟩ => ⟨S1x1x32x80x512, .bf16⟩
  | .local _ .vmem, ⟨6, _⟩ => ⟨S1x64x1024, .bf16⟩
  | .local _ .vmem, ⟨7, _⟩ => ⟨S1x64x1024, .bf16⟩
  | .local _ .vmem, ⟨8, _⟩ => ⟨S4x512x1024, .f32⟩
  | .local _ .vmem, ⟨9, _⟩ => ⟨S4x512x1024, .bf16⟩
  | .local _ .vmem, ⟨10, _⟩ => ⟨S8x128, .f32⟩
  | _, _ => ⟨S2x16384x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c16_i32 : BitVec 32 := 16#32
  let v40 : BitVec 32 := Scalar.addi c0_i32_21 c16_i32
  let c1_i32 : BitVec 32 := 1#32
  ⟨c0_i32_21, v40, c1_i32⟩
def k0_mult1 (k0_t1 : Fin k0_t1_loop.trips) : BitVec 32 :=
  let c0_i32_21 : BitVec 32 := 0#32
  let c1_i32 : BitVec 32 := 1#32
  let arg10 : BitVec 32 := Scf.iv c0_i32_21 c1_i32 k0_t1
  let c1024_i32 : BitVec 32 := 1024#32
  let v47 : BitVec 32 := Scalar.muli arg10 c1024_i32
  v47
def k0_off1 (k0_t1 : Fin k0_t1_loop.trips) : Fin 3 → Nat :=
  let c0_25 : Index := 0#32
  let c0_i32_21 : BitVec 32 := 0#32
  let c1_i32 : BitVec 32 := 1#32
  let arg10 : BitVec 32 := Scf.iv c0_i32_21 c1_i32 k0_t1
  let c1024_i32 : BitVec 32 := 1024#32
  let v47 : BitVec 32 := Scalar.muli arg10 c1024_i32
  let v48 : BitVec 32 := v47
  let v49 : Index := Scalar.indexCast v48
  let c0_26 : Index := 0#32
  ![0, v49.toNat, 0]
def k0_mult2 : BitVec 32 :=
  let c0_i32_3 : BitVec 32 := 0#32
  c0_i32_3
def k0_mult3 : BitVec 32 :=
  let c512_i32 : BitVec 32 := 512#32
  c512_i32
def k0_mult4 : BitVec 32 :=
  let c1024_i32 : BitVec 32 := 1024#32
  c1024_i32
def k0_mult5 : BitVec 32 :=
  let c1536_i32 : BitVec 32 := 1536#32
  c1536_i32
def k0_mult6 : BitVec 32 :=
  let c2048_i32 : BitVec 32 := 2048#32
  c2048_i32
def k0_mult7 : BitVec 32 :=
  let c2560_i32 : BitVec 32 := 2560#32
  c2560_i32
def k0_mult8 : BitVec 32 :=
  let c3072_i32 : BitVec 32 := 3072#32
  c3072_i32
def k0_mult9 : BitVec 32 :=
  let c3584_i32 : BitVec 32 := 3584#32
  c3584_i32
def k0_mult10 : BitVec 32 :=
  let c4096_i32 : BitVec 32 := 4096#32
  c4096_i32
def k0_mult11 : BitVec 32 :=
  let c4608_i32 : BitVec 32 := 4608#32
  c4608_i32
def k0_mult12 : BitVec 32 :=
  let c5120_i32 : BitVec 32 := 5120#32
  c5120_i32
def k0_mult13 : BitVec 32 :=
  let c5632_i32 : BitVec 32 := 5632#32
  c5632_i32
def k0_mult14 : BitVec 32 :=
  let c6144_i32 : BitVec 32 := 6144#32
  c6144_i32
def k0_mult15 : BitVec 32 :=
  let c6656_i32 : BitVec 32 := 6656#32
  c6656_i32
def k0_mult16 : BitVec 32 :=
  let c7168_i32 : BitVec 32 := 7168#32
  c7168_i32
def k0_mult17 : BitVec 32 :=
  let c7680_i32 : BitVec 32 := 7680#32
  c7680_i32
def k0_mult18 : BitVec 32 :=
  let c8192_i32 : BitVec 32 := 8192#32
  c8192_i32
def k0_mult19 : BitVec 32 :=
  let c8704_i32 : BitVec 32 := 8704#32
  c8704_i32
def k0_mult20 : BitVec 32 :=
  let c9216_i32 : BitVec 32 := 9216#32
  c9216_i32
def k0_mult21 : BitVec 32 :=
  let c9728_i32 : BitVec 32 := 9728#32
  c9728_i32
def k0_mult22 : BitVec 32 :=
  let c10240_i32 : BitVec 32 := 10240#32
  c10240_i32
def k0_mult23 : BitVec 32 :=
  let c10752_i32 : BitVec 32 := 10752#32
  c10752_i32
def k0_mult24 : BitVec 32 :=
  let c11264_i32 : BitVec 32 := 11264#32
  c11264_i32
def k0_mult25 : BitVec 32 :=
  let c11776_i32 : BitVec 32 := 11776#32
  c11776_i32
def k0_mult26 : BitVec 32 :=
  let c12288_i32 : BitVec 32 := 12288#32
  c12288_i32
def k0_mult27 : BitVec 32 :=
  let c12800_i32 : BitVec 32 := 12800#32
  c12800_i32
def k0_mult28 : BitVec 32 :=
  let c13312_i32 : BitVec 32 := 13312#32
  c13312_i32
def k0_mult29 : BitVec 32 :=
  let c13824_i32 : BitVec 32 := 13824#32
  c13824_i32
def k0_mult30 : BitVec 32 :=
  let c14336_i32 : BitVec 32 := 14336#32
  c14336_i32
def k0_mult31 : BitVec 32 :=
  let c14848_i32 : BitVec 32 := 14848#32
  c14848_i32
def k0_mult32 : BitVec 32 :=
  let c15360_i32 : BitVec 32 := 15360#32
  c15360_i32
def k0_mult33 : BitVec 32 :=
  let c15872_i32 : BitVec 32 := 15872#32
  c15872_i32
def k0_mult34 : BitVec 32 :=
  let c0_i32_24 : BitVec 32 := 0#32
  c0_i32_24
def k0_mult35 : BitVec 32 :=
  let c512_i32 : BitVec 32 := 512#32
  c512_i32
@[reducible] def k0_t2_loop : Scf.Loop 32 :=
  let c0_i32_40 : BitVec 32 := 0#32
  let c4_i32 : BitVec 32 := 4#32
  let v65 : BitVec 32 := Scalar.addi c0_i32_40 c4_i32
  let c1_i32 : BitVec 32 := 1#32
  ⟨c0_i32_40, v65, c1_i32⟩
def k0_mult36 (k0_t2 : Fin k0_t2_loop.trips) : BitVec 32 :=
  let c8_i32 : BitVec 32 := 8#32
  let c0_i32_40 : BitVec 32 := 0#32
  let c1_i32 : BitVec 32 := 1#32
  let arg10 : BitVec 32 := Scf.iv c0_i32_40 c1_i32 k0_t2
  let v73 : BitVec 32 := Scalar.muli c8_i32 arg10
  let c0_i32_50 : BitVec 32 := 0#32
  let v74 : BitVec 32 := Scalar.addi v73 c0_i32_50
  let c2_i32 : BitVec 32 := 2#32
  let v78 : BitVec 32 := Scalar.addi v74 c2_i32
  let c31_i32 : BitVec 32 := 31#32
  let v79 : BitVec 32 := Scalar.minsi v78 c31_i32
  let c512_i32_51 : BitVec 32 := 512#32
  let v80 : BitVec 32 := Scalar.muli v79 c512_i32_51
  v80
def k0_off2 (k0_t2 : Fin k0_t2_loop.trips) (c0_i32_50 : BitVec 32) : Fin 3 → Nat :=
  let c0_52 : Index := 0#32
  let c8_i32 : BitVec 32 := 8#32
  let c0_i32_40 : BitVec 32 := 0#32
  let c1_i32 : BitVec 32 := 1#32
  let arg10 : BitVec 32 := Scf.iv c0_i32_40 c1_i32 k0_t2
  let v73 : BitVec 32 := Scalar.muli c8_i32 arg10
  let v74 : BitVec 32 := Scalar.addi v73 c0_i32_50
  let c2_i32 : BitVec 32 := 2#32
  let v78 : BitVec 32 := Scalar.addi v74 c2_i32
  let c31_i32 : BitVec 32 := 31#32
  let v79 : BitVec 32 := Scalar.minsi v78 c31_i32
  let c512_i32_51 : BitVec 32 := 512#32
  let v80 : BitVec 32 := Scalar.muli v79 c512_i32_51
  let v81 : BitVec 32 := v80
  let v82 : Index := Scalar.indexCast v81
  let c0_53 : Index := 0#32
  ![0, v82.toNat, 0]
def k0_off3 (k0_t2 : Fin k0_t2_loop.trips) (c0_i32_50 : BitVec 32) : Fin 5 → Nat :=
  let c0_60 : Index := 0#32
  let c0_61 : Index := 0#32
  let c8_i32 : BitVec 32 := 8#32
  let c0_i32_40 : BitVec 32 := 0#32
  let c1_i32 : BitVec 32 := 1#32
  let arg10 : BitVec 32 := Scf.iv c0_i32_40 c1_i32 k0_t2
  let v73 : BitVec 32 := Scalar.muli c8_i32 arg10
  let v74 : BitVec 32 := Scalar.addi v73 c0_i32_50
  let c1_i32_58 : BitVec 32 := 1#32
  let v91 : BitVec 32 := Scalar.subi v74 c1_i32_58
  let c0_i32_59 : BitVec 32 := 0#32
  let v92 : BitVec 32 := Scalar.maxsi v91 c0_i32_59
  let v93 : Index := Scalar.indexCast v92
  let c0_62 : Index := 0#32
  let c0_63 : Index := 0#32
  ![0, 0, v93.toNat, 0, 0]
def k0_mult37 (k0_t2 : Fin k0_t2_loop.trips) : BitVec 32 :=
  let c8_i32_74 : BitVec 32 := 8#32
  let c0_i32_40 : BitVec 32 := 0#32
  let c1_i32 : BitVec 32 := 1#32
  let arg10 : BitVec 32 := Scf.iv c0_i32_40 c1_i32 k0_t2
  let v111 : BitVec 32 := Scalar.muli c8_i32_74 arg10
  let c1_i32_75 : BitVec 32 := 1#32
  let v112 : BitVec 32 := Scalar.addi v111 c1_i32_75
  let c2_i32_76 : BitVec 32 := 2#32
  let v116 : BitVec 32 := Scalar.addi v112 c2_i32_76
  let c31_i32_77 : BitVec 32 := 31#32
  let v117 : BitVec 32 := Scalar.minsi v116 c31_i32_77
  let c512_i32_78 : BitVec 32 := 512#32
  let v118 : BitVec 32 := Scalar.muli v117 c512_i32_78
  v118
def k0_mult38 (k0_t2 : Fin k0_t2_loop.trips) : BitVec 32 :=
  let c8_i32_101 : BitVec 32 := 8#32
  let c0_i32_40 : BitVec 32 := 0#32
  let c1_i32 : BitVec 32 := 1#32
  let arg10 : BitVec 32 := Scf.iv c0_i32_40 c1_i32 k0_t2
  let v149 : BitVec 32 := Scalar.muli c8_i32_101 arg10
  let c2_i32_102 : BitVec 32 := 2#32
  let v150 : BitVec 32 := Scalar.addi v149 c2_i32_102
  let c2_i32_103 : BitVec 32 := 2#32
  let v154 : BitVec 32 := Scalar.addi v150 c2_i32_103
  let c31_i32_104 : BitVec 32 := 31#32
  let v155 : BitVec 32 := Scalar.minsi v154 c31_i32_104
  let c512_i32_105 : BitVec 32 := 512#32
  let v156 : BitVec 32 := Scalar.muli v155 c512_i32_105
  v156
def k0_mult39 (k0_t2 : Fin k0_t2_loop.trips) : BitVec 32 :=
  let c8_i32_129 : BitVec 32 := 8#32
  let c0_i32_40 : BitVec 32 := 0#32
  let c1_i32 : BitVec 32 := 1#32
  let arg10 : BitVec 32 := Scf.iv c0_i32_40 c1_i32 k0_t2
  let v187 : BitVec 32 := Scalar.muli c8_i32_129 arg10
  let c3_i32 : BitVec 32 := 3#32
  let v188 : BitVec 32 := Scalar.addi v187 c3_i32
  let c2_i32_130 : BitVec 32 := 2#32
  let v192 : BitVec 32 := Scalar.addi v188 c2_i32_130
  let c31_i32_131 : BitVec 32 := 31#32
  let v193 : BitVec 32 := Scalar.minsi v192 c31_i32_131
  let c512_i32_132 : BitVec 32 := 512#32
  let v194 : BitVec 32 := Scalar.muli v193 c512_i32_132
  v194
def k0_mult40 (k0_t2 : Fin k0_t2_loop.trips) : BitVec 32 :=
  let c8_i32_156 : BitVec 32 := 8#32
  let c0_i32_40 : BitVec 32 := 0#32
  let c1_i32 : BitVec 32 := 1#32
  let arg10 : BitVec 32 := Scf.iv c0_i32_40 c1_i32 k0_t2
  let v225 : BitVec 32 := Scalar.muli c8_i32_156 arg10
  let c4_i32_157 : BitVec 32 := 4#32
  let v226 : BitVec 32 := Scalar.addi v225 c4_i32_157
  let c2_i32_158 : BitVec 32 := 2#32
  let v230 : BitVec 32 := Scalar.addi v226 c2_i32_158
  let c31_i32_159 : BitVec 32 := 31#32
  let v231 : BitVec 32 := Scalar.minsi v230 c31_i32_159
  let c512_i32_160 : BitVec 32 := 512#32
  let v232 : BitVec 32 := Scalar.muli v231 c512_i32_160
  v232
def k0_mult41 (k0_t2 : Fin k0_t2_loop.trips) : BitVec 32 :=
  let c8_i32_184 : BitVec 32 := 8#32
  let c0_i32_40 : BitVec 32 := 0#32
  let c1_i32 : BitVec 32 := 1#32
  let arg10 : BitVec 32 := Scf.iv c0_i32_40 c1_i32 k0_t2
  let v263 : BitVec 32 := Scalar.muli c8_i32_184 arg10
  let c5_i32 : BitVec 32 := 5#32
  let v264 : BitVec 32 := Scalar.addi v263 c5_i32
  let c2_i32_185 : BitVec 32 := 2#32
  let v268 : BitVec 32 := Scalar.addi v264 c2_i32_185
  let c31_i32_186 : BitVec 32 := 31#32
  let v269 : BitVec 32 := Scalar.minsi v268 c31_i32_186
  let c512_i32_187 : BitVec 32 := 512#32
  let v270 : BitVec 32 := Scalar.muli v269 c512_i32_187
  v270
def k0_mult42 (k0_t2 : Fin k0_t2_loop.trips) : BitVec 32 :=
  let c8_i32_211 : BitVec 32 := 8#32
  let c0_i32_40 : BitVec 32 := 0#32
  let c1_i32 : BitVec 32 := 1#32
  let arg10 : BitVec 32 := Scf.iv c0_i32_40 c1_i32 k0_t2
  let v301 : BitVec 32 := Scalar.muli c8_i32_211 arg10
  let c6_i32 : BitVec 32 := 6#32
  let v302 : BitVec 32 := Scalar.addi v301 c6_i32
  let c2_i32_212 : BitVec 32 := 2#32
  let v306 : BitVec 32 := Scalar.addi v302 c2_i32_212
  let c31_i32_213 : BitVec 32 := 31#32
  let v307 : BitVec 32 := Scalar.minsi v306 c31_i32_213
  let c512_i32_214 : BitVec 32 := 512#32
  let v308 : BitVec 32 := Scalar.muli v307 c512_i32_214
  v308
def k0_mult43 (k0_t2 : Fin k0_t2_loop.trips) : BitVec 32 :=
  let c8_i32_238 : BitVec 32 := 8#32
  let c0_i32_40 : BitVec 32 := 0#32
  let c1_i32 : BitVec 32 := 1#32
  let arg10 : BitVec 32 := Scf.iv c0_i32_40 c1_i32 k0_t2
  let v339 : BitVec 32 := Scalar.muli c8_i32_238 arg10
  let c7_i32 : BitVec 32 := 7#32
  let v340 : BitVec 32 := Scalar.addi v339 c7_i32
  let c2_i32_239 : BitVec 32 := 2#32
  let v344 : BitVec 32 := Scalar.addi v340 c2_i32_239
  let c31_i32_240 : BitVec 32 := 31#32
  let v345 : BitVec 32 := Scalar.minsi v344 c31_i32_240
  let c512_i32_241 : BitVec 32 := 512#32
  let v346 : BitVec 32 := Scalar.muli v345 c512_i32_241
  v346
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x4x96 : Shape := ⟨4, ![2, 16384, 4, 96]⟩
abbrev S2x16384x4x64 : Shape := ⟨4, ![2, 16384, 4, 64]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x256 : Shape := ⟨3, ![2, 16384, 256]⟩
abbrev S2x256x16384 : Shape := ⟨3, ![2, 256, 16384]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x4x96, .f32⟩
  | .hbm, ⟨1, _⟩ => ⟨S2x16384x4x96, .f32⟩
  | .hbm, ⟨2, _⟩ => ⟨S2x16384x4x64, .f32⟩
  | .hbm, ⟨3, _⟩ => ⟨S2x4x16384x16384, .f32⟩
  | .hbm, ⟨4, _⟩ => ⟨S_, .f32⟩
  | .hbm, ⟨5, _⟩ => ⟨S_, .f32⟩
  | .hbm, ⟨6, _⟩ => ⟨S2x4x16384x16384, .f32⟩
  | .hbm, ⟨7, _⟩ => ⟨S2x4x16384x16384, .f32⟩
  | .hbm, ⟨8, _⟩ => ⟨S_, .f32⟩
  | .hbm, ⟨9, _⟩ => ⟨S2x4x16384, .f32⟩
  | .hbm, ⟨10, _⟩ => ⟨S_, .f32⟩
  | .hbm, ⟨11, _⟩ => ⟨S2x4x16384, .f32⟩
  | .hbm, ⟨12, _⟩ => ⟨S2x4x16384, .f32⟩
  | .hbm, ⟨13, _⟩ => ⟨S2x4x16384x1, .f32⟩
  | .hbm, ⟨14, _⟩ => ⟨S2x4x16384x16384, .f32⟩
  | .hbm, ⟨15, _⟩ => ⟨S2x4x16384x16384, .f32⟩
  | .hbm, ⟨16, _⟩ => ⟨S2x4x16384x16384, .f32⟩
  | .hbm, ⟨17, _⟩ => ⟨S_, .f32⟩
  | .hbm, ⟨18, _⟩ => ⟨S2x4x16384, .f32⟩
  | .hbm, ⟨19, _⟩ => ⟨S2x4x16384x1, .f32⟩
  | .hbm, ⟨20, _⟩ => ⟨S2x4x16384x16384, .f32⟩
  | .hbm, ⟨21, _⟩ => ⟨S2x4x16384x16384, .f32⟩
  | .hbm, ⟨22, _⟩ => ⟨S2x4x64x16384, .f32⟩
  | .hbm, ⟨23, _⟩ => ⟨S2x16384x4x64, .f32⟩
  | .hbm, ⟨24, _⟩ => ⟨S2x16384x256, .f32⟩
  | .hbm, ⟨25, _⟩ => ⟨S2x256x16384, .f32⟩
  | .hbm, ⟨26, _⟩ => ⟨S2x256x16384, .bf16⟩
  | _, _ => ⟨S2x16384x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S1x8x1024 : Shape := ⟨3, ![1, 8, 1024]⟩
abbrev S1x512x1024 : Shape := ⟨3, ![1, 512, 1024]⟩
abbrev S512x2816 : Shape := ⟨2, ![512, 2816]⟩
abbrev S8x1024 : Shape := ⟨2, ![8, 1024]⟩
abbrev S512x1024 : Shape := ⟨2, ![512, 1024]⟩
abbrev S528x1024 : Shape := ⟨2, ![528, 1024]⟩
abbrev S1024x256 : Shape := ⟨2, ![1024, 256]⟩
abbrev S528x256 : Shape := ⟨2, ![528, 256]⟩
abbrev S8x256 : Shape := ⟨2, ![8, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x5632, .f32⟩
  | .hbm, ⟨8, _⟩ => ⟨S_, .f32⟩
  | .hbm, ⟨9, _⟩ => ⟨S4x5632, .f32⟩
  | .hbm, ⟨10, _⟩ => ⟨S8x5632, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S2x16384x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x5632, .bf16⟩
  | .local _ .vmem, ⟨7, _⟩ => ⟨S2816x1024, .bf16⟩
  | .local _ .vmem, ⟨8, _⟩ => ⟨S8x5632, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x16384x1024 : Shape := ⟨3, ![2, 16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x16384x5632 : Shape := ⟨3, ![2, 16384, 5632]⟩
abbrev S2x16383x5632 : Shape := ⟨3, ![2, 16383, 5632]⟩
abbrev S_ : Shape := ⟨0, ![]⟩
abbrev S1x5632 : Shape := ⟨2, ![1, 5632]⟩
abbrev S1x1x5632 : Shape := ⟨3, ![1, 1, 5632]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2x16384x5632, .f32⟩
  | .hbm, ⟨8, _⟩ => ⟨S2x16383x5632, .f32⟩
  | .hbm, ⟨9, _⟩ => ⟨S_, .i32⟩
  | .hbm, ⟨10, _⟩ => ⟨S_, .f32⟩
  | .hbm, ⟨11, _⟩ => ⟨S2x16384x5632, .f32⟩
  | .hbm, ⟨12, _⟩ => ⟨S2x16383x5632, .f32⟩
  | .hbm, ⟨13, _⟩ => ⟨S_, .i32⟩
  | .hbm, ⟨14, _⟩ => ⟨S_, .f32⟩
  | .hbm, ⟨15, _⟩ => ⟨S2x16384x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S2x16384x5632, .f32⟩
  | .hbm, ⟨20, _⟩ => ⟨S2x16384x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S2x16384x5632, .f32⟩
  | .hbm, ⟨25, _⟩ => ⟨S2x16384x5632, .f32⟩
  | .hbm, ⟨26, _⟩ => ⟨S2x16384x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S1x1x5632, .f32⟩
  | .hbm, ⟨34, _⟩ => ⟨S2x16384x5632, .f32⟩
  | .hbm, ⟨35, _⟩ => ⟨S2x16384x5632, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S_, .f32⟩
  | .hbm, ⟨41, _⟩ => ⟨S2x16384x2816, .f32⟩
  | .hbm, ⟨42, _⟩ => ⟨S2x16384x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x2816, .f32⟩
  | .hbm, ⟨48, _⟩ => ⟨S2x16384x1024, .f32⟩
  | .hbm, ⟨49, _⟩ => ⟨S_, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Kernel3.lean ====
abbrev S4x32 : Shape := ⟨2, ![4, 32]⟩
abbrev S64 : Shape := ⟨1, ![64]⟩
abbrev S2x16384x4x2x32 : Shape := ⟨5, ![2, 16384, 4, 2, 32]⟩
abbrev S2x16384x4x64 : Shape := ⟨4, ![2, 16384, 4, 64]⟩
abbrev S_ : Shape := ⟨0, ![]⟩
abbrev S2x16384x256 : Shape := ⟨3, ![2, 16384, 256]⟩
abbrev S2x256x16384 : Shape := ⟨3, ![2, 256, 16384]⟩
abbrev S2x32x512x4x64 : Shape := ⟨5, ![2, 32, 512, 4, 64]⟩
abbrev S2x4x32x64x512 : Shape := ⟨5, ![2, 4, 32, 64, 512]⟩
abbrev S2x4x32x16x512 : Shape := ⟨5, ![2, 4, 32, 16, 512]⟩
abbrev S2x4x32x80x512 : Shape := ⟨5, ![2, 4, 32, 80, 512]⟩
abbrev S64x1 : Shape := ⟨2, ![64, 1]⟩
abbrev S1x128x512 : Shape := ⟨3, ![1, 128, 512]⟩
abbrev S1x16384x128 : Shape := ⟨3, ![1, 16384, 128]⟩
abbrev S1x2x32x80x512 : Shape := ⟨5, ![1, 2, 32, 80, 512]⟩
abbrev S4x512x2048 : Shape := ⟨3, ![4, 512, 2048]⟩
abbrev S8x128 : Shape := ⟨2, ![8, 128]⟩
abbrev S1x32 : Shape := ⟨2, ![1, 32]⟩
abbrev S1 : Shape := ⟨1, ![1]⟩
abbrev S1x1 : Shape := ⟨2, ![1, 1]⟩
abbrev S128x512 : Shape := ⟨2, ![128, 512]⟩
abbrev S128x2048 : Shape := ⟨2, ![128, 2048]⟩
abbrev S1x128 : Shape := ⟨2, ![1, 128]⟩
abbrev S1x1024x128 : Shape := ⟨3, ![1, 1024, 128]⟩
abbrev S1024x128 : Shape := ⟨2, ![1024, 128]⟩
abbrev S128 : Shape := ⟨1, ![128]⟩
abbrev S1x512x128 : Shape := ⟨3, ![1, 512, 128]⟩
abbrev S512x128 : Shape := ⟨2, ![512, 128]⟩
abbrev S512x2048 : Shape := ⟨2, ![512, 2048]⟩
abbrev S1x512x2048 : Shape := ⟨3, ![1, 512, 2048]⟩
abbrev S2048 : Shape := ⟨1, ![2048]⟩
abbrev S1x2048 : Shape := ⟨2, ![1, 2048]⟩
abbrev S8x2048 : Shape := ⟨2, ![8, 2048]⟩
abbrev S1x1x2048 : Shape := ⟨3, ![1, 1, 2048]⟩
abbrev S1x1x1 : Shape := ⟨3, ![1, 1, 1]⟩
abbrev S80x1024 : Shape := ⟨2, ![80, 1024]⟩
abbrev S1x1x1x80x512 : Shape := ⟨5, ![1, 1, 1, 80, 512]⟩
abbrev S80x512 : Shape := ⟨2, ![80, 512]⟩
abbrev S1x512x1024 : Shape := ⟨3, ![1, 512, 1024]⟩
abbrev S512x1024 : Shape := ⟨2, ![512, 1024]⟩
abbrev S1x1024 : Shape := ⟨2, ![1, 1024]⟩
abbrev S64x512 : Shape := ⟨2, ![64, 512]⟩
abbrev S1x512 : Shape := ⟨2, ![1, 512]⟩
abbrev S512 : Shape := ⟨1, ![512]⟩
abbrev S1x64x512 : Shape := ⟨3, ![1, 64, 512]⟩

abbrev nBuf : Space → Nat
  | .hbm => 25
  | .vmem => 13
  | .smem => 0
  | _ => 0

abbrev bufTy : (tb : Table) → Fin (tcTables nBuf tb) → BufTy
  | .hbm, ⟨0, _⟩ => ⟨S4x32, .f32⟩
  | .hbm, ⟨1, _⟩ => ⟨S64, .f32⟩
  | .hbm, ⟨2, _⟩ => ⟨S2x16384x4x2x32, .f32⟩
  | .hbm, ⟨3, _⟩ => ⟨S2x16384x4x2x32, .f32⟩
  | .hbm, ⟨4, _⟩ => ⟨S2x16384x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x256, .f32⟩
  | .hbm, ⟨11, _⟩ => ⟨S2x16384x256, .f32⟩
  | .hbm, ⟨12, _⟩ => ⟨S2x16384x256, .f32⟩
  | .hbm, ⟨13, _⟩ => ⟨S2x256x16384, .f32⟩
  | .hbm, ⟨14, _⟩ => ⟨S2x256x16384, .bf16⟩
  | .hbm, ⟨15, _⟩ => ⟨S2x16384x256, .f32⟩
  | .hbm, ⟨16, _⟩ => ⟨S2x16384x256, .bf16⟩
  | .hbm, ⟨17, _⟩ => ⟨S2x16384x4x64, .bf16⟩
  | .hbm, ⟨18, _⟩ => ⟨S2x32x512x4x64, .bf16⟩
  | .hbm, ⟨19, _⟩ => ⟨S2x4x32x64x512, .bf16⟩
  | .hbm, ⟨20, _⟩ => ⟨S_, .bf16⟩
  | .hbm, ⟨21, _⟩ => ⟨S2x4x32x16x512, .bf16⟩
  | .hbm, ⟨22, _⟩ => ⟨S2x4x32x80x512, .bf16⟩
  | .hbm, ⟨23, _⟩ => ⟨S64x1, .f32⟩
  | .hbm, ⟨24, _⟩ => ⟨S2x256x16384, .bf16⟩
  | .local _ .vmem, ⟨0, _⟩ => ⟨S4x32, .f32⟩
  | .local _ .vmem, ⟨1, _⟩ => ⟨S64x1, .f32⟩
  | .local _ .vmem, ⟨2, _⟩ => ⟨S1x128x512, .bf16⟩
  | .local _ .vmem, ⟨3, _⟩ => ⟨S1x128x512, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x2x32x80x512, .bf16⟩
  | .local _ .vmem, ⟨7, _⟩ => ⟨S1x2x32x80x512, .bf16⟩
  | .local _ .vmem, ⟨8, _⟩ => ⟨S1x128x512, .bf16⟩
  | .local _ .vmem, ⟨9, _⟩ => ⟨S1x128x512, .bf16⟩
  | .local _ .vmem, ⟨10, _⟩ => ⟨S4x512x2048, .f32⟩
  | .local _ .vmem, ⟨11, _⟩ => ⟨S4x512x2048, .bf16⟩
  | .local _ .vmem, ⟨12, _⟩ => ⟨S8x128, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32_13 : BitVec 32 := 0#32
  let v50 : BitVec 1 := Scalar.cmpi .eq arg2 c0_i32_13
  let v51 : BitVec 32 := Scalar.extui v50
  let c0_i32_14 : BitVec 32 := 0#32
  let v52 : BitVec 1 := Scalar.cmpi .ne v51 c0_i32_14
  v52

@[reducible] def k0_t1_loop : Scf.Loop 32 :=
  let c0_i32_45 : BitVec 32 := 0#32
  let c16_i32 : BitVec 32 := 16#32
  let v138 : BitVec 32 := Scalar.addi c0_i32_45 c16_i32
  let c1_i32 : BitVec 32 := 1#32
  ⟨c0_i32_45, v138, c1_i32⟩
def k0_mult1 (k0_t1 : Fin k0_t1_loop.trips) : BitVec 32 :=
  let c0_i32_45 : BitVec 32 := 0#32
  let c1_i32 : BitVec 32 := 1#32
  let arg12 : BitVec 32 := Scf.iv c0_i32_45 c1_i32 k0_t1
  let c1024_i32 : BitVec 32 := 1024#32
  let v145 : BitVec 32 := Scalar.muli arg12 c1024_i32
  v145
def k0_off1 (k0_t1 : Fin k0_t1_loop.trips) : Fin 3 → Nat :=
  let c0_49 : Index := 0#32
  let c0_i32_45 : BitVec 32 := 0#32
  let c1_i32 : BitVec 32 := 1#32
  let arg12 : BitVec 32 := Scf.iv c0_i32_45 c1_i32 k0_t1
  let c1024_i32 : BitVec 32 := 1024#32
  let v145 : BitVec 32 := Scalar.muli arg12 c1024_i32
  let v146 : BitVec 32 := v145
  let v147 : Index := Scalar.indexCast v146
  let c0_50 : Index := 0#32
  ![0, v147.toNat, 0]
def k0_mult2 : BitVec 32 :=
  let c0_i32_15 : BitVec 32 := 0#32
  c0_i32_15
def k0_mult3 : BitVec 32 :=
  let c512_i32 : BitVec 32 := 512#32
  c512_i32
def k0_mult4 : BitVec 32 :=
  let c1024_i32 : BitVec 32 := 1024#32
  c1024_i32
def k0_mult5 : BitVec 32 :=
  let c1536_i32 : BitVec 32 := 1536#32
  c1536_i32
def k0_mult6 : BitVec 32 :=
  let c2048_i32 : BitVec 32 := 2048#32
  c2048_i32
def k0_mult7 : BitVec 32 :=
  let c2560_i32 : BitVec 32 := 2560#32
  c2560_i32
def k0_mult8 : BitVec 32 :=
  let c3072_i32 : BitVec 32 := 3072#32
  c3072_i32
def k0_mult9 : BitVec 32 :=
  let c3584_i32 : BitVec 32 := 3584#32
  c3584_i32
def k0_mult10 : BitVec 32 :=
  let c4096_i32 : BitVec 32 := 4096#32
  c4096_i32
def k0_mult11 : BitVec 32 :=
  let c4608_i32 : BitVec 32 := 4608#32
  c4608_i32
def k0_mult12 : BitVec 32 :=
  let c5120_i32 : BitVec 32 := 5120#32
  c5120_i32
def k0_mult13 : BitVec 32 :=
  let c5632_i32 : BitVec 32 := 5632#32
  c5632_i32
def k0_mult14 : BitVec 32 :=
  let c6144_i32 : BitVec 32 := 6144#32
  c6144_i32
def k0_mult15 : BitVec 32 :=
  let c6656_i32 : BitVec 32 := 6656#32
  c6656_i32
def k0_mult16 : BitVec 32 :=
  let c7168_i32 : BitVec 32 := 7168#32
  c7168_i32
def k0_mult17 : BitVec 32 :=
  let c7680_i32 : BitVec 32 := 7680#32
  c7680_i32
def k0_mult18 : BitVec 32 :=
  let c8192_i32 : BitVec 32 := 8192#32
  c8192_i32
def k0_mult19 : BitVec 32 :=
  let c8704_i32 : BitVec 32 := 8704#32
  c8704_i32
def k0_mult20 : BitVec 32 :=
  let c9216_i32 : BitVec 32 := 9216#32
  c9216_i32
def k0_mult21 : BitVec 32 :=
  let c9728_i32 : BitVec 32 := 9728#32
  c9728_i32
def k0_mult22 : BitVec 32 :=
  let c10240_i32 : BitVec 32 := 10240#32
  c10240_i32
def k0_mult23 : BitVec 32 :=
  let c10752_i32 : BitVec 32 := 10752#32
  c10752_i32
def k0_mult24 : BitVec 32 :=
  let c11264_i32 : BitVec 32 := 11264#32
  c11264_i32
def k0_mult25 : BitVec 32 :=
  let c11776_i32 : BitVec 32 := 11776#32
  c11776_i32
def k0_mult26 : BitVec 32 :=
  let c12288_i32 : BitVec 32 := 12288#32
  c12288_i32
def k0_mult27 : BitVec 32 :=
  let c12800_i32 : BitVec 32 := 12800#32
  c12800_i32
def k0_mult28 : BitVec 32 :=
  let c13312_i32 : BitVec 32 := 13312#32
  c13312_i32
def k0_mult29 : BitVec 32 :=
  let c13824_i32 : BitVec 32 := 13824#32
  c13824_i32
def k0_mult30 : BitVec 32 :=
  let c14336_i32 : BitVec 32 := 14336#32
  c14336_i32
def k0_mult31 : BitVec 32 :=
  let c14848_i32 : BitVec 32 := 14848#32
  c14848_i32
def k0_mult32 : BitVec 32 :=
  let c15360_i32 : BitVec 32 := 15360#32
  c15360_i32
def k0_mult33 : BitVec 32 :=
  let c15872_i32 : BitVec 32 := 15872#32
  c15872_i32
def k0_mult34 : BitVec 32 :=
  let c0_i32_48 : BitVec 32 := 0#32
  c0_i32_48
def k0_mult35 : BitVec 32 :=
  let c512_i32 : BitVec 32 := 512#32
  c512_i32
@[reducible] def k0_t2_loop : Scf.Loop 32 :=
  let c0_i32_65 : BitVec 32 := 0#32
  let c4_i32 : BitVec 32 := 4#32
  let v164 : BitVec 32 := Scalar.addi c0_i32_65 c4_i32
  let c1_i32 : BitVec 32 := 1#32
  ⟨c0_i32_65, v164, c1_i32⟩
def k0_mult36 (k0_t2 : Fin k0_t2_loop.trips) : BitVec 32 :=
  let c8_i32 : BitVec 32 := 8#32
  let c0_i32_65 : BitVec 32 := 0#32
  let c1_i32 : BitVec 32 := 1#32
  let arg12 : BitVec 32 := Scf.iv c0_i32_65 c1_i32 k0_t2
  let v178 : BitVec 32 := Scalar.muli c8_i32 arg12
  let c0_i32_83 : BitVec 32 := 0#32
  let v179 : BitVec 32 := Scalar.addi v178 c0_i32_83
  let c2_i32 : BitVec 32 := 2#32
  let v183 : BitVec 32 := Scalar.addi v179 c2_i32
  let c31_i32 : BitVec 32 := 31#32
  let v184 : BitVec 32 := Scalar.minsi v183 c31_i32
  let c512_i32_84 : BitVec 32 := 512#32
  let v185 : BitVec 32 := Scalar.muli v184 c512_i32_84
  v185
def k0_off2 (k0_t2 : Fin k0_t2_loop.trips) (c0_i32_83 : BitVec 32) : Fin 3 → Nat :=
  let c0_85 : Index := 0#32
  let c8_i32 : BitVec 32 := 8#32
  let c0_i32_65 : BitVec 32 := 0#32
  let c1_i32 : BitVec 32 := 1#32
  let arg12 : BitVec 32 := Scf.iv c0_i32_65 c1_i32 k0_t2
  let v178 : BitVec 32 := Scalar.muli c8_i32 arg12
  let v179 : BitVec 32 := Scalar.addi v178 c0_i32_83
  let c2_i32 : BitVec 32 := 2#32
  let v183 : BitVec 32 := Scalar.addi v179 c2_i32
  let c31_i32 : BitVec 32 := 31#32
  let v184 : BitVec 32 := Scalar.minsi v183 c31_i32
  let c512_i32_84 : BitVec 32 := 512#32
  let v185 : BitVec 32 := Scalar.muli v184 c512_i32_84
  let v186 : BitVec 32 := v185
  let v187 : Index := Scalar.indexCast v186
  let c0_86 : Index := 0#32
  ![0, v187.toNat, 0]
def k0_off3 (k0_t2 : Fin k0_t2_loop.trips) (c0_i32_83 : BitVec 32) : Fin 5 → Nat :=
  let c0_93 : Index := 0#32
  let c0_94 : Index := 0#32
  let c8_i32 : BitVec 32 := 8#32
  let c0_i32_65 : BitVec 32 := 0#32
  let c1_i32 : BitVec 32 := 1#32
  let arg12 : BitVec 32 := Scf.iv c0_i32_65 c1_i32 k0_t2
  let v178 : BitVec 32 := Scalar.muli c8_i32 arg12
  let v179 : BitVec 32 := Scalar.addi v178 c0_i32_83
  let c1_i32_91 : BitVec 32 := 1#32
  let v196 : BitVec 32 := Scalar.subi v179 c1_i32_91
  let c0_i32_92 : BitVec 32 := 0#32
  let v197 : BitVec 32 := Scalar.maxsi v196 c0_i32_92
  let v198 : Index := Scalar.indexCast v197
  let c0_95 : Index := 0#32
  let c0_96 : Index := 0#32
  ![0, 0, v198.toNat, 0, 0]
def k0_off4 (k0_t2 : Fin k0_t2_loop.trips) (c0_i32_83 : BitVec 32) : Fin 5 → Nat :=
  let c0_101 : Index := 0#32
  let c1_102 : Index := 1#32
  let c8_i32 : BitVec 32 := 8#32
  let c0_i32_65 : BitVec 32 := 0#32
  let c1_i32 : BitVec 32 := 1#32
  let arg12 : BitVec 32 := Scf.iv c0_i32_65 c1_i32 k0_t2
  let v178 : BitVec 32 := Scalar.muli c8_i32 arg12
  let v179 : BitVec 32 := Scalar.addi v178 c0_i32_83
  let c1_i32_91 : BitVec 32 := 1#32
  let v196 : BitVec 32 := Scalar.subi v179 c1_i32_91
  let c0_i32_92 : BitVec 32 := 0#32
  let v197 : BitVec 32 := Scalar.maxsi v196 c0_i32_92
  let v205 : Index := Scalar.indexCast v197
  let c0_103 : Index := 0#32
  let c0_104 : Index := 0#32
  ![0, 1, v205.toNat, 0, 0]
def k0_mult37 (k0_t2 : Fin k0_t2_loop.trips) : BitVec 32 :=
  let c8_i32_115 : BitVec 32 := 8#32
  let c0_i32_65 : BitVec 32 := 0#32
  let c1_i32 : BitVec 32 := 1#32
  let arg12 : BitVec 32 := Scf.iv c0_i32_65 c1_i32 k0_t2
  let v227 : BitVec 32 := Scalar.muli c8_i32_115 arg12
  let c1_i32_116 : BitVec 32 := 1#32
  let v228 : BitVec 32 := Scalar.addi v227 c1_i32_116
  let c2_i32_117 : BitVec 32 := 2#32
  let v232 : BitVec 32 := Scalar.addi v228 c2_i32_117
  let c31_i32_118 : BitVec 32 := 31#32
  let v233 : BitVec 32 := Scalar.minsi v232 c31_i32_118
  let c512_i32_119 : BitVec 32 := 512#32
  let v234 : BitVec 32 := Scalar.muli v233 c512_i32_119
  v234
def k0_mult38 (k0_t2 : Fin k0_t2_loop.trips) : BitVec 32 :=
  let c8_i32_150 : BitVec 32 := 8#32
  let c0_i32_65 : BitVec 32 := 0#32
  let c1_i32 : BitVec 32 := 1#32
  let arg12 : BitVec 32 := Scf.iv c0_i32_65 c1_i32 k0_t2
  let v276 : BitVec 32 := Scalar.muli c8_i32_150 arg12
  let c2_i32_151 : BitVec 32 := 2#32
  let v277 : BitVec 32 := Scalar.addi v276 c2_i32_151
  let c2_i32_152 : BitVec 32 := 2#32
  let v281 : BitVec 32 := Scalar.addi v277 c2_i32_152
  let c31_i32_153 : BitVec 32 := 31#32
  let v282 : BitVec 32 := Scalar.minsi v281 c31_i32_153
  let c512_i32_154 : BitVec 32 := 512#32
  let v283 : BitVec 32 := Scalar.muli v282 c512_i32_154
  v283
def k0_mult39 (k0_t2 : Fin k0_t2_loop.trips) : BitVec 32 :=
  let c8_i32_186 : BitVec 32 := 8#32
  let c0_i32_65 : BitVec 32 := 0#32
  let c1_i32 : BitVec 32 := 1#32
  let arg12 : BitVec 32 := Scf.iv c0_i32_65 c1_i32 k0_t2
  let v325 : BitVec 32 := Scalar.muli c8_i32_186 arg12
  let c3_i32 : BitVec 32 := 3#32
  let v326 : BitVec 32 := Scalar.addi v325 c3_i32
  let c2_i32_187 : BitVec 32 := 2#32
  let v330 : BitVec 32 := Scalar.addi v326 c2_i32_187
  let c31_i32_188 : BitVec 32 := 31#32
  let v331 : BitVec 32 := Scalar.minsi v330 c31_i32_188
  let c512_i32_189 : BitVec 32 := 512#32
  let v332 : BitVec 32 := Scalar.muli v331 c512_i32_189
  v332
def k0_mult40 (k0_t2 : Fin k0_t2_loop.trips) : BitVec 32 :=
  let c8_i32_221 : BitVec 32 := 8#32
  let c0_i32_65 : BitVec 32 := 0#32
  let c1_i32 : BitVec 32 := 1#32
  let arg12 : BitVec 32 := Scf.iv c0_i32_65 c1_i32 k0_t2
  let v374 : BitVec 32 := Scalar.muli c8_i32_221 arg12
  let c4_i32_222 : BitVec 32 := 4#32
  let v375 : BitVec 32 := Scalar.addi v374 c4_i32_222
  let c2_i32_223 : BitVec 32 := 2#32
  let v379 : BitVec 32 := Scalar.addi v375 c2_i32_223
  let c31_i32_224 : BitVec 32 := 31#32
  let v380 : BitVec 32 := Scalar.minsi v379 c31_i32_224
  let c512_i32_225 : BitVec 32 := 512#32
  let v381 : BitVec 32 := Scalar.muli v380 c512_i32_225
  v381
def k0_mult41 (k0_t2 : Fin k0_t2_loop.trips) : BitVec 32 :=
  let c8_i32_257 : BitVec 32 := 8#32
  let c0_i32_65 : BitVec 32 := 0#32
  let c1_i32 : BitVec 32 := 1#32
  let arg12 : BitVec 32 := Scf.iv c0_i32_65 c1_i32 k0_t2
  let v423 : BitVec 32 := Scalar.muli c8_i32_257 arg12
  let c5_i32 : BitVec 32 := 5#32
  let v424 : BitVec 32 := Scalar.addi v423 c5_i32
  let c2_i32_258 : BitVec 32 := 2#32
  let v428 : BitVec 32 := Scalar.addi v424 c2_i32_258
  let c31_i32_259 : BitVec 32 := 31#32
  let v429 : BitVec 32 := Scalar.minsi v428 c31_i32_259
  let c512_i32_260 : BitVec 32 := 512#32
  let v430 : BitVec 32 := Scalar.muli v429 c512_i32_260
  v430
def k0_mult42 (k0_t2 : Fin k0_t2_loop.trips) : BitVec 32 :=
  let c8_i32_292 : BitVec 32 := 8#32
  let c0_i32_65 : BitVec 32 := 0#32
  let c1_i32 : BitVec 32 := 1#32
  let arg12 : BitVec 32 := Scf.iv c0_i32_65 c1_i32 k0_t2
  let v472 : BitVec 32 := Scalar.muli c8_i32_292 arg12
  let c6_i32 : BitVec 32 := 6#32
  let v473 : BitVec 32 := Scalar.addi v472 c6_i32
  let c2_i32_293 : BitVec 32 := 2#32
  let v477 : BitVec 32 := Scalar.addi v473 c2_i32_293
  let c31_i32_294 : BitVec 32 := 31#32
  let v478 : BitVec 32 := Scalar.minsi v477 c31_i32_294
  let c512_i32_295 : BitVec 32 := 512#32
  let v479 : BitVec 32 := Scalar.muli v478 c512_i32_295
  v479
def k0_mult43 (k0_t2 : Fin k0_t2_loop.trips) : BitVec 32 :=
  let c8_i32_327 : BitVec 32 := 8#32
  let c0_i32_65 : BitVec 32 := 0#32
  let c1_i32 : BitVec 32 := 1#32
  let arg12 : BitVec 32 := Scf.iv c0_i32_65 c1_i32 k0_t2
  let v521 : BitVec 32 := Scalar.muli c8_i32_327 arg12
  let c7_i32 : BitVec 32 := 7#32
  let v522 : BitVec 32 := Scalar.addi v521 c7_i32
  let c2_i32_328 : BitVec 32 := 2#32
  let v526 : BitVec 32 := Scalar.addi v522 c2_i32_328
  let c31_i32_329 : BitVec 32 := 31#32
  let v527 : BitVec 32 := Scalar.minsi v526 c31_i32_329
  let c512_i32_330 : BitVec 32 := 512#32
  let v528 : BitVec 32 := Scalar.muli v527 c512_i32_330
  v528
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x32x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S4x32 : Shape := ⟨2, ![4, 32]⟩
abbrev S64 : Shape := ⟨1, ![64]⟩
abbrev S2x16384x4x2x32 : Shape := ⟨5, ![2, 16384, 4, 2, 32]⟩
abbrev S2x16384x4x64 : Shape := ⟨4, ![2, 16384, 4, 64]⟩
abbrev S1x32 : Shape := ⟨2, ![1, 32]⟩
abbrev S32 : Shape := ⟨1, ![32]⟩
abbrev S_ : Shape := ⟨0, ![]⟩
abbrev S2x16384x4x1x32 : Shape := ⟨5, ![2, 16384, 4, 1, 32]⟩
abbrev S2x16384x4x32 : Shape := ⟨4, ![2, 16384, 4, 32]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x16384x256 : Shape := ⟨3, ![2, 16384, 256]⟩
abbrev S2x256x16384 : Shape := ⟨3, ![2, 256, 16384]⟩

abbrev nBuf : Space → Nat
  | .hbm => 97
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S64, .f32⟩
  | .hbm, ⟨2, _⟩ => ⟨S2x16384x4x2x32, .f32⟩
  | .hbm, ⟨3, _⟩ => ⟨S2x16384x4x2x32, .f32⟩
  | .hbm, ⟨4, _⟩ => ⟨S2x16384x4x64, .f32⟩
  | .hbm, ⟨5, _⟩ => ⟨S1x32, .f32⟩
  | .hbm, ⟨6, _⟩ => ⟨S32, .f32⟩
  | .hbm, ⟨7, _⟩ => ⟨S1x32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x16384x4x1x32, .f32⟩
  | .hbm, ⟨25, _⟩ => ⟨S2x16384x4x32, .f32⟩
  | .hbm, ⟨26, _⟩ => ⟨S2x16384x4x1x32, .f32⟩
  | .hbm, ⟨27, _⟩ => ⟨S2x16384x4x32, .f32⟩
  | .hbm, ⟨28, _⟩ => ⟨S2x4x16384x16384, .f32⟩
  | .hbm, ⟨29, _⟩ => ⟨S_, .f32⟩
  | .hbm, ⟨30, _⟩ => ⟨S_, .f32⟩
  | .hbm, ⟨31, _⟩ => ⟨S2x4x16384x16384, .f32⟩
  | .hbm, ⟨32, _⟩ => ⟨S2x4x16384x16384, .f32⟩
  | .hbm, ⟨33, _⟩ => ⟨S_, .f32⟩
  | .hbm, ⟨34, _⟩ => ⟨S2x4x16384, .f32⟩
  | .hbm, ⟨35, _⟩ => ⟨S_, .f32⟩
  | .hbm, ⟨36, _⟩ => ⟨S2x4x16384, .f32⟩
  | .hbm, ⟨37, _⟩ => ⟨S2x4x16384, .f32⟩
  | .hbm, ⟨38, _⟩ => ⟨S2x4x16384x1, .f32⟩
  | .hbm, ⟨39, _⟩ => ⟨S2x4x16384x16384, .f32⟩
  | .hbm, ⟨40, _⟩ => ⟨S2x4x16384x16384, .f32⟩
  | .hbm, ⟨41, _⟩ => ⟨S2x4x16384x16384, .f32⟩
  | .hbm, ⟨42, _⟩ => ⟨S_, .f32⟩
  | .hbm, ⟨43, _⟩ => ⟨S2x4x16384, .f32⟩
  | .hbm, ⟨44, _⟩ => ⟨S2x4x16384x1, .f32⟩
  | .hbm, ⟨45, _⟩ => ⟨S2x4x16384x16384, .f32⟩
  | .hbm, ⟨46, _⟩ => ⟨S2x4x16384x16384, .f32⟩
  | .hbm, ⟨47, _⟩ => ⟨S2x16384x4x1x32, .f32⟩
  | .hbm, ⟨48, _⟩ => ⟨S2x16384x4x32, .f32⟩
  | .hbm, ⟨49, _⟩ => ⟨S2x16384x4x1x32, .f32⟩
  | .hbm, ⟨50, _⟩ => ⟨S2x16384x4x32, .f32⟩
  | .hbm, ⟨51, _⟩ => ⟨S2x4x16384x16384, .f32⟩
  | .hbm, ⟨52, _⟩ => ⟨S_, .f32⟩
  | .hbm, ⟨53, _⟩ => ⟨S_, .f32⟩
  | .hbm, ⟨54, _⟩ => ⟨S2x4x16384x16384, .f32⟩
  | .hbm, ⟨55, _⟩ => ⟨S2x4x16384x16384, .f32⟩
  | .hbm, ⟨56, _⟩ => ⟨S_, .f32⟩
  | .hbm, ⟨57, _⟩ => ⟨S2x4x16384, .f32⟩
  | .hbm, ⟨58, _⟩ => ⟨S_, .f32⟩
  | .hbm, ⟨59, _⟩ => ⟨S2x4x16384, .f32⟩
  | .hbm, ⟨60, _⟩ => ⟨S2x4x16384, .f32⟩
  | .hbm, ⟨61, _⟩ => ⟨S2x4x16384x1, .f32⟩
  | .hbm, ⟨62, _⟩ => ⟨S2x4x16384x16384, .f32⟩
  | .hbm, ⟨63, _⟩ => ⟨S2x4x16384x16384, .f32⟩
  | .hbm, ⟨64, _⟩ => ⟨S2x4x16384x16384, .f32⟩
  | .hbm, ⟨65, _⟩ => ⟨S_, .f32⟩
  | .hbm, ⟨66, _⟩ => ⟨S2x4x16384, .f32⟩
  | .hbm, ⟨67, _⟩ => ⟨S2x4x16384x1, .f32⟩
  | .hbm, ⟨68, _⟩ => ⟨S2x4x16384x16384, .f32⟩
  | .hbm, ⟨69, _⟩ => ⟨S2x4x16384x16384, .f32⟩
  | .hbm, ⟨70, _⟩ => ⟨S2x4x16384x16384, .f32⟩
  | .hbm, ⟨71, _⟩ => ⟨S2x4x16384x16384, .f32⟩
  | .hbm, ⟨72, _⟩ => ⟨S2x4x16384x16384, .f32⟩
  | .hbm, ⟨73, _⟩ => ⟨S2x4x64x16384, .f32⟩
  | .hbm, ⟨74, _⟩ => ⟨S2x16384x4x64, .f32⟩
  | .hbm, ⟨75, _⟩ => ⟨S2x16384x4x64, .f32⟩
  | .hbm, ⟨76, _⟩ => ⟨S_, .f32⟩
  | .hbm, ⟨77, _⟩ => ⟨S2x16384x4, .f32⟩
  | .hbm, ⟨78, _⟩ => ⟨S2x16384x4x1, .f32⟩
  | .hbm, ⟨79, _⟩ => ⟨S_, .f32⟩
  | .hbm, ⟨80, _⟩ => ⟨S2x16384x4x1, .f32⟩
  | .hbm, ⟨81, _⟩ => ⟨S2x16384x4x1, .f32⟩
  | .hbm, ⟨82, _⟩ => ⟨S_, .f32⟩
  | .hbm, ⟨83, _⟩ => ⟨S2x16384x4x1, .f32⟩
  | .hbm, ⟨84, _⟩ => ⟨S2x16384x4x1, .f32⟩
  | .hbm, ⟨85, _⟩ => ⟨S2x16384x4x1, .f32⟩
  | .hbm, ⟨86, _⟩ => ⟨S2x16384x4x64, .f32⟩
  | .hbm, ⟨87, _⟩ => ⟨S2x16384x4x64, .f32⟩
  | .hbm, ⟨88, _⟩ => ⟨S1x1x1x64, .f32⟩
  | .hbm, ⟨89, _⟩ => ⟨S2x16384x4x64, .f32⟩
  | .hbm, ⟨90, _⟩ => ⟨S2x16384x4x64, .f32⟩
  | .hbm, ⟨91, _⟩ => ⟨S_, .f32⟩
  | .hbm, ⟨92, _⟩ => ⟨S2x16384x4x64, .f32⟩
  | .hbm, ⟨93, _⟩ => ⟨S2x16384x4x64, .f32⟩
  | .hbm, ⟨94, _⟩ => ⟨S2x16384x256, .f32⟩
  | .hbm, ⟨95, _⟩ => ⟨S2x256x16384, .f32⟩
  | .hbm, ⟨96, _⟩ => ⟨S2x256x16384, .bf16⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S2x256x16384 : Shape := ⟨3, ![2, 256, 16384]⟩
abbrev S1x1024 : Shape := ⟨2, ![1, 1024]⟩
abbrev S1x512x1024 : Shape := ⟨3, ![1, 512, 1024]⟩
abbrev S1x256x512 : Shape := ⟨3, ![1, 256, 512]⟩
abbrev S1x512x256 : Shape := ⟨3, ![1, 512, 256]⟩
abbrev S256x512 : Shape := ⟨2, ![256, 512]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2x256x16384, .f32⟩
  | .hbm, ⟨9, _⟩ => ⟨S2x256x16384, .bf16⟩
  | .hbm, ⟨10, _⟩ => ⟨S2x256x16384, .f32⟩
  | .hbm, ⟨11, _⟩ => ⟨S2x256x16384, .bf16⟩
  | .hbm, ⟨12, _⟩ => ⟨S2x16384x256, .bf16⟩
  | .hbm, ⟨13, _⟩ => ⟨S2x256x16384, .f32⟩
  | .hbm, ⟨14, _⟩ => ⟨S2x256x16384, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x256x512, .bf16⟩
  | .local _ .vmem, ⟨9, _⟩ => ⟨S1x256x512, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S1x1x1024, .f32⟩
  | .hbm, ⟨39, _⟩ => ⟨S2x16384x1024, .f32⟩
  | .hbm, ⟨40, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Att.Body.lean ====
module

public import proofs.«01_k».proof.Proof.Gen.KernelIdeal.Frame
public import proofs.«01_k».proof.Proof.Gen.KernelIdeal.Loops

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body after its first branch: the sweep over the keys, then the quotient stored. -/
def tail (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) :
    Prog (TpuEff nD τ sig (Elt F) Λ₀ .tc) PUnit := do
  let v3 : Vec F S1x128x1024 .bf16 ← Prog.lift (.load arg3 (Rect.unit (s := S1x128x1024) ![0, 0, 0] S1x128x1024.size inb_S1x128x1024_S1x128x1024_0_0_0).toLoadRect (View.loadsAt_vmem h_S1x128x1024))
  let v7 : Vec F S1x512x128 .bf16 ← Prog.lift (.load arg4 (Rect.unit (s := S1x16384x128) ![0, 0, 0] S1x512x128.size inb_S1x16384x128_S1x512x128_0_0_0).toLoadRect (View.loadsAt_vmem h_S1x512x128))
  let v10 : Vec F S1x512x1024 .f32 ← Prog.lift (.load arg7 (Rect.unit (s := S4x512x1024) ![0, 0, 0] S1x512x1024.size inb_S4x512x1024_S1x512x1024_0_0_0).toLoadRect (View.loadsAt_vmem h_S1x512x1024))
  Prog.lift (.store arg7 (Rect.unit (s := S4x512x1024) ![0, 0, 0] S1x512x1024.size inb_S4x512x1024_S1x512x1024_0_0_0) (k0_pay147 v3 v7) Finset.univ (View.stores_vmem_bits_univ h_S1x512x1024 rfl) (.inl rfl))
  let v15 : Vec F S8x128 .f32 ← Prog.lift (.load arg9 (Rect.unit (s := S8x128) ![0, 0] S8x128.size inb_S8x128_S8x128_0_0).toLoadRect (View.loadsAt_vmem h_S8x128))
  have cst_15 : F .f32 := Scalar.ofBits .f32 0x42C80000#32
  let v27 : BitVec 1 := Scalar.cmpf .ole (k0_pay149 v3 v7 v15) cst_15
  let v28 : BitVec 32 := Scalar.extui v27
  let v29 : BitVec 1 := Scalar.cmpi .ne v28 0#32
  let v30 : FVec F S80x1024 .f32 ← if v29 = 1#1 then do
      let ⟨v48, v73⟩ : Σ' (v48 : FVec F S80x1024 .f32), BitVec 32 ← k0_part1 i arg3 harg3 arg4 harg4 arg5 harg5 arg6 harg6 arg7 harg7 arg8 harg8 arg9 harg9 (k0_pay145 v3) (k0_pay148 v3 v7)
      let ⟨v101, v104⟩ : Σ' (v101 : FVec F S80x1024 .f32), FVec F S512x1024 .f32 ← k0_part2 i arg3 harg3 arg4 harg4 arg5 harg5 arg6 harg6 arg7 harg7 arg8 harg8 arg9 harg9 (k0_pay145 v3) (k0_pay148 v3 v7) v48 v73
      let ⟨v119, v131, v133⟩ : Σ' (v119 : FVec F S80x1024 .f32) (v131 : FVec F S512x1024 .f32), FVec F S80x512 .bf16 ← k0_part3 i arg3 harg3 arg4 harg4 arg5 harg5 arg6 harg6 arg7 harg7 arg8 harg8 arg9 harg9 (k0_pay145 v3) (k0_pay148 v3 v7) v101 v104
      let ⟨v155, v166⟩ : Σ' (v155 : FVec F S80x1024 .f32), FVec F S512x128 .bf16 ← k0_part4 i arg3 harg3 arg4 harg4 arg5 harg5 arg6 harg6 arg7 harg7 arg8 harg8 arg9 harg9 (k0_pay145 v3) (k0_pay148 v3 v7) v119 v131 v133
      let ⟨v191, v195, v196⟩ : Σ' (v191 : FVec F S80x1024 .f32) (v195 : FVec F S512x1024 .bf16), Vec F S1x512x1024 .bf16 ← k0_part5 i arg3 harg3 arg4 harg4 arg5 harg5 arg6 harg6 arg7 harg7 arg8 harg8 arg9 harg9 (k0_pay145 v3) (k0_pay148 v3 v7) v155 v166
      let ⟨v209, v221, v223, v225, cst_162⟩ : Σ' (v209 : FVec F S80x1024 .f32) (v221 : FVec F S512x1024 .f32) (v223 : FVec F S80x512 .bf16) (v225 : FVec F S512x1024 .bf16), FVec F S80x1024 .f32 ← k0_part6 i arg3 harg3 arg4 harg4 arg5 harg5 arg6 harg6 arg7 harg7 arg8 harg8 arg9 harg9 (k0_pay145 v3) (k0_pay148 v3 v7) v191 v195 v196
      let ⟨v245, v257⟩ : Σ' (v245 : FVec F S80x1024 .f32), FVec F S512x1024 .f32 ← k0_part7 i arg3 harg3 arg4 harg4 arg5 harg5 arg6 harg6 arg7 harg7 arg8 harg8 arg9 harg9 (k0_pay145 v3) (k0_pay148 v3 v7) v209 v221 v223 v225 cst_162
      let ⟨v281, v289⟩ : Σ' (v281 : FVec F S80x1024 .f32), BitVec 32 ← k0_part8 i arg3 harg3 arg4 harg4 arg5 harg5 arg6 harg6 arg7 harg7 arg8 harg8 arg9 harg9 (k0_pay145 v3) (k0_pay148 v3 v7) v245 v257
      let ⟨v317, v320⟩ : Σ' (v317 : FVec F S80x1024 .f32), FVec F S512x1024 .f32 ← k0_part9 i arg3 harg3 arg4 harg4 arg5 harg5 arg6 harg6 arg7 harg7 arg8 harg8 arg9 harg9 (k0_pay145 v3) (k0_pay148 v3 v7) v281 v289
      let ⟨v335, v347, v349⟩ : Σ' (v335 : FVec F S80x1024 .f32) (v347 : FVec F S512x1024 .f32), FVec F S80x512 .bf16 ← k0_part10 i arg3 harg3 arg4 harg4 arg5 harg5 arg6 harg6 arg7 harg7 arg8 harg8 arg9 harg9 (k0_pay145 v3) (k0_pay148 v3 v7) v317 v320
      let ⟨v371, v382⟩ : Σ' (v371 : FVec F S80x1024 .f32), FVec F S512x128 .bf16 ← k0_part11 i arg3 harg3 arg4 harg4 arg5 harg5 arg6 harg6 arg7 harg7 arg8 harg8 arg9 harg9 (k0_pay145 v3) (k0_pay148 v3 v7) v335 v347 v349
      let ⟨v407, v411, v412⟩ : Σ' (v407 : FVec F S80x1024 .f32) (v411 : FVec F S512x1024 .bf16), Vec F S1x512x1024 .bf16 ← k0_part12 i arg3 harg3 arg4 harg4 arg5 harg5 arg6 harg6 arg7 harg7 arg8 harg8 arg9 harg9 (k0_pay145 v3) (k0_pay148 v3 v7) v371 v382
      let ⟨v425, v437, v439, v441, cst_330⟩ : Σ' (v425 : FVec F S80x1024 .f32) (v437 : FVec F S512x1024 .f32) (v439 : FVec F S80x512 .bf16) (v441 : FVec F S512x1024 .bf16), FVec F S80x1024 .f32 ← k0_part13 i arg3 harg3 arg4 harg4 arg5 harg5 arg6 harg6 arg7 harg7 arg8 harg8 arg9 harg9 (k0_pay145 v3) (k0_pay148 v3 v7) v407 v411 v412
      let ⟨v461, v473⟩ : Σ' (v461 : FVec F S80x1024 .f32), FVec F S512x1024 .f32 ← k0_part14 i arg3 harg3 arg4 harg4 arg5 harg5 arg6 harg6 arg7 harg7 arg8 harg8 arg9 harg9 (k0_pay145 v3) (k0_pay148 v3 v7) v425 v437 v439 v441 cst_330
      let ⟨v497, v505⟩ : Σ' (v497 : FVec F S80x1024 .f32), BitVec 32 ← k0_part15 i arg3 harg3 arg4 harg4 arg5 harg5 arg6 harg6 arg7 harg7 arg8 harg8 arg9 harg9 (k0_pay145 v3) (k0_pay148 v3 v7) v461 v473
      let ⟨v533, v536⟩ : Σ' (v533 : FVec F S80x1024 .f32), FVec F S512x1024 .f32 ← k0_part16 i arg3 harg3 arg4 harg4 arg5 harg5 arg6 harg6 arg7 harg7 arg8 harg8 arg9 harg9 (k0_pay145 v3) (k0_pay148 v3 v7) v497 v505
      let ⟨v551, v563, v565⟩ : Σ' (v551 : FVec F S80x1024 .f32) (v563 : FVec F S512x1024 .f32), FVec F S80x512 .bf16 ← k0_part17 i arg3 harg3 arg4 harg4 arg5 harg5 arg6 harg6 arg7 harg7 arg8 harg8 arg9 harg9 (k0_pay145 v3) (k0_pay148 v3 v7) v533 v536
      let ⟨v587, v596⟩ : Σ' (v587 : FVec F S80x1024 .f32), FVec F S80x512 .bf16 ← k0_part18 i arg3 harg3 arg4 harg4 arg5 harg5 arg6 harg6 arg7 harg7 arg8 harg8 arg9 harg9 (k0_pay145 v3) (k0_pay148 v3 v7) v551 v563 v565
      let v597 : Vec F S1x512x1024 .bf16 ← Prog.lift (.load arg8 (Rect.unit (s := S4x512x1024) ![1, 0, 0] S1x512x1024.size inb_S4x512x1024_S1x512x1024_1_0_0).toLoadRect (View.loadsAt_vmem h_S1x512x1024))
      let v601 : Vec F S1x1x1x80x512 .bf16 ← Prog.lift (.load arg5 (Rect.unit (s := S1x1x32x80x512) ![0, 0, 30, 0, 0] S1x1x1x80x512.size inb_S1x1x32x80x512_S1x1x1x80x512_0_0_30_0_0).toLoadRect (View.loadsAt_vmem h_S1x1x1x80x512))
      let v603 : Vec F S1x512x1024 .bf16 ← Prog.lift (.load arg8 (Rect.unit (s := S4x512x1024) ![2, 0, 0] S1x512x1024.size inb_S4x512x1024_S1x512x1024_2_0_0).toLoadRect (View.loadsAt_vmem h_S1x512x1024))
      let v607 : Vec F S1x1x1x80x512 .bf16 ← Prog.lift (.load arg5 (Rect.unit (s := S1x1x32x80x512) ![0, 0, 31, 0, 0] S1x1x1x80x512.size inb_S1x1x32x80x512_S1x1x1x80x512_0_0_31_0_0).toLoadRect (View.loadsAt_vmem h_S1x1x1x80x512))
      let v609 : Vec F S1x512x1024 .bf16 ← Prog.lift (.load arg8 (Rect.unit (s := S4x512x1024) ![3, 0, 0] S1x512x1024.size inb_S4x512x1024_S1x512x1024_3_0_0).toLoadRect (View.loadsAt_vmem h_S1x512x1024))
      pure (k0_pay150 v587 v596 v597 v601 v603 v607 v609)
    else do
      let v66_3 : FVec F S80x1024 .f32 ← k0_part28 i arg3 harg3 arg4 harg4 arg5 harg5 arg6 harg6 arg7 harg7 arg8 harg8 arg9 harg9 (k0_pay145 v3)
      let v67 : Vec F S1x1x1x80x512 .bf16 ← Prog.lift (.load arg5 (Rect.unit (s := S1x1x32x80x512) ![0, 0, 31, 0, 0] S1x1x1x80x512.size inb_S1x1x32x80x512_S1x1x1x80x512_0_0_31_0_0).toLoadRect (View.loadsAt_vmem h_S1x1x1x80x512))
      let v69 : Vec F S1x512x1024 .bf16 ← Prog.lift (.load arg8 (Rect.unit (s := S4x512x1024) ![1, 0, 0] S1x512x1024.size inb_S4x512x1024_S1x512x1024_1_0_0).toLoadRect (View.loadsAt_vmem h_S1x512x1024))
      pure (k0_pay151 v66_3 v67 v69)
  let v34 : FVec F S64x1024 .f32 := k0_pay152 v30
  let v36 : Vec F S1x64x1024 .bf16 ← Prog.lift (.load arg6 (Rect.unit (s := S1x64x1024) ![0, 0, 0] S1x64x1024.size inb_S1x64x1024_S1x64x1024_0_0_0).toLoadRect (View.loadsAt_vmem h_S1x64x1024))

  Prog.lift (.store arg6 (Rect.unit (s := S1x64x1024) ![0, 0, 0] S1x64x1024.size inb_S1x64x1024_S1x64x1024_0_0_0) (k0_pay1 v34) Finset.univ (View.stores_vmem h_S1x64x1024 (harg6.storeExact_slice rfl _ packedbf16_S1x64x1024_S1x64x1024_0_0_0) (fun _ => rfl)) (.inl rfl))
  pure ⟨⟩

/-- The condition the body branches on: the bound on the scores' distance from the first chunk's maximum is at most a hundred. -/
def Safe (x3 : Vec F S1x128x1024 .bf16) (x4 : Vec F S1x512x128 .bf16) (x9 : Vec F S8x128 .f32) : Prop :=
  Scalar.cmpi .ne (Scalar.extui (Scalar.cmpf .ole (k0_pay149 x3 x4 x9) (Scalar.ofBits .f32 0x42C80000#32)) : BitVec 32) 0#32 = 1#1

set_option maxHeartbeats 4000000 in
/-- The sweep against the fixed maximum: what it leaves in the result block. -/
@[irreducible] def runFix (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (hs :  Safe (View.readAt (Elt F) arg3.view (Rect.unit (s := S1x128x1024) ![0, 0, 0] S1x128x1024.size inb_S1x128x1024_S1x128x1024_0_0_0).toLoadRect f3) (View.readAt (Elt F) arg4.view (Rect.unit (s := S1x16384x128) ![0, 0, 0] S1x512x128.size inb_S1x16384x128_S1x512x128_0_0_0).toLoadRect f4) (View.readAt (Elt F) arg9.view (Rect.unit (s := S8x128) ![0, 0] S8x128.size inb_S8x128_S8x128_0_0).toLoadRect f9)) :
    { L : List (View.Piece (Elt F) S1x64x1024 .bf16) // ∀ (E : Set ℕ),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (tail i arg3 harg3 arg4 harg4 arg5 harg5 arg6 harg6 arg7 harg7 arg8 harg8 arg9 harg9) (fun _ =>
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) f6 L)) ∗ (∃ g, (arg7.view.loc (c : Thread nD τ) ↦[arg7.view.set]{fullShare} g)) ∗ (∃ g, (arg8.view.loc (c : Thread nD τ) ↦[arg8.view.set]{fullShare} g)) ∗ (arg9.view.loc (c : Thread nD τ) ↦[arg9.view.set]{fullShare} f9))) } := by
  refine ⟨?_, fun E => ?run⟩
  case run =>
    unfold Safe at hs
    unfold tail
    iintro ⟨H3, H4, H5, H6, H7, H8, H9⟩
    sl_exec (disch := exact hs)
    sl_step
    sl_close

set_option maxHeartbeats 4000000 in
/-- The sweep with a running maximum: what it leaves in the result block. -/
@[irreducible] def runFlash (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (hs : ¬ Safe (View.readAt (Elt F) arg3.view (Rect.unit (s := S1x128x1024) ![0, 0, 0] S1x128x1024.size inb_S1x128x1024_S1x128x1024_0_0_0).toLoadRect f3) (View.readAt (Elt F) arg4.view (Rect.unit (s := S1x16384x128) ![0, 0, 0] S1x512x128.size inb_S1x16384x128_S1x512x128_0_0_0).toLoadRect f4) (View.readAt (Elt F) arg9.view (Rect.unit (s := S8x128) ![0, 0] S8x128.size inb_S8x128_S8x128_0_0).toLoadRect f9)) :
    { L : List (View.Piece (Elt F) S1x64x1024 .bf16) // ∀ (E : Set ℕ),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (tail i arg3 harg3 arg4 harg4 arg5 harg5 arg6 harg6 arg7 harg7 arg8 harg8 arg9 harg9) (fun _ =>
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) f6 L)) ∗ (∃ g, (arg7.view.loc (c : Thread nD τ) ↦[arg7.view.set]{fullShare} g)) ∗ (∃ g, (arg8.view.loc (c : Thread nD τ) ↦[arg8.view.set]{fullShare} g)) ∗ (arg9.view.loc (c : Thread nD τ) ↦[arg9.view.set]{fullShare} f9))) } := by
  refine ⟨?_, fun E => ?run⟩
  case run =>
    unfold Safe at hs
    unfold tail
    iintro ⟨H3, H4, H5, H6, H7, H8, H9⟩
    sl_exec (disch := exact hs)
    sl_step
    sl_close

end Cert.KernelIdeal.Att
end
-- ==== Proof.Att.Vocab.lean ====
module

public import proofs.«01_k».proof.Proof.Att.Body
public import Idealize.ShloMosaic.Lib.Pipeline.ReadBack
public import Idealize.ShloMosaic.Lib.Pipeline.ValueKit.Acc

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the sweep: what one chunk of 512 keys contributes -/

/-- The scores of a chunk of keys against the queries of the block. -/
def sc (w : FVec F S128x1024 .bf16) (kc : Vec F S1x512x128 .bf16) : FVec F S512x1024 .f32 :=
  matmul dot_S512x128_S128x1024_S512x1024_1_0_0_1_n_n none (shapeCast S512x128 kc shapeCasts_S1x512x128_S512x128) w (constant S512x1024 .f32 0x00000000#32)

/-- The largest score of a chunk, query by query. -/
def cmax (s : FVec F S512x1024 .f32) : FVec F S1x1024 .f32 :=
  shapeCast S1x1024 (multiReduction .maximumf [0] S1024 s 0xFF800000#32 reduces_S512x1024_S1024 (.inl rfl) rfl) shapeCasts_S1024_S1x1024

/-- The weights of a chunk whose scores are `s`, with the running maximum `m` taken off. -/
def pr (s : FVec F S512x1024 .f32) (m : FVec F S1x1024 .f32) : FVec F S1x512x1024 .bf16 :=
  shapeCast S1x512x1024 (truncf .bf16 (exp2 (subf s (broadcastTo S512x1024 m broadcasts_S1x1024_S512x1024))) bitsLt_bf16_f32) shapeCasts_S512x1024_S1x512x1024

/-- The values of a chunk (and its row of ones) times its weights. -/
def pv (vc : Vec F S1x1x1x80x512 .bf16) (p : FVec F S1x512x1024 .bf16) : FVec F S80x1024 .f32 :=
  matmul dot_S80x512_S512x1024_S80x1024_1_0_0_1_n_n none (shapeCast S80x512 vc shapeCasts_S1x1x1x80x512_S80x512) (shapeCast S512x1024 p shapeCasts_S1x512x1024_S512x1024) (constant S80x1024 .f32 0x00000000#32)

/-- A score slab put into a slot of the ring and taken out again. -/
def slab (s : FVec F S512x1024 .f32) : FVec F S512x1024 .f32 :=
  shapeCast S512x1024 (shapeCast S1x512x1024 s shapeCasts_S512x1024_S1x512x1024) shapeCasts_S1x512x1024_S512x1024

/-- The weights of chunk `c` in the sweep with the fixed maximum `m`. -/
def fixP (w : FVec F S128x1024 .bf16) (kc : ℕ → Vec F S1x512x128 .bf16) (m : FVec F S1x1024 .f32) : ℕ → FVec F S1x512x1024 .bf16
  | 0 => pr (slab (sc w (kc 0))) m
  | c + 1 => pr (sc w (kc (c + 1))) m

/-- The sums over the first `n` chunks in the sweep with the fixed maximum `m`. -/
def fixAcc (w : FVec F S128x1024 .bf16) (kc : ℕ → Vec F S1x512x128 .bf16) (vc : ℕ → Vec F S1x1x1x80x512 .bf16) (m : FVec F S1x1024 .f32) : ℕ → FVec F S80x1024 .f32
  | 0 => k0_pay140
  | n + 1 => addf (fixAcc w kc vc m n) (pv (vc n) (fixP w kc m n))

theorem inb_key (c : ℕ) : ∀ a, (![0, 512 * (c % 32), 0] : Fin 3 → ℕ) a + S1x512x128.size a ≤ S1x16384x128.size a := by
  have := Nat.mod_lt c (show 0 < 32 by decide)
  intro a; fin_cases a
  · show 0 + 1 ≤ 1; omega
  · show 512 * (c % 32) + 512 ≤ 16384; omega
  · show 0 + 128 ≤ 128; omega

theorem inb_val (c : ℕ) : ∀ a, (![0, 0, c % 32, 0, 0] : Fin 5 → ℕ) a + S1x1x1x80x512.size a ≤ S1x1x32x80x512.size a := by
  have := Nat.mod_lt c (show 0 < 32 by decide)
  intro a; fin_cases a
  · show 0 + 1 ≤ 1; omega
  · show 0 + 1 ≤ 1; omega
  · show c % 32 + 1 ≤ 32; omega
  · show 0 + 80 ≤ 80; omega
  · show 0 + 512 ≤ 512; omega

/-- Chunk `c` of the keys. -/
def kc (arg4 : Memref sig .tc .vmem S1x16384x128 .bf16) (f4 : BufTy.Contents (Elt F) arg4.view.ty) (c : ℕ) : Vec F S1x512x128 .bf16 :=
  View.readAt (Elt F) arg4.view (Rect.unit (s := S1x16384x128) ![0, 512 * (c % 32), 0] S1x512x128.size (inb_key c)).toLoadRect f4

/-- Chunk `c` of the values. -/
def vc (arg5 : Memref sig .tc .vmem S1x1x32x80x512 .bf16) (f5 : BufTy.Contents (Elt F) arg5.view.ty) (c : ℕ) : Vec F S1x1x1x80x512 .bf16 :=
  View.readAt (Elt F) arg5.view (Rect.unit (s := S1x1x32x80x512) ![0, 0, c % 32, 0, 0] S1x1x1x80x512.size (inb_val c)).toLoadRect f5

/-- The block of queries. -/
def qw (arg3 : Memref sig .tc .vmem S1x128x1024 .bf16) (f3 : BufTy.Contents (Elt F) arg3.view.ty) : Vec F S1x128x1024 .bf16 :=
  View.readAt (Elt F) arg3.view (Rect.unit (s := S1x128x1024) ![0, 0, 0] S1x128x1024.size inb_S1x128x1024_S1x128x1024_0_0_0).toLoadRect f3

end Cert.KernelIdeal.Att
end
-- ==== Proof.Att.FixVal.lean ====
module

public import proofs.«01_k».proof.Proof.Att.Vocab
public import Idealize.ShloMosaic.Lib.Pipeline.ReadBack
public import Idealize.ShloMosaic.Lib.Pipeline.ValueKit.Acc

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sweep with the fixed maximum leaves the quotient of the sums over all 32 chunks. -/
theorem runFix_val (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (hs :  Safe (View.readAt (Elt F) arg3.view (Rect.unit (s := S1x128x1024) ![0, 0, 0] S1x128x1024.size inb_S1x128x1024_S1x128x1024_0_0_0).toLoadRect f3) (View.readAt (Elt F) arg4.view (Rect.unit (s := S1x16384x128) ![0, 0, 0] S1x512x128.size inb_S1x16384x128_S1x512x128_0_0_0).toLoadRect f4) (View.readAt (Elt F) arg9.view (Rect.unit (s := S8x128) ![0, 0] S8x128.size inb_S8x128_S8x128_0_0).toLoadRect f9)) :
    (runFix c i arg3 harg3 arg4 harg4 arg5 harg5 arg6 harg6 arg7 harg7 arg8 harg8 arg9 harg9 f3 f4 f5 f6 f7 f8 f9 hs).1 = [⟨Rect.unit (s := S1x64x1024) ![0, 0, 0] S1x64x1024.size inb_S1x64x1024_S1x64x1024_0_0_0,
      k0_pay1 (k0_pay152 (fixAcc (k0_pay145 (qw arg3 f3)) (kc arg4 f4) (vc arg5 f5) (cmax (sc (k0_pay145 (qw arg3 f3)) (kc arg4 f4 0))) 32))⟩] := by
  frame_open
  simp (disch := decide) only [↓ View.readCov_skip, ↓ View.readCov_cons_toLoadRect]
  rfl

end Cert.KernelIdeal.Att
end
-- ==== Proof.Att.Trip.lean ====
module

public import proofs.«01_k».proof.Proof.Att.Vocab
public import Idealize.ShloMosaic.Lib.Pipeline.ReadBack
public import Idealize.ShloMosaic.Lib.Pipeline.ValueKit.Acc

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sweep with the running maximum -/

/-- A load through the last store's own rectangle reads what it stored, whatever lay before. -/
theorem readAt_hit {sig : RefSig} {κ : Kind} {sp : Space} {s : Shape} {e : EltTy} {Val : EltTy → Type} (v : View sig κ sp s e) (f : v.ty.Contents Val) (r : Rect s)
    (w : r.shape.Idx → Val e) (L : List (View.Piece Val s e)) : v.readAt Val r.toLoadRect (v.writes Val f (⟨r, w⟩ :: L)) = w :=
  funext fun j => View.read_writes_cons_emb v f r w L j

/-- A load apart from the last store reads the earlier stores. -/
theorem readAt_skip {sig : RefSig} {κ : Kind} {sp : Space} {s : Shape} {e : EltTy} {Val : EltTy → Type} (v : View sig κ sp s e) (f : v.ty.Contents Val) (r : Rect s)
    (w : r.shape.Idx → Val e) (L : List (View.Piece Val s e)) (B : LoadRect s) (h : LoadRect.disj r B = true) :
    v.readAt Val B (v.writes Val f (⟨r, w⟩ :: L)) = v.readAt Val B (v.writes Val f L) := by
  funext j
  have hy : B.idx j ∉ Finset.univ.map r.emb := by rw [Rect.map_emb_univ]; exact LoadRect.idx_not_mem_of_disj h j
  rw [View.readAt_apply, View.readAt_apply, View.writes_cons, View.read_slice_write_of_not_mem r _ _ _ hy]

/-- A score slab as the ring holds it. -/
def up (s : FVec F S512x1024 .f32) : FVec F S1x512x1024 .f32 := shapeCast S1x512x1024 s shapeCasts_S512x1024_S1x512x1024

/-- The running maximum after `n` chunks with scores `S`, from `m`. -/
def flM (S : ℕ → FVec F S512x1024 .f32) (m : FVec F S1x1024 .f32) : ℕ → FVec F S1x1024 .f32
  | 0 => m
  | n + 1 => maximumf (flM S m n) (cmax (S n))

/-- The weights of the chunk before the `n`-th, `p` before the first. -/
def flP (S : ℕ → FVec F S512x1024 .f32) (m : FVec F S1x1024 .f32) (p : FVec F S1x512x1024 .bf16) : ℕ → FVec F S1x512x1024 .bf16
  | 0 => p
  | n + 1 => pr (slab (S n)) (flM S m (n + 1))

/-- The running sums before the `n`-th chunk: the chunk before it added, then rescaled to the new maximum. -/
def flA (S : ℕ → FVec F S512x1024 .f32) (V : ℕ → Vec F S1x1x1x80x512 .bf16) (m : FVec F S1x1024 .f32) (p : FVec F S1x512x1024 .bf16) (a : FVec F S80x1024 .f32) : ℕ → FVec F S80x1024 .f32
  | 0 => a
  | n + 1 => mulf (addf (flA S V m p a n) (pv (V n) (flP S m p n))) (broadcastTo S80x1024 (exp2 (subf (flM S m n) (flM S m (n + 1)))) broadcasts_S1x1024_S80x1024)

/-- The scores a trip sees: two from before it, then its own. -/
def Sloc (s0 s1 : FVec F S512x1024 .f32) (w : FVec F S128x1024 .bf16) (K : ℕ → Vec F S1x512x128 .bf16) : ℕ → FVec F S512x1024 .f32
  | 0 => s0
  | 1 => s1
  | n + 2 => sc w (K n)

/-- The chunk of keys step `j` of trip `k` multiplies (for the scores two steps ahead). -/
def kT (arg4 : Memref sig .tc .vmem S1x16384x128 .bf16) (f4 : BufTy.Contents (Elt F) arg4.view.ty) (k : Fin k0_t2_loop.trips) (j : ℕ) : Vec F S1x512x128 .bf16 :=
  View.readAt (Elt F) arg4.view (Rect.unit (s := S1x16384x128) (k0_off2 k (BitVec.ofNat 32 (j % 8))) S1x512x128.size (k0_off2_inb k ⟨j % 8, Nat.mod_lt _ (by decide)⟩)).toLoadRect f4

/-- The chunk of values step `j` of trip `k` multiplies (one step behind). -/
def vT (arg5 : Memref sig .tc .vmem S1x1x32x80x512 .bf16) (f5 : BufTy.Contents (Elt F) arg5.view.ty) (k : Fin k0_t2_loop.trips) (j : ℕ) : Vec F S1x1x1x80x512 .bf16 :=
  View.readAt (Elt F) arg5.view (Rect.unit (s := S1x1x32x80x512) (k0_off3 k (BitVec.ofNat 32 (j % 8))) S1x1x1x80x512.size (k0_off3_inb k ⟨j % 8, Nat.mod_lt _ (by decide)⟩)).toLoadRect f5

/-- What a trip of eight steps carries on. -/
theorem trip_res (𝒱 : Variants) (c : Dev nD) (bd : Option 𝒱.V) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (v4 : FVec F S128x1024 .bf16) (f4 : BufTy.Contents (Elt F) arg4.view.ty) (f5 : BufTy.Contents (Elt F) arg5.view.ty) (k : Fin k0_t2_loop.trips)
    (m : FVec F S1x1024 .f32) (s0 s1 : FVec F S512x1024 .f32) (a : FVec F S80x1024 .f32) (f7 : BufTy.Contents (Elt F) arg7.view.ty) (f8 : BufTy.Contents (Elt F) arg8.view.ty)
    (h0 : View.readAt (Elt F) arg7.view (Rect.unit (s := S4x512x1024) ![0, 0, 0] S1x512x1024.size inb_S4x512x1024_S1x512x1024_0_0_0).toLoadRect f7 = up s0) (h1 : View.readAt (Elt F) arg7.view (Rect.unit (s := S4x512x1024) ![1, 0, 0] S1x512x1024.size inb_S4x512x1024_S1x512x1024_1_0_0).toLoadRect f7 = up s1) :
    (trip_k0_t2 (F := F) 𝒱 c bd i arg3 harg3 arg4 harg4 arg5 harg5 arg6 harg6 arg7 harg7 arg8 harg8 arg9 harg9 v4 f4 f5 k).1 (m, cmax s0, cmax s1, a) f7 f8 = (flM (Sloc s0 s1 v4 (kT arg4 f4 k)) m 8, cmax ((Sloc s0 s1 v4 (kT arg4 f4 k)) 8), cmax ((Sloc s0 s1 v4 (kT arg4 f4 k)) 9), flA (Sloc s0 s1 v4 (kT arg4 f4 k)) (vT arg5 f5 k) m (View.readAt (Elt F) arg8.view (Rect.unit (s := S4x512x1024) ![1, 0, 0] S1x512x1024.size inb_S4x512x1024_S1x512x1024_1_0_0).toLoadRect f8) a 8) := by
  unfold trip_k0_t2
  dsimp only
  frame_open
  simp (disch := decide) only [↓ View.readCov_skip, ↓ View.readCov_cons_toLoadRect, h0, h1]
  rfl

/-- The slab a trip leaves in the ring's first slot. -/
theorem trip_slot0 (𝒱 : Variants) (c : Dev nD) (bd : Option 𝒱.V) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (v4 : FVec F S128x1024 .bf16) (f4 : BufTy.Contents (Elt F) arg4.view.ty) (f5 : BufTy.Contents (Elt F) arg5.view.ty) (k : Fin k0_t2_loop.trips)
    (m : FVec F S1x1024 .f32) (s0 s1 : FVec F S512x1024 .f32) (a : FVec F S80x1024 .f32) (f7 : BufTy.Contents (Elt F) arg7.view.ty) (f8 : BufTy.Contents (Elt F) arg8.view.ty) (g : BufTy.Contents (Elt F) arg7.view.ty) (L : List (View.Piece (Elt F) S4x512x1024 .f32)) :
    View.readAt (Elt F) arg7.view (Rect.unit (s := S4x512x1024) ![0, 0, 0] S1x512x1024.size inb_S4x512x1024_S1x512x1024_0_0_0).toLoadRect (arg7.view.writes (Elt F) g ((trip_k0_t2 (F := F) 𝒱 c bd i arg3 harg3 arg4 harg4 arg5 harg5 arg6 harg6 arg7 harg7 arg8 harg8 arg9 harg9 v4 f4 f5 k).2.1 (m, cmax s0, cmax s1, a) f7 f8 ++ L)) = up ((Sloc s0 s1 v4 (kT arg4 f4 k)) 8) := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

/-- The slab a trip leaves in the ring's second slot. -/
theorem trip_slot1 (𝒱 : Variants) (c : Dev nD) (bd : Option 𝒱.V) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (v4 : FVec F S128x1024 .bf16) (f4 : BufTy.Contents (Elt F) arg4.view.ty) (f5 : BufTy.Contents (Elt F) arg5.view.ty) (k : Fin k0_t2_loop.trips)
    (m : FVec F S1x1024 .f32) (s0 s1 : FVec F S512x1024 .f32) (a : FVec F S80x1024 .f32) (f7 : BufTy.Contents (Elt F) arg7.view.ty) (f8 : BufTy.Contents (Elt F) arg8.view.ty) (g : BufTy.Contents (Elt F) arg7.view.ty) (L : List (View.Piece (Elt F) S4x512x1024 .f32)) :
    View.readAt (Elt F) arg7.view (Rect.unit (s := S4x512x1024) ![1, 0, 0] S1x512x1024.size inb_S4x512x1024_S1x512x1024_1_0_0).toLoadRect (arg7.view.writes (Elt F) g ((trip_k0_t2 (F := F) 𝒱 c bd i arg3 harg3 arg4 harg4 arg5 harg5 arg6 harg6 arg7 harg7 arg8 harg8 arg9 harg9 v4 f4 f5 k).2.1 (m, cmax s0, cmax s1, a) f7 f8 ++ L)) = up ((Sloc s0 s1 v4 (kT arg4 f4 k)) 9) := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

/-- The weights a trip leaves for the next. -/
theorem trip_wt (𝒱 : Variants) (c : Dev nD) (bd : Option 𝒱.V) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (v4 : FVec F S128x1024 .bf16) (f4 : BufTy.Contents (Elt F) arg4.view.ty) (f5 : BufTy.Contents (Elt F) arg5.view.ty) (k : Fin k0_t2_loop.trips)
    (m : FVec F S1x1024 .f32) (s0 s1 : FVec F S512x1024 .f32) (a : FVec F S80x1024 .f32) (f7 : BufTy.Contents (Elt F) arg7.view.ty) (f8 : BufTy.Contents (Elt F) arg8.view.ty) (g : BufTy.Contents (Elt F) arg8.view.ty) (L : List (View.Piece (Elt F) S4x512x1024 .bf16)) :
    View.readAt (Elt F) arg8.view (Rect.unit (s := S4x512x1024) ![1, 0, 0] S1x512x1024.size inb_S4x512x1024_S1x512x1024_1_0_0).toLoadRect (arg8.view.writes (Elt F) g ((trip_k0_t2 (F := F) 𝒱 c bd i arg3 harg3 arg4 harg4 arg5 harg5 arg6 harg6 arg7 harg7 arg8 harg8 arg9 harg9 v4 f4 f5 k).2.2.1 (m, cmax s0, cmax s1, a) f7 f8 ++ L)) = flP (Sloc s0 s1 v4 (kT arg4 f4 k)) m (View.readAt (Elt F) arg8.view (Rect.unit (s := S4x512x1024) ![1, 0, 0] S1x512x1024.size inb_S4x512x1024_S1x512x1024_1_0_0).toLoadRect f8) 8 := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

end Cert.KernelIdeal.Att
end
-- ==== Proof.Att.Flash.lean ====
module

public import proofs.«01_k».proof.Proof.Att.Trip
public import Idealize.ShloMosaic.Lib.Pipeline.ReadBack
public import Idealize.ShloMosaic.Lib.Pipeline.ValueKit.Acc

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sweep with the running maximum: its four trips together -/

theorem flM_congr {S S' : ℕ → FVec F S512x1024 .f32} {N : ℕ} (h : ∀ j < N, S j = S' j) (m : FVec F S1x1024 .f32) : ∀ n ≤ N, flM S m n = flM S' m n
  | 0, _ => rfl
  | n + 1, hn => by unfold flM; rw [flM_congr h m n (by omega), h n (by omega)]

theorem flP_congr {S S' : ℕ → FVec F S512x1024 .f32} {N : ℕ} (h : ∀ j < N, S j = S' j) (m : FVec F S1x1024 .f32) (p : FVec F S1x512x1024 .bf16) : ∀ n ≤ N, flP S m p n = flP S' m p n
  | 0, _ => rfl
  | n + 1, hn => by show pr (slab (S n)) (flM S m (n + 1)) = pr (slab (S' n)) (flM S' m (n + 1)); rw [flM_congr h m (n + 1) hn, h n (by omega)]

theorem flA_congr {S S' : ℕ → FVec F S512x1024 .f32} {V V' : ℕ → Vec F S1x1x1x80x512 .bf16} {N : ℕ} (h : ∀ j < N, S j = S' j) (hV : ∀ j < N, V j = V' j) (m : FVec F S1x1024 .f32)
    (p : FVec F S1x512x1024 .bf16) (a : FVec F S80x1024 .f32) : ∀ n ≤ N, flA S V m p a n = flA S' V' m p a n
  | 0, _ => rfl
  | n + 1, hn => by
    unfold flA
    rw [flA_congr h hV m p a n (by omega), flP_congr h m p n (by omega), flM_congr h m n (by omega), flM_congr h m (n + 1) hn, hV n (by omega)]

theorem flM_add (S : ℕ → FVec F S512x1024 .f32) (m : FVec F S1x1024 .f32) (n : ℕ) : ∀ j, flM S m (n + j) = flM (fun j => S (n + j)) (flM S m n) j
  | 0 => rfl
  | j + 1 => by show maximumf (flM S m (n + j)) _ = _; rw [flM_add S m n j]; rfl

theorem flP_add (S : ℕ → FVec F S512x1024 .f32) (m : FVec F S1x1024 .f32) (p : FVec F S1x512x1024 .bf16) (n : ℕ) : ∀ j, flP S m p (n + j) = flP (fun j => S (n + j)) (flM S m n) (flP S m p n) j
  | 0 => rfl
  | j + 1 => by show pr _ (flM S m (n + (j + 1))) = _; rw [flM_add S m n (j + 1)]; rfl

theorem flA_add (S : ℕ → FVec F S512x1024 .f32) (V : ℕ → Vec F S1x1x1x80x512 .bf16) (m : FVec F S1x1024 .f32) (p : FVec F S1x512x1024 .bf16) (a : FVec F S80x1024 .f32) (n : ℕ) :
    ∀ j, flA S V m p a (n + j) = flA (fun j => S (n + j)) (fun j => V (n + j)) (flM S m n) (flP S m p n) (flA S V m p a n) j
  | 0 => rfl
  | j + 1 => by
    show mulf (addf (flA S V m p a (n + j)) (pv (V (n + j)) (flP S m p (n + j)))) (broadcastTo S80x1024 (exp2 (subf (flM S m (n + j)) (flM S m (n + (j + 1))))) _) = _
    rw [flA_add S V m p a n j, flP_add S m p n j, flM_add S m n j, flM_add S m n (j + 1)]; rfl

/-- The scores chunk by chunk; past the last chunk, the last again. -/
def Sg (w : FVec F S128x1024 .bf16) (arg4 : Memref sig .tc .vmem S1x16384x128 .bf16) (f4 : BufTy.Contents (Elt F) arg4.view.ty) (c : ℕ) : FVec F S512x1024 .f32 :=
  sc w (kc arg4 f4 (min c 31))

/-- The values one chunk behind; before the first, the first. -/
def Vg (arg5 : Memref sig .tc .vmem S1x1x32x80x512 .bf16) (f5 : BufTy.Contents (Elt F) arg5.view.ty) (c : ℕ) : Vec F S1x1x1x80x512 .bf16 :=
  vc arg5 f5 (c - 1)

theorem off3_eq : ∀ k : Fin k0_t2_loop.trips, ∀ (r : Fin 8), k0_off3 k (BitVec.ofNat 32 r.val) = ![0, 0, 8 * k.val + r.val - 1, 0, 0] := by decide +kernel

theorem kT_eq (arg4 : Memref sig .tc .vmem S1x16384x128 .bf16) (f4 : BufTy.Contents (Elt F) arg4.view.ty) (k : Fin k0_t2_loop.trips) (j : ℕ) (hj : j < 8) :
    kT arg4 f4 k j = kc arg4 f4 (min (8 * k.val + (j + 2)) 31) := by
  unfold kT kc
  have h := k0_off2_eq k ⟨j % 8, Nat.mod_lt _ (by decide)⟩
  have h2 : (![0, 512 * (min (8 * k.val + j % 8 + 2) 31), 0] : Fin 3 → ℕ) = ![0, 512 * (min (8 * k.val + (j + 2)) 31 % 32), 0] := by
    have e1 : j % 8 = j := Nat.mod_eq_of_lt hj
    have e2 : min (8 * k.val + (j + 2)) 31 % 32 = min (8 * k.val + (j + 2)) 31 := Nat.mod_eq_of_lt (by omega)
    rw [e1, e2, Nat.add_assoc]
  exact View.readAt_unit_eq_of_eq arg4.view _ (h.trans h2) f4

theorem vT_eq (arg5 : Memref sig .tc .vmem S1x1x32x80x512 .bf16) (f5 : BufTy.Contents (Elt F) arg5.view.ty) (k : Fin k0_t2_loop.trips) (j : ℕ) (hj : j < 8) :
    vT arg5 f5 k j = Vg arg5 f5 (8 * k.val + j) := by
  unfold vT Vg vc
  have h := off3_eq k ⟨j % 8, Nat.mod_lt _ (by decide)⟩
  have hk : k.val < 4 := Nat.lt_of_lt_of_le k.isLt k0_t2_abs.2.1
  have h2 : (![0, 0, 8 * k.val + j % 8 - 1, 0, 0] : Fin 5 → ℕ) = ![0, 0, (8 * k.val + j - 1) % 32, 0, 0] := by
    have e1 : j % 8 = j := Nat.mod_eq_of_lt hj
    have e2 : (8 * k.val + j - 1) % 32 = 8 * k.val + j - 1 := Nat.mod_eq_of_lt (by omega)
    rw [e1, e2]
  exact View.readAt_unit_eq_of_eq arg5.view _ (h.trans h2) f5

theorem Sloc_eq (w : FVec F S128x1024 .bf16) (arg4 : Memref sig .tc .vmem S1x16384x128 .bf16) (f4 : BufTy.Contents (Elt F) arg4.view.ty) (k : Fin k0_t2_loop.trips) (j : ℕ) (hj : j < 10) :
    Sloc (Sg w arg4 f4 (8 * k.val)) (Sg w arg4 f4 (8 * k.val + 1)) w (kT arg4 f4 k) j = Sg w arg4 f4 (8 * k.val + j) := by
  match j, hj with
  | 0, _ => rfl
  | 1, _ => rfl
  | j + 2, h => show sc w (kT arg4 f4 k j) = sc w _; rw [kT_eq arg4 f4 k j (by omega)]

/-- What the trips before the `k`-th have left: the carried state after `8 k` chunks, the two slabs ahead, the weights behind. -/
theorem st_inv (𝒱 : Variants) (c : Dev nD) (bd : Option 𝒱.V) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (v4 : FVec F S128x1024 .bf16) (f4 : BufTy.Contents (Elt F) arg4.view.ty) (f5 : BufTy.Contents (Elt F) arg5.view.ty)
    (m : FVec F S1x1024 .f32) (a : FVec F S80x1024 .f32) (G7 : BufTy.Contents (Elt F) arg7.view.ty) (G8 : BufTy.Contents (Elt F) arg8.view.ty) (p : FVec F S1x512x1024 .bf16)
    (h0 : View.readAt (Elt F) arg7.view (Rect.unit (s := S4x512x1024) ![0, 0, 0] S1x512x1024.size inb_S4x512x1024_S1x512x1024_0_0_0).toLoadRect G7 = up ((Sg v4 arg4 f4) 0))
    (h1 : View.readAt (Elt F) arg7.view (Rect.unit (s := S4x512x1024) ![1, 0, 0] S1x512x1024.size inb_S4x512x1024_S1x512x1024_1_0_0).toLoadRect G7 = up ((Sg v4 arg4 f4) 1))
    (hp : View.readAt (Elt F) arg8.view (Rect.unit (s := S4x512x1024) ![1, 0, 0] S1x512x1024.size inb_S4x512x1024_S1x512x1024_1_0_0).toLoadRect G8 = p) :
    ∀ k ≤ 4, (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).1 = (flM (Sg v4 arg4 f4) m (8 * k), cmax ((Sg v4 arg4 f4) (8 * k)), cmax ((Sg v4 arg4 f4) (8 * k + 1)), flA (Sg v4 arg4 f4) (Vg arg5 f5) m p a (8 * k))
      ∧ View.readAt (Elt F) arg7.view (Rect.unit (s := S4x512x1024) ![0, 0, 0] S1x512x1024.size inb_S4x512x1024_S1x512x1024_0_0_0).toLoadRect (arg7.view.writes (Elt F) G7 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.1) = up ((Sg v4 arg4 f4) (8 * k))
      ∧ View.readAt (Elt F) arg7.view (Rect.unit (s := S4x512x1024) ![1, 0, 0] S1x512x1024.size inb_S4x512x1024_S1x512x1024_1_0_0).toLoadRect (arg7.view.writes (Elt F) G7 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.1) = up ((Sg v4 arg4 f4) (8 * k + 1))
      ∧ View.readAt (Elt F) arg8.view (Rect.unit (s := S4x512x1024) ![1, 0, 0] S1x512x1024.size inb_S4x512x1024_S1x512x1024_1_0_0).toLoadRect (arg8.view.writes (Elt F) G8 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.2) = flP (Sg v4 arg4 f4) m p (8 * k)
  | 0, _ => ⟨rfl, h0, h1, hp⟩
  | k + 1, hk => by
    obtain ⟨e1, e2, e3, e4⟩ := st_inv 𝒱 c bd i arg3 harg3 arg4 harg4 arg5 harg5 arg6 harg6 arg7 harg7 arg8 harg8 arg9 harg9 v4 f4 f5 m a G7 G8 p h0 h1 hp k (by omega)
    have hlt : k < k0_t2_loop.trips := Nat.lt_of_lt_of_le (show k < 4 by omega) (by decide)
    have hS := st_k0_t2_succ (F := F) 𝒱 c bd i arg3 harg3 arg4 harg4 arg5 harg5 arg6 harg6 arg7 harg7 arg8 harg8 arg9 harg9 v4 f4 f5 G7 G8 (m, cmax ((Sg v4 arg4 f4) 0), cmax ((Sg v4 arg4 f4) 1), a) ⟨k, hlt⟩
    have hl : ∀ j < 10, Sloc ((Sg v4 arg4 f4) (8 * k)) ((Sg v4 arg4 f4) (8 * k + 1)) v4 (kT arg4 f4 ⟨k, hlt⟩) j = (Sg v4 arg4 f4) (8 * k + j) := fun j hj => Sloc_eq v4 arg4 f4 ⟨k, hlt⟩ j hj
    have hv : ∀ j < 8, vT arg5 f5 ⟨k, hlt⟩ j = (Vg arg5 f5) (8 * k + j) := fun j hj => vT_eq arg5 f5 ⟨k, hlt⟩ j hj
    simp only at hS
    rw [hS, e1]
    clear hS
    have t := trip_res 𝒱 c bd i arg3 harg3 arg4 harg4 arg5 harg5 arg6 harg6 arg7 harg7 arg8 harg8 arg9 harg9 v4 f4 f5 ⟨k, hlt⟩ (flM (Sg v4 arg4 f4) m (8 * k)) ((Sg v4 arg4 f4) (8 * k)) ((Sg v4 arg4 f4) (8 * k + 1)) (flA (Sg v4 arg4 f4) (Vg arg5 f5) m p a (8 * k)) _ (arg8.view.writes (Elt F) G8 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.2) e2 e3
    refine ⟨t.trans ?_, (trip_slot0 𝒱 c bd i arg3 harg3 arg4 harg4 arg5 harg5 arg6 harg6 arg7 harg7 arg8 harg8 arg9 harg9 v4 f4 f5 ⟨k, hlt⟩ (flM (Sg v4 arg4 f4) m (8 * k)) ((Sg v4 arg4 f4) (8 * k)) ((Sg v4 arg4 f4) (8 * k + 1)) (flA (Sg v4 arg4 f4) (Vg arg5 f5) m p a (8 * k)) (arg7.view.writes (Elt F) G7 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.1) (arg8.view.writes (Elt F) G8 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.2) G7 _).trans ?_, (trip_slot1 𝒱 c bd i arg3 harg3 arg4 harg4 arg5 harg5 arg6 harg6 arg7 harg7 arg8 harg8 arg9 harg9 v4 f4 f5 ⟨k, hlt⟩ (flM (Sg v4 arg4 f4) m (8 * k)) ((Sg v4 arg4 f4) (8 * k)) ((Sg v4 arg4 f4) (8 * k + 1)) (flA (Sg v4 arg4 f4) (Vg arg5 f5) m p a (8 * k)) (arg7.view.writes (Elt F) G7 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.1) (arg8.view.writes (Elt F) G8 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.2) G7 _).trans ?_, (trip_wt 𝒱 c bd i arg3 harg3 arg4 harg4 arg5 harg5 arg6 harg6 arg7 harg7 arg8 harg8 arg9 harg9 v4 f4 f5 ⟨k, hlt⟩ (flM (Sg v4 arg4 f4) m (8 * k)) ((Sg v4 arg4 f4) (8 * k)) ((Sg v4 arg4 f4) (8 * k + 1)) (flA (Sg v4 arg4 f4) (Vg arg5 f5) m p a (8 * k)) (arg7.view.writes (Elt F) G7 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.1) (arg8.view.writes (Elt F) G8 (st_k0_t2 (F := F) 𝒱 c bd i arg3 harg3 arg4 harg4 arg5 harg5 arg6 harg6 arg7 harg7 arg8 harg8 arg9 harg9 v4 f4 f5 G7 G8 (m, cmax (Sg v4 arg4 f4 0), cmax (Sg v4 arg4 f4 1), a) k).2.2) G8 _).trans ?_⟩
    · rw [e4, flM_congr (fun j (hj : j < 8) => hl j (by omega)) _ 8 le_rfl, flA_congr (fun j (hj : j < 8) => hl j (by omega)) hv _ _ _ 8 le_rfl, hl 8 (by omega), hl 9 (by omega),
        show 8 * (k + 1) = 8 * k + 8 by omega, flM_add, flA_add]
    · rw [hl 8 (by omega)]; rfl
    · rw [hl 9 (by omega)]; rfl
    · refine (congrArg (fun z => flP _ _ z 8) e4).trans ?_
      rw [flP_congr (fun j (hj : j < 8) => hl j (by omega)) _ _ 8 le_rfl, show 8 * (k + 1) = 8 * k + 8 by omega, flP_add]

/-- The sums the sweep with the running maximum ends with. -/
def flTot (w : FVec F S128x1024 .bf16) (arg4 : Memref sig .tc .vmem S1x16384x128 .bf16) (f4 : BufTy.Contents (Elt F) arg4.view.ty) (arg5 : Memref sig .tc .vmem S1x1x32x80x512 .bf16) (f5 : BufTy.Contents (Elt F) arg5.view.ty) : FVec F S80x1024 .f32 :=
  addf (flA (Sg w arg4 f4) (Vg arg5 f5) k0_pay133 k0_pay132 k0_pay140 32) (pv (vc arg5 f5 31) (flP (Sg w arg4 f4) k0_pay133 k0_pay132 32))

/-- The sweep with the running maximum leaves the quotient of its last sums. -/
theorem runFlash_val (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (hs : ¬ Safe (View.readAt (Elt F) arg3.view (Rect.unit (s := S1x128x1024) ![0, 0, 0] S1x128x1024.size inb_S1x128x1024_S1x128x1024_0_0_0).toLoadRect f3) (View.readAt (Elt F) arg4.view (Rect.unit (s := S1x16384x128) ![0, 0, 0] S1x512x128.size inb_S1x16384x128_S1x512x128_0_0_0).toLoadRect f4) (View.readAt (Elt F) arg9.view (Rect.unit (s := S8x128) ![0, 0] S8x128.size inb_S8x128_S8x128_0_0).toLoadRect f9)) :
    (runFlash c i arg3 harg3 arg4 harg4 arg5 harg5 arg6 harg6 arg7 harg7 arg8 harg8 arg9 harg9 f3 f4 f5 f6 f7 f8 f9 hs).1 = [⟨Rect.unit (s := S1x64x1024) ![0, 0, 0] S1x64x1024.size inb_S1x64x1024_S1x64x1024_0_0_0,
      k0_pay1 (k0_pay152 (flTot (k0_pay145 (qw arg3 f3)) arg4 f4 arg5 f5))⟩] := by
  have key : ∀ (G7 : BufTy.Contents (Elt F) arg7.view.ty), View.readAt (Elt F) arg7.view (Rect.unit (s := S4x512x1024) ![0, 0, 0] S1x512x1024.size inb_S4x512x1024_S1x512x1024_0_0_0).toLoadRect G7 = up (Sg (k0_pay145 (qw arg3 f3)) arg4 f4 0) →
      View.readAt (Elt F) arg7.view (Rect.unit (s := S4x512x1024) ![1, 0, 0] S1x512x1024.size inb_S4x512x1024_S1x512x1024_1_0_0).toLoadRect G7 = up (Sg (k0_pay145 (qw arg3 f3)) arg4 f4 1) →
      k0_pay151 (st_k0_t2 (F := F) Variants.none c none i arg3 harg3 arg4 harg4 arg5 harg5 arg6 harg6 arg7 harg7 arg8 harg8 arg9 harg9 (k0_pay145 (qw arg3 f3)) f4 f5 G7 (arg8.view.writes (Elt F) f8 [⟨(Rect.unit (s := S4x512x1024) ![1, 0, 0] S1x512x1024.size inb_S4x512x1024_S1x512x1024_1_0_0), k0_pay132⟩]) (k0_pay133, cmax (Sg (k0_pay145 (qw arg3 f3)) arg4 f4 0), cmax (Sg (k0_pay145 (qw arg3 f3)) arg4 f4 1), k0_pay140) 4).1.2.2.2
        (vc arg5 f5 31) (arg8.view.readCov ((st_k0_t2 (F := F) Variants.none c none i arg3 harg3 arg4 harg4 arg5 harg5 arg6 harg6 arg7 harg7 arg8 harg8 arg9 harg9 (k0_pay145 (qw arg3 f3)) f4 f5 G7 (arg8.view.writes (Elt F) f8 [⟨(Rect.unit (s := S4x512x1024) ![1, 0, 0] S1x512x1024.size inb_S4x512x1024_S1x512x1024_1_0_0), k0_pay132⟩]) (k0_pay133, cmax (Sg (k0_pay145 (qw arg3 f3)) arg4 f4 0), cmax (Sg (k0_pay145 (qw arg3 f3)) arg4 f4 1), k0_pay140) 4).2.2
          ++ [⟨(Rect.unit (s := S4x512x1024) ![1, 0, 0] S1x512x1024.size inb_S4x512x1024_S1x512x1024_1_0_0), k0_pay132⟩]) (Rect.unit (s := S4x512x1024) ![1, 0, 0] S1x512x1024.size inb_S4x512x1024_S1x512x1024_1_0_0).toLoadRect) = flTot (k0_pay145 (qw arg3 f3)) arg4 f4 arg5 f5 := by
    intro G7 h0 h1
    obtain ⟨e1, -, -, e4⟩ := st_inv (F := F) Variants.none c none i arg3 harg3 arg4 harg4 arg5 harg5 arg6 harg6 arg7 harg7 arg8 harg8 arg9 harg9 (k0_pay145 (qw arg3 f3)) f4 f5 k0_pay133 k0_pay140 G7 (arg8.view.writes (Elt F) f8 [⟨(Rect.unit (s := S4x512x1024) ![1, 0, 0] S1x512x1024.size inb_S4x512x1024_S1x512x1024_1_0_0), k0_pay132⟩]) k0_pay132 h0 h1 (readAt_hit ..) 4 le_rfl
    have hw : LoadRect.within (Rect.unit (s := S4x512x1024) ![1, 0, 0] S1x512x1024.size inb_S4x512x1024_S1x512x1024_1_0_0) (Rect.unit (s := S4x512x1024) ![1, 0, 0] S1x512x1024.size inb_S4x512x1024_S1x512x1024_1_0_0).toLoadRect = true := by decide
    rw [← View.readAt_writes_of_cover arg8.view f8 _ _ (fun j => ⟨⟨(Rect.unit (s := S4x512x1024) ![1, 0, 0] S1x512x1024.size inb_S4x512x1024_S1x512x1024_1_0_0), k0_pay132⟩, by simp, LoadRect.idx_mem_of_within hw j⟩), View.writes_append, e4, e1]
    rfl
  have ht : Scf.trips k0_t2_loop.lb k0_t2_loop.ub k0_t2_loop.st = 4 := by decide +kernel
  frame_open
  rw [ht]
  refine congrArg (fun z => [(⟨Rect.unit (s := S1x64x1024) ![0, 0, 0] S1x64x1024.size inb_S1x64x1024_S1x64x1024_0_0_0, k0_pay1 (k0_pay152 z)⟩ : View.Piece (Elt F) S1x64x1024 .bf16)]) (key _ ?_ ?_)
  · simp (disch := decide) only [↓ readAt_skip, ↓ readAt_hit]; rfl
  · simp (disch := decide) only [↓ readAt_skip, ↓ readAt_hit]; rfl

end Cert.KernelIdeal.Att
end
-- ==== Proof.Att.Head.lean ====
module

public import proofs.«01_k».proof.Proof.Att.Vocab
public import Idealize.ShloMosaic.Lib.Pipeline.ReadBack
public import Idealize.ShloMosaic.Lib.Pipeline.ValueKit.Acc

public import proofs.«01_k».proof.Proof.Att.FixVal
public import proofs.«01_k».proof.Proof.Att.Flash

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A branch followed by a continuation is the branch of the continued arms. -/
theorem ite_bind {E : Type → Type} {α β : Type} (p : Prop) [Decidable p] (a b : Prog E α) (k : α → Prog E β) :
    ((if p then a else b) >>= k) = if p then a >>= k else b >>= k := by split <;> rfl

set_option maxRecDepth 65536 in
/-- Away from the first block of queries the body is the sweep alone. -/
theorem body_eq_neg (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (k0_h1 : ¬ k0_cond1 i = 1#1) :
    cc0_mla_attention (F := F) i arg3 harg3 arg4 harg4 arg5 harg5 arg6 harg6 arg7 harg7 arg8 harg8 arg9 harg9 = tail i arg3 harg3 arg4 harg4 arg5 harg5 arg6 harg6 arg7 harg7 arg8 harg8 arg9 harg9 := by
  rw [cc0_mla_attention_eq_skeleton]; unfold cc0_mla_attention_skel
  rw [k0_part29_eq_skeleton]; unfold k0_part29_skel tail
  simp only [dif_neg k0_h1, bind_assoc, pure_bind, ite_bind]

set_option maxRecDepth 65536 in
/-- At the first block of queries the body measures the keys, stores their norm and then sweeps. -/
theorem body_eq_pos (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (k0_h1 : k0_cond1 i = 1#1) :
    cc0_mla_attention (F := F) i arg3 harg3 arg4 harg4 arg5 harg5 arg6 harg6 arg7 harg7 arg8 harg8 arg9 harg9 = (do
      let v41 : FVec F S1x128 .f32 ← Scf.Loop.for k0_t1_loop (k0_t1_ok i k0_h1) (k0_pay142 (F := F)) (k0_t1_body i arg3 harg3 arg4 harg4 arg5 harg5 arg6 harg6 arg7 harg7 arg8 harg8 arg9 harg9 k0_h1)
      let v44 : Vec F S8x128 .f32 ← Prog.lift (.load arg9 (Rect.unit (s := S8x128) ![0, 0] S8x128.size inb_S8x128_S8x128_0_0).toLoadRect (View.loadsAt_vmem h_S8x128))
      Prog.lift (.store arg9 (Rect.unit (s := S8x128) ![0, 0] S8x128.size inb_S8x128_S8x128_0_0) (k0_pay144 v41) Finset.univ (View.stores_vmem_bits_univ h_S8x128 rfl) (.inl rfl))
      tail i arg3 harg3 arg4 harg4 arg5 harg5 arg6 harg6 arg7 harg7 arg8 harg8 arg9 harg9) := by
  rw [cc0_mla_attention_eq_skeleton]; unfold cc0_mla_attention_skel
  rw [k0_part29_eq_skeleton]; unfold k0_part29_skel tail
  simp only [dif_pos k0_h1, bind_assoc, pure_bind, ite_bind]

end Cert.KernelIdeal.Att
end
-- ==== Proof.Att.Run.lean ====
module

public import proofs.«01_k».proof.Proof.Att.Vocab
public import Idealize.ShloMosaic.Lib.Pipeline.ReadBack
public import Idealize.ShloMosaic.Lib.Pipeline.ValueKit.Acc

public import proofs.«01_k».proof.Proof.Att.FixVal
public import proofs.«01_k».proof.Proof.Att.Flash
public import proofs.«01_k».proof.Proof.Att.Head

public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of queries as the body loads it. -/
def qb (X3 : Vec F S1x128x1024 .bf16) : Vec F S1x128x1024 .bf16 :=
  View.ld X3 (Rect.unit (s := S1x128x1024) ![0, 0, 0] S1x128x1024.size inb_S1x128x1024_S1x128x1024_0_0_0)

/-- Chunk `c` of a block of keys. -/
def kb (X4 : Vec F S1x16384x128 .bf16) (c : ℕ) : Vec F S1x512x128 .bf16 :=
  View.ld X4 (Rect.unit (s := S1x16384x128) ![0, 512 * (c % 32), 0] S1x512x128.size (inb_key c))

/-- Chunk `c` of a block of values. -/
def vb (X5 : Vec F S1x1x32x80x512 .bf16) (c : ℕ) : Vec F S1x1x1x80x512 .bf16 :=
  View.ld X5 (Rect.unit (s := S1x1x32x80x512) ![0, 0, c % 32, 0, 0] S1x1x1x80x512.size (inb_val c))

/-- The sums the sweep with the fixed maximum ends with. -/
def fixT (w : FVec F S128x1024 .bf16) (X4 : Vec F S1x16384x128 .bf16) (X5 : Vec F S1x1x32x80x512 .bf16) : FVec F S80x1024 .f32 :=
  fixAcc w (kb X4) (vb X5) (cmax (sc w (kb X4 0))) 32

/-- The sums the sweep with the running maximum ends with. -/
def flashT (w : FVec F S128x1024 .bf16) (X4 : Vec F S1x16384x128 .bf16) (X5 : Vec F S1x1x32x80x512 .bf16) : FVec F S80x1024 .f32 :=
  addf (flA (fun c => sc w (kb X4 (min c 31))) (fun c => vb X5 (c - 1)) k0_pay133 k0_pay132 k0_pay140 32)
    (pv (vb X5 31) (flP (fun c => sc w (kb X4 (min c 31))) k0_pay133 k0_pay132 32))

/-- What the body may leave in the result block: the quotient of the sums of the one sweep or of the other. -/
def Swept (X3 : Vec F S1x128x1024 .bf16) (X4 : Vec F S1x16384x128 .bf16) (X5 : Vec F S1x1x32x80x512 .bf16) (Y : Vec F S1x64x1024 .bf16) : Prop :=
  Y = k0_pay1 (k0_pay152 (fixT (k0_pay145 (qb X3)) X4 X5)) ∨ Y = k0_pay1 (k0_pay152 (flashT (k0_pay145 (qb X3)) X4 X5))

/-- The sweep, whichever it is, leaves the quotient of its sums. -/
theorem tail_run (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄) ⊢ wp frame (wpE (defs₀ (F := F)) Variants.none (c : Thread nD τ) none) E (tail i arg3 harg3 arg4 harg4 arg5 harg5 arg6 harg6 arg7 harg7 arg8 harg8 arg9 harg9) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ g, ⌜Swept (arg3.view.read (Elt F) f3) (arg4.view.read (Elt F) f4) (arg5.view.read (Elt F) f5) (arg6.view.read (Elt F) g)⌝ ∗ (arg6.view.loc (c : Thread nD τ) ↦[arg6.view.set]{fullShare} g)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)))) := by
  by_cases hs : Safe (View.readAt (Elt F) arg3.view (Rect.unit (s := S1x128x1024) ![0, 0, 0] S1x128x1024.size inb_S1x128x1024_S1x128x1024_0_0_0).toLoadRect f3) (View.readAt (Elt F) arg4.view (Rect.unit (s := S1x16384x128) ![0, 0, 0] S1x512x128.size inb_S1x16384x128_S1x512x128_0_0_0).toLoadRect f4) (View.readAt (Elt F) arg9.view (Rect.unit (s := S8x128) ![0, 0] S8x128.size inb_S8x128_S8x128_0_0).toLoadRect f9)
  · refine ((runFix c i arg3 harg3 arg4 harg4 arg5 harg5 arg6 harg6 arg7 harg7 arg8 harg8 arg9 harg9 f3 f4 f5 f6 f7 f8 f9 hs).2 E).trans (wp_mono _ _ _ fun _ => ?_)
    rw [runFix_val]
    iintro ⟨H3, H4, H5, H6, H7, H8, H9⟩
    isplitl [H3]; · iexact H3
    isplitl [H4]; · iexact H4
    isplitl [H5]; · iexact H5
    isplitl [H6]
    · iexists _; isplitr; swap; · iexact H6
      ipureintro
      rw [View.read_writes_full]; exact Or.inl rfl
    isplitl [H7]; · iexact H7
    isplitl [H8]; · iexact H8
    iexists _; iexact H9
  · refine ((runFlash c i arg3 harg3 arg4 harg4 arg5 harg5 arg6 harg6 arg7 harg7 arg8 harg8 arg9 harg9 f3 f4 f5 f6 f7 f8 f9 hs).2 E).trans (wp_mono _ _ _ fun _ => ?_)
    rw [runFlash_val]
    iintro ⟨H3, H4, H5, H6, H7, H8, H9⟩
    isplitl [H3]; · iexact H3
    isplitl [H4]; · iexact H4
    isplitl [H5]; · iexact H5
    isplitl [H6]
    · iexists _; isplitr; swap; · iexact H6
      ipureintro
      rw [View.read_writes_full]; exact Or.inr rfl
    isplitl [H7]; · iexact H7
    isplitl [H8]; · iexact H8
    iexists _; iexact H9

/-- The norms of the keys, measured and stored. -/
def norms (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (k0_h1 : k0_cond1 i = 1#1) : Prog (TpuEff nD τ sig (Elt F) Λ₀ .tc) PUnit := do
  let v41 : FVec F S1x128 .f32 ← Scf.Loop.for k0_t1_loop (k0_t1_ok i k0_h1) (k0_pay142 (F := F)) (k0_t1_body i arg3 harg3 arg4 harg4 arg5 harg5 arg6 harg6 arg7 harg7 arg8 harg8 arg9 harg9 k0_h1)
  let v44 : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (k0_pay144 v41) Finset.univ (View.stores_vmem_bits_univ h_S8x128 rfl) (.inl rfl))
  pure ⟨⟩

/-- Measuring the keys leaves them as they are and something in the place of the norms. -/
theorem norms_run (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (k0_h1 : k0_cond1 i = 1#1) (f4 : BufTy.Contents (Elt F) arg4.view.ty) (f9 : BufTy.Contents (Elt F) arg9.view.ty) (E : Set ℕ) :
    (iprop((arg4.view.loc (c : Thread nD τ) ↦[arg4.view.set]{fullShare} f4) ∗ (arg9.view.loc (c : Thread nD τ) ↦[arg9.view.set]{fullShare} f9)) : sProp 𝕄) ⊢ wp frame (wpE (defs₀ (F := F)) Variants.none (c : Thread nD τ) none) E (norms i arg3 harg3 arg4 harg4 arg5 harg5 arg6 harg6 arg7 harg7 arg8 harg8 arg9 harg9 k0_h1) (fun _ => iprop((arg4.view.loc (c : Thread nD τ) ↦[arg4.view.set]{fullShare} f4) ∗ (∃ g, (arg9.view.loc (c : Thread nD τ) ↦[arg9.view.set]{fullShare} g)))) := by
  unfold norms
  iintro ⟨H4, H9⟩
  sl_exec
  sl_step
  isplitl [H4]; · iexact H4
  iexists _; iexact H9

/-- The whole body: its three inputs as they were, the result block one of the two quotients, the scratch anything. -/
theorem body_run (c : Dev nD) (i : grid0.Coords) (arg3 : Memref sig .tc .vmem S1x128x1024 .bf16) (harg3 : arg3.IsWhole) (arg4 : Memref sig .tc .vmem S1x16384x128 .bf16) (harg4 : arg4.IsWhole) (arg5 : Memref sig .tc .vmem S1x1x32x80x512 .bf16) (harg5 : arg5.IsWhole) (arg6 : Memref sig .tc .vmem S1x64x1024 .bf16) (harg6 : arg6.IsWhole) (arg7 : Memref sig .tc .vmem S4x512x1024 .f32) (harg7 : arg7.IsWhole) (arg8 : Memref sig .tc .vmem S4x512x1024 .bf16) (harg8 : arg8.IsWhole) (arg9 : Memref sig .tc .vmem S8x128 .f32) (harg9 : arg9.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄) ⊢ wp frame (wpE (defs₀ (F := F)) Variants.none (c : Thread nD τ) none) E (cc0_mla_attention i arg3 harg3 arg4 harg4 arg5 harg5 arg6 harg6 arg7 harg7 arg8 harg8 arg9 harg9) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ g, ⌜Swept (arg3.view.read (Elt F) f3) (arg4.view.read (Elt F) f4) (arg5.view.read (Elt F) f5) (arg6.view.read (Elt F) g)⌝ ∗ (arg6.view.loc (c : Thread nD τ) ↦[arg6.view.set]{fullShare} g)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)))) := by
  by_cases h1 : k0_cond1 i = 1#1
  · have e : cc0_mla_attention (F := F) i arg3 harg3 arg4 harg4 arg5 harg5 arg6 harg6 arg7 harg7 arg8 harg8 arg9 harg9 = (norms i arg3 harg3 arg4 harg4 arg5 harg5 arg6 harg6 arg7 harg7 arg8 harg8 arg9 harg9 h1 >>= fun _ => tail i arg3 harg3 arg4 harg4 arg5 harg5 arg6 harg6 arg7 harg7 arg8 harg8 arg9 harg9) := by
      rw [body_eq_pos (k0_h1 := h1)]; unfold norms; simp only [bind_assoc, pure_bind]
    rw [e, wp_bind]
    iintro ⟨H3, H4, H5, H6, H7, H8, H9⟩
    iapply wp_wand_r
    isplitl [H4 H9]
    · iapply (norms_run c i arg3 harg3 arg4 harg4 arg5 harg5 arg6 harg6 arg7 harg7 arg8 harg8 arg9 harg9 h1 f4 f9 E)
      isplitl [H4]; · iexact H4
      iexact H9
    iintro %u ⟨H4, ⟨%g, H9⟩⟩
    iapply (tail_run c i arg3 harg3 arg4 harg4 arg5 harg5 arg6 harg6 arg7 harg7 arg8 harg8 arg9 harg9 f3 f4 f5 f6 f7 f8 g E)
    isplitl [H3]; · iexact H3
    isplitl [H4]; · iexact H4
    isplitl [H5]; · iexact H5
    isplitl [H6]; · iexact H6
    isplitl [H7]; · iexact H7
    isplitl [H8]; · iexact H8
    iexact H9
  · rw [body_eq_neg (k0_h1 := h1)]
    exact tail_run c i arg3 harg3 arg4 harg4 arg5 harg5 arg6 harg6 arg7 harg7 arg8 harg8 arg9 harg9 f3 f4 f5 f6 f7 f8 f9 E

end Cert.KernelIdeal.Att
end
-- ==== Proof.Att.Launch.lean ====
module

public import proofs.«01_k».proof.Proof.Att.Vocab
public import Idealize.ShloMosaic.Lib.Pipeline.ReadBack
public import Idealize.ShloMosaic.Lib.Pipeline.ValueKit.Acc

public import proofs.«01_k».proof.Proof.Att.FixVal
public import proofs.«01_k».proof.Proof.Att.Run
public import proofs.«01_k».proof.Proof.Gen.KernelIdeal.Points
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memref of window 0 at a point. -/
abbrev ms0 (t : Fin cfg0.N) : Memref sig .tc .vmem S1x128x1024 .bf16 := win0_0.stage (cfg0.slots t 0)
/-- The staging memref of window 1 at a point. -/
abbrev ms1 (t : Fin cfg0.N) : Memref sig .tc .vmem S1x16384x128 .bf16 := win0_1.stage (cfg0.slots t 1)
/-- The staging memref of window 2 at a point. -/
abbrev ms2 (t : Fin cfg0.N) : Memref sig .tc .vmem S1x1x32x80x512 .bf16 := win0_2.stage (cfg0.slots t 2)
/-- The staging memref of window 3 at a point. -/
abbrev ms3 (t : Fin cfg0.N) : Memref sig .tc .vmem S1x64x1024 .bf16 := win0_3.stage (cfg0.slots t 3)

/-- The window whose contents are told by a relation: the result's. -/
def byRel : Fin 4 → Bool := fun w => w == 3

/-- What the body may leave in the result's block at a point: one quotient or the other of the point's blocks. -/
def Leaves0 (c : Dev nD) : (w : Fin cfg0.W) → Fin cfg0.N → ((cfg0.win w).block.Idx → Elt F (cfg0.win w).elt) → Prop
  | ⟨3, _⟩ => fun t X => Swept (iblk m c 0 t) (iblk m c 1 t) (iblk m c 2 t) X
  | _ => fun _ _ => True

/-- The data of the launch: the arrays as the call finds them, each input left as it was, the scratch held at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem leaves_3 (c : Dev nD) (t : Fin cfg0.N) (X : Vec F S1x64x1024 .bf16) : Leaves0 m c 3 t X = Swept (iblk m c 0 t) (iblk m c 1 t) (iblk m c 2 t) X := rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ Y, ⌜((dats m 0 c).toRRel byRel (Leaves0 m c)).Finds 3 t Y⌝ ∗ owns (c : Thread nD τ) (ms3 t) fullShare Y))
/-- What the body returns at a point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ X, ⌜Leaves0 m c 3 t X⌝ ∗ owns (c : Thread nD τ) (ms3 t) fullShare X))

/-- The invariant between the points, buffer by buffer. -/
theorem PhiA0_eq (c : Dev nD) :
    (Pipeline.ΦA spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)) ∗ (∃ r, prngReg c r)) := by
  unfold Pipeline.ΦA; rw [scopedRest0_eq]

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold owns
  iintro ⟨⟨⟨⟨%g0, HS0⟩, ⟨%g1, HS1⟩, ⟨%g2, HS2⟩⟩, Hg⟩, HO, ⟨%d0, %f0, %e0, H0⟩, ⟨%d1, %f1, %e1, H1⟩, ⟨%d2, %f2, %e2, H2⟩, ⟨%Y, -, %f3, -, H3⟩⟩
  rw [before0_0_of m (dats m 0 c) (A_eq m c 0) (after_0 m c)] at e0
  rw [before0_1_of m (dats m 0 c) (A_eq m c 1) (after_1 m c)] at e1
  rw [before0_2_of m (dats m 0 c) (A_eq m c 2) (after_2 m c)] at e2
  have hrun := body_run (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3))
    (Memref.whole cc0_scratch0) (Memref.isWhole_whole _) (Memref.whole cc0_scratch1) (Memref.isWhole_whole _) (Memref.whole cc0_scratch2) (Memref.isWhole_whole _) f0 f1 f2 f3 g0 g1 g2 Set.univ
  rw [e0, e1, e2] at hrun
  iapply wp_wand_r
  isplitl [H0 H1 H2 H3 HS0 HS1 HS2]
  · iapply hrun
    isplitl [H0]; · iexact H0
    isplitl [H1]; · iexact H1
    isplitl [H2]; · iexact H2
    isplitl [H3]; · iexact H3
    simp only [Memref.view_whole, View.set_whole]
    isplitl [HS0]; · iexact HS0
    isplitl [HS1]; · iexact HS1
    iexact HS2
  simp only [Memref.view_whole, View.set_whole]
  iintro %u ⟨H0, H1, H2, ⟨%g3, %hg3, H3⟩, HS⟩
  isplitl [HS Hg]
  · isplitl [HS]; · iexact HS
    iexact Hg
  isplitl [HO]; · iexact HO
  isplitl [H0]
  · iexists _; isplitr; swap; · iexact H0
    ipureintro; rw [after_0]; exact e0
  isplitl [H1]
  · iexists _; isplitr; swap; · iexact H1
    ipureintro; rw [after_1]; exact e1
  isplitl [H2]
  · iexists _; isplitr; swap; · iexact H2
    ipureintro; rw [after_2]; exact e2
  iexists _; isplitr; swap
  · iexists _; isplitr; swap; · iexact H3
    ipureintro; rfl
  ipureintro; rw [leaves_3]; exact hg3

/-- The body the launch runs at a point. -/
theorem defs₀_row (t : Fin cfg0.N) : defs₀ (F := F) .tc cfg0.body (cfg0.bodyArgs t (cfg0.slots t)) = bodyAt0 t := by
  unfold defs₀; rw [Defs.onTc_tc]

/-- The body meets the launch's data at every point. -/
theorem body_obligation (c : Dev nD) :
    Pipeline.BodyObligationRel (dats (F := F) m 0 c) (defs₀ (F := F)) Variants.none () Set.univ byRel (Leaves0 m c) := fun t => by
  rw [bigSep_W0, bigSep_W0, defs₀_row]
  exact triple_restated (sound_body m c t) rfl .rfl fun _ => .rfl

set_option backward.isDefEq.respectTransparency.types false in
/-- Every execution of the whole program ends, with the result told by the relation, every other buffer as the call found
    it, and every counter at zero. -/
theorem run_main :
    θ_run defs (onTc (τ := τ) (main (F := F))) (s₀ m ρ)
      (fun r => Pipeline.RDat.FramePost (cfgs 0) (fun c => (dats m 0 c).toRRel byRel (Leaves0 m c)) (V m) r ∧ r.2.sem = fun _ => 0) :=
  Pipeline.RDat.θ_run_frame_track (Q' := _) cfgs (0 : Fin 1) launch0 defs₀ Variants.none (fun c => (dats m 0 c).toRRel byRel (Leaves0 m c)) m ρ main
    (hbody := fun c => (body_obligation m c).toRRel) (hshare := fun c w => (dats m 0 c).share_full (fun _ => rfl) w)
    (howed := fun _ _ => rfl) (V := V m) (hmain := hmain m Variants.none) (hA := A_eq m)
    (hin := fun _ => .rfl) (hout := fun _ => .rfl) (hQ' := fun _ h => h)

variable {m ρ}

/-- A buffer that no window carries ends as the call found it. -/
theorem rest_eq {r : PUnit × MemSt nD τ sig (Elt F)}
    (h : Pipeline.RDat.FramePost (cfgs 0) (fun c => (dats m 0 c).toRRel byRel (Leaves0 m c)) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.KernelIdeal.Att
end
-- ==== Proof.Att.Same.lean ====
module

public import proofs.«01_k».proof.Defs
public import proofs.«01_k».proof.Proof.Att.Launch
public import proofs.«01_k».proof.Proof.Gen.Kernel

@[expose] public section

noncomputable section

namespace Cert.KernelIdeal.Att

open Idealize.ShloMosaic Idealize.ShloMosaic.TcCoe Idealize.SL.Sem

variable {F : FTy → Type} [FloatOps F]

/-! ## The kernel and its idealization are the same text -/

/-- The two bodies are the same. -/
theorem body_same : Cert.Kernel.cc0_mla_attention (F := F) = Cert.KernelIdeal.cc0_mla_attention (F := F) := rfl

set_option backward.isDefEq.respectTransparency.types false

/-- The two body tables are the same. -/
theorem defs₀_same : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (body_same (F := F)) _) _) _) _) _) _) _) _) _) _) _) _) _) _) _

/-- The two host programs are the same. -/
theorem main_same : (Cert.Kernel.main (F := F)) = (Cert.KernelIdeal.main (F := F)) := rfl

/-- The two tables of calls are the same. -/
theorem defs_same : (Cert.Kernel.defs (F := F)) = (Cert.KernelIdeal.defs (F := F)) := congrArg (fun d => Pipeline.defs Cert.KernelIdeal.pcfgs d) defs₀_same

end Cert.KernelIdeal.Att
end
-- ==== Proof.Att.Consts.lean ====
module

public import Idealize.ShloMosaic.PureOps.Ideal
public import Idealize.ShloMosaic.PureOps.Ideal.Laws
public import Mathlib.Analysis.SpecialFunctions.Pow.Real

@[expose] public section

noncomputable section

namespace Cert.Consts

open Idealize.ShloMosaic

/-! ## The constants the programs spell, as extended reals -/

/-- `0.0` at `bf16`. -/
theorem zero_bf16 : Ideal.ofBits .bf16 0x0000#16 = 0 := by simp [Ideal.ofBits, Ideal.ieee]

/-- `1.0` at `bf16`. -/
theorem one_bf16 : Ideal.ofBits .bf16 0x3F80#16 = 1 := by
  simp [Ideal.ofBits, Ideal.ieee, -EReal.coe_mul]; norm_num

/-- The running maximum starts at a real. -/
theorem big_f32 : Ideal.ofBits .f32 0xF149F2CA#32 = ((-(13234890 * 2 ^ 76) : ℝ) : EReal) := by
  simp [Ideal.ofBits, Ideal.ieee, -EReal.coe_mul]

/-- `2.0`. -/
theorem two_f32 : Ideal.ofBits .f32 0x40000000#32 = ((2 : ℝ) : EReal) := by
  simp [Ideal.ofBits, Ideal.ieee, -EReal.coe_mul]; norm_num

/-- `96.0`. -/
theorem f96_f32 : Ideal.ofBits .f32 0x42C00000#32 = ((96 : ℝ) : EReal) := by
  simp [Ideal.ofBits, Ideal.ieee, -EReal.coe_mul]; norm_num

/-- Minus infinity. -/
theorem ninf_f32 : Ideal.ofBits .f32 0xFF800000#32 = ⊥ := by simp [Ideal.ofBits, Ideal.ieee]

/-- Plus infinity. -/
theorem pinf_f32 : Ideal.ofBits .f32 0x7F800000#32 = ⊤ := by simp [Ideal.ofBits, Ideal.ieee]

end Cert.Consts
end
-- ==== Proof.Att.HostV.lean ====
module

public import proofs.«01_k».proof.Proof.Att.Consts
public import proofs.«01_k».proof.Proof.Gen.KernelIdeal.Frame
public import Idealize.ShloMosaic.Lib.StableHlo.RunRead

@[expose] public section

set_option maxRecDepth 16384

noncomputable section

namespace Cert.KernelIdeal.Att

open Cert.KernelIdeal Cert.KernelIdeal.Gen
open Idealize.ShloMosaic

/-! ## The three operands of the launch, as the host lines compute them -/

/-- The number by which the host divides the queries. -/
def den : FVec Ideal S_ .f32 := mulf (Host.log (constant S_ .f32 0x40000000#32)) (Host.sqrt (constant S_ .f32 0x42C00000#32))

/-- An array of 96 features a head, widened with zeros to 128. -/
def wide (x : FVec Ideal S2x16384x4x96 .f32) : FVec Ideal S2x16384x4x128 .f32 :=
  pad S2x16384x4x128 ![0, 0, 0, 0] ![0, 0, 0, 32] ![0, 0, 0, 0] x (sitofp .f32 (constantI S_ 32 0#32)) pads_S2x16384x4x96_S2x16384x4x128_000_000_000_0320 h_S_

/-- The queries as the launch reads them. -/
def qArr (x : FVec Ideal S2x16384x4x96 .f32) : FVec Ideal S2x512x16384 .bf16 :=
  truncf .bf16 (transpose S2x512x16384 [0, 2, 1] (Host.divf (shapeCast S2x16384x512 (wide x) shapeCasts_S2x16384x4x128_S2x16384x512) (broadcastInDim S2x16384x512 ![] bcast_S_S2x16384x512 den)) transposes_S2x16384x512_S2x512x16384_0_2_1) bitsLt_bf16_f32

/-- The keys as the launch reads them. -/
def kArr (x : FVec Ideal S2x16384x4x96 .f32) : FVec Ideal S2x16384x512 .bf16 :=
  truncf .bf16 (shapeCast S2x16384x512 (wide x) shapeCasts_S2x16384x4x128_S2x16384x512) bitsLt_bf16_f32

/-- The values as the launch reads them: feature major, in blocks of keys, rows of ones below. -/
def vArr (x : FVec Ideal S2x16384x4x64 .f32) : FVec Ideal S2x4x32x80x512 .bf16 :=
  concatenate S2x4x32x80x512 3 [⟨S2x4x32x64x512, transpose S2x4x32x64x512 [0, 3, 1, 4, 2] (shapeCast S2x32x512x4x64 (truncf .bf16 x bitsLt_bf16_f32) shapeCasts_S2x16384x4x64_S2x32x512x4x64) transposes_S2x32x512x4x64_S2x4x32x64x512_0_3_1_4_2⟩,
    ⟨S2x4x32x16x512, broadcastInDim S2x4x32x16x512 ![] bcast_S_S2x4x32x16x512 (constant S_ .bf16 0x3F80#16)⟩] concatenates_S2x4x32x64x512_S2x4x32x16x512_S2x4x32x80x512_d3

variable (m : (ℓ : Loc nD τ sig) → Buf (Elt Ideal) ℓ) (c : Dev nD)

/-- The queries' operand when the region is entered. -/
theorem V_q : V m c main_v8 = qArr (m (c.tc.loc main_arg0)) := by
  unfold V
  after_reads_simp
  simp -implicitDefEqProofs only [StableHlo.TRef.toBuf, StableHlo.TRef.ofBuf, cast_cast, cast_eq]
  rfl

/-- The keys' operand when the region is entered. -/
theorem V_k : V m c main_v11 = kArr (m (c.tc.loc main_arg1)) := by
  unfold V
  after_reads_simp
  simp -implicitDefEqProofs only [StableHlo.TRef.toBuf, StableHlo.TRef.ofBuf, cast_cast, cast_eq]
  rfl

/-- The values' operand when the region is entered. -/
theorem V_v : V m c main_v16 = vArr (m (c.tc.loc main_arg2)) := by
  unfold V
  after_reads_simp
  rfl

end Cert.KernelIdeal.Att
-- ==== Proof.Att.Soft.lean ====
module

public import Idealize.ShloMosaic.PureOps.Ideal
public import Idealize.ShloMosaic.PureOps.Ideal.Laws
public import Mathlib.Analysis.SpecialFunctions.Pow.Real

@[expose] public section

noncomputable section

namespace Cert.Soft

open Idealize.ShloMosaic
open scoped BigOperators

/-! ## A softmax over finite scores, in extended reals: every way of taking a maximum off gives the same mean -/

variable {ι : Type} [Fintype ι]

/-- The mean of the values `v` with the softmax weights of the scores `t`. -/
def soft (v : ι → EReal) (t : ι → ℝ) : EReal := ∑ i, v i * ((Real.exp (t i) / ∑ j, Real.exp (t j) : ℝ) : EReal)

/-- A nonnegative real factor goes through a sum of extended reals. -/
theorem sum_mul_coe {κ : Type} (s : Finset κ) (f : κ → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast ha) (EReal.coe_ne_top a), ih]

/-- A sum of reals taken among the extended reals is the real sum. -/
theorem sum_coe {κ : Type} (s : Finset κ) (f : κ → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The power of two with a real exponent, as an exponential. -/
theorem rpow_two (x : ℝ) : Real.rpow 2 x = Real.exp (x * Real.log 2) := by
  show (2 : ℝ) ^ x = _
  rw [Real.rpow_def_of_pos (by norm_num), mul_comm]

/-- A power of two with a real exponent is positive. -/
theorem rpow_two_pos (x : ℝ) : 0 < Real.rpow 2 x := by rw [rpow_two]; exact Real.exp_pos _

/-- The quotient a sweep ends with: the sum of the values over the sum of the weights, whatever was taken off the scores. -/
theorem div_sums [Nonempty ι] (v : ι → EReal) (s : ι → ℝ) (m : ℝ) :
    Ideal.div (∑ i, v i * ((Real.rpow 2 (s i - m) : ℝ) : EReal)) (∑ i, (1 : EReal) * ((Real.rpow 2 (s i - m) : ℝ) : EReal))
      = soft v (fun i => s i * Real.log 2) := by
  have hD : (∑ i, (1 : EReal) * ((Real.rpow 2 (s i - m) : ℝ) : EReal)) = ((∑ i, Real.rpow 2 (s i - m) : ℝ) : EReal) := by
    rw [← sum_coe]; exact Finset.sum_congr rfl fun i _ => one_mul _
  have hpos : 0 < ∑ i, Real.rpow 2 (s i - m) := Finset.sum_pos (fun i _ => rpow_two_pos _) Finset.univ_nonempty
  rw [hD, Ideal.div_coe hpos.ne', sum_mul_coe _ _ (by positivity)]
  unfold soft
  refine Finset.sum_congr rfl fun i _ => ?_
  rw [mul_assoc, ← EReal.coe_mul]
  congr 2
  have e : ∀ j, Real.rpow 2 (s j - m) = Real.exp (s j * Real.log 2) * Real.exp (-(m * Real.log 2)) := fun j => by
    rw [rpow_two, ← Real.exp_add]; congr 1; ring
  simp only [e]
  rw [← Finset.sum_mul]
  have h1 : Real.exp (-(m * Real.log 2)) ≠ 0 := (Real.exp_pos _).ne'
  have h2 : (∑ j, Real.exp (s j * Real.log 2)) ≠ 0 := (Finset.sum_pos (fun i _ => Real.exp_pos _) Finset.univ_nonempty).ne'
  field_simp

/-- The textbook form: each exponential divided by their sum before the values are weighed. -/
theorem sum_div [Nonempty ι] (v : ι → EReal) (t : ι → ℝ) (M : ℝ) :
    (∑ i, v i * Ideal.div ((Real.exp (t i - M) : ℝ) : EReal) (((∑ j, Real.exp (t j - M)) : ℝ) : EReal)) = soft v t := by
  have hpos : 0 < ∑ i, Real.exp (t i - M) := Finset.sum_pos (fun i _ => Real.exp_pos _) Finset.univ_nonempty
  unfold soft
  refine Finset.sum_congr rfl fun i _ => ?_
  rw [Ideal.div_coe hpos.ne', ← EReal.coe_mul]
  congr 2
  have e : ∀ j, Real.exp (t j - M) = Real.exp (t j) * Real.exp (-M) := fun j => by rw [← Real.exp_add]; congr 1
  simp only [e]
  rw [← Finset.sum_mul]
  have h1 : Real.exp (-M) ≠ 0 := (Real.exp_pos _).ne'
  have h2 : (∑ j, Real.exp (t j)) ≠ 0 := (Finset.sum_pos (fun i _ => Real.exp_pos _) Finset.univ_nonempty).ne'
  field_simp

/-- The greatest of finitely many reals, found from minus infinity, is real. -/
theorem fold_max_real {κ : Type} [Fintype κ] [Nonempty κ] (b : EReal) (hb : b ≠ ⊤) (f : κ → ℝ) :
    ∃ r : ℝ, (Finset.univ : Finset κ).fold max b (fun k => (f k : EReal)) = (r : EReal) := by
  obtain ⟨k0⟩ := ‹Nonempty κ›
  have h1 : (Finset.univ : Finset κ).fold max b (fun k => (f k : EReal)) < ⊤ :=
    (Finset.fold_max_lt ⊤).2 ⟨lt_top_iff_ne_top.2 hb, fun k _ => EReal.coe_lt_top _⟩
  have h2 : ⊥ < (Finset.univ : Finset κ).fold max b (fun k => (f k : EReal)) :=
    (Finset.lt_fold_max ⊥).2 (Or.inr ⟨k0, Finset.mem_univ _, EReal.bot_lt_coe _⟩)
  exact ⟨_, (EReal.coe_toReal h1.ne h2.ne').symm⟩

/-- The sweep's chunks taken one after the other are all the keys. -/
theorem sum_chunks {M : Type} [AddCommMonoid M] (K : ℕ) (f : ℕ → M) : ∀ n, (∑ c ∈ Finset.range n, ∑ j : Fin K, f (K * c + j.val)) = ∑ k ∈ Finset.range (K * n), f k
  | 0 => by simp
  | n + 1 => by
    rw [Finset.sum_range_succ, sum_chunks K f n, Nat.mul_succ, Finset.sum_range_add, Finset.sum_range (fun x => f (K * n + x))]

/-- Chunk sums with the running maximum: what is held plus what is still to be added is the sum over the chunks done. -/
theorem flash_inv {K : ℕ} (S : ℕ → Fin K → ℝ) (V : ℕ → Fin K → EReal) (m : ℕ → ℝ) (A : ℕ → EReal) (P : ℕ → Fin K → EReal)
    (hA0 : A 0 = 0) (hP0 : ∀ j, P 0 j = 0)
    (hA : ∀ n, A (n + 1) = (A n + ∑ j, V (n - 1) j * P n j) * ((Real.rpow 2 (m n - m (n + 1)) : ℝ) : EReal))
    (hP : ∀ n j, P (n + 1) j = ((Real.rpow 2 (S n j - m (n + 1)) : ℝ) : EReal)) :
    ∀ n, A n + ∑ j, V (n - 1) j * P n j = ∑ c ∈ Finset.range n, ∑ j, V c j * ((Real.rpow 2 (S c j - m n) : ℝ) : EReal)
  | 0 => by simp [hA0, hP0]
  | n + 1 => by
    rw [hA, flash_inv S V m A P hA0 hP0 hA hP n, Finset.sum_range_succ, sum_mul_coe _ _ (rpow_two_pos _).le]
    congr 1
    · refine Finset.sum_congr rfl fun c _ => ?_
      rw [sum_mul_coe _ _ (rpow_two_pos _).le]
      refine Finset.sum_congr rfl fun j _ => ?_
      rw [mul_assoc, ← EReal.coe_mul]
      congr 2
      rw [rpow_two, rpow_two, rpow_two, ← Real.exp_add]; congr 1; ring
    · refine Finset.sum_congr rfl fun j _ => ?_
      rw [hP]; rfl

end Cert.Soft
end
-- ==== Proof.Att.Form.lean ====
module

public import proofs.«01_k».proof.Proof.Att.Soft
public import Idealize.ShloMosaic.Lib.ValueIdx

@[expose] public section

noncomputable section

namespace Cert.Soft

open Idealize.ShloMosaic Idealize.ShloMosaic.ValueIdx
open scoped BigOperators

/-! ## The attention as a formula: what both programs compute, at an element -/

/-- An array of queries or of keys: batch, position, head, feature. -/
abbrev QK := (⟨4, ![2, 16384, 4, 96]⟩ : Shape).Idx → EReal
/-- An array of values: batch, position, head, feature. -/
abbrev VV := (⟨4, ![2, 16384, 4, 64]⟩ : Shape).Idx → EReal

/-- Every entry is a real number. -/
def Real4 (x : QK) : Prop := ∀ i, x i = ((x i).toReal : EReal)

/-- The score of the key at `k` for the query at `q`. -/
def score (x0 x1 : QK) (b : Fin 2) (h : Fin 4) (q k : Fin 16384) : ℝ :=
  (∑ d : Fin 96, (x0 (ix4 b q h d)).toReal * (x1 (ix4 b k h d)).toReal) / Real.sqrt 96

/-- The attention of the query at `q`, feature `r` of head `h`. -/
def att (x0 x1 : QK) (x2 : VV) (b : Fin 2) (h : Fin 4) (r : Fin 64) (q : Fin 16384) : EReal :=
  soft (fun k => x2 (ix4 b k h r)) (score x0 x1 b h q)

/-- The attention as one array, feature major: batch, head and feature, position. -/
def attArr (x0 x1 : QK) (x2 : VV) : (⟨3, ![2, 256, 16384]⟩ : Shape).Idx → EReal := fun i =>
  att x0 x1 x2 (i 0) ⟨(i 1).val / 64, by have h : (i 1).val < 256 := (i 1).isLt; omega⟩ ⟨(i 1).val % 64, Nat.mod_lt _ (by norm_num)⟩ (i 2)

/-- Features beyond the 96 that count, being zero, add nothing to a product of a key and a query; the scale taken off the queries is the
    score's, up to the change from powers of `e` to powers of two. -/
theorem sum_wide (f g : Fin 96 → ℝ) :
    (∑ d : Fin 128, (if h : d.val < 96 then g ⟨d.val, h⟩ else 0) * ((if h : d.val < 96 then f ⟨d.val, h⟩ else 0) / (Real.log 2 * Real.sqrt 96))) * Real.log 2
      = (∑ d : Fin 96, f d * g d) / Real.sqrt 96 := by
  have hl : Real.log 2 ≠ 0 := (Real.log_pos (by norm_num)).ne'
  have hs : Real.sqrt 96 ≠ 0 := (Real.sqrt_pos.2 (by norm_num)).ne'
  rw [show (∑ d : Fin 128, (if h : d.val < 96 then g ⟨d.val, h⟩ else 0) * ((if h : d.val < 96 then f ⟨d.val, h⟩ else 0) / (Real.log 2 * Real.sqrt 96)))
      = ∑ d : Fin (96 + 32), (if h : d.val < 96 then g ⟨d.val, h⟩ else 0) * ((if h : d.val < 96 then f ⟨d.val, h⟩ else 0) / (Real.log 2 * Real.sqrt 96)) from rfl,
    Fin.sum_univ_add]
  have h2 : ∀ d : Fin 32, ¬ (Fin.natAdd 96 d).val < 96 := fun d => by rw [Fin.val_natAdd]; omega
  have h1 : ∀ d : Fin 96, (Fin.castAdd 32 d).val < 96 := fun d => d.isLt
  simp only [dif_neg (h2 _), zero_mul, Finset.sum_const_zero, add_zero, dif_pos (h1 _)]
  rw [Finset.sum_mul, Finset.sum_div]
  refine Finset.sum_congr rfl fun d _ => ?_
  have e : (⟨(Fin.castAdd 32 d).val, h1 d⟩ : Fin 96) = d := rfl
  rw [e]
  field_simp

end Cert.Soft
end
-- ==== Proof.Att.Host.lean ====
module

public import proofs.«01_k».proof.Proof.Att.HostV
public import proofs.«01_k».proof.Proof.Att.Form
public import Idealize.ShloMosaic.Lib.Pipeline.Value
public import Idealize.ShloMosaic.Lib.KernelVsHost
public import Idealize.ShloMosaic.Lib.IdealHost

@[expose] public section

set_option maxRecDepth 16384

noncomputable section

namespace Cert.KernelIdeal.Att

open Cert.KernelIdeal Cert.KernelIdeal.Gen Cert.Soft
open Idealize.ShloMosaic Idealize.ShloMosaic.ValueIdx
open scoped BigOperators

/-! ## The operands of the launch at an element -/

/-- The number by which the host divides the queries. -/
theorem den_apply (i : S_.Idx) : den i = ((Real.log 2 * Real.sqrt 96 : ℝ) : EReal) := by
  show Ideal.log (Ideal.ofBits .f32 0x40000000#32) * Ideal.sqrt (Ideal.ofBits .f32 0x42C00000#32) = _
  rw [Consts.two_f32, Consts.f96_f32, Ideal.log_coe, Ideal.sqrt_coe, if_neg (by norm_num), if_neg (by norm_num), ← EReal.coe_mul]

/-- A widened array's entry, as a real: zero past the 96 features. -/
def wr (x : QK) (b : Fin 2) (s : Fin 16384) (h : Fin 4) (d : Fin 128) : ℝ :=
  if hd : d.val < 96 then (x (ix4 b s h ⟨d.val, hd⟩)).toReal else 0

/-- A widened array at an element. -/
theorem wide_apply {x : QK} (hx : Real4 x) (b : Fin 2) (s : Fin 16384) (h : Fin 4) (d : Fin 128) :
    wide x (ix4 b s h d) = (wr x b s h d : EReal) := by
  unfold wide wr
  by_cases hd : d.val < 96
  · rw [dif_pos hd, ← hx]
    exact pad_apply_of_inside _ _ _ _ _ _ _ (ix4 b s h d) (ix4 b s h ⟨d.val, hd⟩) fun a => match a with
      | ⟨0, _⟩ => by show b.val = 0 + b.val * 1; omega
      | ⟨1, _⟩ => by show s.val = 0 + s.val * 1; omega
      | ⟨2, _⟩ => by show h.val = 0 + h.val * 1; omega
      | ⟨3, _⟩ => by show d.val = 0 + d.val * 1; omega
  · rw [dif_neg hd]
    refine (pad_apply_of_not_inside _ _ _ _ _ _ _ (ix4 b s h d) (3 : Fin 4) ?_).trans ?_
    · show ¬(0 ≤ d.val ∧ (d.val - 0) % 1 = 0 ∧ (d.val - 0) / 1 < 96)
      omega
    · rw [EReal.coe_zero]
      exact sitofp_zero

/-- A widened array with its heads and features in one axis. -/
theorem flat_apply (x : QK) (b : Fin 2) (s : Fin 16384) (h : Fin 4) (d : Fin 128) (e : Fin 512) (he : e.val = h.val * 128 + d.val) :
    shapeCast S2x16384x512 (wide x) shapeCasts_S2x16384x4x128_S2x16384x512 (ix3 b s e) = wide x (ix4 b s h d) := by
  refine shapeCast_apply _ _ (ix3 b s e) (ix4 b s h d) ?_
  rw [Shape.rowMajor_val_four, Shape.rowMajor_val_three]
  show ((b.val * 16384 + s.val) * 4 + h.val) * 128 + d.val = (b.val * 16384 + s.val) * 512 + e.val
  omega

/-- The keys' operand at an element. -/
theorem kArr_apply {x : QK} (hx : Real4 x) (b : Fin 2) (s : Fin 16384) (h : Fin 4) (d : Fin 128) (e : Fin 512) (he : e.val = h.val * 128 + d.val) :
    kArr x (ix3 b s e) = (wr x b s h d : EReal) :=
  (flat_apply x b s h d e he).trans (wide_apply hx b s h d)

/-- The queries' operand at an element. -/
theorem qArr_apply {x : QK} (hx : Real4 x) (b : Fin 2) (s : Fin 16384) (h : Fin 4) (d : Fin 128) (e : Fin 512) (he : e.val = h.val * 128 + d.val) :
    qArr x (ix3 b e s) = ((wr x b s h d / (Real.log 2 * Real.sqrt 96) : ℝ) : EReal) := by
  have hl : Real.log 2 * Real.sqrt 96 ≠ 0 := mul_ne_zero (Real.log_pos (by norm_num)).ne' (Real.sqrt_pos.2 (by norm_num)).ne'
  rw [show qArr x (ix3 b e s) = transpose S2x512x16384 [0, 2, 1] (Host.divf (shapeCast S2x16384x512 (wide x) shapeCasts_S2x16384x4x128_S2x16384x512)
    (broadcastInDim S2x16384x512 ![] bcast_S_S2x16384x512 den)) transposes_S2x16384x512_S2x512x16384_0_2_1 (ix3 b e s) from rfl]
  refine (transpose_apply [0, 2, 1] _ transposes_S2x16384x512_S2x512x16384_0_2_1 (ix3 b e s) (ix3 b s e) (fun a => match a with
    | ⟨0, _⟩ => rfl
    | ⟨1, _⟩ => rfl
    | ⟨2, _⟩ => rfl)).trans ?_
  rw [hostDivf_apply, flat_apply x b s h d e he, wide_apply hx,
    broadcastInDim_apply ![] bcast_S_S2x16384x512 den (ix3 b s e) (fun a => a.elim0) (fun a => a.elim0), den_apply, Ideal.div_coe hl, ← EReal.coe_mul]
  congr 1
  ring

/-- The values' operand at an element of the first 64 rows. -/
theorem vArr_apply (x : VV) (b : Fin 2) (h : Fin 4) (c : Fin 32) (r : Fin 80) (j : Fin 512) (hr : r.val < 64) (s : Fin 16384) (hs : s.val = c.val * 512 + j.val) :
    vArr x (ix5 b h c r j) = x (ix4 b s h ⟨r.val, hr⟩) := by
  refine (concatenate_pair_apply_left (t := S2x4x32x80x512) 3 _ _ concatenates_S2x4x32x64x512_S2x4x32x16x512_S2x4x32x80x512_d3 (ix5 b h c r j) rfl (ix5 b h c ⟨r.val, hr⟩ j) (fun a => match a with
    | ⟨0, _⟩ => rfl
    | ⟨1, _⟩ => rfl
    | ⟨2, _⟩ => rfl
    | ⟨3, _⟩ => rfl
    | ⟨4, _⟩ => rfl)).trans ?_
  refine (transpose_apply [0, 3, 1, 4, 2] _ transposes_S2x32x512x4x64_S2x4x32x64x512_0_3_1_4_2 (ix5 b h c ⟨r.val, hr⟩ j) (ix5 b c j h ⟨r.val, hr⟩) (fun a => match a with
    | ⟨0, _⟩ => rfl
    | ⟨1, _⟩ => rfl
    | ⟨2, _⟩ => rfl
    | ⟨3, _⟩ => rfl
    | ⟨4, _⟩ => rfl)).trans ?_
  refine (shapeCast_apply _ _ (ix5 b c j h ⟨r.val, hr⟩) (ix4 b s h ⟨r.val, hr⟩) ?_).trans rfl
  rw [Shape.rowMajor_val_four, Shape.rowMajor_val_five]
  show ((b.val * 16384 + s.val) * 4 + h.val) * 64 + r.val = (((b.val * 32 + c.val) * 512 + j.val) * 4 + h.val) * 64 + r.val
  omega

/-- The values' operand at an element below: one. -/
theorem vArr_one (x : VV) (b : Fin 2) (h : Fin 4) (c : Fin 32) (r : Fin 80) (j : Fin 512) (hr : 64 ≤ r.val) : vArr x (ix5 b h c r j) = 1 := by
  refine (concatenate_pair_apply_right (t := S2x4x32x80x512) 3 _ _ concatenates_S2x4x32x64x512_S2x4x32x16x512_S2x4x32x80x512_d3 (ix5 b h c r j) rfl rfl
    (ix5 b h c ⟨r.val - 64, by have := r.isLt; omega⟩ j) (fun a ha => match a with
    | ⟨0, _⟩ => rfl
    | ⟨1, _⟩ => rfl
    | ⟨2, _⟩ => rfl
    | ⟨3, _⟩ => absurd rfl ha
    | ⟨4, _⟩ => rfl) (by show r.val - 64 + 64 = r.val; omega)).trans ?_
  exact Consts.one_bf16

end Cert.KernelIdeal.Att
end
-- ==== Proof.Att.Sweep.lean ====
module

public import proofs.«01_k».proof.Proof.Att.Run
public import proofs.«01_k».proof.Proof.Att.Soft
public import proofs.«01_k».proof.Proof.Att.Consts
public import Idealize.ShloMosaic.Lib.Pipeline.Value
public import Idealize.ShloMosaic.Lib.MatmulPlain
public import Idealize.ShloMosaic.Lib.ValueIdx

@[expose] public section

set_option maxRecDepth 16384

noncomputable section

namespace Cert.KernelIdeal.Att

open Cert.KernelIdeal Cert.KernelIdeal.Gen Cert.Soft
open Idealize.ShloMosaic Idealize.ShloMosaic.ValueIdx
open scoped BigOperators

/-! ## The words of the sweep read at an element, among the extended reals -/

/-- A score is the product of a key and a query. -/
theorem sc_apply (w : FVec Ideal S128x1024 .bf16) (kc : Vec Ideal S1x512x128 .bf16) (j : Fin 512) (q : Fin 1024) :
    sc w kc (ix2 j q) = ∑ d : Fin 128, kc (ix3 0 j d) * w (ix2 d q) := by
  refine (Ideal.matmul_plain_apply (M := 512) (K := 128) (N := 1024) none (shapeCast S512x128 kc shapeCasts_S1x512x128_S512x128) w (constant S512x1024 .f32 0x00000000#32) j q).trans ?_
  rw [constant_apply, Ideal.ofBits_zero_f32, zero_add]
  refine Finset.sum_congr rfl fun d _ => ?_
  congr 1
  refine (shapeCast_dropUnit_apply ![512, 128] kc shapeCasts_S1x512x128_S512x128 (ix2 j d)).trans (congrArg kc (funext fun a => ?_))
  match a with
  | ⟨0, _⟩ => rfl
  | ⟨1, _⟩ => rfl
  | ⟨2, _⟩ => rfl

/-- A weight is a power of two. -/
theorem pr_apply (s : FVec Ideal S512x1024 .f32) (m : FVec Ideal S1x1024 .f32) (j : Fin 512) (q : Fin 1024) :
    pr s m (ix3 0 j q) = Ideal.exp2 (s (ix2 j q) - m (ix2 0 q)) := by
  unfold pr
  refine (shapeCast_addUnit_apply ![512, 1024] _ shapeCasts_S512x1024_S1x512x1024 (ix3 0 j q)).trans ?_
  have e : (fun a : Fin 2 => (ix3 (0 : Fin 1) j q) a.succ) = (ix2 j q : S512x1024.Idx) := funext fun a => match a with | ⟨0, _⟩ => rfl | ⟨1, _⟩ => rfl
  refine (congrArg (truncf .bf16 (exp2 (subf s (broadcastTo S512x1024 m broadcasts_S1x1024_S512x1024))) bitsLt_bf16_f32) e).trans ?_
  show Ideal.exp2 (s (ix2 j q) - broadcastTo S512x1024 m broadcasts_S1x1024_S512x1024 (ix2 j q)) = _
  rw [broadcastTo_apply m broadcasts_S1x1024_S512x1024 (ix2 j q) (ix2 0 q) (fun a => match a with | ⟨0, _⟩ => rfl | ⟨1, _⟩ => rfl)]

/-- A chunk's contribution to a sum. -/
theorem pv_apply (vc : Vec Ideal S1x1x1x80x512 .bf16) (p : FVec Ideal S1x512x1024 .bf16) (r : Fin 80) (q : Fin 1024) :
    pv vc p (ix2 r q) = ∑ j : Fin 512, vc (ix5 0 0 0 r j) * p (ix3 0 j q) := by
  refine (Ideal.matmul_plain_apply (M := 80) (K := 512) (N := 1024) none (shapeCast S80x512 vc shapeCasts_S1x1x1x80x512_S80x512) (shapeCast S512x1024 p shapeCasts_S1x512x1024_S512x1024) (constant S80x1024 .f32 0x00000000#32) r q).trans ?_
  rw [constant_apply, Ideal.ofBits_zero_f32, zero_add]
  refine Finset.sum_congr rfl fun j _ => ?_
  congr 1
  · refine shapeCast_apply vc shapeCasts_S1x1x1x80x512_S80x512 (ix2 r j) (ix5 0 0 0 r j) ?_
    rw [Shape.rowMajor_val_five, Shape.rowMajor_val_two]
    show (((0 * 1 + 0) * 1 + 0) * 80 + r.val) * 512 + j.val = r.val * 512 + j.val
    omega
  · refine (shapeCast_dropUnit_apply ![512, 1024] p shapeCasts_S1x512x1024_S512x1024 (ix2 j q)).trans (congrArg p (funext fun a => ?_))
    match a with
    | ⟨0, _⟩ => rfl
    | ⟨1, _⟩ => rfl
    | ⟨2, _⟩ => rfl

/-- The largest of a chunk of finite scores is finite. -/
theorem cmax_real (s : FVec Ideal S512x1024 .f32) (q : Fin 1024) (σ : Fin 512 → ℝ) (h : ∀ j, s (ix2 j q) = (σ j : EReal)) :
    ∃ r : ℝ, cmax s (ix2 0 q) = (r : EReal) := by
  unfold cmax
  rw [shapeCast_addUnit_apply ![1024] _ shapeCasts_S1024_S1x1024 (ix2 0 q)]
  have e := Ideal.multiReduction_maximumf_single s 0xFF800000#32 reduces_S512x1024_S1024 (.inl rfl) rfl (ix1 q)
  have e2 : (s ∘ Shape.Reduces.lift (s := S512x1024) (a := 0) (t := S1024) reduces_S512x1024_S1024 (ix1 q)) = fun k => (σ k : EReal) := funext fun k => by
    refine Eq.trans (congrArg s (funext fun a => ?_)) (h k)
    match a with
    | ⟨0, _⟩ => rfl
    | ⟨1, _⟩ => rfl
  rw [e2] at e
  obtain ⟨r, hr⟩ := fold_max_real (κ := Fin 512) (Ideal.ofBits .f32 0xFF800000#32) (by rw [Consts.ninf_f32]; exact bot_ne_top) σ
  exact ⟨r, Eq.trans (congrArg _ (funext fun a => match a with | ⟨0, _⟩ => rfl)) (e.trans hr)⟩

/-- A slab put away and taken out is the slab. -/
theorem slab_eq (s : FVec Ideal S512x1024 .f32) : slab s = s := shapeCast_shapeCast s _ _

/-- The block of queries is loaded whole. -/
theorem qb_eq (X3 : Vec Ideal S1x128x1024 .bf16) : qb X3 = X3 :=
  View.ld_unit_zero (funext fun a => match a with | ⟨0, _⟩ => rfl | ⟨1, _⟩ => rfl | ⟨2, _⟩ => rfl) _ X3

/-- An element of a chunk of keys. -/
theorem kb_apply (X4 : Vec Ideal S1x16384x128 .bf16) (c : ℕ) (j : Fin 512) (d : Fin 128) :
    kb X4 c (ix3 0 j d) = X4 (ix3 0 ⟨512 * (c % 32) + j.val, by have := Nat.mod_lt c (show 0 < 32 by decide); have := j.isLt; omega⟩ d) := by
  unfold kb
  rw [View.ld_unit]
  refine extractStridedSlice_apply _ X4 _ _ _ fun a => ?_
  match a with
  | ⟨0, _⟩ => rfl
  | ⟨1, _⟩ => rfl
  | ⟨2, _⟩ => exact (Nat.zero_add _).symm

/-- An element of a chunk of values. -/
theorem vb_apply (X5 : Vec Ideal S1x1x32x80x512 .bf16) (c : ℕ) (r : Fin 80) (j : Fin 512) :
    vb X5 c (ix5 0 0 0 r j) = X5 (ix5 0 0 ⟨c % 32, Nat.mod_lt c (by decide)⟩ r j) := by
  unfold vb
  rw [View.ld_unit]
  refine extractStridedSlice_apply _ X5 _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

/-- The queries without their unit axis. -/
theorem pay145_apply (X3 : Vec Ideal S1x128x1024 .bf16) (d : Fin 128) (q : Fin 1024) : k0_pay145 X3 (ix2 d q) = X3 (ix3 0 d q) := by
  refine (shapeCast_dropUnit_apply ![128, 1024] X3 shapeCasts_S1x128x1024_S128x1024 (ix2 d q)).trans (congrArg X3 (funext fun a => ?_))
  match a with
  | ⟨0, _⟩ => rfl
  | ⟨1, _⟩ => rfl
  | ⟨2, _⟩ => rfl

/-- The result: a sum over the sum of the weights. -/
theorem quot_apply (T : FVec Ideal S80x1024 .f32) (r : Fin 64) (q : Fin 1024) :
    k0_pay1 (k0_pay152 T) (ix3 0 r q) = Ideal.div (T (ix2 ⟨r.val, by have := r.isLt; omega⟩ q)) (T (ix2 64 q)) := by
  unfold k0_pay1
  refine (shapeCast_addUnit_apply ![64, 1024] _ shapeCasts_S64x1024_S1x64x1024 (ix3 0 r q)).trans ?_
  have e : (fun a : Fin 2 => (ix3 (0 : Fin 1) r q) a.succ) = (ix2 r q : S64x1024.Idx) := funext fun a => match a with | ⟨0, _⟩ => rfl | ⟨1, _⟩ => rfl
  refine (congrArg (truncf .bf16 (k0_pay152 T) bitsLt_bf16_f32) e).trans ?_
  show Ideal.div (extractStridedSlice S64x1024 ![0, 0] T slices_S80x1024_o0_0_S64x1024 (ix2 r q)) (broadcastTo S64x1024 (extractStridedSlice S1x1024 ![64, 0] T slices_S80x1024_o64_0_S1x1024) broadcasts_S1x1024_S64x1024 (ix2 r q)) = _
  rw [broadcastTo_apply _ broadcasts_S1x1024_S64x1024 (ix2 r q) (ix2 0 q) (fun a => match a with | ⟨0, _⟩ => rfl | ⟨1, _⟩ => rfl)]
  congr 1
  · refine extractStridedSlice_apply _ T _ _ _ fun a => ?_
    match a with
    | ⟨0, _⟩ => exact (Nat.zero_add _).symm
    | ⟨1, _⟩ => exact (Nat.zero_add _).symm
  · refine extractStridedSlice_apply _ T _ _ _ fun a => ?_
    match a with
    | ⟨0, _⟩ => rfl
    | ⟨1, _⟩ => exact (Nat.zero_add _).symm

theorem pay140_apply (i : S80x1024.Idx) : (k0_pay140 (F := Ideal)) i = 0 := Ideal.ofBits_zero_f32
theorem pay132_apply (i : S1x512x1024.Idx) : (k0_pay132 (F := Ideal)) i = 0 := Consts.zero_bf16
theorem pay133_real (i : S1x1024.Idx) : ∃ r : ℝ, (k0_pay133 (F := Ideal)) i = (r : EReal) := ⟨_, Consts.big_f32⟩

end Cert.KernelIdeal.Att
end
-- ==== Proof.Att.Mean.lean ====
module

public import proofs.«01_k».proof.Proof.Att.Sweep

@[expose] public section

set_option maxRecDepth 16384

noncomputable section

namespace Cert.KernelIdeal.Att

open Cert.KernelIdeal Cert.KernelIdeal.Gen Cert.Soft
open Idealize.ShloMosaic Idealize.ShloMosaic.ValueIdx
open scoped BigOperators

/-! ## Either sweep ends with the values weighed by powers of two, over one and the same sum of weights -/

/-- The value of key `k` in row `r` of a block of values. -/
def vAt (X5 : Vec Ideal S1x1x32x80x512 .bf16) (r : Fin 80) (k : Fin 16384) : EReal :=
  X5 (ix5 0 0 ⟨k.val / 512, by have := k.isLt; omega⟩ r ⟨k.val % 512, Nat.mod_lt _ (by decide)⟩)

/-- The score of key `k` against query `q`. -/
def sAt (κ : Fin 16384 → Fin 128 → ℝ) (w : Fin 128 → Fin 1024 → ℝ) (q : Fin 1024) (k : Fin 16384) : ℝ := ∑ d, κ k d * w d q

/-- Key `j` of chunk `c`. -/
def keyOf (c : ℕ) (j : Fin 512) : Fin 16384 := ⟨512 * (c % 32) + j.val, by have := Nat.mod_lt c (show 0 < 32 by decide); have := j.isLt; omega⟩

/-- Chunk by chunk is key by key. -/
theorem chunks_eq (f : Fin 16384 → EReal) : (∑ c ∈ Finset.range 32, ∑ j : Fin 512, f (keyOf c j)) = ∑ k, f k := by
  have h := sum_chunks 512 (fun k => f ⟨k % 16384, Nat.mod_lt _ (by decide)⟩) 32
  refine Eq.trans (Finset.sum_congr rfl fun c hc => Finset.sum_congr rfl fun j _ => congrArg f (Fin.ext ?_)) (h.trans ?_)
  · have := Finset.mem_range.1 hc
    have := j.isLt
    show 512 * (c % 32) + j.val = (512 * c + j.val) % 16384
    omega
  · rw [Finset.sum_range]
    refine Finset.sum_congr rfl fun k _ => congrArg f (Fin.ext ?_)
    have := k.isLt
    exact Nat.mod_eq_of_lt (by omega)

variable (X3 : Vec Ideal S1x128x1024 .bf16) (X4 : Vec Ideal S1x16384x128 .bf16) (X5 : Vec Ideal S1x1x32x80x512 .bf16)
  (w : Fin 128 → Fin 1024 → ℝ) (κ : Fin 16384 → Fin 128 → ℝ)

variable {X3 X4 w κ} in
/-- A chunk's scores are the scores of its keys. -/
theorem sc_key (h3 : ∀ d q, X3 (ix3 0 d q) = (w d q : EReal)) (h4 : ∀ k d, X4 (ix3 0 k d) = (κ k d : EReal)) (c : ℕ) (j : Fin 512) (q : Fin 1024) :
    sc (k0_pay145 (qb X3)) (kb X4 c) (ix2 j q) = (sAt κ w q (keyOf c j) : EReal) := by
  rw [sc_apply]
  unfold sAt
  rw [← sum_coe]
  refine Finset.sum_congr rfl fun d _ => ?_
  rw [kb_apply, pay145_apply, qb_eq, h3, h4, EReal.coe_mul]
  rfl

variable {X5} in
/-- A value of a chunk is the value of its key. -/
theorem vb_key (c : ℕ) (r : Fin 80) (j : Fin 512) : vb X5 c (ix5 0 0 0 r j) = vAt X5 r (keyOf c j) := by
  rw [vb_apply]
  unfold vAt keyOf
  have := j.isLt
  refine congrArg X5 (funext fun a => ?_)
  match a with
  | ⟨0, _⟩ => rfl
  | ⟨1, _⟩ => rfl
  | ⟨2, _⟩ => exact Fin.ext (show c % 32 = (512 * (c % 32) + j.val) / 512 by omega)
  | ⟨3, _⟩ => rfl
  | ⟨4, _⟩ => exact Fin.ext (show j.val = (512 * (c % 32) + j.val) % 512 by omega)

variable {X3 X4 w κ}

/-- The weight of a finite score when a finite maximum is taken off. -/
theorem exp2_sub (a b : ℝ) : Ideal.exp2 ((a : EReal) - (b : EReal)) = ((Real.rpow 2 (a - b) : ℝ) : EReal) := by
  rw [← EReal.coe_sub, Ideal.exp2_coe]

/-- The sweep with the fixed maximum. -/
theorem fixT_val (h3 : ∀ d q, X3 (ix3 0 d q) = (w d q : EReal)) (h4 : ∀ k d, X4 (ix3 0 k d) = (κ k d : EReal)) (q : Fin 1024) :
    ∃ m : ℝ, ∀ r : Fin 80, fixT (k0_pay145 (qb X3)) X4 X5 (ix2 r q) = ∑ k, vAt X5 r k * ((Real.rpow 2 (sAt κ w q k - m) : ℝ) : EReal) := by
  obtain ⟨m, hm⟩ := cmax_real (sc (k0_pay145 (qb X3)) (kb X4 0)) q _ (fun j => sc_key h3 h4 0 j q)
  refine ⟨m, fun r => ?_⟩
  rw [← chunks_eq]
  unfold fixT
  generalize cmax (sc (k0_pay145 (qb X3)) (kb X4 0)) = M at hm ⊢
  have hP : ∀ c j, fixP (k0_pay145 (qb X3)) (kb X4) M c (ix3 0 j q) = ((Real.rpow 2 (sAt κ w q (keyOf c j) - m) : ℝ) : EReal) := fun c j => by
    match c with
    | 0 => show pr (slab _) M _ = _; rw [slab_eq, pr_apply, sc_key h3 h4, hm, exp2_sub]
    | c + 1 => show pr _ M _ = _; rw [pr_apply, sc_key h3 h4, hm, exp2_sub]
  have key : ∀ n, fixAcc (k0_pay145 (qb X3)) (kb X4) (vb X5) M n (ix2 r q)
      = ∑ c ∈ Finset.range n, ∑ j : Fin 512, vAt X5 r (keyOf c j) * ((Real.rpow 2 (sAt κ w q (keyOf c j) - m) : ℝ) : EReal) := fun n => by
    induction n with
    | zero => rw [Finset.sum_range_zero]; exact pay140_apply _
    | succ n ih =>
      show fixAcc (k0_pay145 (qb X3)) (kb X4) (vb X5) M n (ix2 r q) + pv (vb X5 n) (fixP (k0_pay145 (qb X3)) (kb X4) M n) (ix2 r q) = _
      rw [ih, pv_apply, Finset.sum_range_succ]
      congr 1
      exact Finset.sum_congr rfl fun j _ => by rw [hP, vb_key]
  exact key 32

/-- The sweep with the running maximum. -/
theorem flashT_val (h3 : ∀ d q, X3 (ix3 0 d q) = (w d q : EReal)) (h4 : ∀ k d, X4 (ix3 0 k d) = (κ k d : EReal)) (q : Fin 1024) :
    ∃ m : ℝ, ∀ r : Fin 80, flashT (k0_pay145 (qb X3)) X4 X5 (ix2 r q) = ∑ k, vAt X5 r k * ((Real.rpow 2 (sAt κ w q k - m) : ℝ) : EReal) := by
  have hM : ∀ n, ∃ m : ℝ, flM (fun c => sc (k0_pay145 (qb X3)) (kb X4 (min c 31))) k0_pay133 n (ix2 0 q) = (m : EReal) := fun n => by
    induction n with
    | zero => exact pay133_real _
    | succ n ih =>
      obtain ⟨a, ha⟩ := ih
      obtain ⟨b, hb⟩ := cmax_real (sc (k0_pay145 (qb X3)) (kb X4 (min n 31))) q _ (fun j => sc_key h3 h4 _ j q)
      refine ⟨max a b, ?_⟩
      show max (flM (fun c => sc (k0_pay145 (qb X3)) (kb X4 (min c 31))) k0_pay133 n (ix2 0 q)) (cmax (sc (k0_pay145 (qb X3)) (kb X4 (min n 31))) (ix2 0 q)) = _
      rw [ha, hb]
      exact (EReal.coe_strictMono.monotone.map_max).symm
  choose m hm using hM
  refine ⟨m 32, fun r => ?_⟩
  rw [← chunks_eq]
  have hP : ∀ n j, flP (fun c => sc (k0_pay145 (qb X3)) (kb X4 (min c 31))) k0_pay133 k0_pay132 (n + 1) (ix3 0 j q)
      = ((Real.rpow 2 (sAt κ w q (keyOf (min n 31) j) - m (n + 1)) : ℝ) : EReal) := fun n j => by
    show pr (slab _) (flM _ _ (n + 1)) _ = _
    rw [slab_eq, pr_apply, hm, ← exp2_sub]
    exact congrArg (fun z => Ideal.exp2 (z - (m (n + 1) : EReal))) (sc_key h3 h4 _ j q)
  have hA : ∀ n, flA (fun c => sc (k0_pay145 (qb X3)) (kb X4 (min c 31))) (fun c => vb X5 (c - 1)) k0_pay133 k0_pay132 k0_pay140 (n + 1) (ix2 r q)
      = (flA (fun c => sc (k0_pay145 (qb X3)) (kb X4 (min c 31))) (fun c => vb X5 (c - 1)) k0_pay133 k0_pay132 k0_pay140 n (ix2 r q)
          + ∑ j : Fin 512, vAt X5 r (keyOf (n - 1) j) * flP (fun c => sc (k0_pay145 (qb X3)) (kb X4 (min c 31))) k0_pay133 k0_pay132 n (ix3 0 j q))
        * ((Real.rpow 2 (m n - m (n + 1)) : ℝ) : EReal) := fun n => by
    show (flA _ _ _ _ _ n (ix2 r q) + pv (vb X5 (n - 1)) (flP _ _ _ n) (ix2 r q)) * broadcastTo S80x1024 (exp2 (subf (flM _ _ n) (flM _ _ (n + 1)))) _ (ix2 r q) = _
    rw [pv_apply, broadcastTo_apply (t := S80x1024) _ broadcasts_S1x1024_S80x1024 (ix2 r q) (ix2 0 q) (fun a => match a with | ⟨0, _⟩ => rfl | ⟨1, _⟩ => rfl)]
    show _ * Ideal.exp2 (flM (fun c => sc (k0_pay145 (qb X3)) (kb X4 (min c 31))) k0_pay133 n (ix2 0 q) - flM (fun c => sc (k0_pay145 (qb X3)) (kb X4 (min c 31))) k0_pay133 (n + 1) (ix2 0 q)) = _
    rw [hm, hm, exp2_sub]
    simp only [vb_key]
  have inv := flash_inv (K := 512) (fun c j => sAt κ w q (keyOf (min c 31) j)) (fun c j => vAt X5 r (keyOf c j)) m
    (fun n => flA (fun c => sc (k0_pay145 (qb X3)) (kb X4 (min c 31))) (fun c => vb X5 (c - 1)) k0_pay133 k0_pay132 k0_pay140 n (ix2 r q))
    (fun n j => flP (fun c => sc (k0_pay145 (qb X3)) (kb X4 (min c 31))) k0_pay133 k0_pay132 n (ix3 0 j q))
    (pay140_apply _) (fun j => pay132_apply _) hA hP 32
  show flA (fun c => sc (k0_pay145 (qb X3)) (kb X4 (min c 31))) (fun c => vb X5 (c - 1)) k0_pay133 k0_pay132 k0_pay140 32 (ix2 r q)
    + pv (vb X5 31) (flP (fun c => sc (k0_pay145 (qb X3)) (kb X4 (min c 31))) k0_pay133 k0_pay132 32) (ix2 r q) = _
  rw [pv_apply]
  simp only [vb_key]
  refine inv.trans (Finset.sum_congr rfl fun c hc => Finset.sum_congr rfl fun j _ => ?_)
  have : min c 31 = c := by have := Finset.mem_range.1 hc; omega
  simp only [this]

/-- What the body leaves in the result block, whichever sweep it took: the softmax mean of the block's values. -/
theorem swept_val (h3 : ∀ d q, X3 (ix3 0 d q) = (w d q : EReal)) (h4 : ∀ k d, X4 (ix3 0 k d) = (κ k d : EReal))
    (h5 : ∀ k, vAt X5 64 k = 1) {Y : Vec Ideal S1x64x1024 .bf16} (h : Swept X3 X4 X5 Y) (r : Fin 64) (q : Fin 1024) :
    Y (ix3 0 r q) = soft (vAt X5 ⟨r.val, by have := r.isLt; omega⟩) (fun k => sAt κ w q k * Real.log 2) := by
  have fin : ∀ (T : FVec Ideal S80x1024 .f32) (m : ℝ), (∀ r : Fin 80, T (ix2 r q) = ∑ k, vAt X5 r k * ((Real.rpow 2 (sAt κ w q k - m) : ℝ) : EReal)) →
      k0_pay1 (k0_pay152 T) (ix3 0 r q) = soft (vAt X5 ⟨r.val, by have := r.isLt; omega⟩) (fun k => sAt κ w q k * Real.log 2) := fun T m hT => by
    rw [quot_apply, hT, hT]
    simp only [h5]
    exact div_sums _ _ m
  rcases h with h | h
  · obtain ⟨m, hT⟩ := fixT_val X5 h3 h4 q
    rw [h]; exact fin _ m hT
  · obtain ⟨m, hT⟩ := flashT_val X5 h3 h4 q
    rw [h]; exact fin _ m hT

end Cert.KernelIdeal.Att
end
-- ==== Proof.Att.Out.lean ====
module

public import proofs.«01_k».proof.Proof.Att.Host
public import proofs.«01_k».proof.Proof.Att.Mean
public import proofs.«01_k».proof.Proof.Att.Launch
public import Idealize.ShloMosaic.Lib.Pipeline.ArrRel
public import Idealize.ShloMosaic.Lib.Pipeline.ValueKit.Geometry

@[expose] public section

set_option maxRecDepth 16384

noncomputable section

namespace Cert.KernelIdeal.Att

open Cert.KernelIdeal Cert.KernelIdeal.Gen Cert.Soft
open Idealize.ShloMosaic Idealize.ShloMosaic.TcCoe Idealize.SL.Sem Idealize.ShloMosaic.ValueIdx
open scoped BigOperators

/-! ## The blocks of the launch at an element, and the array it leaves -/

/-- The batch of a point. -/
abbrev pb (t : Fin cfg0.N) : Fin 2 := cfg0.grid.coords t 0
/-- The head of a point. -/
abbrev ph (t : Fin cfg0.N) : Fin 4 := cfg0.grid.coords t 1
/-- The block of queries of a point. -/
abbrev pq (t : Fin cfg0.N) : Fin 16 := cfg0.grid.coords t 2

/-- A coordinate of the grid survives the passage through a word. -/
theorem word_coord (n : ℕ) (h : n < 16) : (BitVec.ofNat 32 n).toNat = n := by
  rw [BitVec.toNat_ofNat]; omega

theorem at_b (t : Fin cfg0.N) : (BitVec.ofNat 32 (cfg0.grid.coords t 0).val).toNat = (pb t).val := word_coord _ (Nat.lt_of_lt_of_le (pb t).isLt (by norm_num))
theorem at_h (t : Fin cfg0.N) : (BitVec.ofNat 32 (cfg0.grid.coords t 1).val).toNat = (ph t).val := word_coord _ (Nat.lt_of_lt_of_le (ph t).isLt (by norm_num))
theorem at_q (t : Fin cfg0.N) : (BitVec.ofNat 32 (cfg0.grid.coords t 2).val).toNat = (pq t).val := word_coord _ (pq t).isLt

variable (m : (ℓ : Loc nD τ sig) → Buf (Elt Ideal) ℓ) (c : Dev nD)

/-- A block of queries is read at the place of its array that it covers. -/
theorem read_q (t : Fin cfg0.N) (y : ((cfg0.win 0).xblock (cfg0.grid.coords t)).Idx) (A : Vec Ideal S2x512x16384 .bf16) :
    ((cfg0.win 0).blk t).view.read (Elt Ideal) A y = A (((cfg0.win 0).blk t).view.emb y) := by
  rw [View.read_apply]
  rfl

/-- A block of queries, at an element, of any array. -/
theorem place_q (t : Fin cfg0.N) (d : Fin 128) (q : Fin 1024) (A : Vec Ideal S2x512x16384 .bf16) :
    ((cfg0.win 0).blk t).view.read (Elt Ideal) A (ix3 0 d q : S1x128x1024.Idx)
      = A (ix3 (pb t) ⟨(ph t).val * 128 + d.val, by have := (ph t).isLt; have := d.isLt; omega⟩ ⟨(pq t).val * 1024 + q.val, by have := (pq t).isLt; have := q.isLt; omega⟩) := by
  rw [read_q]
  congr 1
  funext a
  apply Fin.ext
  match a with
  | ⟨0, _⟩ => exact (Pipeline.Window.rect_emb_val win0_0 t _ 0 rfl).trans (by rw [show win0_0.index t 0 = (BitVec.ofNat 32 (cfg0.grid.coords t 0).val).toNat from rfl, at_b]; show (pb t).val * 1 + 0 = (pb t).val; omega)
  | ⟨1, _⟩ => exact (Pipeline.Window.rect_emb_val win0_0 t _ 1 rfl).trans (by rw [show win0_0.index t 1 = (BitVec.ofNat 32 (cfg0.grid.coords t 1).val).toNat from rfl, at_h]; rfl)
  | ⟨2, _⟩ => exact (Pipeline.Window.rect_emb_val win0_0 t _ 2 rfl).trans (by rw [show win0_0.index t 2 = (BitVec.ofNat 32 (cfg0.grid.coords t 2).val).toNat from rfl, at_q]; rfl)

/-- The block of queries of a point, at an element. -/
theorem iblk_q (t : Fin cfg0.N) (d : Fin 128) (q : Fin 1024) :
    (iblk m c 0 t : Vec Ideal S1x128x1024 .bf16) (ix3 0 d q) = qArr (m (c.tc.loc main_arg0)) (ix3 (pb t) ⟨(ph t).val * 128 + d.val, by have := (ph t).isLt; have := d.isLt; omega⟩ ⟨(pq t).val * 1024 + q.val, by have := (pq t).isLt; have := q.isLt; omega⟩) := by
  have e : V m c (Pipeline.arrRef spec0 0) = qArr (m (c.tc.loc main_arg0)) := V_q m c
  unfold iblk
  rw [e]
  exact place_q t d q _

/-- A block of keys is read at the place of its array that it covers. -/
theorem read_k (t : Fin cfg0.N) (y : ((cfg0.win 1).xblock (cfg0.grid.coords t)).Idx) (A : Vec Ideal S2x16384x512 .bf16) :
    ((cfg0.win 1).blk t).view.read (Elt Ideal) A y = A (((cfg0.win 1).blk t).view.emb y) := by
  rw [View.read_apply]
  rfl

/-- A block of keys, at an element, of any array. -/
theorem place_k (t : Fin cfg0.N) (k : Fin 16384) (d : Fin 128) (A : Vec Ideal S2x16384x512 .bf16) :
    ((cfg0.win 1).blk t).view.read (Elt Ideal) A (ix3 0 k d : S1x16384x128.Idx)
      = A (ix3 (pb t) k ⟨(ph t).val * 128 + d.val, by have := (ph t).isLt; have := d.isLt; omega⟩) := by
  rw [read_k]
  congr 1
  funext a
  apply Fin.ext
  match a with
  | ⟨0, _⟩ => exact (Pipeline.Window.rect_emb_val win0_1 t _ 0 rfl).trans (by rw [show win0_1.index t 0 = (BitVec.ofNat 32 (cfg0.grid.coords t 0).val).toNat from rfl, at_b]; show (pb t).val * 1 + 0 = (pb t).val; omega)
  | ⟨1, _⟩ => exact (Pipeline.Window.rect_emb_val win0_1 t _ 1 rfl).trans (by rw [show win0_1.index t 1 = 0 from rfl, Nat.zero_mul, Nat.zero_add]; rfl)
  | ⟨2, _⟩ => exact (Pipeline.Window.rect_emb_val win0_1 t _ 2 rfl).trans (by rw [show win0_1.index t 2 = (BitVec.ofNat 32 (cfg0.grid.coords t 1).val).toNat from rfl, at_h]; rfl)

/-- The block of keys of a point, at an element. -/
theorem iblk_k (t : Fin cfg0.N) (k : Fin 16384) (d : Fin 128) :
    (iblk m c 1 t : Vec Ideal S1x16384x128 .bf16) (ix3 0 k d) = kArr (m (c.tc.loc main_arg1)) (ix3 (pb t) k ⟨(ph t).val * 128 + d.val, by have := (ph t).isLt; have := d.isLt; omega⟩) := by
  have e : V m c (Pipeline.arrRef spec0 1) = kArr (m (c.tc.loc main_arg1)) := V_k m c
  unfold iblk
  rw [e]
  exact place_k t k d _

/-- A block of values is read at the place of its array that it covers. -/
theorem read_v (t : Fin cfg0.N) (y : ((cfg0.win 2).xblock (cfg0.grid.coords t)).Idx) (A : Vec Ideal S2x4x32x80x512 .bf16) :
    ((cfg0.win 2).blk t).view.read (Elt Ideal) A y = A (((cfg0.win 2).blk t).view.emb y) := by
  rw [View.read_apply]
  rfl

/-- A block of values, at an element, of any array. -/
theorem place_v (t : Fin cfg0.N) (n : Fin 32) (r : Fin 80) (j : Fin 512) (A : Vec Ideal S2x4x32x80x512 .bf16) :
    ((cfg0.win 2).blk t).view.read (Elt Ideal) A (ix5 0 0 n r j : S1x1x32x80x512.Idx)
      = A (ix5 (pb t) (ph t) n r j) := by
  rw [read_v]
  congr 1
  funext a
  apply Fin.ext
  match a with
  | ⟨0, _⟩ => exact (Pipeline.Window.rect_emb_val win0_2 t _ 0 rfl).trans (by rw [show win0_2.index t 0 = (BitVec.ofNat 32 (cfg0.grid.coords t 0).val).toNat from rfl, at_b]; show (pb t).val * 1 + 0 = (pb t).val; omega)
  | ⟨1, _⟩ => exact (Pipeline.Window.rect_emb_val win0_2 t _ 1 rfl).trans (by rw [show win0_2.index t 1 = (BitVec.ofNat 32 (cfg0.grid.coords t 1).val).toNat from rfl, at_h]; show (ph t).val * 1 + 0 = (ph t).val; omega)
  | ⟨2, _⟩ => exact (Pipeline.Window.rect_emb_val win0_2 t _ 2 rfl).trans (by rw [show win0_2.index t 2 = 0 from rfl, Nat.zero_mul, Nat.zero_add]; rfl)
  | ⟨3, _⟩ => exact (Pipeline.Window.rect_emb_val win0_2 t _ 3 rfl).trans (by rw [show win0_2.index t 3 = 0 from rfl, Nat.zero_mul, Nat.zero_add]; rfl)
  | ⟨4, _⟩ => exact (Pipeline.Window.rect_emb_val win0_2 t _ 4 rfl).trans (by rw [show win0_2.index t 4 = 0 from rfl, Nat.zero_mul, Nat.zero_add]; rfl)

/-- The block of values of a point, at an element. -/
theorem iblk_v (t : Fin cfg0.N) (n : Fin 32) (r : Fin 80) (j : Fin 512) :
    (iblk m c 2 t : Vec Ideal S1x1x32x80x512 .bf16) (ix5 0 0 n r j) = vArr (m (c.tc.loc main_arg2)) (ix5 (pb t) (ph t) n r j) := by
  have e : V m c (Pipeline.arrRef spec0 2) = vArr (m (c.tc.loc main_arg2)) := V_v m c
  unfold iblk
  rw [e]
  exact place_v t n r j _

variable {m c}
variable {x0 x1 : QK} {x2 : VV}

/-- What the body leaves at a point, at an element: the attention of the query there. -/
theorem point_val (hx0 : Real4 x0) (hx1 : Real4 x1) (e0 : m (c.tc.loc main_arg0) = x0) (e1 : m (c.tc.loc main_arg1) = x1) (e2 : m (c.tc.loc main_arg2) = x2)
    (t : Fin cfg0.N) {Y : Vec Ideal S1x64x1024 .bf16} (h : Swept (iblk m c 0 t) (iblk m c 1 t) (iblk m c 2 t) Y) (r : Fin 64) (q : Fin 1024) :
    Y (ix3 0 r q) = att x0 x1 x2 (pb t) (ph t) r ⟨(pq t).val * 1024 + q.val, by have := (pq t).isLt; have := q.isLt; omega⟩ := by
  have hv : ∀ (r : Fin 80) (k : Fin 16384), vAt (iblk m c 2 t) r k = vArr x2 (ix5 (pb t) (ph t) ⟨k.val / 512, by have := k.isLt; omega⟩ r ⟨k.val % 512, Nat.mod_lt _ (by norm_num)⟩) := fun r k => by
    unfold vAt
    rw [iblk_v, e2]
  have main := swept_val (X3 := iblk m c 0 t) (X4 := iblk m c 1 t) (iblk m c 2 t)
    (w := fun d q => wr x0 (pb t) ⟨(pq t).val * 1024 + q.val, by have := (pq t).isLt; have := q.isLt; omega⟩ (ph t) d / (Real.log 2 * Real.sqrt 96))
    (κ := fun k d => wr x1 (pb t) k (ph t) d)
    (fun d q => by rw [iblk_q, e0, qArr_apply hx0 (pb t) _ (ph t) d _ rfl])
    (fun k d => by rw [iblk_k, e1, kArr_apply hx1 (pb t) _ (ph t) d _ rfl])
    (fun k => by rw [hv, vArr_one x2 _ _ _ _ _ (by decide)]) h r q
  rw [main]
  unfold att
  have ev : vAt (iblk m c 2 t) ⟨r.val, by have := r.isLt; omega⟩ = fun k : Fin 16384 => x2 (ix4 (pb t) k (ph t) r) := funext fun k => by
    rw [hv]
    exact vArr_apply x2 _ _ _ _ _ r.isLt k (by show k.val = k.val / 512 * 512 + k.val % 512; omega)
  rw [ev]
  congr 1
  funext k
  unfold sAt score wr
  exact sum_wide (fun d => (x0 (ix4 (pb t) ⟨(pq t).val * 1024 + q.val, by have := (pq t).isLt; have := q.isLt; omega⟩ (ph t) d)).toReal) (fun d => (x1 (ix4 (pb t) k (ph t) d)).toReal)

/-- The place in the result of an element of a point's block. -/
theorem emb_out (t : Fin cfg0.N) (r : Fin 64) (q : Fin 1024) :
    (((cfg0.win 3).blk t).view.emb (ix3 0 r q : S1x64x1024.Idx) : S2x256x16384.Idx)
      = ix3 (pb t) ⟨(ph t).val * 64 + r.val, by have := (ph t).isLt; have := r.isLt; omega⟩ ⟨(pq t).val * 1024 + q.val, by have := (pq t).isLt; have := q.isLt; omega⟩ := by
  funext a
  apply Fin.ext
  match a with
  | ⟨0, _⟩ => exact (Pipeline.Window.rect_emb_val win0_3 t _ 0 rfl).trans (by rw [show win0_3.index t 0 = (BitVec.ofNat 32 (cfg0.grid.coords t 0).val).toNat from rfl, at_b]; show (pb t).val * 1 + 0 = (pb t).val; omega)
  | ⟨1, _⟩ => exact (Pipeline.Window.rect_emb_val win0_3 t _ 1 rfl).trans (by rw [show win0_3.index t 1 = (BitVec.ofNat 32 (cfg0.grid.coords t 1).val).toNat from rfl, at_h]; rfl)
  | ⟨2, _⟩ => exact (Pipeline.Window.rect_emb_val win0_3 t _ 2 rfl).trans (by rw [show win0_3.index t 2 = (BitVec.ofNat 32 (cfg0.grid.coords t 2).val).toNat from rfl, at_q]; rfl)

/-- The attention array at an element of a point's block. -/
theorem attArr_out (t : Fin cfg0.N) (r : Fin 64) (q : Fin 1024) :
    attArr x0 x1 x2 (ix3 (pb t) ⟨(ph t).val * 64 + r.val, by have := (ph t).isLt; have := r.isLt; omega⟩ ⟨(pq t).val * 1024 + q.val, by have := (pq t).isLt; have := q.isLt; omega⟩)
      = att x0 x1 x2 (pb t) (ph t) r ⟨(pq t).val * 1024 + q.val, by have := (pq t).isLt; have := q.isLt; omega⟩ := by
  have hh : (⟨((ph t).val * 64 + r.val) / 64, by have := (ph t).isLt; have := r.isLt; omega⟩ : Fin 4) = ph t := Fin.ext (by have := r.isLt; show ((ph t).val * 64 + r.val) / 64 = (ph t).val; omega)
  have hr : (⟨((ph t).val * 64 + r.val) % 64, Nat.mod_lt _ (by norm_num)⟩ : Fin 64) = r := Fin.ext (by have := r.isLt; show ((ph t).val * 64 + r.val) % 64 = r.val; omega)
  show att x0 x1 x2 (pb t) (⟨((ph t).val * 64 + r.val) / 64, by have := (ph t).isLt; have := r.isLt; omega⟩ : Fin 4) (⟨((ph t).val * 64 + r.val) % 64, Nat.mod_lt _ (by norm_num)⟩ : Fin 64) _ = _
  rw [hh, hr]

/-- Every setting of the grid's coordinates being some point's, the blocks of the result cover it. -/
theorem covers_out : (cfg0.win 3).Covers := by decide +kernel

end Cert.KernelIdeal.Att
end
-- ==== Proof.Att.Fin.lean ====
module

public import proofs.«01_k».proof.Proof.Att.Form
public import proofs.«01_k».proof.Proof.Att.Consts
public import proofs.«01_k».proof.Defs

@[expose] public section

noncomputable section

namespace Cert.Soft

open Idealize.ShloMosaic Idealize.ShloMosaic.ValueIdx

/-! ## What the precondition gives -/

/-- A number whose absolute value compares less than infinity is a real. -/
theorem real_of_cmp {p : FTy} (a : EReal) (h : BitVec.ofBool (decide (max a (-a) < (⊤ : EReal))) = 1#1) : a = ((a.toReal : ℝ) : EReal) := by
  have lt : max a (-a) < ⊤ := by
    by_contra hn
    rw [decide_eq_false hn] at h
    exact absurd h (by decide)
  refine (EReal.coe_toReal ?_ ?_).symm
  · rintro rfl
    exact absurd lt (by simp)
  · rintro rfl
    exact absurd lt (by simp)

/-- Two bits whose conjunction is set are both set. -/
theorem bits_and (a b : BitVec 1) (h : a &&& b = 1#1) : a = 1#1 ∧ b = 1#1 := by
  revert h a b
  decide

/-- Under the precondition both the queries and the keys are reals. -/
theorem real_of_pre [hF : Cert.Pre_finite.Facts] (x0 x1 : QK) (x2 : VV) (h : Cert.Pre_finite.fn (F := Ideal) x0 x1 x2 = fun _ => 1#1) : Real4 x0 ∧ Real4 x1 := by
  have key : ∀ i, BitVec.ofBool (decide (max (x0 i) (-(x0 i)) < Ideal.ofBits .f32 0x7F800000#32)) &&& BitVec.ofBool (decide (max (x1 i) (-(x1 i)) < Ideal.ofBits .f32 0x7F800000#32)) = 1#1 :=
    fun i => congrFun h i
  rw [Consts.pinf_f32] at key
  exact ⟨fun i => real_of_cmp (p := .f32) _ (bits_and _ _ (key i)).1, fun i => real_of_cmp (p := .f32) _ (bits_and _ _ (key i)).2⟩

end Cert.Soft
end
-- ==== Proof.Att.Ref.lean ====
module

public import proofs.«01_k».proof.Proof.Gen.ReferenceIdeal.Read
public import proofs.«01_k».proof.Proof.Att.Form
public import proofs.«01_k».proof.Proof.Att.Consts
public import Idealize.ShloMosaic.Lib.Pointwise.Reduce

@[expose] public section

set_option maxRecDepth 16384

noncomputable section

namespace Cert.ReferenceIdeal.Att

open Cert.ReferenceIdeal Cert.ReferenceIdeal.Read Cert.Soft
open Idealize.ShloMosaic hiding ix1 ix2 ix3 ix4 ix5 ix6
open Idealize.ShloMosaic.ValueIdx
open scoped BigOperators

/-! ## The reference at an element -/

variable {x0 x1 : QK} (hx0 : Real4 x0) (hx1 : Real4 x1)
include hx0 hx1

/-- A scaled score. -/
theorem v3_at (b : Fin 2) (h : Fin 4) (q k : Fin 16384) : val_main_v3 (F := Ideal) x0 x1 (ix4 b h q k) = (score x0 x1 b h q k : EReal) := by
  have hs : Real.sqrt 96 ≠ 0 := (Real.sqrt_pos.2 (by norm_num)).ne'
  have e0 : val_main_v0 (F := Ideal) x0 x1 (ix4 b h q k) = ((∑ d : Fin 96, (x0 (ix4 b q h d)).toReal * (x1 (ix4 b k h d)).toReal : ℝ) : EReal) := by
    rw [val_main_v0_apply, ← sum_coe]
    refine Finset.sum_congr rfl fun d _ => ?_
    have e1 : lidx_main_v0 (ix4 b h q k) d = ix4 b q h d := funext fun a => match a with
      | ⟨0, _⟩ => rfl
      | ⟨1, _⟩ => rfl
      | ⟨2, _⟩ => rfl
      | ⟨3, _⟩ => rfl
    have e2 : ridx_main_v0 (ix4 b h q k) d = ix4 b k h d := funext fun a => match a with
      | ⟨0, _⟩ => rfl
      | ⟨1, _⟩ => rfl
      | ⟨2, _⟩ => rfl
      | ⟨3, _⟩ => rfl
    rw [e1, e2, EReal.coe_mul, ← hx0, ← hx1]
  rw [val_main_v3_apply, val_main_v2_apply, val_main_v1_apply, val_main_cst_apply, e0]
  show Ideal.div _ (Ideal.sqrt (Ideal.ofBits .f32 0x42C00000#32)) = _
  rw [Consts.f96_f32, Ideal.sqrt_coe, if_neg (by norm_num), Ideal.div_coe hs, ← EReal.coe_mul]
  unfold score
  congr 1
  ring

/-- The largest score of a query is a real number. -/
theorem v6_real (b : Fin 2) (h : Fin 4) (q : Fin 16384) : ∃ M : ℝ, val_main_v6 (F := Ideal) x0 x1 (ix3 b h q) = (M : EReal) := by
  have e : ∃ M : ℝ, val_main_v4 (F := Ideal) x0 x1 (ix3 b h q) = (M : EReal) := by
    obtain ⟨M, hM⟩ := fold_max_real (⊥ : EReal) (by simp) (fun k : Fin 16384 => score x0 x1 b h q k)
    refine ⟨M, ?_⟩
    unfold val_main_v4
    rw [Host.reduce_eq_fold, Shape.ReducesTo.fold_fiber_r4_a3]
    refine Eq.trans ?_ hM
    rw [val_main_cst_0_apply]
    show Finset.univ.fold max (Ideal.ofBits .f32 0xFF800000#32) (fun k : Fin 16384 => val_main_v3 (F := Ideal) x0 x1 (ix4 b h q k)) = _
    rw [Consts.ninf_f32]
    simp only [v3_at hx0 hx1]
  obtain ⟨M, hM⟩ := e
  refine ⟨M, ?_⟩
  rw [val_main_v6_apply, val_main_v5_apply, val_main_cst_1_apply, hM]
  show max (Ideal.ofBits .f32 0xFF800000#32) (M : EReal) = _
  rw [Consts.ninf_f32]
  exact max_eq_right bot_le

/-- The result of the reference is the attention. -/
theorem ref_at (x2 : VV) : val_main_v19 (F := Ideal) x0 x1 x2 = attArr x0 x1 x2 := by
  have core : ∀ (b : Fin 2) (h : Fin 4) (r : Fin 64) (q : Fin 16384), val_main_v15 (F := Ideal) x0 x1 x2 (ix4 b h r q) = att x0 x1 x2 b h r q := fun b h r q => by
    obtain ⟨M, hM⟩ := v6_real hx0 hx1 b h q
    have e10 : ∀ k : Fin 16384, val_main_v10 (F := Ideal) x0 x1 (ix4 b h q k) = ((Real.exp (score x0 x1 b h q k - M) : ℝ) : EReal) := fun k => by
      have e8 : idx_main_v7 (idx_main_v8 (ix4 b h q k)) = ix3 b h q := funext fun a => match a with
        | ⟨0, _⟩ => rfl
        | ⟨1, _⟩ => rfl
        | ⟨2, _⟩ => rfl
      rw [val_main_v10_apply, val_main_v9_apply, val_main_v8_apply, val_main_v7_apply, e8, hM, v3_at hx0 hx1]
      show Ideal.exp ((score x0 x1 b h q k : EReal) - (M : EReal)) = _
      rw [← EReal.coe_sub, Ideal.exp_coe]
    have e11 : val_main_v11 (F := Ideal) x0 x1 (ix3 b h q) = ((∑ k : Fin 16384, Real.exp (score x0 x1 b h q k - M) : ℝ) : EReal) := by
      rw [val_main_v11_apply, val_main_cst_2_apply, ← sum_coe]
      refine Eq.trans (congrArg (· + _) Ideal.ofBits_zero_f32) ?_
      rw [zero_add]
      refine Finset.sum_congr rfl fun k _ => ?_
      have ei : idx_main_v11 (ix3 b h q) k = ix4 b h q k := funext fun a => match a with
        | ⟨0, _⟩ => rfl
        | ⟨1, _⟩ => rfl
        | ⟨2, _⟩ => rfl
        | ⟨3, _⟩ => rfl
      rw [ei, e10]
    have e14 : ∀ k : Fin 16384, val_main_v14 (F := Ideal) x0 x1 (ix4 b h q k)
        = Ideal.div ((Real.exp (score x0 x1 b h q k - M) : ℝ) : EReal) (((∑ k : Fin 16384, Real.exp (score x0 x1 b h q k - M)) : ℝ) : EReal) := fun k => by
      have e13 : idx_main_v12 (idx_main_v13 (ix4 b h q k)) = ix3 b h q := funext fun a => match a with
        | ⟨0, _⟩ => rfl
        | ⟨1, _⟩ => rfl
        | ⟨2, _⟩ => rfl
      rw [val_main_v14_apply, val_main_v13_apply, val_main_v12_apply, e13, e10, e11]
      rfl
    rw [val_main_v15_apply]
    refine Eq.trans (Finset.sum_congr rfl fun k _ => ?_) (sum_div (fun k : Fin 16384 => x2 (ix4 b k h r)) (score x0 x1 b h q) M)
    have el : lidx_main_v15 (ix4 b h r q) k = ix4 b k h r := funext fun a => match a with
      | ⟨0, _⟩ => rfl
      | ⟨1, _⟩ => rfl
      | ⟨2, _⟩ => rfl
      | ⟨3, _⟩ => rfl
    have er : ridx_main_v15 (ix4 b h r q) k = ix4 b h q k := funext fun a => match a with
      | ⟨0, _⟩ => rfl
      | ⟨1, _⟩ => rfl
      | ⟨2, _⟩ => rfl
      | ⟨3, _⟩ => rfl
    rw [el, er, e14]
  funext i
  rw [val_main_v19_apply]
  show val_main_v18 (F := Ideal) x0 x1 x2 i = _
  rw [val_main_v18_apply, val_main_v17_apply, val_main_v16_apply]
  refine Eq.trans (congrArg (val_main_v15 (F := Ideal) x0 x1 x2) ?_) (core (i 0) ⟨(i 1).val / 64, by have h : (i 1).val < 256 := (i 1).isLt; omega⟩ ⟨(i 1).val % 64, Nat.mod_lt _ (by norm_num)⟩ (i 2))
  have h0 : (i 0).val < 2 := (i 0).isLt
  have h1 : (i 1).val < 256 := (i 1).isLt
  have h2 : (i 2).val < 16384 := (i 2).isLt
  funext a
  apply Fin.ext
  match a with
  | ⟨0, _⟩ => show (((i 0).val * 16384 + (i 2).val) * 256 + (i 1).val) / 4194304 = (i 0).val; omega
  | ⟨1, _⟩ => show (((i 0).val * 16384 + (i 2).val) * 256 + (i 1).val) / 64 % 4 = (i 1).val / 64; omega
  | ⟨2, _⟩ => show (((i 0).val * 16384 + (i 2).val) * 256 + (i 1).val) % 64 = (i 1).val % 64; omega
  | ⟨3, _⟩ => show (((i 0).val * 16384 + (i 2).val) * 256 + (i 1).val) / 256 % 16384 = (i 2).val; omega

end Cert.ReferenceIdeal.Att
end
-- ==== Proof.Att.Alg.lean ====
module

public import proofs.«01_k».proof.Proof.Att.Out
public import proofs.«01_k».proof.Proof.Att.Fin
public import proofs.«01_k».proof.Proof.Att.Ref
public import proofs.«01_k».proof.Proof.Gen.ReferenceIdeal.Run

@[expose] public section

set_option maxRecDepth 16384

noncomputable section

namespace Cert.KernelIdeal.Att

open Cert.KernelIdeal Cert.KernelIdeal.Gen Cert.Soft
open Idealize.ShloMosaic hiding ix1 ix2 ix3 ix4 ix5 ix6
open Idealize.ShloMosaic.TcCoe Idealize.SL.Sem Idealize.ShloMosaic.ValueIdx

/-! ## The kernel computes the attention -/

variable {m : (ℓ : Loc nD τ sig) → Buf (Elt Ideal) ℓ} {c : Dev nD} {x0 x1 : QK} {x2 : VV}

/-- Whatever the body may have left at each point, the array written back from it is the attention. -/
theorem out_att (hx0 : Real4 x0) (hx1 : Real4 x1) (e0 : m (c.tc.loc main_arg0) = x0) (e1 : m (c.tc.loc main_arg1) = x1) (e2 : m (c.tc.loc main_arg2) = x2)
    (after : (w : Fin cfg0.W) → Fin cfg0.N → (cfg0.win w).block.Idx → Elt Ideal (cfg0.win w).elt)
    (hL : ∀ w u, (cfg0.win w).flush u = true → ((dats m 0 c).toRRel byRel (Leaves0 m c)).Leaves w u (after w u)) :
    (((dats m 0 c).toRRel byRel (Leaves0 m c)).withAfter after).arrAt 3 cfg0.N = attArr x0 x1 x2 := by
  refine Pipeline.Dat.arrAt_eq_of_covers _ 3 _ covers_out fun t hf y => ?_
  have hs : Swept (iblk m c 0 t) (iblk m c 1 t) (iblk m c 2 t) (after 3 t) := by
    have h := Pipeline.Dat.toRRel_leaves _ (rfl : byRel 3 = true) (hL 3 t hf)
    rw [leaves_3] at h
    exact h
  show (after 3 t : Vec Ideal S1x64x1024 .bf16) y = attArr x0 x1 x2 (((cfg0.win 3).blk t).view.emb y)
  have hy : (y : S1x64x1024.Idx) = (ix3 0 (y 1) (y 2) : S1x64x1024.Idx) := by
    funext a
    match a with
    | ⟨0, _⟩ => exact Subsingleton.elim (α := Fin 1) _ _
    | ⟨1, _⟩ => rfl
    | ⟨2, _⟩ => rfl
  rw [hy]
  exact (point_val hx0 hx1 e0 e1 e2 t hs (y 1) (y 2)).trans ((attArr_out t (y 1) (y 2)).symm.trans (congrArg (attArr x0 x1 x2) (emb_out t (y 1) (y 2)).symm))

/-- The kernel ends with the attention of its arguments in its result, and its arguments as they were. -/
theorem run_att (m : (ℓ : Loc nD τ sig) → Buf (Elt Ideal) ℓ) (ρ : Dev nD → PrngReg) (h0 : ∀ c : Dev nD, Real4 (m (c.tc.loc main_arg0))) (h1 : ∀ c : Dev nD, Real4 (m (c.tc.loc main_arg1))) :
    θ_run defs (onTc (τ := τ) (main (F := Ideal))) ⟨m, fun _ => 0, ρ⟩ (fun r => ∀ c : Dev nD,
      r.2.mem (c.tc.loc main_v17) = attArr (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)) := by
  refine (θ_run defs _ _).mono (fun r h c => ?_) (run_main (F := Ideal) m ρ)
  refine ⟨?_, rest_eq h.1 c⟩
  obtain ⟨after, hL, hA⟩ := h.1.exists_exact c
  exact (hA 3).trans (out_att (h0 c) (h1 c) rfl rfl rfl after hL)

end Cert.KernelIdeal.Att

namespace Cert.ReferenceIdeal.Att

open Cert.ReferenceIdeal Cert.Soft
open Idealize.ShloMosaic Idealize.ShloMosaic.TcCoe Idealize.SL.Sem

/-- The reference ends with the attention of its arguments in its result, and its arguments as they were. -/
theorem run_att (m : (ℓ : Loc nD τ sig) → Buf (Elt Ideal) ℓ) (ρ : Dev nD → PrngReg) {x0 x1 : Dev nD → QK} {x2 : Dev nD → VV}
    (hx0 : ∀ c, Real4 (x0 c)) (hx1 : ∀ c, Real4 (x1 c)) (e0 : ∀ c : Dev nD, m (c.tc.loc main_arg0) = x0 c) (e1 : ∀ c : Dev nD, m (c.tc.loc main_arg1) = x1 c) (e2 : ∀ c : Dev nD, m (c.tc.loc main_arg2) = x2 c) :
    θ_run defs (onTc (τ := τ) (main (F := Ideal))) ⟨m, fun _ => 0, ρ⟩ (fun r => ∀ c : Dev nD,
      r.2.mem (c.tc.loc main_v19) = attArr (x0 c) (x1 c) (x2 c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)) := by
  refine (θ_run defs _ _).mono (fun r h c => ⟨?_, (h c).2⟩) (Value.run (F := Ideal) m ρ)
  refine (h c).1.trans ((Read.val_main_v19_eq _ _ _).trans ?_)
  rw [e0, e1, e2]
  exact ref_at (hx0 c) (hx1 c) (x2 c)

end Cert.ReferenceIdeal.Att
end
-- ==== Proof.Ffn.Form.lean ====
module

public import Idealize.ShloMosaic.PureOps.Ideal
public import Idealize.ShloMosaic.PureOps.Ideal.Laws
public import Idealize.ShloMosaic.Lib.ValueIdx

@[expose] public section

noncomputable section

namespace Cert.Ffn

open Idealize.ShloMosaic Idealize.ShloMosaic.ValueIdx
open scoped BigOperators

/-! ## The feed-forward network with its layer norm, element by element -/

/-- The tokens of two sequences, of 1024 features each. -/
abbrev XX := (⟨3, ![2, 16384, 1024]⟩ : Shape).Idx → EReal
/-- The matrix that widens a token. -/
abbrev WU := (⟨2, ![1024, 5632]⟩ : Shape).Idx → EReal
/-- The weights of the convolution. -/
abbrev CW := (⟨2, ![3, 5632]⟩ : Shape).Idx → EReal
/-- The bias of the convolution. -/
abbrev CB := (⟨1, ![5632]⟩ : Shape).Idx → EReal
/-- The matrix that narrows the activations. -/
abbrev WD := (⟨2, ![2816, 1024]⟩ : Shape).Idx → EReal
/-- One number for each feature. -/
abbrev GG := (⟨1, ![1024]⟩ : Shape).Idx → EReal

/-- Row `n` of a sequence with a row of zeros before it, which is row 0, and zeros after it. -/
def rowAt (x : XX) (b : Fin 2) (n : ℕ) (d : Fin 1024) : EReal :=
  if h : 1 ≤ n ∧ n - 1 < 16384 then x (ix3 b ⟨n - 1, h.2⟩ d) else 0

theorem rowAt_tok (x : XX) (b : Fin 2) (n : ℕ) (d : Fin 1024) (s : Fin 16384) (h : n = s.val + 1) : rowAt x b n d = x (ix3 b s d) := by
  subst h
  exact dif_pos ⟨Nat.le_add_left _ _, s.isLt⟩

theorem rowAt_zero (x : XX) (b : Fin 2) (d : Fin 1024) : rowAt x b 0 d = 0 := dif_neg fun h => absurd h.1 (by decide)
theorem rowAt_end (x : XX) (b : Fin 2) (d : Fin 1024) : rowAt x b 16385 d = 0 := dif_neg fun h => absurd h.2 (by decide)

/-- A row widened. -/
def proj (x : XX) (w : WU) (b : Fin 2) (n : ℕ) (f : Fin 5632) : EReal := ∑ d : Fin 1024, rowAt x b n d * w (ix2 d f)

theorem proj_zero (x : XX) (w : WU) (b : Fin 2) (f : Fin 5632) : proj x w b 0 f = 0 :=
  Finset.sum_eq_zero fun d _ => by rw [rowAt_zero, zero_mul]
theorem proj_end (x : XX) (w : WU) (b : Fin 2) (f : Fin 5632) : proj x w b 16385 f = 0 :=
  Finset.sum_eq_zero fun d _ => by rw [rowAt_end, zero_mul]

/-- The convolution of the widened rows over three tokens, feature by feature. -/
def conv (x : XX) (w : WU) (cw : CW) (cb : CB) (b : Fin 2) (s : Fin 16384) (f : Fin 5632) : EReal :=
  proj x w b s.val f * cw (ix2 0 f) + proj x w b (s.val + 1) f * cw (ix2 1 f) + proj x w b (s.val + 2) f * cw (ix2 2 f) + cb (ix1 f)

/-- The gated activation of a token. -/
def act (x : XX) (w : WU) (cw : CW) (cb : CB) (b : Fin 2) (s : Fin 16384) (f : Fin 2816) : EReal :=
  conv x w cw cb b s ⟨f.val, by have := f.isLt; omega⟩ * Ideal.logistic (conv x w cw cb b s ⟨f.val, by have := f.isLt; omega⟩)
    * conv x w cw cb b s ⟨2816 + f.val, by have := f.isLt; omega⟩

/-- The token, scaled, plus what the network makes of it. -/
def res (x : XX) (w : WU) (cw : CW) (cb : CB) (wd : WD) (b : Fin 2) (s : Fin 16384) (e : Fin 1024) : EReal :=
  Ideal.ofBits .f32 0x3FD744FD#32 * x (ix3 b s e) + ∑ f : Fin 2816, act x w cw cb b s f * wd (ix2 f e)

/-- The mean of a row. -/
def mean (z : Fin 1024 → EReal) : EReal := Ideal.div (∑ e, z e) (Ideal.ofBits .f32 0x44800000#32)

/-- The layer norm of a row. -/
def lnorm (z : Fin 1024 → EReal) (g b : Fin 1024 → EReal) (e : Fin 1024) : EReal :=
  (z e - mean z) * Ideal.rsqrt (mean (fun e => (z e - mean z) * (z e - mean z)) + Ideal.ofBits .f32 0x3727C5AC#32) * g e + b e

/-- The whole call. -/
def ffnArr (x : XX) (w : WU) (cw : CW) (cb : CB) (wd : WD) (g bi : GG) : XX := fun i =>
  lnorm (res x w cw cb wd (i 0) (i 1)) (fun e => g (ix1 e)) (fun e => bi (ix1 e)) (i 2)

end Cert.Ffn
end
-- ==== Proof.Ffn.HostV.lean ====
module

public import proofs.«01_k».proof.Proof.Ffn.Form
public import proofs.«01_k».proof.Proof.Gen.Kernel2Ideal.Value
public import Idealize.ShloMosaic.Lib.KernelVsHost
public import Idealize.ShloMosaic.Lib.Pipeline.Value
public import Idealize.ShloMosaic.Lib.StableHlo.RunRead
public import Idealize.ShloMosaic.Lib.ValueIdx

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.ValueIdx

/-! ## The operands that the host prepares -/

/-- The convolution's weights, its bias under them, and four rows of zeros. -/
def cwArr (w : FVec Ideal S3x5632 .f32) (b : FVec Ideal S5632 .f32) : FVec Ideal S8x5632 .f32 :=
  concatenate S8x5632 0 [⟨S3x5632, w⟩, ⟨S1x5632, broadcastInDim S1x5632 ![1] bcast_S5632_S1x5632_1 b⟩, ⟨S4x5632, broadcastInDim S4x5632 ![] bcast_S_S4x5632 (constant S_ .f32 0x00000000#32)⟩]
    concatenates_S3x5632_S1x5632_S4x5632_S8x5632_d0

/-- A vector as a matrix of one row. -/
def rowArr (g : FVec Ideal S1024 .f32) : FVec Ideal S1x1024 .f32 := broadcastInDim S1x1024 ![1] bcast_S1024_S1x1024_1 g

variable (m : (ℓ : Loc nD τ sig) → Buf (Elt Ideal) ℓ) (c : Dev nD)

theorem V_x : V m c main_arg0 = m (c.tc.loc main_arg0) := V_main_arg0 m c

theorem V_cw : V m c main_v2 = cwArr (m (c.tc.loc main_arg2)) (m (c.tc.loc main_arg3)) := by
  unfold V
  after_reads_simp
  rfl

theorem V_wu : V m c main_v3 = (truncf .bf16 (m (c.tc.loc main_arg1) : FVec Ideal S1024x5632 .f32) bitsLt_bf16_f32 : FVec Ideal S1024x5632 .bf16) := by
  unfold V
  after_reads_simp

theorem V_wd : V m c main_v4 = (truncf .bf16 (m (c.tc.loc main_arg4) : FVec Ideal S2816x1024 .f32) bitsLt_bf16_f32 : FVec Ideal S2816x1024 .bf16) := by
  unfold V
  after_reads_simp

theorem V_g : V m c main_v5 = rowArr (m (c.tc.loc main_arg5)) := by
  unfold V
  after_reads_simp
  rfl

theorem V_b : V m c main_v6 = rowArr (m (c.tc.loc main_arg6)) := by
  unfold V
  after_reads_simp
  rfl

/-- The weights of the convolution at an element. -/
theorem cwArr_weight (w : FVec Ideal S3x5632 .f32) (b : FVec Ideal S5632 .f32) (k : Fin 3) (f : Fin 5632) : cwArr w b (ix2 ⟨k.val, by have := k.isLt; omega⟩ f) = w (ix2 k f) :=
  concatenate_apply_piece (t := S8x5632) 0 [⟨S3x5632, w⟩, ⟨S1x5632, broadcastInDim S1x5632 ![1] bcast_S5632_S1x5632_1 b⟩, ⟨S4x5632, broadcastInDim S4x5632 ![] bcast_S_S4x5632 (constant S_ .f32 0x00000000#32)⟩]
    concatenates_S3x5632_S1x5632_S4x5632_S8x5632_d0 _ 0 (show 0 < 3 by decide) S3x5632 w rfl rfl 0 rfl (ix2 k f)
    (fun b hb => match b, hb with | ⟨0, _⟩, hb => absurd rfl hb | ⟨1, _⟩, _ => rfl) (Nat.zero_add _)

/-- Its bias at an element. -/
theorem cwArr_bias (w : FVec Ideal S3x5632 .f32) (b : FVec Ideal S5632 .f32) (f : Fin 5632) : cwArr w b (ix2 3 f) = b (ix1 f) :=
  (concatenate_apply_piece (t := S8x5632) 0 [⟨S3x5632, w⟩, ⟨S1x5632, broadcastInDim S1x5632 ![1] bcast_S5632_S1x5632_1 b⟩, ⟨S4x5632, broadcastInDim S4x5632 ![] bcast_S_S4x5632 (constant S_ .f32 0x00000000#32)⟩]
    concatenates_S3x5632_S1x5632_S4x5632_S8x5632_d0 (ix2 3 f) 1 (show 1 < 3 by decide) S1x5632 (broadcastInDim S1x5632 ![1] bcast_S5632_S1x5632_1 b) rfl rfl 3 rfl (ix2 0 f)
    (fun b hb => match b, hb with | ⟨0, _⟩, hb => absurd rfl hb | ⟨1, _⟩, _ => rfl) rfl).trans
  (broadcastInDim_apply _ bcast_S5632_S1x5632_1 b (ix2 0 f) (ix1 f) (fun a => match a with | ⟨0, _⟩ => rfl))

theorem rowArr_apply (g : FVec Ideal S1024 .f32) (e : Fin 1024) : rowArr g (ix2 0 e) = g (ix1 e) :=
  broadcastInDim_apply _ bcast_S1024_S1x1024_1 g (ix2 0 e) (ix1 e) (fun a => match a with | ⟨0, _⟩ => rfl)

end Cert.Kernel2Ideal.Ffn
end
-- ==== Proof.Ffn.Block.lean ====
module

public import proofs.«01_k».proof.Proof.Gen.Kernel2Ideal.Value
public import Idealize.ShloMosaic.Lib.Pipeline.ReadBack
public import Idealize.ShloMosaic.Lib.Pipeline.ValueKit.Acc

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic Idealize.SL.Sem

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-! ## The body's value at a point, in words of its own -/

/-- Rows widened, shifted either way, and mixed by a chunk's weights: what is left are the rows that have both neighbours. -/
def convB (X : FVec F S528x1024 .bf16) (W : Vec F S1024x256 .bf16) (C : Vec F S8x256 .f32) : FVec F S512x256 .f32 :=
  let u : FVec F S528x256 .f32 := matmul dot_S528x1024_S1024x256_S528x256_1_0_0_1_n_n none X (shapeCast S1024x256 W shapeCasts_S1024x256_S1024x256) (constant S528x256 .f32 0x00000000#32)
  let k : FVec F S8x256 .f32 := shapeCast S8x256 C shapeCasts_S8x256_S8x256
  extractStridedSlice S512x256 ![8, 0]
    (addf (addf (addf (mulf (dynamicRotate 0 1#32 none u rotates_S528x256_d0) (broadcastTo S528x256 (extractStridedSlice S1x256 ![0, 0] k slices_S8x256_o0_0_S1x256) broadcasts_S1x256_S528x256))
      (mulf u (broadcastTo S528x256 (extractStridedSlice S1x256 ![1, 0] k slices_S8x256_o1_0_S1x256) broadcasts_S1x256_S528x256)))
      (mulf (dynamicRotate 0 527#32 none u rotates_S528x256_d0) (broadcastTo S528x256 (extractStridedSlice S1x256 ![2, 0] k slices_S8x256_o2_0_S1x256) broadcasts_S1x256_S528x256)))
      (broadcastTo S528x256 (extractStridedSlice S1x256 ![3, 0] k slices_S8x256_o3_0_S1x256) broadcasts_S1x256_S528x256))
    slices_S528x256_o8_0_S512x256

/-- A chunk of gated activations. -/
def actB (X : FVec F S528x1024 .bf16) (W : Vec F S1024x256 .bf16) (C : Vec F S8x256 .f32) (W' : Vec F S1024x256 .bf16) (C' : Vec F S8x256 .f32) : FVec F S512x256 .bf16 :=
  shapeCast S512x256 (truncf .bf16 (mulf (mulf (convB X W C) (logistic (convB X W C))) (convB X W' C')) bitsLt_bf16_f32) shapeCasts_S512x256_S512x256

/-- Bounds of the boxes of the eleven chunks. -/
theorem box_w (o : ℕ) (h : o + 256 ≤ 5632) : ∀ a : Fin 2, (![0, o] : Fin 2 → ℕ) a + S1024x256.size a ≤ S1024x5632.size a := fun a => match a with
  | ⟨0, _⟩ => Nat.le_of_eq (Nat.zero_add _)
  | ⟨1, _⟩ => h
theorem box_c (o : ℕ) (h : o + 256 ≤ 5632) : ∀ a : Fin 2, (![0, o] : Fin 2 → ℕ) a + S8x256.size a ≤ S8x5632.size a := fun a => match a with
  | ⟨0, _⟩ => Nat.le_of_eq (Nat.zero_add _)
  | ⟨1, _⟩ => h
theorem box_a (o : ℕ) (h : o + 256 ≤ 2816) : ∀ a : Fin 2, (![0, o] : Fin 2 → ℕ) a + S512x256.size a ≤ S512x2816.size a := fun a => match a with
  | ⟨0, _⟩ => Nat.le_of_eq (Nat.zero_add _)
  | ⟨1, _⟩ => h

/-- The chunk that starts at a column, with its place among the activations. -/
def pieceAt (X : FVec F S528x1024 .bf16) (x3 : Vec F S1024x5632 .bf16) (x5 : Vec F S8x5632 .f32) (o : ℕ) (h : o + 256 ≤ 2816) : View.Piece (Elt F) S512x2816 .bf16 :=
  ⟨Rect.unit ![0, o] S512x256.size (box_a o h), actB X
    (View.ld x3 (Rect.unit (s := S1024x5632) ![0, o] S1024x256.size (box_w o (by omega)))) (View.ld x5 (Rect.unit (s := S8x5632) ![0, o] S8x256.size (box_c o (by omega))))
    (View.ld x3 (Rect.unit (s := S1024x5632) ![0, 2816 + o] S1024x256.size (box_w (2816 + o) (by omega)))) (View.ld x5 (Rect.unit (s := S8x5632) ![0, 2816 + o] S8x256.size (box_c (2816 + o) (by omega))))⟩

/-- The eleven chunks, the last one first. -/
def pieces (X : FVec F S528x1024 .bf16) (x3 : Vec F S1024x5632 .bf16) (x5 : Vec F S8x5632 .f32) : List (View.Piece (Elt F) S512x2816 .bf16) :=
  [pieceAt X x3 x5 2560 (by decide), pieceAt X x3 x5 2304 (by decide), pieceAt X x3 x5 2048 (by decide), pieceAt X x3 x5 1792 (by decide),
    pieceAt X x3 x5 1536 (by decide), pieceAt X x3 x5 1280 (by decide), pieceAt X x3 x5 1024 (by decide), pieceAt X x3 x5 768 (by decide),
    pieceAt X x3 x5 512 (by decide), pieceAt X x3 x5 256 (by decide), pieceAt X x3 x5 0 (by decide)]

/-- The activations of a point. -/
def acts (X : FVec F S528x1024 .bf16) (x3 : Vec F S1024x5632 .bf16) (x5 : Vec F S8x5632 .f32) : Vec F S512x2816 .bf16 :=
  fun j => View.canon (pieces X x3 x5) ((Rect.unit (s := S512x2816) ![0, 0] S512x2816.size inb_S512x2816_S512x2816_0_0).toLoadRect.idx j)

/-- The block of the result that the body leaves. -/
theorem out_val (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S8x5632 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x2816 .bf16) (harg11 : arg11.IsWhole)
    (x0 : Vec F S1x8x1024 .f32) (x1 : Vec F S1x512x1024 .f32) (x2 : Vec F S1x8x1024 .f32) (x3 : Vec F S1024x5632 .bf16) (x4 : Vec F S2816x1024 .bf16) (x5 : Vec F S8x5632 .f32) (x6 : Vec F S1x1024 .f32) (x7 : Vec F S1x1024 .f32) :
    out0_A_8 c i arg2 harg2 arg3 harg3 arg4 harg4 arg5 harg5 arg6 harg6 arg7 harg7 arg8 harg8 arg9 harg9 arg10 harg10 arg11 harg11 x0 x1 x2 x3 x4 x5 x6 x7 = k0_pay1 (k0_pay48 (acts (k0_pay2 i x0 x2 x1) x3 x5) x4 x1 x6) (k0_pay49 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, harg9.read_unread, View.ld_unit_zero (S := S1x512x1024) zero3, View.ld_unit_zero (S := S1x8x1024) zero3, View.ld_unit_zero (S := S2816x1024) zero2,View.ld_unit_zero (S := S1x1024) zero2]
  rw [View.readCov_eq_canon']
  rfl

end Cert.Kernel2Ideal.Ffn
end
-- ==== Proof.Ffn.Elem.lean ====
module

public import proofs.«01_k».proof.Proof.Ffn.Block
public import proofs.«01_k».proof.Proof.Ffn.Form
public import Idealize.ShloMosaic.Lib.KernelVsHost
public import Idealize.ShloMosaic.Lib.Pipeline.Value
public import Idealize.ShloMosaic.Lib.MatmulPlain
public import Idealize.ShloMosaic.Lib.ValueIdx

@[expose] public section

set_option maxRecDepth 16384

noncomputable section

namespace Cert.Kernel2Ideal.Ffn

open Cert.Kernel2Ideal Cert.Kernel2Ideal.Gen
open Idealize.ShloMosaic Idealize.ShloMosaic.ValueIdx
open scoped BigOperators

/-! ## The body's words at an element, among the extended reals -/

/-- A row of the block with its neighbours, widened by one column. -/
def up (X : FVec Ideal S528x1024 .bf16) (W : Vec Ideal S1024x256 .bf16) (ρ : Fin 528) (l : Fin 256) : EReal :=
  ∑ d : Fin 1024, X (ix2 ρ d) * W (ix2 d l)

theorem up_eq (X : FVec Ideal S528x1024 .bf16) (W : FVec Ideal S1024x256 .bf16) (ρ : Fin 528) (l : Fin 256) :
    matmul dot_S528x1024_S1024x256_S528x256_1_0_0_1_n_n none X W (constant S528x256 .f32 0x00000000#32) (ix2 ρ l) = up X W ρ l := by
  refine (Ideal.matmul_plain_apply (M := 528) (K := 1024) (N := 256) none X W (constant S528x256 .f32 0x00000000#32) ρ l).trans ?_
  rw [constant_apply, Ideal.ofBits_zero_f32, zero_add]
  rfl

/-- One row of the chunk's weights, the same for every row of the block. -/
theorem coef_eq (C : Vec Ideal S8x256 .f32) (k : Fin 8) (h : S8x256.Slices ![k.val, 0] S1x256) (ρ : Fin 528) (l : Fin 256) :
    broadcastTo S528x256 (extractStridedSlice S1x256 ![k.val, 0] C h) broadcasts_S1x256_S528x256 (ix2 ρ l) = C (ix2 k l) := by
  rw [broadcastTo_apply (t := S528x256) _ broadcasts_S1x256_S528x256 (ix2 ρ l) (ix2 0 l) (fun a => match a with | ⟨0, _⟩ => rfl | ⟨1, _⟩ => rfl)]
  refine extractStridedSlice_apply _ C _ _ _ fun a => ?_
  match a with
  | ⟨0, _⟩ => rfl
  | ⟨1, _⟩ => exact (Nat.zero_add _).symm

/-- The mixture of three neighbouring rows. -/
theorem convB_apply (X : FVec Ideal S528x1024 .bf16) (W : Vec Ideal S1024x256 .bf16) (C : Vec Ideal S8x256 .f32) (r : Fin 512) (l : Fin 256) :
    convB X W C (ix2 r l) = up X W ⟨r.val + 7, by have := r.isLt; omega⟩ l * C (ix2 0 l) + up X W ⟨r.val + 8, by have := r.isLt; omega⟩ l * C (ix2 1 l)
      + up X W ⟨r.val + 9, by have := r.isLt; omega⟩ l * C (ix2 2 l) + C (ix2 3 l) := by
  have hr := r.isLt
  unfold convB
  dsimp only
  rw [shapeCast_self, shapeCast_self]
  rw [extractStridedSlice_apply _ _ _ (ix2 r l) (ix2 (⟨r.val + 8, by omega⟩ : Fin 528) l : S528x256.Idx) (fun a => match a with
    | ⟨0, _⟩ => Nat.add_comm _ _
    | ⟨1, _⟩ => (Nat.zero_add _).symm)]
  refine congrArg₂ (· + ·) (congrArg₂ (· + ·) (congrArg₂ (· + ·) (congrArg₂ (· * ·) ?_ (coef_eq C 0 _ _ l)) (congrArg₂ (· * ·) (up_eq X W _ l) (coef_eq C 1 _ _ l))) (congrArg₂ (· * ·) ?_ (coef_eq C 2 _ _ l))) (coef_eq C 3 _ _ l)
  · refine (dynamicRotate_apply (s := S528x256) (0 : Fin 2) 1#32 _ rotates_S528x256_d0 _ (ix2 (⟨r.val + 7, by omega⟩ : Fin 528) l) fun b => ?_).trans (up_eq X W _ l)
    match b with
    | ⟨0, _⟩ => show r.val + 7 = (r.val + 8 + 528 - 1 % 528) % 528; omega
    | ⟨1, _⟩ => rfl
  · refine (dynamicRotate_apply (s := S528x256) (0 : Fin 2) 527#32 _ rotates_S528x256_d0 _ (ix2 (⟨r.val + 9, by omega⟩ : Fin 528) l) fun b => ?_).trans (up_eq X W _ l)
    match b with
    | ⟨0, _⟩ => show r.val + 9 = (r.val + 8 + 528 - 527 % 528) % 528; omega
    | ⟨1, _⟩ => rfl

/-- A gated activation of a chunk. -/
theorem actB_apply (X : FVec Ideal S528x1024 .bf16) (W : Vec Ideal S1024x256 .bf16) (C : Vec Ideal S8x256 .f32) (W' : Vec Ideal S1024x256 .bf16) (C' : Vec Ideal S8x256 .f32) (j : S512x256.Idx) :
    actB X W C W' C' j = convB X W C j * Ideal.logistic (convB X W C j) * convB X W' C' j := by
  unfold actB
  rw [shapeCast_self]
  rfl

/-- A chunk of a matrix's columns at an element. -/
theorem ld_w (x3 : Vec Ideal S1024x5632 .bf16) (o : ℕ) (h : o + 256 ≤ 5632) (d : Fin 1024) (l : Fin 256) :
    View.ld x3 (Rect.unit (s := S1024x5632) ![0, o] S1024x256.size (box_w o h)) (ix2 d l) = x3 (ix2 d ⟨o + l.val, by have := l.isLt; omega⟩) := by
  rw [View.ld_unit]
  refine extractStridedSlice_apply _ x3 _ _ _ fun a => ?_
  match a with
  | ⟨0, _⟩ => exact (Nat.zero_add _).symm
  | ⟨1, _⟩ => rfl

/-- A chunk of the convolution's weights at an element. -/
theorem ld_c (x5 : Vec Ideal S8x5632 .f32) (o : ℕ) (h : o + 256 ≤ 5632) (k : Fin 8) (l : Fin 256) :
    View.ld x5 (Rect.unit (s := S8x5632) ![0, o] S8x256.size (box_c o h)) (ix2 k l) = x5 (ix2 k ⟨o + l.val, by have := l.isLt; omega⟩) := by
  rw [View.ld_unit]
  refine extractStridedSlice_apply _ x5 _ _ _ fun a => ?_
  match a with
  | ⟨0, _⟩ => exact (Nat.zero_add _).symm
  | ⟨1, _⟩ => rfl

/-- A row of the block widened by any column of the whole matrix. -/
def upAt (X : FVec Ideal S528x1024 .bf16) (x3 : Vec Ideal S1024x5632 .bf16) (ρ : Fin 528) (f : Fin 5632) : EReal :=
  ∑ d : Fin 1024, X (ix2 ρ d) * x3 (ix2 d f)

/-- Three neighbouring rows mixed, at any column. -/
def convAt (X : FVec Ideal S528x1024 .bf16) (x3 : Vec Ideal S1024x5632 .bf16) (x5 : Vec Ideal S8x5632 .f32) (r : Fin 512) (f : Fin 5632) : EReal :=
  upAt X x3 ⟨r.val + 7, by have := r.isLt; omega⟩ f * x5 (ix2 0 f) + upAt X x3 ⟨r.val + 8, by have := r.isLt; omega⟩ f * x5 (ix2 1 f)
    + upAt X x3 ⟨r.val + 9, by have := r.isLt; omega⟩ f * x5 (ix2 2 f) + x5 (ix2 3 f)

/-- The activation of a row, at any column. -/
def actAt (X : FVec Ideal S528x1024 .bf16) (x3 : Vec Ideal S1024x5632 .bf16) (x5 : Vec Ideal S8x5632 .f32) (r : Fin 512) (f : Fin 2816) : EReal :=
  convAt X x3 x5 r ⟨f.val, by have := f.isLt; omega⟩ * Ideal.logistic (convAt X x3 x5 r ⟨f.val, by have := f.isLt; omega⟩)
    * convAt X x3 x5 r ⟨2816 + f.val, by have := f.isLt; omega⟩

theorem convB_ld (X : FVec Ideal S528x1024 .bf16) (x3 : Vec Ideal S1024x5632 .bf16) (x5 : Vec Ideal S8x5632 .f32) (o : ℕ) (h : o + 256 ≤ 5632) (r : Fin 512) (l : Fin 256) (f : Fin 5632) (hf : f.val = o + l.val) :
    convB X (View.ld x3 (Rect.unit (s := S1024x5632) ![0, o] S1024x256.size (box_w o h))) (View.ld x5 (Rect.unit (s := S8x5632) ![0, o] S8x256.size (box_c o h))) (ix2 r l) = convAt X x3 x5 r f := by
  have ef : (⟨o + l.val, by have := l.isLt; omega⟩ : Fin 5632) = f := Fin.ext hf.symm
  have hu : ∀ ρ : Fin 528, up X (View.ld x3 (Rect.unit (s := S1024x5632) ![0, o] S1024x256.size (box_w o h))) ρ l = upAt X x3 ρ f := fun ρ =>
    Finset.sum_congr rfl fun d _ => congrArg (X (ix2 ρ d) * ·) ((ld_w x3 o h d l).trans (congrArg (fun f : Fin 5632 => x3 (ix2 d f)) ef))
  have hc : ∀ k : Fin 8, View.ld x5 (Rect.unit (s := S8x5632) ![0, o] S8x256.size (box_c o h)) (ix2 k l) = x5 (ix2 k f) := fun k =>
    (ld_c x5 o h k l).trans (congrArg (fun f : Fin 5632 => x5 (ix2 k f)) ef)
  refine (convB_apply X _ _ r l).trans ?_
  exact congrArg₂ (· + ·) (congrArg₂ (· + ·) (congrArg₂ (· + ·) (congrArg₂ (· * ·) (hu _) (hc 0)) (congrArg₂ (· * ·) (hu _) (hc 1))) (congrArg₂ (· * ·) (hu _) (hc 2))) (hc 3)

/-- Every chunk holds the activations of its columns. -/
theorem piece_val (X : FVec Ideal S528x1024 .bf16) (x3 : Vec Ideal S1024x5632 .bf16) (x5 : Vec Ideal S8x5632 .f32) (o : ℕ) (h : o + 256 ≤ 2816) (x : (pieceAt X x3 x5 o h).1.shape.Idx) :
    (pieceAt X x3 x5 o h).2 x = (fun j : S512x2816.Idx => actAt X x3 x5 (j 0) (j 1)) ((pieceAt X x3 x5 o h).1.emb x) := by
  obtain ⟨r, l, rfl⟩ : ∃ (r : Fin 512) (l : Fin 256), x = (ix2 r l : S512x256.Idx) := ⟨x 0, x 1, funext fun a => match a with | ⟨0, _⟩ => rfl | ⟨1, _⟩ => rfl⟩
  have hl := l.isLt
  have e0 : ((pieceAt X x3 x5 o h).1.emb (ix2 r l : S512x256.Idx) : S512x2816.Idx) = ix2 r ⟨o + l.val, by omega⟩ := by
    funext a
    apply Fin.ext
    match a with
    | ⟨0, _⟩ => show 0 + 1 * r.val = r.val; omega
    | ⟨1, _⟩ => show o + 1 * l.val = o + l.val; omega
  rw [e0]
  refine (actB_apply X _ _ _ _ (ix2 r l)).trans ?_
  rw [convB_ld X x3 x5 o (by omega) r l ⟨o + l.val, by omega⟩ rfl, convB_ld X x3 x5 (2816 + o) (by omega) r l ⟨2816 + (o + l.val), by omega⟩ (by show 2816 + (o + l.val) = _; omega)]
  rfl

/-- The chunks fill the activations. -/
theorem acts_apply (X : FVec Ideal S528x1024 .bf16) (x3 : Vec Ideal S1024x5632 .bf16) (x5 : Vec Ideal S8x5632 .f32) (r : Fin 512) (f : Fin 2816) :
    acts X x3 x5 (ix2 r f) = actAt X x3 x5 r f := by
  unfold acts
  have e0 : (Rect.unit (s := S512x2816) ![0, 0] S512x2816.size inb_S512x2816_S512x2816_0_0).toLoadRect.idx (ix2 r f : S512x2816.Idx) = (ix2 r f : S512x2816.Idx) := by
    funext a
    apply Fin.ext
    match a with
    | ⟨0, _⟩ => show 0 + 1 * r.val = r.val; omega
    | ⟨1, _⟩ => show 0 + 1 * f.val = f.val; omega
  rw [e0]
  refine View.canon_apply_of_pieces (fun j : S512x2816.Idx => actAt X x3 x5 (j 0) (j 1)) (pieces X x3 x5) (fun p hp x => ?_) (ix2 r f) ?_
  · unfold pieces at hp
    simp only [List.mem_cons, List.not_mem_nil, or_false] at hp
    rcases hp with rfl | rfl | rfl | rfl | rfl | rfl | rfl | rfl | rfl | rfl | rfl <;> exact piece_val X x3 x5 _ _ x
  · exact View.cover_of_tiledL (pieces X x3 x5) ![512, 256] (by rfl) (ix2 r f)

end Cert.Kernel2Ideal.Ffn
end
-- ==== Proof.Ffn.Norm.lean ====
module

public import proofs.«01_k».proof.Proof.Ffn.Elem

@[expose] public section

set_option maxRecDepth 16384

noncomputable section

namespace Cert.Kernel2Ideal.Ffn

open Cert.Kernel2Ideal Cert.Kernel2Ideal.Gen Cert.Ffn
open Idealize.ShloMosaic Idealize.ShloMosaic.ValueIdx
open scoped BigOperators

/-! ## The end of the body: the product that narrows, and the layer norm -/

/-- The rows before their norm. -/
def preB (Y : Vec Ideal S512x2816 .bf16) (x4 : Vec Ideal S2816x1024 .bf16) (x1 : Vec Ideal S1x512x1024 .f32) : FVec Ideal S512x1024 .f32 :=
  addf (mulf (broadcast S512x1024 (Scalar.ofBits (F := Ideal) .f32 0x3FD744FD#32)) (shapeCast S512x1024 x1 shapeCasts_S1x512x1024_S512x1024))
    (matmul (φ₁ := .bf16) (φ₂ := .bf16) dot_S512x2816_S2816x1024_S512x1024_1_0_0_1_n_n none Y (shapeCast S2816x1024 x4 shapeCasts_S2816x1024_S2816x1024) (constant S512x1024 .f32 0x00000000#32))

/-- The means of the rows. -/
def meanB (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits (F := Ideal) .f32 0x44800000#32))

/-- The rows less their means. -/
def cenB (z : FVec Ideal S512x1024 .f32) : FVec Ideal S512x1024 .f32 := subf z (broadcastTo S512x1024 (meanB z) broadcasts_S512x1_S512x1024)

/-- The rows normed and scaled. -/
def scaB (z : FVec Ideal S512x1024 .f32) (x6 : Vec Ideal S1x1024 .f32) : FVec Ideal S512x1024 .f32 :=
  mulf (mulf (cenB z) (broadcastTo S512x1024 (rsqrt (addf (meanB (mulf (cenB z) (cenB z))) (broadcast S512x1 (Scalar.ofBits (F := Ideal) .f32 0x3727C5AC#32)))) broadcasts_S512x1_S512x1024))
    (broadcastTo S512x1024 (shapeCast S1x1024 x6 shapeCasts_S1x1024_S1x1024) broadcasts_S1x1024_S512x1024)

theorem pay48_eq (Y : Vec Ideal S512x2816 .bf16) (x4 : Vec Ideal S2816x1024 .bf16) (x1 : Vec Ideal S1x512x1024 .f32) (x6 : Vec Ideal S1x1024 .f32) :
    k0_pay48 Y x4 x1 x6 = scaB (preB Y x4 x1) x6 := rfl

/-- A column copied along its rows. -/
theorem col_apply (v : FVec Ideal S512x1 .f32) (r : Fin 512) (e : Fin 1024) : broadcastTo S512x1024 v broadcasts_S512x1_S512x1024 (ix2 r e) = v (ix2 r 0) :=
  broadcastTo_apply (t := S512x1024) v broadcasts_S512x1_S512x1024 (ix2 r e) (ix2 r 0) (fun a => match a with | ⟨0, _⟩ => rfl | ⟨1, _⟩ => rfl)

/-- A row copied down its columns. -/
theorem row_apply (v : Vec Ideal S1x1024 .f32) (r : Fin 512) (e : Fin 1024) :
    broadcastTo S512x1024 (shapeCast S1x1024 v shapeCasts_S1x1024_S1x1024) broadcasts_S1x1024_S512x1024 (ix2 r e) = v (ix2 0 e) := by
  rw [shapeCast_self]
  exact broadcastTo_apply (t := S512x1024) v broadcasts_S1x1024_S512x1024 (ix2 r e) (ix2 0 e) (fun a => match a with | ⟨0, _⟩ => rfl | ⟨1, _⟩ => rfl)

theorem preB_apply (Y : Vec Ideal S512x2816 .bf16) (x4 : Vec Ideal S2816x1024 .bf16) (x1 : Vec Ideal S1x512x1024 .f32) (r : Fin 512) (e : Fin 1024) :
    preB Y x4 x1 (ix2 r e) = Ideal.ofBits .f32 0x3FD744FD#32 * x1 (ix3 0 r e) + ∑ f : Fin 2816, Y (ix2 r f) * x4 (ix2 f e) := by
  unfold preB
  rw [shapeCast_self]
  refine congrArg₂ (· + ·) (congrArg (Ideal.ofBits .f32 0x3FD744FD#32 * ·) ?_) ?_
  · refine (shapeCast_dropUnit_apply ![512, 1024] x1 shapeCasts_S1x512x1024_S512x1024 (ix2 r e)).trans (congrArg x1 (funext fun a => ?_))
    match a with
    | ⟨0, _⟩ => rfl
    | ⟨1, _⟩ => rfl
    | ⟨2, _⟩ => rfl
  · refine (Ideal.matmul_plain_apply (φ₁ := .bf16) (φ₂ := .bf16) (M := 512) (K := 2816) (N := 1024) none Y x4 (constant S512x1024 .f32 0x00000000#32) r e).trans ?_
    rw [constant_apply, Ideal.ofBits_zero_f32, zero_add]

theorem meanB_apply (z : FVec Ideal S512x1024 .f32) (r : Fin 512) : meanB z (ix2 r 0) = mean (fun e => z (ix2 r e)) := by
  unfold meanB mean
  refine congrArg (Ideal.div · (Ideal.ofBits .f32 0x44800000#32)) ?_
  refine (shapeCast_apply _ shapeCasts_S512_S512x1 (ix2 r 0) (ix1 r) ?_).trans ?_
  · rw [Shape.rowMajor_val_one, Shape.rowMajor_val_two]
    show r.val = r.val * 1 + 0
    omega
  · refine (Ideal.multiReduction_add_single z 0x00000000#32 reduces_S512x1024_S512 (.inl rfl) rfl (ix1 r)).trans ?_
    refine Finset.sum_congr rfl fun k _ => congrArg z (funext fun a => ?_)
    match a with
    | ⟨0, _⟩ => rfl
    | ⟨1, _⟩ => rfl

theorem cenB_apply (z : FVec Ideal S512x1024 .f32) (r : Fin 512) (e : Fin 1024) : cenB z (ix2 r e) = z (ix2 r e) - mean (fun e => z (ix2 r e)) :=
  congrArg (z (ix2 r e) - ·) ((col_apply _ r e).trans (meanB_apply z r))

/-- The block that the body leaves, at an element, from the rows before their norm. -/
theorem last_apply (Y : Vec Ideal S512x2816 .bf16) (x4 : Vec Ideal S2816x1024 .bf16) (x1 : Vec Ideal S1x512x1024 .f32) (x6 x7 : Vec Ideal S1x1024 .f32) (r : Fin 512) (e : Fin 1024) :
    k0_pay1 (k0_pay48 Y x4 x1 x6) (k0_pay49 x7) (ix3 0 r e)
      = lnorm (fun e => Ideal.ofBits .f32 0x3FD744FD#32 * x1 (ix3 0 r e) + ∑ f : Fin 2816, Y (ix2 r f) * x4 (ix2 f e)) (fun e => x6 (ix2 0 e)) (fun e => x7 (ix2 0 e)) e := by
  unfold k0_pay1
  refine (shapeCast_addUnit_apply ![512, 1024] _ shapeCasts_S512x1024_S1x512x1024 (ix3 0 r e)).trans ?_
  have e0 : (fun a : Fin 2 => (ix3 (0 : Fin 1) r e) a.succ) = (ix2 r e : S512x1024.Idx) := funext fun a => match a with | ⟨0, _⟩ => rfl | ⟨1, _⟩ => rfl
  refine (congrArg (addf (k0_pay48 Y x4 x1 x6) (k0_pay49 x7)) e0).trans ?_
  rw [pay48_eq]
  have hz : (fun e => preB Y x4 x1 (ix2 r e)) = fun e => Ideal.ofBits .f32 0x3FD744FD#32 * x1 (ix3 0 r e) + ∑ f : Fin 2816, Y (ix2 r f) * x4 (ix2 f e) := funext fun e => preB_apply Y x4 x1 r e
  rw [← hz]
  generalize preB Y x4 x1 = z
  unfold lnorm
  refine congrArg₂ (· + ·) (congrArg₂ (· * ·) (congrArg₂ (· * ·) (cenB_apply z r e) ?_) (row_apply x6 r e)) (row_apply x7 r e)
  refine (col_apply _ r e).trans ?_
  refine congrArg (fun v => Ideal.rsqrt (v + Ideal.ofBits .f32 0x3727C5AC#32)) ((meanB_apply _ r).trans (congrArg mean (funext fun e => ?_)))
  exact congrArg₂ (· * ·) (cenB_apply z r e) (cenB_apply z r e)

/-! ## The rows with their neighbours -/

theorem before_word : ∀ a : Fin 32, Scalar.cmpi .sgt (BitVec.ofNat 32 a.val) 0#32 = if a.val = 0 then 0#1 else 1#1 := by decide
theorem after_word : ∀ a : Fin 32, Scalar.cmpi .slt (BitVec.ofNat 32 a.val) 31#32 = if a.val = 31 then 0#1 else 1#1 := by decide

/-- A halo block without its unit axis. -/
theorem halo_apply (x : Vec Ideal S1x8x1024 .f32) (k : Fin 8) (d : Fin 1024) : shapeCast S8x1024 x shapeCasts_S1x8x1024_S8x1024 (ix2 k d) = x (ix3 0 k d) := by
  refine (shapeCast_dropUnit_apply ![8, 1024] x shapeCasts_S1x8x1024_S8x1024 (ix2 k d)).trans (congrArg x (funext fun a => ?_))
  match a with
  | ⟨0, _⟩ => rfl
  | ⟨1, _⟩ => rfl
  | ⟨2, _⟩ => rfl

/-- Three blocks one under another, read in the first, in the middle and in the last. -/
theorem cat_first (A C : FVec Ideal S8x1024 .f32) (B : FVec Ideal S512x1024 .f32) (d : Fin 1024) :
    concatenate S528x1024 0 [⟨S8x1024, A⟩, ⟨S512x1024, B⟩, ⟨S8x1024, C⟩] concatenates_S8x1024_S512x1024_S8x1024_S528x1024_d0 (ix2 7 d) = A (ix2 7 d) :=
  concatenate_apply_piece (t := S528x1024) 0 [⟨S8x1024, A⟩, ⟨S512x1024, B⟩, ⟨S8x1024, C⟩] concatenates_S8x1024_S512x1024_S8x1024_S528x1024_d0 (ix2 7 d) 0 (show 0 < 3 by decide) S8x1024 A rfl rfl 0 rfl (ix2 7 d)
    (fun b hb => match b, hb with | ⟨0, _⟩, hb => absurd rfl hb | ⟨1, _⟩, _ => rfl) rfl
theorem cat_mid (A C : FVec Ideal S8x1024 .f32) (B : FVec Ideal S512x1024 .f32) (r : Fin 512) (d : Fin 1024) :
    concatenate S528x1024 0 [⟨S8x1024, A⟩, ⟨S512x1024, B⟩, ⟨S8x1024, C⟩] concatenates_S8x1024_S512x1024_S8x1024_S528x1024_d0 (ix2 ⟨r.val + 8, by have := r.isLt; omega⟩ d) = B (ix2 r d) :=
  concatenate_apply_piece (t := S528x1024) 0 [⟨S8x1024, A⟩, ⟨S512x1024, B⟩, ⟨S8x1024, C⟩] concatenates_S8x1024_S512x1024_S8x1024_S528x1024_d0 _ 1 (show 1 < 3 by decide) S512x1024 B rfl rfl 8 rfl (ix2 r d)
    (fun b hb => match b, hb with | ⟨0, _⟩, hb => absurd rfl hb | ⟨1, _⟩, _ => rfl) (Nat.add_comm _ _)
theorem cat_last (A C : FVec Ideal S8x1024 .f32) (B : FVec Ideal S512x1024 .f32) (d : Fin 1024) :
    concatenate S528x1024 0 [⟨S8x1024, A⟩, ⟨S512x1024, B⟩, ⟨S8x1024, C⟩] concatenates_S8x1024_S512x1024_S8x1024_S528x1024_d0 (ix2 520 d) = C (ix2 0 d) :=
  concatenate_apply_piece (t := S528x1024) 0 [⟨S8x1024, A⟩, ⟨S512x1024, B⟩, ⟨S8x1024, C⟩] concatenates_S8x1024_S512x1024_S8x1024_S528x1024_d0 (ix2 520 d) 2 (show 2 < 3 by decide) S8x1024 C rfl rfl 520 rfl (ix2 0 d)
    (fun b hb => match b, hb with | ⟨0, _⟩, hb => absurd rfl hb | ⟨1, _⟩, _ => rfl) rfl

/-- The rows read at an index: the change of format is the identity. -/
theorem pay2_eq (i : grid0.Coords) (x0 x2 : Vec Ideal S1x8x1024 .f32) (x1 : Vec Ideal S1x512x1024 .f32) (j : S528x1024.Idx) :
    k0_pay2 i x0 x2 x1 j = concatenate S528x1024 0 [⟨S8x1024, Scalar.select (Scalar.cmpi .sgt (BitVec.ofNat 32 (i 1).val) 0#32) (shapeCast S8x1024 x0 shapeCasts_S1x8x1024_S8x1024) (broadcast S8x1024 (Scalar.ofBits (F := Ideal) .f32 0x00000000#32))⟩,
      ⟨S512x1024, shapeCast S512x1024 x1 shapeCasts_S1x512x1024_S512x1024⟩,
      ⟨S8x1024, Scalar.select (Scalar.cmpi .slt (BitVec.ofNat 32 (i 1).val) 31#32) (shapeCast S8x1024 x2 shapeCasts_S1x8x1024_S8x1024) (broadcast S8x1024 (Scalar.ofBits (F := Ideal) .f32 0x00000000#32))⟩]
      concatenates_S8x1024_S512x1024_S8x1024_S528x1024_d0 j := rfl

/-- The last row before the block: a token's, or zeros before the first. -/
theorem row_before (i : grid0.Coords) (x0 x2 : Vec Ideal S1x8x1024 .f32) (x1 : Vec Ideal S1x512x1024 .f32) (d : Fin 1024) :
    k0_pay2 i x0 x2 x1 (ix2 7 d) = if (i 1).val = 0 then 0 else x0 (ix3 0 7 d) := by
  refine (pay2_eq i x0 x2 x1 _).trans ?_
  refine (cat_first _ _ _ d).trans ?_
  rw [show Scalar.cmpi .sgt (BitVec.ofNat 32 (i 1).val) 0#32 = if (i 1).val = 0 then 0#1 else 1#1 from before_word (i 1)]
  by_cases h : (i 1).val = 0
  · rw [if_pos h, if_pos h]
    exact Ideal.ofBits_zero_f32
  · rw [if_neg h, if_neg h]
    exact halo_apply x0 7 d

/-- The rows of the block itself. -/
theorem row_in (i : grid0.Coords) (x0 x2 : Vec Ideal S1x8x1024 .f32) (x1 : Vec Ideal S1x512x1024 .f32) (r : Fin 512) (d : Fin 1024) :
    k0_pay2 i x0 x2 x1 (ix2 ⟨r.val + 8, by have := r.isLt; omega⟩ d) = x1 (ix3 0 r d) := by
  refine (pay2_eq i x0 x2 x1 _).trans ?_
  refine (cat_mid _ _ _ r d).trans ?_
  refine (shapeCast_dropUnit_apply ![512, 1024] x1 shapeCasts_S1x512x1024_S512x1024 (ix2 r d)).trans (congrArg x1 (funext fun a => ?_))
  match a with
  | ⟨0, _⟩ => rfl
  | ⟨1, _⟩ => rfl
  | ⟨2, _⟩ => rfl

/-- The first row after the block: a token's, or zeros after the last. -/
theorem row_after (i : grid0.Coords) (x0 x2 : Vec Ideal S1x8x1024 .f32) (x1 : Vec Ideal S1x512x1024 .f32) (d : Fin 1024) :
    k0_pay2 i x0 x2 x1 (ix2 520 d) = if (i 1).val = 31 then 0 else x2 (ix3 0 0 d) := by
  refine (pay2_eq i x0 x2 x1 _).trans ?_
  refine (cat_last _ _ _ d).trans ?_
  rw [show Scalar.cmpi .slt (BitVec.ofNat 32 (i 1).val) 31#32 = if (i 1).val = 31 then 0#1 else 1#1 from after_word (i 1)]
  by_cases h : (i 1).val = 31
  · rw [if_pos h, if_pos h]
    exact Ideal.ofBits_zero_f32
  · rw [if_neg h, if_neg h]
    exact halo_apply x2 0 d

end Cert.Kernel2Ideal.Ffn
end
-- ==== Proof.Ffn.Out.lean ====
module

public import proofs.«01_k».proof.Proof.Ffn.HostV
public import proofs.«01_k».proof.Proof.Ffn.Norm
public import Idealize.ShloMosaic.Lib.Pipeline.ValueKit.Geometry

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem Idealize.ShloMosaic.ValueIdx
open scoped BigOperators

/-! ## The blocks of the launch at an element -/

/-- The sequence of a point. -/
abbrev pb (t : Fin cfg0.N) : Fin 2 := cfg0.grid.coords t 0
/-- The block of tokens of a point. -/
abbrev pi (t : Fin cfg0.N) : Fin 32 := cfg0.grid.coords t 1

theorem w0_0 : ∀ t : Fin cfg0.N, win0_0.index t 0 = (pb t).val := by decide +kernel
theorem w0_1 : ∀ t : Fin cfg0.N, win0_0.index t 1 = 64 * (pi t).val - 1 := by decide +kernel
theorem w1_0 : ∀ t : Fin cfg0.N, win0_1.index t 0 = (pb t).val := by decide +kernel
theorem w1_1 : ∀ t : Fin cfg0.N, win0_1.index t 1 = (pi t).val := by decide +kernel
theorem w2_0 : ∀ t : Fin cfg0.N, win0_2.index t 0 = (pb t).val := by decide +kernel
theorem w2_1 : ∀ t : Fin cfg0.N, win0_2.index t 1 = min (64 * ((pi t).val + 1)) 2047 := by decide +kernel
theorem w8_0 : ∀ t : Fin cfg0.N, win0_8.index t 0 = (pb t).val := by decide +kernel
theorem w8_1 : ∀ t : Fin cfg0.N, win0_8.index t 1 = (pi t).val := by decide +kernel

variable (m : (ℓ : Loc nD τ sig) → Buf (Elt Ideal) ℓ) (c : Dev nD)

/-- The rows before the block, of any array. -/
theorem place_0 (t : Fin cfg0.N) (k : Fin 8) (d : Fin 1024) (A : Vec Ideal S2x16384x1024 .f32) :
    ((cfg0.win 0).blk t).view.read (Elt Ideal) A (ix3 0 k d : S1x8x1024.Idx)
      = A (ix3 (pb t) ⟨(64 * (pi t).val - 1) * 8 + k.val, by have := (pi t).isLt; have := k.isLt; omega⟩ d) := by
  rw [View.read_apply]
  refine congrArg A (funext fun a => Fin.ext ?_)
  match a with
  | ⟨0, _⟩ => exact (Pipeline.Window.rect_emb_val win0_0 t _ 0 rfl).trans (by rw [w0_0]; show (pb t).val * 1 + 0 = (pb t).val; omega)
  | ⟨1, _⟩ => exact (Pipeline.Window.rect_emb_val win0_0 t _ 1 rfl).trans (by rw [w0_1]; rfl)
  | ⟨2, _⟩ => exact (Pipeline.Window.rect_emb_val win0_0 t _ 2 rfl).trans (by rw [show win0_0.index t 2 = 0 from rfl, Nat.zero_mul, Nat.zero_add]; rfl)

/-- The block's own rows, of any array. -/
theorem place_1 (t : Fin cfg0.N) (r : Fin 512) (d : Fin 1024) (A : Vec Ideal S2x16384x1024 .f32) :
    ((cfg0.win 1).blk t).view.read (Elt Ideal) A (ix3 0 r d : S1x512x1024.Idx)
      = A (ix3 (pb t) ⟨(pi t).val * 512 + r.val, by have := (pi t).isLt; have := r.isLt; omega⟩ d) := by
  rw [View.read_apply]
  refine congrArg A (funext fun a => Fin.ext ?_)
  match a with
  | ⟨0, _⟩ => exact (Pipeline.Window.rect_emb_val win0_1 t _ 0 rfl).trans (by rw [w1_0]; show (pb t).val * 1 + 0 = (pb t).val; omega)
  | ⟨1, _⟩ => exact (Pipeline.Window.rect_emb_val win0_1 t _ 1 rfl).trans (by rw [w1_1]; rfl)
  | ⟨2, _⟩ => exact (Pipeline.Window.rect_emb_val win0_1 t _ 2 rfl).trans (by rw [show win0_1.index t 2 = 0 from rfl, Nat.zero_mul, Nat.zero_add]; rfl)

/-- The rows after the block, of any array. -/
theorem place_2 (t : Fin cfg0.N) (k : Fin 8) (d : Fin 1024) (A : Vec Ideal S2x16384x1024 .f32) :
    ((cfg0.win 2).blk t).view.read (Elt Ideal) A (ix3 0 k d : S1x8x1024.Idx)
      = A (ix3 (pb t) ⟨min (64 * ((pi t).val + 1)) 2047 * 8 + k.val, by have := (pi t).isLt; have := k.isLt; omega⟩ d) := by
  rw [View.read_apply]
  refine congrArg A (funext fun a => Fin.ext ?_)
  match a with
  | ⟨0, _⟩ => exact (Pipeline.Window.rect_emb_val win0_2 t _ 0 rfl).trans (by rw [w2_0]; show (pb t).val * 1 + 0 = (pb t).val; omega)
  | ⟨1, _⟩ => exact (Pipeline.Window.rect_emb_val win0_2 t _ 1 rfl).trans (by rw [w2_1]; rfl)
  | ⟨2, _⟩ => exact (Pipeline.Window.rect_emb_val win0_2 t _ 2 rfl).trans (by rw [show win0_2.index t 2 = 0 from rfl, Nat.zero_mul, Nat.zero_add]; rfl)

/-- The five operands that every point takes whole, of any array. -/
theorem place_3 (t : Fin cfg0.N) (A : Vec Ideal S1024x5632 .bf16) : ((cfg0.win 3).blk t).view.read (Elt Ideal) A = A := by
  funext y
  rw [View.read_apply]
  refine congrArg A (funext fun a => Fin.ext ?_)
  match a with
  | ⟨0, _⟩ => exact (Pipeline.Window.rect_emb_val win0_3 t _ 0 rfl).trans (by rw [show win0_3.index t 0 = 0 from rfl, Nat.zero_mul, Nat.zero_add]; rfl)
  | ⟨1, _⟩ => exact (Pipeline.Window.rect_emb_val win0_3 t _ 1 rfl).trans (by rw [show win0_3.index t 1 = 0 from rfl, Nat.zero_mul, Nat.zero_add]; rfl)
theorem place_4 (t : Fin cfg0.N) (A : Vec Ideal S2816x1024 .bf16) : ((cfg0.win 4).blk t).view.read (Elt Ideal) A = A := by
  funext y
  rw [View.read_apply]
  refine congrArg A (funext fun a => Fin.ext ?_)
  match a with
  | ⟨0, _⟩ => exact (Pipeline.Window.rect_emb_val win0_4 t _ 0 rfl).trans (by rw [show win0_4.index t 0 = 0 from rfl, Nat.zero_mul, Nat.zero_add]; rfl)
  | ⟨1, _⟩ => exact (Pipeline.Window.rect_emb_val win0_4 t _ 1 rfl).trans (by rw [show win0_4.index t 1 = 0 from rfl, Nat.zero_mul, Nat.zero_add]; rfl)
theorem place_5 (t : Fin cfg0.N) (A : Vec Ideal S8x5632 .f32) : ((cfg0.win 5).blk t).view.read (Elt Ideal) A = A := by
  funext y
  rw [View.read_apply]
  refine congrArg A (funext fun a => Fin.ext ?_)
  match a with
  | ⟨0, _⟩ => exact (Pipeline.Window.rect_emb_val win0_5 t _ 0 rfl).trans (by rw [show win0_5.index t 0 = 0 from rfl, Nat.zero_mul, Nat.zero_add]; rfl)
  | ⟨1, _⟩ => exact (Pipeline.Window.rect_emb_val win0_5 t _ 1 rfl).trans (by rw [show win0_5.index t 1 = 0 from rfl, Nat.zero_mul, Nat.zero_add]; rfl)
theorem place_6 (t : Fin cfg0.N) (A : Vec Ideal S1x1024 .f32) : ((cfg0.win 6).blk t).view.read (Elt Ideal) A = A := by
  funext y
  rw [View.read_apply]
  refine congrArg A (funext fun a => Fin.ext ?_)
  match a with
  | ⟨0, _⟩ => exact (Pipeline.Window.rect_emb_val win0_6 t _ 0 rfl).trans (by rw [show win0_6.index t 0 = 0 from rfl, Nat.zero_mul, Nat.zero_add]; rfl)
  | ⟨1, _⟩ => exact (Pipeline.Window.rect_emb_val win0_6 t _ 1 rfl).trans (by rw [show win0_6.index t 1 = 0 from rfl, Nat.zero_mul, Nat.zero_add]; rfl)
theorem place_7 (t : Fin cfg0.N) (A : Vec Ideal S1x1024 .f32) : ((cfg0.win 7).blk t).view.read (Elt Ideal) A = A := by
  funext y
  rw [View.read_apply]
  refine congrArg A (funext fun a => Fin.ext ?_)
  match a with
  | ⟨0, _⟩ => exact (Pipeline.Window.rect_emb_val win0_7 t _ 0 rfl).trans (by rw [show win0_7.index t 0 = 0 from rfl, Nat.zero_mul, Nat.zero_add]; rfl)
  | ⟨1, _⟩ => exact (Pipeline.Window.rect_emb_val win0_7 t _ 1 rfl).trans (by rw [show win0_7.index t 1 = 0 from rfl, Nat.zero_mul, Nat.zero_add]; rfl)

/-- The blocks of the operands. -/
theorem iblk_0 (t : Fin cfg0.N) (k : Fin 8) (d : Fin 1024) :
    (iblk m c 0 t : Vec Ideal S1x8x1024 .f32) (ix3 0 k d) = (m (c.tc.loc main_arg0) : Vec Ideal S2x16384x1024 .f32) (ix3 (pb t) ⟨(64 * (pi t).val - 1) * 8 + k.val, by have := (pi t).isLt; have := k.isLt; omega⟩ d) := by
  have e : V m c (Pipeline.arrRef spec0 0) = m (c.tc.loc main_arg0) := V_x m c
  unfold iblk
  rw [e]
  exact place_0 t k d _
theorem iblk_1 (t : Fin cfg0.N) (r : Fin 512) (d : Fin 1024) :
    (iblk m c 1 t : Vec Ideal S1x512x1024 .f32) (ix3 0 r d) = (m (c.tc.loc main_arg0) : Vec Ideal S2x16384x1024 .f32) (ix3 (pb t) ⟨(pi t).val * 512 + r.val, by have := (pi t).isLt; have := r.isLt; omega⟩ d) := by
  have e : V m c (Pipeline.arrRef spec0 1) = m (c.tc.loc main_arg0) := V_x m c
  unfold iblk
  rw [e]
  exact place_1 t r d _
theorem iblk_2 (t : Fin cfg0.N) (k : Fin 8) (d : Fin 1024) :
    (iblk m c 2 t : Vec Ideal S1x8x1024 .f32) (ix3 0 k d) = (m (c.tc.loc main_arg0) : Vec Ideal S2x16384x1024 .f32) (ix3 (pb t) ⟨min (64 * ((pi t).val + 1)) 2047 * 8 + k.val, by have := (pi t).isLt; have := k.isLt; omega⟩ d) := by
  have e : V m c (Pipeline.arrRef spec0 2) = m (c.tc.loc main_arg0) := V_x m c
  unfold iblk
  rw [e]
  exact place_2 t k d _
theorem iblk_3 (t : Fin cfg0.N) : (iblk m c 3 t : Vec Ideal S1024x5632 .bf16) = (m (c.tc.loc main_arg1) : FVec Ideal S1024x5632 .f32) := by
  have e : V m c (Pipeline.arrRef spec0 3) = (truncf .bf16 (m (c.tc.loc main_arg1) : FVec Ideal S1024x5632 .f32) bitsLt_bf16_f32 : FVec Ideal S1024x5632 .bf16) := V_wu m c
  unfold iblk
  rw [e]
  exact place_3 t _
theorem iblk_4 (t : Fin cfg0.N) : (iblk m c 4 t : Vec Ideal S2816x1024 .bf16) = (m (c.tc.loc main_arg4) : FVec Ideal S2816x1024 .f32) := by
  have e : V m c (Pipeline.arrRef spec0 4) = (truncf .bf16 (m (c.tc.loc main_arg4) : FVec Ideal S2816x1024 .f32) bitsLt_bf16_f32 : FVec Ideal S2816x1024 .bf16) := V_wd m c
  unfold iblk
  rw [e]
  exact place_4 t _
theorem iblk_5 (t : Fin cfg0.N) : (iblk m c 5 t : Vec Ideal S8x5632 .f32) = cwArr (m (c.tc.loc main_arg2)) (m (c.tc.loc main_arg3)) := by
  have e : V m c (Pipeline.arrRef spec0 5) = cwArr (m (c.tc.loc main_arg2)) (m (c.tc.loc main_arg3)) := V_cw m c
  unfold iblk
  rw [e]
  exact place_5 t _
theorem iblk_6 (t : Fin cfg0.N) : (iblk m c 6 t : Vec Ideal S1x1024 .f32) = rowArr (m (c.tc.loc main_arg5)) := by
  have e : V m c (Pipeline.arrRef spec0 6) = rowArr (m (c.tc.loc main_arg5)) := V_g m c
  unfold iblk
  rw [e]
  exact place_6 t _
theorem iblk_7 (t : Fin cfg0.N) : (iblk m c 7 t : Vec Ideal S1x1024 .f32) = rowArr (m (c.tc.loc main_arg6)) := by
  have e : V m c (Pipeline.arrRef spec0 7) = rowArr (m (c.tc.loc main_arg6)) := V_b m c
  unfold iblk
  rw [e]
  exact place_7 t _

/-! ## What the body leaves at a point -/

/-- The rows of a point with their neighbours are the rows of the sequence. -/
theorem rows (t : Fin cfg0.N) (ρ : Fin 528) (h0 : 7 ≤ ρ.val) (h1 : ρ.val ≤ 520) (d : Fin 1024) :
    k0_pay2 (cfg0.grid.coords t) (iblk m c 0 t) (iblk m c 2 t) (iblk m c 1 t) (ix2 ρ d) = rowAt (m (c.tc.loc main_arg0)) (pb t) ((pi t).val * 512 + (ρ.val - 7)) d := by
  have hi := (pi t).isLt
  rcases Nat.eq_or_lt_of_le h0 with h | h
  · obtain rfl : ρ = 7 := Fin.ext h.symm
    refine (row_before (cfg0.grid.coords t) _ _ _ d).trans ?_
    by_cases hz : (pi t).val = 0
    · rw [if_pos hz, hz]
      exact (rowAt_zero _ _ _).symm
    · rw [if_neg hz]
      refine (iblk_0 m c t 7 d).trans (rowAt_tok _ _ _ _ _ ?_).symm
      show (pi t).val * 512 + (7 - 7) = (64 * (pi t).val - 1) * 8 + 7 + 1
      omega
  · rcases Nat.eq_or_lt_of_le h1 with h' | h'
    · obtain rfl : ρ = 520 := Fin.ext h'
      refine (row_after (cfg0.grid.coords t) _ _ _ d).trans ?_
      by_cases hz : (pi t).val = 31
      · rw [if_pos hz, hz]
        exact (rowAt_end _ _ _).symm
      · rw [if_neg hz]
        refine (iblk_2 m c t 0 d).trans (rowAt_tok _ _ _ _ _ ?_).symm
        show (pi t).val * 512 + (520 - 7) = min (64 * ((pi t).val + 1)) 2047 * 8 + 0 + 1
        omega
    · obtain ⟨r, hr⟩ : ∃ r : Fin 512, ρ.val = r.val + 8 := ⟨⟨ρ.val - 8, by omega⟩, by show ρ.val = ρ.val - 8 + 8; omega⟩
      obtain rfl : ρ = ⟨r.val + 8, Nat.lt_of_lt_of_le (Nat.add_lt_add_right r.isLt 8) (by decide)⟩ := Fin.ext hr
      refine (row_in (cfg0.grid.coords t) _ _ _ r d).trans ((iblk_1 m c t r d).trans (rowAt_tok _ _ _ _ _ ?_).symm)
      show (pi t).val * 512 + (r.val + 8 - 7) = (pi t).val * 512 + r.val + 1
      omega

/-- The token of a row of a point. -/
abbrev tok (t : Fin cfg0.N) (r : Fin 512) : Fin 16384 := ⟨(pi t).val * 512 + r.val, by have := (pi t).isLt; have := r.isLt; omega⟩

theorem up_point (t : Fin cfg0.N) (ρ : Fin 528) (h0 : 7 ≤ ρ.val) (h1 : ρ.val ≤ 520) (f : Fin 5632) :
    upAt (k0_pay2 (cfg0.grid.coords t) (iblk m c 0 t) (iblk m c 2 t) (iblk m c 1 t)) (iblk m c 3 t) ρ f
      = proj (m (c.tc.loc main_arg0)) (m (c.tc.loc main_arg1)) (pb t) ((pi t).val * 512 + (ρ.val - 7)) f := by
  rw [iblk_3]
  exact Finset.sum_congr rfl fun d _ => congrArg (· * (m (c.tc.loc main_arg1) : FVec Ideal S1024x5632 .f32) (ix2 d f)) (rows m c t ρ h0 h1 d)

theorem conv_point (t : Fin cfg0.N) (r : Fin 512) (f : Fin 5632) :
    convAt (k0_pay2 (cfg0.grid.coords t) (iblk m c 0 t) (iblk m c 2 t) (iblk m c 1 t)) (iblk m c 3 t) (iblk m c 5 t) r f
      = conv (m (c.tc.loc main_arg0)) (m (c.tc.loc main_arg1)) (m (c.tc.loc main_arg2)) (m (c.tc.loc main_arg3)) (pb t) (tok t r) f := by
  have hr := r.isLt
  unfold convAt conv
  rw [iblk_5, up_point m c t _ (by show 7 ≤ r.val + 7; omega) (by show r.val + 7 ≤ 520; omega), up_point m c t _ (by show 7 ≤ r.val + 8; omega) (by show r.val + 8 ≤ 520; omega),
    up_point m c t _ (by show 7 ≤ r.val + 9; omega) (by show r.val + 9 ≤ 520; omega)]
  exact congrArg₂ (· + ·) (congrArg₂ (· + ·) (congrArg₂ (· + ·) (congrArg₂ (· * ·) rfl (cwArr_weight _ _ 0 f)) (congrArg₂ (· * ·) rfl (cwArr_weight _ _ 1 f))) (congrArg₂ (· * ·) rfl (cwArr_weight _ _ 2 f))) (cwArr_bias _ _ f)

/-- The block of a point, at an element: the feed-forward network and its norm. -/
theorem point_val (t : Fin cfg0.N) (r : Fin 512) (e : Fin 1024) :
    k0_pay1 (k0_pay48 (acts (k0_pay2 (cfg0.grid.coords t) (iblk m c 0 t) (iblk m c 2 t) (iblk m c 1 t)) (iblk m c 3 t) (iblk m c 5 t)) (iblk m c 4 t) (iblk m c 1 t) (iblk m c 6 t)) (k0_pay49 (iblk m c 7 t)) (ix3 0 r e)
      = ffnArr (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (pb t) (tok t r) e) := by
  rw [last_apply]
  show _ = lnorm (res _ _ _ _ _ (pb t) (tok t r)) (fun e => (m (c.tc.loc main_arg5) : FVec Ideal S1024 .f32) (ix1 e)) (fun e => (m (c.tc.loc main_arg6) : FVec Ideal S1024 .f32) (ix1 e)) e
  have hz : (fun e => Ideal.ofBits .f32 0x3FD744FD#32 * (iblk m c 1 t : Vec Ideal S1x512x1024 .f32) (ix3 0 r e)
      + ∑ f : Fin 2816, acts (k0_pay2 (cfg0.grid.coords t) (iblk m c 0 t) (iblk m c 2 t) (iblk m c 1 t)) (iblk m c 3 t) (iblk m c 5 t) (ix2 r f) * (iblk m c 4 t : Vec Ideal S2816x1024 .bf16) (ix2 f e))
      = res (m (c.tc.loc main_arg0)) (m (c.tc.loc main_arg1)) (m (c.tc.loc main_arg2)) (m (c.tc.loc main_arg3)) (m (c.tc.loc main_arg4)) (pb t) (tok t r) := funext fun e => by
    rw [iblk_1, iblk_4]
    refine congrArg (_ + ·) (Finset.sum_congr rfl fun f _ => congrArg (· * _) ?_)
    rw [acts_apply]
    unfold actAt act
    rw [conv_point, conv_point]
  have hg : (fun e => (iblk m c 6 t : Vec Ideal S1x1024 .f32) (ix2 0 e)) = fun e => (m (c.tc.loc main_arg5) : FVec Ideal S1024 .f32) (ix1 e) := funext fun e => by rw [iblk_6]; exact rowArr_apply _ e
  have hb : (fun e => (iblk m c 7 t : Vec Ideal S1x1024 .f32) (ix2 0 e)) = fun e => (m (c.tc.loc main_arg6) : FVec Ideal S1024 .f32) (ix1 e) := funext fun e => by rw [iblk_7]; exact rowArr_apply _ e
  rw [hz, hg, hb]

/-- The place in the result of an element of a point's block. -/
theorem emb_out (t : Fin cfg0.N) (r : Fin 512) (e : Fin 1024) :
    (((cfg0.win 8).blk t).view.emb (ix3 0 r e : S1x512x1024.Idx) : S2x16384x1024.Idx) = ix3 (pb t) (tok t r) e := by
  funext a
  apply Fin.ext
  match a with
  | ⟨0, _⟩ => exact (Pipeline.Window.rect_emb_val win0_8 t _ 0 rfl).trans (by rw [w8_0]; show (pb t).val * 1 + 0 = (pb t).val; omega)
  | ⟨1, _⟩ => exact (Pipeline.Window.rect_emb_val win0_8 t _ 1 rfl).trans (by rw [w8_1]; rfl)
  | ⟨2, _⟩ => exact (Pipeline.Window.rect_emb_val win0_8 t _ 2 rfl).trans (by rw [show win0_8.index t 2 = 0 from rfl, Nat.zero_mul, Nat.zero_add]; rfl)

/-- The blocks of the result cover it. -/
theorem covers_out : (cfg0.win 8).Covers := by decide +kernel

end Cert.Kernel2Ideal.Ffn
end
-- ==== Proof.Ffn.Ref.lean ====
module

public import proofs.«01_k».proof.Proof.Gen.Reference2Ideal.Read
public import proofs.«01_k».proof.Proof.Ffn.Form
public import Idealize.ShloMosaic.Lib.IdealHost
public import Idealize.ShloMosaic.Lib.KernelVsHost
public import Idealize.ShloMosaic.Lib.ValueIdx

@[expose] public section

set_option maxRecDepth 16384

noncomputable section

namespace Cert.Reference2Ideal.Ffn

open Cert.Reference2Ideal Cert.Reference2Ideal.Read Cert.Ffn
open Idealize.ShloMosaic Idealize.ShloMosaic.ValueIdx
open scoped BigOperators

/-! ## The reference at an element -/

variable (x : XX) (w : WU) (cw : CW) (cb : CB) (wd : WD) (g bi : GG)

/-- A token widened. -/
theorem v0_at (b : Fin 2) (s : Fin 16384) (f : Fin 5632) (n : ℕ) (hn : n = s.val + 1) : val_main_v0 (F := Ideal) x w (ix3 b s f) = proj x w b n f := by
  rw [val_main_v0_apply]
  refine Finset.sum_congr rfl fun d _ => congrArg₂ (· * ·) ?_ (congrArg w (funext fun a => match a with
    | ⟨0, _⟩ => rfl
    | ⟨1, _⟩ => rfl))
  have e : lidx_main_v0 (ix3 b s f) d = ix3 b s d := funext fun a => match a with
    | ⟨0, _⟩ => rfl
    | ⟨1, _⟩ => rfl
    | ⟨2, _⟩ => rfl
  rw [e]
  exact (rowAt_tok x b n d s hn).symm

/-- The token before, or zeros. -/
theorem v2_at (b : Fin 2) (s : Fin 16384) (f : Fin 5632) : val_main_v2 (F := Ideal) x w (ix3 b s f) = proj x w b s.val f := by
  have hs := s.isLt
  unfold val_main_v2
  by_cases h : s.val = 0
  · rw [pad_apply_of_not_inside _ _ _ _ _ _ _ _ 1 (fun hin => absurd (show 1 ≤ s.val from hin.1) (by omega)), h, proj_zero]
    exact sitofp_zero (φ := .f32)
  · rw [pad_apply_of_inside _ _ _ _ _ _ _ _ (ix3 b (⟨s.val - 1, by omega⟩ : Fin 16383) f : S2x16383x5632.Idx) (fun a => match a with
      | ⟨0, _⟩ => show b.val = 0 + b.val * (0 + 1) by omega
      | ⟨1, _⟩ => show s.val = 1 + (s.val - 1) * (0 + 1) by omega
      | ⟨2, _⟩ => show f.val = 0 + f.val * (0 + 1) by omega), val_main_v1_apply]
    have e : idx_main_v1 (ix3 b (⟨s.val - 1, by omega⟩ : Fin 16383) f) = ix3 b (⟨s.val - 1, by omega⟩ : Fin 16384) f := funext fun a => match a with
      | ⟨0, _⟩ => rfl
      | ⟨1, _⟩ => rfl
      | ⟨2, _⟩ => rfl
    rw [e]
    exact (v0_at x w b (⟨s.val - 1, by omega⟩ : Fin 16384) f s.val (by show s.val = s.val - 1 + 1; omega))

/-- The token after, or zeros. -/
theorem v4_at (b : Fin 2) (s : Fin 16384) (f : Fin 5632) : val_main_v4 (F := Ideal) x w (ix3 b s f) = proj x w b (s.val + 2) f := by
  have hs := s.isLt
  unfold val_main_v4
  by_cases h : s.val = 16383
  · rw [pad_apply_of_not_inside _ _ _ _ _ _ _ _ 1 (fun hin => absurd (show (s.val - 0) / (0 + 1) < 16383 from hin.2.2) (by omega)), h, proj_end]
    exact sitofp_zero (φ := .f32)
  · rw [pad_apply_of_inside _ _ _ _ _ _ _ _ (ix3 b (⟨s.val, by omega⟩ : Fin 16383) f : S2x16383x5632.Idx) (fun a => match a with
      | ⟨0, _⟩ => show b.val = 0 + b.val * (0 + 1) by omega
      | ⟨1, _⟩ => show s.val = 0 + s.val * (0 + 1) by omega
      | ⟨2, _⟩ => show f.val = 0 + f.val * (0 + 1) by omega), val_main_v3_apply]
    have e : idx_main_v3 (ix3 b (⟨s.val, by omega⟩ : Fin 16383) f) = ix3 b (⟨1 + s.val, by omega⟩ : Fin 16384) f := funext fun a => match a with
      | ⟨0, _⟩ => rfl
      | ⟨1, _⟩ => rfl
      | ⟨2, _⟩ => rfl
    rw [e]
    exact (v0_at x w b (⟨1 + s.val, by omega⟩ : Fin 16384) f (s.val + 2) (by show s.val + 2 = 1 + s.val + 1; omega))

/-- The weights and the bias of the convolution. -/
theorem v8_at (b : Fin 2) (s : Fin 16384) (f : Fin 5632) : val_main_v8 (F := Ideal) cw (ix3 b s f) = cw (ix2 0 f) := by
  rw [val_main_v8_apply, val_main_v7_apply, val_main_v6_apply, val_main_v5_apply]
  exact congrArg cw (funext fun a => match a with
    | ⟨0, _⟩ => rfl
    | ⟨1, _⟩ => Fin.ext (Nat.mod_eq_of_lt f.isLt))
theorem v13_at (b : Fin 2) (s : Fin 16384) (f : Fin 5632) : val_main_v13 (F := Ideal) cw (ix3 b s f) = cw (ix2 1 f) := by
  rw [val_main_v13_apply, val_main_v12_apply, val_main_v11_apply, val_main_v10_apply]
  exact congrArg cw (funext fun a => match a with
    | ⟨0, _⟩ => rfl
    | ⟨1, _⟩ => Fin.ext (Nat.mod_eq_of_lt f.isLt))
theorem v19_at (b : Fin 2) (s : Fin 16384) (f : Fin 5632) : val_main_v19 (F := Ideal) cw (ix3 b s f) = cw (ix2 2 f) := by
  rw [val_main_v19_apply, val_main_v18_apply, val_main_v17_apply, val_main_v16_apply]
  exact congrArg cw (funext fun a => match a with
    | ⟨0, _⟩ => rfl
    | ⟨1, _⟩ => Fin.ext (Nat.mod_eq_of_lt f.isLt))
theorem v23_at (b : Fin 2) (s : Fin 16384) (f : Fin 5632) : val_main_v23 (F := Ideal) cb (ix3 b s f) = cb (ix1 f) := by
  rw [val_main_v23_apply, val_main_v22_apply]
  exact congrArg cb (funext fun a => match a with
    | ⟨0, _⟩ => rfl)

/-- The convolution. -/
theorem v24_at (b : Fin 2) (s : Fin 16384) (f : Fin 5632) : val_main_v24 (F := Ideal) x w cw cb (ix3 b s f) = conv x w cw cb b s f := by
  rw [val_main_v24_apply, val_main_v21_apply, val_main_v15_apply, val_main_v9_apply, val_main_v14_apply, val_main_v20_apply,
    v2_at, v4_at, v0_at x w b s f (s.val + 1) rfl, v8_at, v13_at, v19_at, v23_at]
  rfl

/-- The gated activations. -/
theorem v28_at (b : Fin 2) (s : Fin 16384) (f : Fin 2816) : val_main_v28 (F := Ideal) x w cw cb (ix3 b s f) = act x w cw cb b s f := by
  have e0 : val_main_v25 (F := Ideal) x w cw cb (ix3 b s f) = conv x w cw cb b s ⟨f.val, by have := f.isLt; omega⟩ := by
    have e : idx_main_v25 (ix3 b s f) = ix3 b s ⟨f.val, by have := f.isLt; omega⟩ := funext fun a => match a with
      | ⟨0, _⟩ => rfl
      | ⟨1, _⟩ => rfl
      | ⟨2, _⟩ => rfl
    rw [val_main_v25_apply, e]
    exact v24_at x w cw cb b s ⟨f.val, by have := f.isLt; omega⟩
  have e1 : val_main_v26 (F := Ideal) x w cw cb (ix3 b s f) = conv x w cw cb b s ⟨2816 + f.val, by have := f.isLt; omega⟩ := by
    have e : idx_main_v26 (ix3 b s f) = ix3 b s ⟨2816 + f.val, by have := f.isLt; omega⟩ := funext fun a => match a with
      | ⟨0, _⟩ => rfl
      | ⟨1, _⟩ => rfl
      | ⟨2, _⟩ => rfl
    rw [val_main_v26_apply, e]
    exact v24_at x w cw cb b s ⟨2816 + f.val, by have := f.isLt; omega⟩
  rw [val_main_v28_apply, val_main_v27_apply, val_main_call2_v5_apply, val_main_call2_v3_apply, val_main_call2_v1_apply, val_main_call2_v0_apply,
    val_main_call2_v4_apply, val_main_call2_v2_apply, val_main_call2_cst_apply, val_main_call2_cst_0_apply, e0, e1]
  show conv x w cw cb b s ⟨f.val, _⟩ * Ideal.div (Ideal.ofBits .f32 0x3F800000#32) (Ideal.ofBits .f32 0x3F800000#32 + Ideal.exp (-conv x w cw cb b s ⟨f.val, _⟩)) * _ = _
  rw [Ideal.ofBits_one_f32]
  rfl

/-- The rows before their norm. -/
theorem v32_at (b : Fin 2) (s : Fin 16384) (e : Fin 1024) : val_main_v32 (F := Ideal) x w cw cb wd (ix3 b s e) = res x w cw cb wd b s e := by
  rw [val_main_v32_apply, val_main_v31_apply, val_main_v30_apply, val_main_cst_apply, val_main_v29_apply]
  refine congrArg (Ideal.ofBits .f32 0x3FD744FD#32 * x (ix3 b s e) + ·) (Finset.sum_congr rfl fun f _ => congrArg₂ (· * ·) ?_ (congrArg wd (funext fun a => match a with
    | ⟨0, _⟩ => rfl
    | ⟨1, _⟩ => rfl)))
  have e' : lidx_main_v29 (ix3 b s e) f = ix3 b s f := funext fun a => match a with
    | ⟨0, _⟩ => rfl
    | ⟨1, _⟩ => rfl
    | ⟨2, _⟩ => rfl
  rw [e']
  exact (v28_at x w cw cb b s f)

/-- The rows less their means. -/
theorem v38_at (b : Fin 2) (s : Fin 16384) (e : Fin 1024) : val_main_v38 (F := Ideal) x w cw cb wd (ix3 b s e) = res x w cw cb wd b s e - mean (res x w cw cb wd b s) := by
  rw [val_main_v38_apply, val_main_v37_apply, val_main_v36_apply, val_main_v35_apply, val_main_cst_2_apply, val_main_v34_apply, val_main_v33_apply, val_main_cst_1_apply, v32_at]
  refine congrArg (fun v => res x w cw cb wd b s e - Ideal.div v (Ideal.ofBits .f32 0x44800000#32)) ?_
  refine (congrArg (· + _) Ideal.ofBits_zero_f32).trans ((zero_add _).trans (Finset.sum_congr rfl fun k _ => ?_))
  have e' : idx_main_v33 (idx_main_v34 (idx_main_v37 (ix3 b s e))) k = ix3 b s k := funext fun a => match a with
    | ⟨0, _⟩ => rfl
    | ⟨1, _⟩ => rfl
    | ⟨2, _⟩ => rfl
  rw [e']
  exact (v32_at x w cw cb wd b s k)

/-- The scale of a row. -/
theorem v47_at (b : Fin 2) (s : Fin 16384) (e : Fin 1024) : val_main_v47 (F := Ideal) x w cw cb wd (ix3 b s e)
    = Ideal.rsqrt (mean (fun e => (res x w cw cb wd b s e - mean (res x w cw cb wd b s)) * (res x w cw cb wd b s e - mean (res x w cw cb wd b s))) + Ideal.ofBits .f32 0x3727C5AC#32) := by
  rw [val_main_v47_apply, val_main_v46_apply, val_main_v45_apply, val_main_v44_apply, val_main_cst_5_apply, val_main_v43_apply, val_main_v42_apply, val_main_cst_4_apply, val_main_v41_apply,
    val_main_v40_apply, val_main_cst_3_apply]
  refine congrArg (fun v => Ideal.rsqrt (Ideal.div v (Ideal.ofBits .f32 0x44800000#32) + Ideal.ofBits .f32 0x3727C5AC#32)) ?_
  refine (congrArg (· + _) Ideal.ofBits_zero_f32).trans ((zero_add _).trans (Finset.sum_congr rfl fun k _ => ?_))
  rw [val_main_v39_apply]
  have e' : idx_main_v40 (idx_main_v41 (idx_main_v47 (ix3 b s e))) k = ix3 b s k := funext fun a => match a with
    | ⟨0, _⟩ => rfl
    | ⟨1, _⟩ => rfl
    | ⟨2, _⟩ => rfl
  rw [e', v38_at]
  rfl

/-- The scale and the shift of the norm. -/
theorem v50_at (b : Fin 2) (s : Fin 16384) (e : Fin 1024) : val_main_v50 (F := Ideal) g (ix3 b s e) = g (ix1 e) := by
  rw [val_main_v50_apply, val_main_v49_apply]
  exact congrArg g (funext fun a => match a with
    | ⟨0, _⟩ => rfl)
theorem v53_at (b : Fin 2) (s : Fin 16384) (e : Fin 1024) : val_main_v53 (F := Ideal) bi (ix3 b s e) = bi (ix1 e) := by
  rw [val_main_v53_apply, val_main_v52_apply]
  exact congrArg bi (funext fun a => match a with
    | ⟨0, _⟩ => rfl)

/-- The reference's result is the feed-forward network with its norm. -/
theorem ref_at : val_main_v54 (F := Ideal) x w cw cb wd g bi = ffnArr x w cw cb wd g bi := by
  funext i
  obtain ⟨b, s, e, rfl⟩ : ∃ (b : Fin 2) (s : Fin 16384) (e : Fin 1024), i = ix3 b s e := ⟨i 0, i 1, i 2, funext fun a => match a with
    | ⟨0, _⟩ => rfl
    | ⟨1, _⟩ => rfl
    | ⟨2, _⟩ => rfl⟩
  rw [val_main_v54_apply, val_main_v51_apply, val_main_v48_apply, v38_at, v47_at, v50_at, v53_at]
  rfl

end Cert.Reference2Ideal.Ffn
end
-- ==== Proof.Ffn.Alg.lean ====
module

public import proofs.«01_k».proof.Proof.Ffn.Out
public import proofs.«01_k».proof.Proof.Ffn.Ref
public import proofs.«01_k».proof.Proof.Gen.Reference2Ideal.Run

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem Idealize.ShloMosaic.ValueIdx

/-! ## Both programs compute the feed-forward network with its norm -/

/-- The array the launch leaves. -/
theorem out_ffn (m : (ℓ : Loc nD τ sig) → Buf (Elt Ideal) ℓ) (c : Dev nD) :
    (dats m 0 c).arrAt 8 cfg0.N
      = ffnArr (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine Pipeline.Dat.arrAt_eq_of_covers _ 8 _ covers_out fun t hf y => ?_
  have h := Value.flushed8_A m c t
  rw [out_val] at h
  refine (congrFun h y).trans ?_
  obtain ⟨r, e, hy⟩ : ∃ (r : Fin 512) (e : Fin 1024), (y : S1x512x1024.Idx) = (ix3 0 r e : S1x512x1024.Idx) := ⟨y 1, y 2, funext fun a => match a with
    | ⟨0, _⟩ => Subsingleton.elim (α := Fin 1) _ _
    | ⟨1, _⟩ => rfl
    | ⟨2, _⟩ => rfl⟩
  obtain rfl := hy
  exact (point_val m c t r e).trans (congrArg (ffnArr _ _ _ _ _ _ _) (emb_out t r e).symm)

/-- The kernel ends with the network of its arguments in its result, and its arguments as they were. -/
theorem run_ffn (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v7) = ffnArr (m (c.tc.loc main_arg0)) (m (c.tc.loc main_arg1)) (m (c.tc.loc main_arg2)) (m (c.tc.loc main_arg3)) (m (c.tc.loc main_arg4)) (m (c.tc.loc main_arg5)) (m (c.tc.loc main_arg6))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)) :=
  (θ_run defs _ _).mono (fun r h c => ⟨(h c).1.trans (out_ffn m c), (h c).2⟩) (Value.run_blocks (F := Ideal) m ρ)

end Cert.Kernel2Ideal.Ffn

namespace Cert.Reference2Ideal.Ffn

open Cert.Reference2Ideal Cert.Ffn
open Idealize.ShloMosaic Idealize.ShloMosaic.TcCoe Idealize.SL.Sem

/-- The reference ends with the network of the same arrays in its result, and its arguments as they were. -/
theorem run_ffn (m : (ℓ : Loc nD τ sig) → Buf (Elt Ideal) ℓ) (ρ : Dev nD → PrngReg) {x : Dev nD → XX} {w : Dev nD → WU} {cw : Dev nD → CW} {cb : Dev nD → CB} {wd : Dev nD → WD} {g bi : Dev nD → GG}
    (e : ∀ c : Dev nD, m (c.tc.loc main_arg0) = x c ∧ m (c.tc.loc main_arg1) = w c ∧ m (c.tc.loc main_arg2) = cw c ∧ m (c.tc.loc main_arg3) = cb c ∧ m (c.tc.loc main_arg4) = wd c
      ∧ m (c.tc.loc main_arg5) = g c ∧ m (c.tc.loc main_arg6) = bi c) :
    θ_run defs (onTc (τ := τ) (main (F := Ideal))) ⟨m, fun _ => 0, ρ⟩ (fun r => ∀ c : Dev nD,
      r.2.mem (c.tc.loc main_v54) = ffnArr (x c) (w c) (cw c) (cb c) (wd c) (g c) (bi c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)) := by
  refine (θ_run defs _ _).mono (fun r h c => ⟨?_, (h c).2⟩) (Value.run (F := Ideal) m ρ)
  refine (h c).1.trans ((Read.val_main_v54_eq _ _).trans ?_)
  obtain ⟨e0, e1, e2, e3, e4, e5, e6⟩ := e c
  rw [e0, e1, e2, e3, e4, e5, e6]
  exact ref_at (x c) (w c) (cw c) (cb c) (wd c) (g c) (bi c)

end Cert.Reference2Ideal.Ffn
end
-- ==== Proof.Outp.Form.lean ====
module

public import proofs.«01_k».proof.Proof.Ffn.Form

@[expose] public section

noncomputable section

namespace Cert.Outp

open Idealize.ShloMosaic Idealize.ShloMosaic.ValueIdx Cert.Ffn
open scoped BigOperators

/-! ## The output projection with its layer norm, element by element -/

/-- What one of the four mixers makes of the tokens: 256 features each. -/
abbrev YY := (⟨3, ![2, 16384, 256]⟩ : Shape).Idx → EReal
/-- The matrix of the projection. -/
abbrev WO := (⟨2, ![1024, 1024]⟩ : Shape).Idx → EReal

/-- Row `k` of quarter `o` of the matrix. -/
abbrev qrow (o : Fin 4) (k : Fin 256) : Fin 1024 := ⟨o.val * 256 + k.val, by have := o.isLt; have := k.isLt; omega⟩

/-- A sum over the rows of the matrix, one quarter at a time. -/
theorem sum_quarters (f : Fin 1024 → EReal) :
    ∑ k, f k = (∑ k, f (qrow 0 k)) + (∑ k, f (qrow 1 k)) + (∑ k, f (qrow 2 k)) + ∑ k, f (qrow 3 k) := by
  have h : ∑ p : Fin 4 × Fin 256, f (qrow p.1 p.2) = ∑ k, f k := Fintype.sum_equiv (finProdFinEquiv (m := 4) (n := 256)) _ f fun p => congrArg f (Fin.ext (by
    show p.1.val * 256 + p.2.val = p.2.val + 256 * p.1.val
    omega))
  rw [← h, Fintype.sum_prod_type, Fin.sum_univ_four]

/-- One mixer's features through its quarter of the matrix. -/
def part (y : YY) (w : WO) (o : Fin 4) (b : Fin 2) (s : Fin 16384) (e : Fin 1024) : EReal := ∑ k : Fin 256, y (ix3 b s k) * w (ix2 (qrow o k) e)

/-- The token, scaled, plus the projection of the four mixers' features. -/
def pre (x : XX) (ya yb yc yd : YY) (w : WO) (b : Fin 2) (s : Fin 16384) (e : Fin 1024) : EReal :=
  Ideal.ofBits .f32 0x3FD744FD#32 * x (ix3 b s e) + (part ya w 0 b s e + part yb w 1 b s e + part yc w 2 b s e + part yd w 3 b s e)

/-- The whole call. -/
def outArr (x : XX) (ya yb yc yd : YY) (w : WO) (g bi : GG) : XX := fun i =>
  lnorm (pre x ya yb yc yd w (i 0) (i 1)) (fun e => g (ix1 e)) (fun e => bi (ix1 e)) (i 2)

end Cert.Outp
end
-- ==== Proof.Outp.HostV.lean ====
module

public import proofs.«01_k».proof.Proof.Outp.Form
public import proofs.«01_k».proof.Proof.Gen.Kernel4Ideal.Value
public import Idealize.ShloMosaic.Lib.KernelVsHost
public import Idealize.ShloMosaic.Lib.Pipeline.Value
public import Idealize.ShloMosaic.Lib.StableHlo.RunRead
public import Idealize.ShloMosaic.Lib.ValueIdx

@[expose] public section

set_option maxRecDepth 16384

noncomputable section

namespace Cert.Kernel4Ideal.Outp

open Cert.Kernel4Ideal Cert.Kernel4Ideal.Gen
open Idealize.ShloMosaic Idealize.ShloMosaic.TcCoe Idealize.ShloMosaic.ValueIdx

/-! ## The operands that the host prepares -/

/-- A mixer's features with the tokens along the last axis. -/
def turned (y : FVec Ideal S2x16384x256 .f32) : FVec Ideal S2x256x16384 .bf16 :=
  truncf .bf16 (transpose S2x256x16384 [0, 2, 1] y transposes_S2x16384x256_S2x256x16384_0_2_1) bitsLt_bf16_f32

/-- A vector as a matrix of one row. -/
def oneRow (g : FVec Ideal S1024 .f32) : FVec Ideal S1x1024 .f32 := broadcastInDim S1x1024 ![1] bcast_S1024_S1x1024_1 g

variable (m : (ℓ : Loc nD τ sig) → Buf (Elt Ideal) ℓ) (c : Dev nD)

theorem V_x : V m c main_arg0 = m (c.tc.loc main_arg0) := V_main_arg0 m c

theorem V_ya : V m c main_v1 = turned (m (c.tc.loc main_arg1)) := by
  unfold V
  after_reads_simp
  rfl

theorem V_yb : V m c main_v3 = turned (m (c.tc.loc main_arg2)) := by
  unfold V
  after_reads_simp
  rfl

theorem V_yc : V m c main_v4 = (truncf .bf16 (m (c.tc.loc main_arg3) : FVec Ideal S2x16384x256 .f32) bitsLt_bf16_f32 : FVec Ideal S2x16384x256 .bf16) := by
  unfold V
  after_reads_simp

theorem V_yd : V m c main_v6 = turned (m (c.tc.loc main_arg4)) := by
  unfold V
  after_reads_simp
  rfl

theorem V_w : V m c main_v7 = (truncf .bf16 (m (c.tc.loc main_arg5) : FVec Ideal S1024x1024 .f32) bitsLt_bf16_f32 : FVec Ideal S1024x1024 .bf16) := by
  unfold V
  after_reads_simp

theorem V_g : V m c main_v8 = oneRow (m (c.tc.loc main_arg6)) := by
  unfold V
  after_reads_simp
  rfl

theorem V_b : V m c main_v9 = oneRow (m (c.tc.loc main_arg7)) := by
  unfold V
  after_reads_simp
  rfl

theorem turned_apply (y : FVec Ideal S2x16384x256 .f32) (b : Fin 2) (k : Fin 256) (s : Fin 16384) : turned y (ix3 b k s) = y (ix3 b s k) :=
  transpose_apply [0, 2, 1] y transposes_S2x16384x256_S2x256x16384_0_2_1 (ix3 b k s) (ix3 b s k) (fun a => match a with
    | ⟨0, _⟩ => rfl
    | ⟨1, _⟩ => rfl
    | ⟨2, _⟩ => rfl)

theorem oneRow_apply (g : FVec Ideal S1024 .f32) (e : Fin 1024) : oneRow g (ix2 0 e) = g (ix1 e) :=
  broadcastInDim_apply _ bcast_S1024_S1x1024_1 g (ix2 0 e) (ix1 e) (fun a => match a with | ⟨0, _⟩ => rfl)

end Cert.Kernel4Ideal.Outp
end
-- ==== Proof.Outp.Elem.lean ====
module

public import proofs.«01_k».proof.Proof.Outp.Form
public import proofs.«01_k».proof.Proof.Gen.Kernel4Ideal.Value
public import Idealize.ShloMosaic.Lib.KernelVsHost
public import Idealize.ShloMosaic.Lib.MatmulPlain
public import Idealize.ShloMosaic.Lib.Pipeline.Value
public import Idealize.ShloMosaic.Lib.ValueIdx

@[expose] public section

set_option maxRecDepth 16384

noncomputable section

namespace Cert.Kernel4Ideal.Outp

open Cert.Kernel4Ideal Cert.Kernel4Ideal.Gen Cert.Ffn
open Idealize.ShloMosaic Idealize.ShloMosaic.ValueIdx
open scoped BigOperators

/-! ## The body at an element -/

/-- The product of features kept with the tokens along the last axis. -/
abbrev dT := dot_S256x512_S256x1024_S512x1024_0_0_1_1_n_n

theorem dT_left (j : S512x1024.Idx) (q : dT.contr.Idx) : (dT.lhsIdx j q 1).val = (j 0).val := by
  unfold DotDims.lhsIdx
  rw [dif_neg (show ¬(1 : Fin S256x512.rank) ∈ dT.lhsBatch by decide), dif_pos (show (1 : Fin S256x512.rank) ∈ dT.lhsNonContracting by decide)]
  rfl

theorem dT_right (j : S512x1024.Idx) (q : dT.contr.Idx) : (dT.rhsIdx j q 1).val = (j 1).val := by
  unfold DotDims.rhsIdx
  rw [dif_neg (show ¬(1 : Fin S256x1024.rank) ∈ dT.rhsBatch by decide), dif_pos (show (1 : Fin S256x1024.rank) ∈ dT.rhsNonContracting by decide)]
  rfl

/-- That product at an element. -/
theorem turned_dot (A : FVec Ideal S256x512 .bf16) (B : FVec Ideal S256x1024 .bf16) (r : Fin 512) (e : Fin 1024) :
    matmul (φ₁ := .bf16) (φ₂ := .bf16) dT none A B (constant S512x1024 .f32 0x00000000#32) (ix2 r e) = ∑ k : Fin 256, A (ix2 k r) * B (ix2 k e) := by
  refine (Ideal.matmul_apply dT none A B (constant S512x1024 .f32 0x00000000#32) (ix2 r e)).trans ?_
  rw [constant_apply, Ideal.ofBits_zero_f32, zero_add, ← Equiv.sum_comp (ValueIdx.contrEquiv1 dT 256 rfl rfl).symm]
  refine Finset.sum_congr rfl fun k _ => ?_
  have hk := ValueIdx.contrEquiv1_symm_val dT 256 rfl rfl k
  refine congrArg₂ (· * ·) (congrArg A (funext fun a => Fin.ext ?_)) (congrArg B (funext fun a => Fin.ext ?_))
  · match a with
    | ⟨0, _⟩ => exact (dT.lhsIdx_val_of_single rfl _ _).trans hk
    | ⟨1, _⟩ => exact dT_left _ _
  · match a with
    | ⟨0, _⟩ => exact (dT.rhsIdx_val_of_single rfl _ _).trans hk
    | ⟨1, _⟩ => exact dT_right _ _

/-- A block of turned features without its unit axis. -/
theorem flatT (x : Vec Ideal S1x256x512 .bf16) (k : Fin 256) (r : Fin 512) : shapeCast S256x512 x shapeCasts_S1x256x512_S256x512 (ix2 k r) = x (ix3 0 k r) := by
  refine (shapeCast_dropUnit_apply ![256, 512] x shapeCasts_S1x256x512_S256x512 (ix2 k r)).trans (congrArg x (funext fun a => ?_))
  match a with
  | ⟨0, _⟩ => rfl
  | ⟨1, _⟩ => rfl
  | ⟨2, _⟩ => rfl

/-- A block of features without its unit axis. -/
theorem flatN (x : Vec Ideal S1x512x256 .bf16) (r : Fin 512) (k : Fin 256) : shapeCast S512x256 x shapeCasts_S1x512x256_S512x256 (ix2 r k) = x (ix3 0 r k) := by
  refine (shapeCast_dropUnit_apply ![512, 256] x shapeCasts_S1x512x256_S512x256 (ix2 r k)).trans (congrArg x (funext fun a => ?_))
  match a with
  | ⟨0, _⟩ => rfl
  | ⟨1, _⟩ => rfl
  | ⟨2, _⟩ => rfl

/-- A block of tokens without its unit axis. -/
theorem flatX (x : Vec Ideal S1x512x1024 .f32) (r : Fin 512) (e : Fin 1024) : shapeCast S512x1024 x shapeCasts_S1x512x1024_S512x1024 (ix2 r e) = x (ix3 0 r e) := by
  refine (shapeCast_dropUnit_apply ![512, 1024] x shapeCasts_S1x512x1024_S512x1024 (ix2 r e)).trans (congrArg x (funext fun a => ?_))
  match a with
  | ⟨0, _⟩ => rfl
  | ⟨1, _⟩ => rfl
  | ⟨2, _⟩ => rfl

/-- One mixer's part of the projection, from turned features. -/
def prodT (y : Vec Ideal S1x256x512 .bf16) (w : Vec Ideal S256x1024 .bf16) : FVec Ideal S512x1024 .f32 :=
  matmul (φ₁ := .bf16) (φ₂ := .bf16) dT none (shapeCast S256x512 y shapeCasts_S1x256x512_S256x512) (shapeCast S256x1024 w shapeCasts_S256x1024_S256x1024) (constant S512x1024 .f32 0x00000000#32)

/-- One mixer's part of the projection, from features as they come. -/
def prodN (y : Vec Ideal S1x512x256 .bf16) (w : Vec Ideal S256x1024 .bf16) : FVec Ideal S512x1024 .f32 :=
  matmul (φ₁ := .bf16) (φ₂ := .bf16) dot_S512x256_S256x1024_S512x1024_1_0_0_1_n_n none (shapeCast S512x256 y shapeCasts_S1x512x256_S512x256) (shapeCast S256x1024 w shapeCasts_S256x1024_S256x1024) (constant S512x1024 .f32 0x00000000#32)

theorem prodT_apply (y : Vec Ideal S1x256x512 .bf16) (w : Vec Ideal S256x1024 .bf16) (r : Fin 512) (e : Fin 1024) :
    prodT y w (ix2 r e) = ∑ k : Fin 256, y (ix3 0 k r) * w (ix2 k e) := by
  unfold prodT
  rw [shapeCast_self]
  exact (turned_dot _ _ r e).trans (Finset.sum_congr rfl fun k _ => congrArg (· * w (ix2 k e)) (flatT y k r))

theorem prodN_apply (y : Vec Ideal S1x512x256 .bf16) (w : Vec Ideal S256x1024 .bf16) (r : Fin 512) (e : Fin 1024) :
    prodN y w (ix2 r e) = ∑ k : Fin 256, y (ix3 0 r k) * w (ix2 k e) := by
  unfold prodN
  rw [shapeCast_self]
  refine (Ideal.matmul_plain_apply (φ₁ := .bf16) (φ₂ := .bf16) (M := 512) (K := 256) (N := 1024) none _ w (constant S512x1024 .f32 0x00000000#32) r e).trans ?_
  rw [constant_apply, Ideal.ofBits_zero_f32, zero_add]
  exact Finset.sum_congr rfl fun k _ => congrArg (· * w (ix2 k e)) (flatN y r k)

/-- The rows before their norm. -/
def rowsB (ya : Vec Ideal S1x256x512 .bf16) (wa : Vec Ideal S256x1024 .bf16) (yb : Vec Ideal S1x256x512 .bf16) (wb : Vec Ideal S256x1024 .bf16) (yc : Vec Ideal S1x512x256 .bf16) (wc : Vec Ideal S256x1024 .bf16)
    (yd : Vec Ideal S1x256x512 .bf16) (wd : Vec Ideal S256x1024 .bf16) (x : Vec Ideal S1x512x1024 .f32) : FVec Ideal S512x1024 .f32 :=
  addf (mulf (broadcast S512x1024 (Scalar.ofBits (F := Ideal) .f32 0x3FD744FD#32)) (shapeCast S512x1024 x shapeCasts_S1x512x1024_S512x1024))
    (addf (addf (addf (prodT ya wa) (prodT yb wb)) (prodN yc wc)) (prodT yd wd))

theorem pay2_eq (ya : Vec Ideal S1x256x512 .bf16) (wa : Vec Ideal S256x1024 .bf16) (yb : Vec Ideal S1x256x512 .bf16) (wb : Vec Ideal S256x1024 .bf16) (yc : Vec Ideal S1x512x256 .bf16) (wc : Vec Ideal S256x1024 .bf16)
    (yd : Vec Ideal S1x256x512 .bf16) (wd : Vec Ideal S256x1024 .bf16) (x : Vec Ideal S1x512x1024 .f32) :
    k0_pay2 ya wa yb wb yc wc yd wd x = rowsB ya wa yb wb yc wc yd wd x := rfl

theorem rowsB_apply (ya : Vec Ideal S1x256x512 .bf16) (wa : Vec Ideal S256x1024 .bf16) (yb : Vec Ideal S1x256x512 .bf16) (wb : Vec Ideal S256x1024 .bf16) (yc : Vec Ideal S1x512x256 .bf16) (wc : Vec Ideal S256x1024 .bf16)
    (yd : Vec Ideal S1x256x512 .bf16) (wd : Vec Ideal S256x1024 .bf16) (x : Vec Ideal S1x512x1024 .f32) (r : Fin 512) (e : Fin 1024) :
    rowsB ya wa yb wb yc wc yd wd x (ix2 r e) = Ideal.ofBits .f32 0x3FD744FD#32 * x (ix3 0 r e)
      + ((∑ k : Fin 256, ya (ix3 0 k r) * wa (ix2 k e)) + (∑ k : Fin 256, yb (ix3 0 k r) * wb (ix2 k e)) + (∑ k : Fin 256, yc (ix3 0 r k) * wc (ix2 k e)) + ∑ k : Fin 256, yd (ix3 0 k r) * wd (ix2 k e)) :=
  congrArg₂ (· + ·) (congrArg (Ideal.ofBits .f32 0x3FD744FD#32 * ·) (flatX x r e))
    (congrArg₂ (· + ·) (congrArg₂ (· + ·) (congrArg₂ (· + ·) (prodT_apply ya wa r e) (prodT_apply yb wb r e)) (prodN_apply yc wc r e)) (prodT_apply yd wd r e))

/-! ## The layer norm -/

/-- The means of the rows. -/
def avgB (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits (F := Ideal) .f32 0x44800000#32))

/-- The rows less their means. -/
def devB (z : FVec Ideal S512x1024 .f32) : FVec Ideal S512x1024 .f32 := subf z (broadcastTo S512x1024 (avgB z) broadcasts_S512x1_S512x1024)

/-- The rows normed, scaled and shifted. -/
def normB (z : FVec Ideal S512x1024 .f32) (g b : Vec Ideal S1x1024 .f32) : FVec Ideal S512x1024 .f32 :=
  addf (mulf (mulf (devB z) (broadcastTo S512x1024 (rsqrt (addf (avgB (mulf (devB z) (devB z))) (broadcast S512x1 (Scalar.ofBits (F := Ideal) .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem pay1_eq (z : FVec Ideal S512x1024 .f32) (g b : Vec Ideal S1x1024 .f32) : k0_pay1 z g b = shapeCast S1x512x1024 (normB z g b) shapeCasts_S512x1024_S1x512x1024 := rfl

/-- A column copied along its rows. -/
theorem along (v : FVec Ideal S512x1 .f32) (r : Fin 512) (e : Fin 1024) : broadcastTo S512x1024 v broadcasts_S512x1_S512x1024 (ix2 r e) = v (ix2 r 0) :=
  broadcastTo_apply (t := S512x1024) v broadcasts_S512x1_S512x1024 (ix2 r e) (ix2 r 0) (fun a => match a with | ⟨0, _⟩ => rfl | ⟨1, _⟩ => rfl)

/-- A row copied down its columns. -/
theorem down (v : Vec Ideal S1x1024 .f32) (r : Fin 512) (e : Fin 1024) :
    broadcastTo S512x1024 (shapeCast S1x1024 v shapeCasts_S1x1024_S1x1024) broadcasts_S1x1024_S512x1024 (ix2 r e) = v (ix2 0 e) := by
  rw [shapeCast_self]
  exact broadcastTo_apply (t := S512x1024) v broadcasts_S1x1024_S512x1024 (ix2 r e) (ix2 0 e) (fun a => match a with | ⟨0, _⟩ => rfl | ⟨1, _⟩ => rfl)

theorem avgB_apply (z : FVec Ideal S512x1024 .f32) (r : Fin 512) : avgB z (ix2 r 0) = mean (fun e => z (ix2 r e)) := by
  unfold avgB mean
  refine congrArg (Ideal.div · (Ideal.ofBits .f32 0x44800000#32)) ?_
  refine (shapeCast_apply _ shapeCasts_S512_S512x1 (ix2 r 0) (ix1 r) ?_).trans ?_
  · rw [Shape.rowMajor_val_one, Shape.rowMajor_val_two]
    show r.val = r.val * 1 + 0
    omega
  · refine (Ideal.multiReduction_add_single z 0x00000000#32 reduces_S512x1024_S512 (.inl rfl) rfl (ix1 r)).trans ?_
    refine Finset.sum_congr rfl fun k _ => congrArg z (funext fun a => ?_)
    match a with
    | ⟨0, _⟩ => rfl
    | ⟨1, _⟩ => rfl

theorem devB_apply (z : FVec Ideal S512x1024 .f32) (r : Fin 512) (e : Fin 1024) : devB z (ix2 r e) = z (ix2 r e) - mean (fun e => z (ix2 r e)) :=
  congrArg (z (ix2 r e) - ·) ((along _ r e).trans (avgB_apply z r))

theorem normB_apply (z : FVec Ideal S512x1024 .f32) (g b : Vec Ideal S1x1024 .f32) (r : Fin 512) (e : Fin 1024) :
    normB z g b (ix2 r e) = lnorm (fun e => z (ix2 r e)) (fun e => g (ix2 0 e)) (fun e => b (ix2 0 e)) e := by
  unfold lnorm
  refine congrArg₂ (· + ·) (congrArg₂ (· * ·) (congrArg₂ (· * ·) (devB_apply z r e) ?_) (down g r e)) (down b r e)
  refine (along _ r e).trans ?_
  refine congrArg (fun v => Ideal.rsqrt (v + Ideal.ofBits .f32 0x3727C5AC#32)) ((avgB_apply _ r).trans (congrArg mean (funext fun e => ?_)))
  exact congrArg₂ (· * ·) (devB_apply z r e) (devB_apply z r e)

/-- The block that the body leaves, at an element, from the rows before their norm. -/
theorem pay1_apply (z : FVec Ideal S512x1024 .f32) (g b : Vec Ideal S1x1024 .f32) (r : Fin 512) (e : Fin 1024) :
    k0_pay1 z g b (ix3 0 r e) = lnorm (fun e => z (ix2 r e)) (fun e => g (ix2 0 e)) (fun e => b (ix2 0 e)) e := by
  rw [pay1_eq]
  refine (shapeCast_addUnit_apply ![512, 1024] _ shapeCasts_S512x1024_S1x512x1024 (ix3 0 r e)).trans ?_
  have e0 : (fun a : Fin 2 => (ix3 (0 : Fin 1) r e) a.succ) = (ix2 r e : S512x1024.Idx) := funext fun a => match a with | ⟨0, _⟩ => rfl | ⟨1, _⟩ => rfl
  exact (congrArg (normB z g b) e0).trans (normB_apply z g b r e)

end Cert.Kernel4Ideal.Outp
end
-- ==== Proof.Outp.Out.lean ====
module

public import proofs.«01_k».proof.Proof.Outp.HostV
public import proofs.«01_k».proof.Proof.Outp.Elem
public import Idealize.ShloMosaic.Lib.Pipeline.ValueKit.Geometry

@[expose] public section

set_option maxRecDepth 16384

noncomputable section

namespace Cert.Kernel4Ideal.Outp

open Cert.Kernel4Ideal Cert.Kernel4Ideal.Gen Cert.Ffn Cert.Outp
open Idealize.ShloMosaic Idealize.ShloMosaic.TcCoe Idealize.SL.Sem Idealize.ShloMosaic.ValueIdx
open scoped BigOperators

/-! ## The block that the body leaves -/

theorem none3 : (![0, 0, 0] : Fin 3 → Nat) = fun _ => 0 := funext fun a => by fin_cases a <;> rfl
theorem none2 : (![0, 0] : Fin 2 → Nat) = fun _ => 0 := funext fun a => by fin_cases a <;> rfl

/-- The whole block, from the blocks of the operands. -/
theorem out_val (x0 : Vec Ideal S1x512x1024 .f32) (x1 x2 : Vec Ideal S1x256x512 .bf16) (x3 : Vec Ideal S1x512x256 .bf16) (x4 : Vec Ideal S1x256x512 .bf16) (x5 : Vec Ideal S1024x1024 .bf16) (x6 x7 : Vec Ideal S1x1024 .f32) :
    out0_8 x0 x1 x2 x3 x4 x5 x6 x7
      = k0_pay1 (k0_pay2 x1 (View.ld x5 r0_1) x2 (View.ld x5 r0_2) x3 (View.ld x5 r0_4) x4 (View.ld x5 r0_5) x0) x6 x7 := by
  unfold out0_8
  rw [View.canon_unit_zero none3]
  rw [View.ld_unit_zero (S := S1x256x512) none3, View.ld_unit_zero (S := S1x256x512) none3, View.ld_unit_zero (S := S1x512x256) none3, View.ld_unit_zero (S := S1x256x512) none3,
    View.ld_unit_zero (S := S1x512x1024) none3, View.ld_unit_zero (S := S1x1024) none2, View.ld_unit_zero (S := S1x1024) none2]

/-- A quarter of the matrix at an element. -/
theorem ld_q (x5 : Vec Ideal S1024x1024 .bf16) (o : Fin 4) (off : ℕ) (ho : off = o.val * 256) (inb : ∀ a : Fin 2, (![off, 0] : Fin 2 → ℕ) a + S256x1024.size a ≤ S1024x1024.size a) (k : Fin 256) (e : Fin 1024) :
    View.ld x5 (Rect.unit (s := S1024x1024) ![off, 0] S256x1024.size inb) (ix2 k e) = x5 (ix2 (qrow o k) e) := by
  subst ho
  rw [View.ld_unit]
  refine extractStridedSlice_apply _ x5 _ _ _ fun a => ?_
  match a with
  | ⟨0, _⟩ => rfl
  | ⟨1, _⟩ => exact (Nat.zero_add _).symm

/-! ## The blocks of the launch at an element -/

/-- The sequence of a point. -/
abbrev pb (t : Fin cfg0.N) : Fin 2 := cfg0.grid.coords t 0
/-- The block of tokens of a point. -/
abbrev pi (t : Fin cfg0.N) : Fin 32 := cfg0.grid.coords t 1
/-- The token of a row of a point. -/
abbrev tok (t : Fin cfg0.N) (r : Fin 512) : Fin 16384 := ⟨(pi t).val * 512 + r.val, by have := (pi t).isLt; have := r.isLt; omega⟩

theorem w0_0 : ∀ t : Fin cfg0.N, win0_0.index t 0 = (pb t).val := by decide +kernel
theorem w0_1 : ∀ t : Fin cfg0.N, win0_0.index t 1 = (pi t).val := by decide +kernel
theorem w1_0 : ∀ t : Fin cfg0.N, win0_1.index t 0 = (pb t).val := by decide +kernel
theorem w1_2 : ∀ t : Fin cfg0.N, win0_1.index t 2 = (pi t).val := by decide +kernel
theorem w2_0 : ∀ t : Fin cfg0.N, win0_2.index t 0 = (pb t).val := by decide +kernel
theorem w2_2 : ∀ t : Fin cfg0.N, win0_2.index t 2 = (pi t).val := by decide +kernel
theorem w3_0 : ∀ t : Fin cfg0.N, win0_3.index t 0 = (pb t).val := by decide +kernel
theorem w3_1 : ∀ t : Fin cfg0.N, win0_3.index t 1 = (pi t).val := by decide +kernel
theorem w4_0 : ∀ t : Fin cfg0.N, win0_4.index t 0 = (pb t).val := by decide +kernel
theorem w4_2 : ∀ t : Fin cfg0.N, win0_4.index t 2 = (pi t).val := by decide +kernel
theorem w8_0 : ∀ t : Fin cfg0.N, win0_8.index t 0 = (pb t).val := by decide +kernel
theorem w8_1 : ∀ t : Fin cfg0.N, win0_8.index t 1 = (pi t).val := by decide +kernel

variable (m : (ℓ : Loc nD τ sig) → Buf (Elt Ideal) ℓ) (c : Dev nD)

/-- The blocks of any array. -/
theorem place_0 (t : Fin cfg0.N) (r : Fin 512) (d : Fin 1024) (A : Vec Ideal S2x16384x1024 .f32) :
    ((cfg0.win 0).blk t).view.read (Elt Ideal) A (ix3 0 r d : S1x512x1024.Idx) = A (ix3 (pb t) (tok t r) d) := by
  rw [View.read_apply]
  refine congrArg A (funext fun a => Fin.ext ?_)
  match a with
  | ⟨0, _⟩ => exact (Pipeline.Window.rect_emb_val win0_0 t _ 0 rfl).trans (by rw [w0_0]; show (pb t).val * 1 + 0 = (pb t).val; omega)
  | ⟨1, _⟩ => exact (Pipeline.Window.rect_emb_val win0_0 t _ 1 rfl).trans (by rw [w0_1]; rfl)
  | ⟨2, _⟩ => exact (Pipeline.Window.rect_emb_val win0_0 t _ 2 rfl).trans (by rw [show win0_0.index t 2 = 0 from rfl, Nat.zero_mul, Nat.zero_add]; rfl)
theorem place_1 (t : Fin cfg0.N) (k : Fin 256) (r : Fin 512) (A : Vec Ideal S2x256x16384 .bf16) :
    ((cfg0.win 1).blk t).view.read (Elt Ideal) A (ix3 0 k r : S1x256x512.Idx) = A (ix3 (pb t) k (tok t r)) := by
  rw [View.read_apply]
  refine congrArg A (funext fun a => Fin.ext ?_)
  match a with
  | ⟨0, _⟩ => exact (Pipeline.Window.rect_emb_val win0_1 t _ 0 rfl).trans (by rw [w1_0]; show (pb t).val * 1 + 0 = (pb t).val; omega)
  | ⟨1, _⟩ => exact (Pipeline.Window.rect_emb_val win0_1 t _ 1 rfl).trans (by rw [show win0_1.index t 1 = 0 from rfl, Nat.zero_mul, Nat.zero_add]; rfl)
  | ⟨2, _⟩ => exact (Pipeline.Window.rect_emb_val win0_1 t _ 2 rfl).trans (by rw [w1_2]; rfl)
theorem place_2 (t : Fin cfg0.N) (k : Fin 256) (r : Fin 512) (A : Vec Ideal S2x256x16384 .bf16) :
    ((cfg0.win 2).blk t).view.read (Elt Ideal) A (ix3 0 k r : S1x256x512.Idx) = A (ix3 (pb t) k (tok t r)) := by
  rw [View.read_apply]
  refine congrArg A (funext fun a => Fin.ext ?_)
  match a with
  | ⟨0, _⟩ => exact (Pipeline.Window.rect_emb_val win0_2 t _ 0 rfl).trans (by rw [w2_0]; show (pb t).val * 1 + 0 = (pb t).val; omega)
  | ⟨1, _⟩ => exact (Pipeline.Window.rect_emb_val win0_2 t _ 1 rfl).trans (by rw [show win0_2.index t 1 = 0 from rfl, Nat.zero_mul, Nat.zero_add]; rfl)
  | ⟨2, _⟩ => exact (Pipeline.Window.rect_emb_val win0_2 t _ 2 rfl).trans (by rw [w2_2]; rfl)
theorem place_3 (t : Fin cfg0.N) (r : Fin 512) (d : Fin 256) (A : Vec Ideal S2x16384x256 .bf16) :
    ((cfg0.win 3).blk t).view.read (Elt Ideal) A (ix3 0 r d : S1x512x256.Idx) = A (ix3 (pb t) (tok t r) d) := by
  rw [View.read_apply]
  refine congrArg A (funext fun a => Fin.ext ?_)
  match a with
  | ⟨0, _⟩ => exact (Pipeline.Window.rect_emb_val win0_3 t _ 0 rfl).trans (by rw [w3_0]; show (pb t).val * 1 + 0 = (pb t).val; omega)
  | ⟨1, _⟩ => exact (Pipeline.Window.rect_emb_val win0_3 t _ 1 rfl).trans (by rw [w3_1]; rfl)
  | ⟨2, _⟩ => exact (Pipeline.Window.rect_emb_val win0_3 t _ 2 rfl).trans (by rw [show win0_3.index t 2 = 0 from rfl, Nat.zero_mul, Nat.zero_add]; rfl)
theorem place_4 (t : Fin cfg0.N) (k : Fin 256) (r : Fin 512) (A : Vec Ideal S2x256x16384 .bf16) :
    ((cfg0.win 4).blk t).view.read (Elt Ideal) A (ix3 0 k r : S1x256x512.Idx) = A (ix3 (pb t) k (tok t r)) := by
  rw [View.read_apply]
  refine congrArg A (funext fun a => Fin.ext ?_)
  match a with
  | ⟨0, _⟩ => exact (Pipeline.Window.rect_emb_val win0_4 t _ 0 rfl).trans (by rw [w4_0]; show (pb t).val * 1 + 0 = (pb t).val; omega)
  | ⟨1, _⟩ => exact (Pipeline.Window.rect_emb_val win0_4 t _ 1 rfl).trans (by rw [show win0_4.index t 1 = 0 from rfl, Nat.zero_mul, Nat.zero_add]; rfl)
  | ⟨2, _⟩ => exact (Pipeline.Window.rect_emb_val win0_4 t _ 2 rfl).trans (by rw [w4_2]; rfl)
theorem place_5 (t : Fin cfg0.N) (A : Vec Ideal S1024x1024 .bf16) : ((cfg0.win 5).blk t).view.read (Elt Ideal) A = A := by
  funext y
  rw [View.read_apply]
  refine congrArg A (funext fun a => Fin.ext ?_)
  match a with
  | ⟨0, _⟩ => exact (Pipeline.Window.rect_emb_val win0_5 t _ 0 rfl).trans (by rw [show win0_5.index t 0 = 0 from rfl, Nat.zero_mul, Nat.zero_add]; rfl)
  | ⟨1, _⟩ => exact (Pipeline.Window.rect_emb_val win0_5 t _ 1 rfl).trans (by rw [show win0_5.index t 1 = 0 from rfl, Nat.zero_mul, Nat.zero_add]; rfl)
theorem place_6 (t : Fin cfg0.N) (A : Vec Ideal S1x1024 .f32) : ((cfg0.win 6).blk t).view.read (Elt Ideal) A = A := by
  funext y
  rw [View.read_apply]
  refine congrArg A (funext fun a => Fin.ext ?_)
  match a with
  | ⟨0, _⟩ => exact (Pipeline.Window.rect_emb_val win0_6 t _ 0 rfl).trans (by rw [show win0_6.index t 0 = 0 from rfl, Nat.zero_mul, Nat.zero_add]; rfl)
  | ⟨1, _⟩ => exact (Pipeline.Window.rect_emb_val win0_6 t _ 1 rfl).trans (by rw [show win0_6.index t 1 = 0 from rfl, Nat.zero_mul, Nat.zero_add]; rfl)
theorem place_7 (t : Fin cfg0.N) (A : Vec Ideal S1x1024 .f32) : ((cfg0.win 7).blk t).view.read (Elt Ideal) A = A := by
  funext y
  rw [View.read_apply]
  refine congrArg A (funext fun a => Fin.ext ?_)
  match a with
  | ⟨0, _⟩ => exact (Pipeline.Window.rect_emb_val win0_7 t _ 0 rfl).trans (by rw [show win0_7.index t 0 = 0 from rfl, Nat.zero_mul, Nat.zero_add]; rfl)
  | ⟨1, _⟩ => exact (Pipeline.Window.rect_emb_val win0_7 t _ 1 rfl).trans (by rw [show win0_7.index t 1 = 0 from rfl, Nat.zero_mul, Nat.zero_add]; rfl)

/-- The blocks of the operands. -/
theorem iblk_0 (t : Fin cfg0.N) (r : Fin 512) (d : Fin 1024) :
    (iblk m c 0 t : Vec Ideal S1x512x1024 .f32) (ix3 0 r d) = (m (c.tc.loc main_arg0) : Vec Ideal S2x16384x1024 .f32) (ix3 (pb t) (tok t r) d) := by
  have e : V m c (Pipeline.arrRef spec0 0) = m (c.tc.loc main_arg0) := V_x m c
  unfold iblk
  rw [e]
  exact place_0 t r d _
theorem iblk_1 (t : Fin cfg0.N) (k : Fin 256) (r : Fin 512) :
    (iblk m c 1 t : Vec Ideal S1x256x512 .bf16) (ix3 0 k r) = (m (c.tc.loc main_arg1) : FVec Ideal S2x16384x256 .f32) (ix3 (pb t) (tok t r) k) := by
  have e : V m c (Pipeline.arrRef spec0 1) = turned (m (c.tc.loc main_arg1)) := V_ya m c
  unfold iblk
  rw [e]
  exact (place_1 t k r _).trans (turned_apply _ _ _ _)
theorem iblk_2 (t : Fin cfg0.N) (k : Fin 256) (r : Fin 512) :
    (iblk m c 2 t : Vec Ideal S1x256x512 .bf16) (ix3 0 k r) = (m (c.tc.loc main_arg2) : FVec Ideal S2x16384x256 .f32) (ix3 (pb t) (tok t r) k) := by
  have e : V m c (Pipeline.arrRef spec0 2) = turned (m (c.tc.loc main_arg2)) := V_yb m c
  unfold iblk
  rw [e]
  exact (place_2 t k r _).trans (turned_apply _ _ _ _)
theorem iblk_3 (t : Fin cfg0.N) (r : Fin 512) (k : Fin 256) :
    (iblk m c 3 t : Vec Ideal S1x512x256 .bf16) (ix3 0 r k) = (m (c.tc.loc main_arg3) : FVec Ideal S2x16384x256 .f32) (ix3 (pb t) (tok t r) k) := by
  have e : V m c (Pipeline.arrRef spec0 3) = (truncf .bf16 (m (c.tc.loc main_arg3) : FVec Ideal S2x16384x256 .f32) bitsLt_bf16_f32 : FVec Ideal S2x16384x256 .bf16) := V_yc m c
  unfold iblk
  rw [e]
  exact place_3 t r k _
theorem iblk_4 (t : Fin cfg0.N) (k : Fin 256) (r : Fin 512) :
    (iblk m c 4 t : Vec Ideal S1x256x512 .bf16) (ix3 0 k r) = (m (c.tc.loc main_arg4) : FVec Ideal S2x16384x256 .f32) (ix3 (pb t) (tok t r) k) := by
  have e : V m c (Pipeline.arrRef spec0 4) = turned (m (c.tc.loc main_arg4)) := V_yd m c
  unfold iblk
  rw [e]
  exact (place_4 t k r _).trans (turned_apply _ _ _ _)
theorem iblk_5 (t : Fin cfg0.N) : (iblk m c 5 t : Vec Ideal S1024x1024 .bf16) = (m (c.tc.loc main_arg5) : FVec Ideal S1024x1024 .f32) := by
  have e : V m c (Pipeline.arrRef spec0 5) = (truncf .bf16 (m (c.tc.loc main_arg5) : FVec Ideal S1024x1024 .f32) bitsLt_bf16_f32 : FVec Ideal S1024x1024 .bf16) := V_w m c
  unfold iblk
  rw [e]
  exact place_5 t _
theorem iblk_6 (t : Fin cfg0.N) : (iblk m c 6 t : Vec Ideal S1x1024 .f32) = oneRow (m (c.tc.loc main_arg6)) := by
  have e : V m c (Pipeline.arrRef spec0 6) = oneRow (m (c.tc.loc main_arg6)) := V_g m c
  unfold iblk
  rw [e]
  exact place_6 t _
theorem iblk_7 (t : Fin cfg0.N) : (iblk m c 7 t : Vec Ideal S1x1024 .f32) = oneRow (m (c.tc.loc main_arg7)) := by
  have e : V m c (Pipeline.arrRef spec0 7) = oneRow (m (c.tc.loc main_arg7)) := V_b m c
  unfold iblk
  rw [e]
  exact place_7 t _

/-! ## What the body leaves at a point -/

/-- A row of a point before its norm. -/
theorem row_val (t : Fin cfg0.N) (r : Fin 512) (e : Fin 1024) :
    k0_pay2 (iblk m c 1 t) (View.ld (iblk m c 5 t : Vec Ideal S1024x1024 .bf16) r0_1) (iblk m c 2 t) (View.ld (iblk m c 5 t : Vec Ideal S1024x1024 .bf16) r0_2) (iblk m c 3 t) (View.ld (iblk m c 5 t : Vec Ideal S1024x1024 .bf16) r0_4)
        (iblk m c 4 t) (View.ld (iblk m c 5 t : Vec Ideal S1024x1024 .bf16) r0_5) (iblk m c 0 t) (ix2 r e)
      = pre (m (c.tc.loc main_arg0)) (m (c.tc.loc main_arg1)) (m (c.tc.loc main_arg2)) (m (c.tc.loc main_arg3)) (m (c.tc.loc main_arg4)) (m (c.tc.loc main_arg5)) (pb t) (tok t r) e := by
  rw [pay2_eq, rowsB_apply, iblk_0, iblk_5]
  refine congrArg (_ + ·) (congrArg₂ (· + ·) (congrArg₂ (· + ·) (congrArg₂ (· + ·) ?_ ?_) ?_) ?_)
  · exact Finset.sum_congr rfl fun k _ => congrArg₂ (· * ·) (iblk_1 m c t k r) (ld_q _ 0 0 rfl _ k e)
  · exact Finset.sum_congr rfl fun k _ => congrArg₂ (· * ·) (iblk_2 m c t k r) (ld_q _ 1 256 rfl _ k e)
  · exact Finset.sum_congr rfl fun k _ => congrArg₂ (· * ·) (iblk_3 m c t r k) (ld_q _ 2 512 rfl _ k e)
  · exact Finset.sum_congr rfl fun k _ => congrArg₂ (· * ·) (iblk_4 m c t k r) (ld_q _ 3 768 rfl _ k e)

/-- The block of a point, at an element: the output projection and its norm. -/
theorem point_val (t : Fin cfg0.N) (r : Fin 512) (e : Fin 1024) :
    out0_8 (iblk m c 0 t) (iblk m c 1 t) (iblk m c 2 t) (iblk m c 3 t) (iblk m c 4 t) (iblk m c 5 t) (iblk m c 6 t) (iblk m c 7 t) (ix3 0 r e)
      = outArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
          (ix3 (pb t) (tok t r) e) := by
  rw [out_val, pay1_apply]
  show _ = lnorm (pre _ _ _ _ _ _ (pb t) (tok t r)) (fun e => (m (c.tc.loc main_arg6) : FVec Ideal S1024 .f32) (ix1 e)) (fun e => (m (c.tc.loc main_arg7) : FVec Ideal S1024 .f32) (ix1 e)) e
  have hz := funext fun e => row_val m c t r e
  have hg : (fun e => (iblk m c 6 t : Vec Ideal S1x1024 .f32) (ix2 0 e)) = fun e => (m (c.tc.loc main_arg6) : FVec Ideal S1024 .f32) (ix1 e) := funext fun e => by rw [iblk_6]; exact oneRow_apply _ e
  have hb : (fun e => (iblk m c 7 t : Vec Ideal S1x1024 .f32) (ix2 0 e)) = fun e => (m (c.tc.loc main_arg7) : FVec Ideal S1024 .f32) (ix1 e) := funext fun e => by rw [iblk_7]; exact oneRow_apply _ e
  exact congrFun (congr (congr (congrArg lnorm hz) hg) hb) e

/-- The place in the result of an element of a point's block. -/
theorem emb_out (t : Fin cfg0.N) (r : Fin 512) (e : Fin 1024) :
    (((cfg0.win 8).blk t).view.emb (ix3 0 r e : S1x512x1024.Idx) : S2x16384x1024.Idx) = ix3 (pb t) (tok t r) e := by
  funext a
  apply Fin.ext
  match a with
  | ⟨0, _⟩ => exact (Pipeline.Window.rect_emb_val win0_8 t _ 0 rfl).trans (by rw [w8_0]; show (pb t).val * 1 + 0 = (pb t).val; omega)
  | ⟨1, _⟩ => exact (Pipeline.Window.rect_emb_val win0_8 t _ 1 rfl).trans (by rw [w8_1]; rfl)
  | ⟨2, _⟩ => exact (Pipeline.Window.rect_emb_val win0_8 t _ 2 rfl).trans (by rw [show win0_8.index t 2 = 0 from rfl, Nat.zero_mul, Nat.zero_add]; rfl)

/-- The blocks of the result cover it. -/
theorem covers_out : (cfg0.win 8).Covers := by decide +kernel

end Cert.Kernel4Ideal.Outp
end
-- ==== Proof.Outp.Ref.lean ====
module

public import proofs.«01_k».proof.Proof.Gen.Reference4Ideal.Read
public import proofs.«01_k».proof.Proof.Outp.Form
public import Idealize.ShloMosaic.Lib.IdealHost
public import Idealize.ShloMosaic.Lib.KernelVsHost
public import Idealize.ShloMosaic.Lib.ValueIdx

@[expose] public section

set_option maxRecDepth 16384

noncomputable section

namespace Cert.Reference4Ideal.Outp

open Cert.Reference4Ideal Cert.Reference4Ideal.Gen Cert.Reference4Ideal.Read Cert.Ffn Cert.Outp
open Idealize.ShloMosaic Idealize.ShloMosaic.ValueIdx
open scoped BigOperators

/-! ## The reference at an element -/

variable (x : XX) (ya yb yc yd : YY) (w : WO) (g bi : GG)

/-- The joined features, one quarter at a time. -/
theorem v0_a (b : Fin 2) (s : Fin 16384) (k : Fin 256) : val_main_v0 (F := Ideal) ya yb yc yd (ix3 b s (qrow 0 k)) = ya (ix3 b s k) :=
  concatenate_apply_piece (t := S2x16384x1024) 2 [⟨S2x16384x256, ya⟩, ⟨S2x16384x256, yb⟩, ⟨S2x16384x256, yc⟩, ⟨S2x16384x256, yd⟩]
    concatenates_S2x16384x256_S2x16384x256_S2x16384x256_S2x16384x256_S2x16384x1024_d2 (ix3 b s (qrow 0 k)) 0 (show 0 < 4 by decide) S2x16384x256 ya rfl rfl 0 rfl (ix3 b s k)
    (fun b hb => match b, hb with | ⟨0, _⟩, _ => rfl | ⟨1, _⟩, _ => rfl | ⟨2, _⟩, hb => absurd rfl hb) rfl
theorem v0_b (b : Fin 2) (s : Fin 16384) (k : Fin 256) : val_main_v0 (F := Ideal) ya yb yc yd (ix3 b s (qrow 1 k)) = yb (ix3 b s k) :=
  concatenate_apply_piece (t := S2x16384x1024) 2 [⟨S2x16384x256, ya⟩, ⟨S2x16384x256, yb⟩, ⟨S2x16384x256, yc⟩, ⟨S2x16384x256, yd⟩]
    concatenates_S2x16384x256_S2x16384x256_S2x16384x256_S2x16384x256_S2x16384x1024_d2 (ix3 b s (qrow 1 k)) 1 (show 1 < 4 by decide) S2x16384x256 yb rfl rfl 256 rfl (ix3 b s k)
    (fun b hb => match b, hb with | ⟨0, _⟩, _ => rfl | ⟨1, _⟩, _ => rfl | ⟨2, _⟩, hb => absurd rfl hb) rfl
theorem v0_c (b : Fin 2) (s : Fin 16384) (k : Fin 256) : val_main_v0 (F := Ideal) ya yb yc yd (ix3 b s (qrow 2 k)) = yc (ix3 b s k) :=
  concatenate_apply_piece (t := S2x16384x1024) 2 [⟨S2x16384x256, ya⟩, ⟨S2x16384x256, yb⟩, ⟨S2x16384x256, yc⟩, ⟨S2x16384x256, yd⟩]
    concatenates_S2x16384x256_S2x16384x256_S2x16384x256_S2x16384x256_S2x16384x1024_d2 (ix3 b s (qrow 2 k)) 2 (show 2 < 4 by decide) S2x16384x256 yc rfl rfl 512 rfl (ix3 b s k)
    (fun b hb => match b, hb with | ⟨0, _⟩, _ => rfl | ⟨1, _⟩, _ => rfl | ⟨2, _⟩, hb => absurd rfl hb) rfl
theorem v0_d (b : Fin 2) (s : Fin 16384) (k : Fin 256) : val_main_v0 (F := Ideal) ya yb yc yd (ix3 b s (qrow 3 k)) = yd (ix3 b s k) :=
  concatenate_apply_piece (t := S2x16384x1024) 2 [⟨S2x16384x256, ya⟩, ⟨S2x16384x256, yb⟩, ⟨S2x16384x256, yc⟩, ⟨S2x16384x256, yd⟩]
    concatenates_S2x16384x256_S2x16384x256_S2x16384x256_S2x16384x256_S2x16384x1024_d2 (ix3 b s (qrow 3 k)) 3 (show 3 < 4 by decide) S2x16384x256 yd rfl rfl 768 rfl (ix3 b s k)
    (fun b hb => match b, hb with | ⟨0, _⟩, _ => rfl | ⟨1, _⟩, _ => rfl | ⟨2, _⟩, hb => absurd rfl hb) rfl

/-- The projection is the sum of its four quarters. -/
theorem v3_at (b : Fin 2) (s : Fin 16384) (e : Fin 1024) : val_main_v3 (F := Ideal) ya yb yc yd w (ix3 b s e) = part ya w 0 b s e + part yb w 1 b s e + part yc w 2 b s e + part yd w 3 b s e := by
  have hl : ∀ k : Fin 1024, lidx_main_v3 (ix3 b s e) k = ix3 b s k := fun k => funext fun a => match a with
    | ⟨0, _⟩ => rfl
    | ⟨1, _⟩ => rfl
    | ⟨2, _⟩ => rfl
  have hr : ∀ k : Fin 1024, ridx_main_v3 (ix3 b s e) k = ix2 k e := fun k => funext fun a => match a with
    | ⟨0, _⟩ => rfl
    | ⟨1, _⟩ => rfl
  rw [val_main_v3_apply]
  refine (Finset.sum_congr rfl fun k _ => congrArg₂ (· * ·) (congrArg (val_main_v0 (F := Ideal) ya yb yc yd) (hl k)) (congrArg w (hr k))).trans ?_
  refine (sum_quarters _).trans ?_
  exact congrArg₂ (· + ·) (congrArg₂ (· + ·) (congrArg₂ (· + ·)
    (Finset.sum_congr rfl fun k _ => congrArg (· * w (ix2 (qrow 0 k) e)) (v0_a ya yb yc yd b s k))
    (Finset.sum_congr rfl fun k _ => congrArg (· * w (ix2 (qrow 1 k) e)) (v0_b ya yb yc yd b s k)))
    (Finset.sum_congr rfl fun k _ => congrArg (· * w (ix2 (qrow 2 k) e)) (v0_c ya yb yc yd b s k)))
    (Finset.sum_congr rfl fun k _ => congrArg (· * w (ix2 (qrow 3 k) e)) (v0_d ya yb yc yd b s k))

/-- The rows before their norm. -/
theorem v4_at (b : Fin 2) (s : Fin 16384) (e : Fin 1024) : val_main_v4 (F := Ideal) x ya yb yc yd w (ix3 b s e) = pre x ya yb yc yd w b s e := by
  rw [val_main_v4_apply, val_main_v2_apply, val_main_v1_apply, val_main_cst_apply, v3_at]
  rfl

/-- The rows less their means. -/
theorem v10_at (b : Fin 2) (s : Fin 16384) (e : Fin 1024) : val_main_v10 (F := Ideal) x ya yb yc yd w (ix3 b s e) = pre x ya yb yc yd w b s e - mean (pre x ya yb yc yd w b s) := by
  rw [val_main_v10_apply, val_main_v9_apply, val_main_v8_apply, val_main_v7_apply, val_main_cst_1_apply, val_main_v6_apply, val_main_v5_apply, val_main_cst_0_apply, v4_at]
  refine congrArg (fun v => pre x ya yb yc yd w b s e - Ideal.div v (Ideal.ofBits .f32 0x44800000#32)) ?_
  refine (congrArg (· + _) Ideal.ofBits_zero_f32).trans ((zero_add _).trans (Finset.sum_congr rfl fun k _ => ?_))
  have e' : idx_main_v5 (idx_main_v6 (idx_main_v9 (ix3 b s e))) k = ix3 b s k := funext fun a => match a with
    | ⟨0, _⟩ => rfl
    | ⟨1, _⟩ => rfl
    | ⟨2, _⟩ => rfl
  rw [e']
  exact v4_at x ya yb yc yd w b s k

/-- The scale of a row. -/
theorem v19_at (b : Fin 2) (s : Fin 16384) (e : Fin 1024) : val_main_v19 (F := Ideal) x ya yb yc yd w (ix3 b s e)
    = Ideal.rsqrt (mean (fun e => (pre x ya yb yc yd w b s e - mean (pre x ya yb yc yd w b s)) * (pre x ya yb yc yd w b s e - mean (pre x ya yb yc yd w b s))) + Ideal.ofBits .f32 0x3727C5AC#32) := by
  rw [val_main_v19_apply, val_main_v18_apply, val_main_v17_apply, val_main_v16_apply, val_main_cst_4_apply, val_main_v15_apply, val_main_v14_apply, val_main_cst_3_apply, val_main_v13_apply,
    val_main_v12_apply, val_main_cst_2_apply]
  refine congrArg (fun v => Ideal.rsqrt (Ideal.div v (Ideal.ofBits .f32 0x44800000#32) + Ideal.ofBits .f32 0x3727C5AC#32)) ?_
  refine (congrArg (· + _) Ideal.ofBits_zero_f32).trans ((zero_add _).trans (Finset.sum_congr rfl fun k _ => ?_))
  rw [val_main_v11_apply]
  have e' : idx_main_v12 (idx_main_v13 (idx_main_v19 (ix3 b s e))) k = ix3 b s k := funext fun a => match a with
    | ⟨0, _⟩ => rfl
    | ⟨1, _⟩ => rfl
    | ⟨2, _⟩ => rfl
  rw [e', v10_at]
  rfl

/-- The scale and the shift of the norm. -/
theorem v22_at (b : Fin 2) (s : Fin 16384) (e : Fin 1024) : val_main_v22 (F := Ideal) g (ix3 b s e) = g (ix1 e) := by
  rw [val_main_v22_apply, val_main_v21_apply]
  exact congrArg g (funext fun a => match a with
    | ⟨0, _⟩ => rfl)
theorem v25_at (b : Fin 2) (s : Fin 16384) (e : Fin 1024) : val_main_v25 (F := Ideal) bi (ix3 b s e) = bi (ix1 e) := by
  rw [val_main_v25_apply, val_main_v24_apply]
  exact congrArg bi (funext fun a => match a with
    | ⟨0, _⟩ => rfl)

/-- The reference's result is the output projection with its norm. -/
theorem ref_at : val_main_v26 (F := Ideal) x ya yb yc yd w g bi = outArr x ya yb yc yd w g bi := by
  funext i
  obtain ⟨b, s, e, rfl⟩ : ∃ (b : Fin 2) (s : Fin 16384) (e : Fin 1024), i = ix3 b s e := ⟨i 0, i 1, i 2, funext fun a => match a with
    | ⟨0, _⟩ => rfl
    | ⟨1, _⟩ => rfl
    | ⟨2, _⟩ => rfl⟩
  rw [val_main_v26_apply, val_main_v23_apply, val_main_v20_apply, v10_at, v19_at, v22_at, v25_at]
  rfl

end Cert.Reference4Ideal.Outp
end
-- ==== Proof.Outp.Alg.lean ====
module

public import proofs.«01_k».proof.Proof.Outp.Out
public import proofs.«01_k».proof.Proof.Outp.Ref
public import proofs.«01_k».proof.Proof.Gen.Reference4Ideal.Run

@[expose] public section

set_option maxRecDepth 16384

noncomputable section

namespace Cert.Kernel4Ideal.Outp

open Cert.Kernel4Ideal Cert.Kernel4Ideal.Gen Cert.Ffn Cert.Outp
open Idealize.ShloMosaic Idealize.ShloMosaic.TcCoe Idealize.SL.Sem Idealize.ShloMosaic.ValueIdx

/-! ## Both programs compute the output projection with its norm -/

/-- The array the launch leaves. -/
theorem out_proj (m : (ℓ : Loc nD τ sig) → Buf (Elt Ideal) ℓ) (c : Dev nD) :
    (dats m 0 c).arrAt 8 cfg0.N
      = outArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine Pipeline.Dat.arrAt_eq_of_covers _ 8 _ covers_out fun t hf y => ?_
  refine (congrFun (Value.flushed8 m c t) y).trans ?_
  obtain ⟨r, e, hy⟩ : ∃ (r : Fin 512) (e : Fin 1024), (y : S1x512x1024.Idx) = (ix3 0 r e : S1x512x1024.Idx) := ⟨y 1, y 2, funext fun a => match a with
    | ⟨0, _⟩ => Subsingleton.elim (α := Fin 1) _ _
    | ⟨1, _⟩ => rfl
    | ⟨2, _⟩ => rfl⟩
  obtain rfl := hy
  exact (point_val m c t r e).trans (congrArg (outArr _ _ _ _ _ _ _ _) (emb_out t r e).symm)

/-- The kernel ends with the projection of its arguments in its result, and its arguments as they were. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem (c.tc.loc main_v10) = outArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)
        ∧ r.2.mem (c.tc.loc main_arg7) = m (c.tc.loc main_arg7)) :=
  (θ_run defs _ _).mono (fun r h c => ⟨(h c).1.trans (out_proj m c), (h c).2⟩) (Value.run_blocks (F := Ideal) m ρ)

end Cert.Kernel4Ideal.Outp

namespace Cert.Reference4Ideal.Outp

open Cert.Reference4Ideal Cert.Ffn Cert.Outp
open Idealize.ShloMosaic Idealize.ShloMosaic.TcCoe Idealize.SL.Sem

/-- The reference ends with the projection of the same arrays in its result, and its arguments as they were. -/
theorem run_out (m : (ℓ : Loc nD τ sig) → Buf (Elt Ideal) ℓ) (ρ : Dev nD → PrngReg) {x : Dev nD → XX} {ya yb yc yd : Dev nD → YY} {w : Dev nD → WO} {g bi : Dev nD → GG}
    (e : ∀ c : Dev nD, m (c.tc.loc main_arg0) = x c ∧ m (c.tc.loc main_arg1) = ya c ∧ m (c.tc.loc main_arg2) = yb c ∧ m (c.tc.loc main_arg3) = yc c ∧ m (c.tc.loc main_arg4) = yd c
      ∧ m (c.tc.loc main_arg5) = w c ∧ m (c.tc.loc main_arg6) = g c ∧ m (c.tc.loc main_arg7) = bi c) :
    θ_run defs (onTc (τ := τ) (main (F := Ideal))) ⟨m, fun _ => 0, ρ⟩ (fun r => ∀ c : Dev nD,
      r.2.mem (c.tc.loc main_v26) = outArr (x c) (ya c) (yb c) (yc c) (yd c) (w c) (g c) (bi c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6)
        ∧ r.2.mem (c.tc.loc main_arg7) = m (c.tc.loc main_arg7)) := by
  refine (θ_run defs _ _).mono (fun r h c => ⟨?_, (h c).2⟩) (Value.run (F := Ideal) m ρ)
  refine (h c).1.trans ((Read.val_main_v26_eq _ _).trans ?_)
  obtain ⟨e0, e1, e2, e3, e4, e5, e6, e7⟩ := e c
  rw [e0, e1, e2, e3, e4, e5, e6, e7]
  exact ref_at (x c) (ya c) (yb c) (yc c) (yd c) (w c) (g c) (bi c)

end Cert.Reference4Ideal.Outp
end
-- ==== Proof.Diff.Body.lean ====
module

public import proofs.«01_k».proof.Proof.Gen.Kernel3Ideal.Frame
public import proofs.«01_k».proof.Proof.Gen.Kernel3Ideal.Loops

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The queries of the block, four copies side by side, each with one map's features kept. -/
abbrev wq (v16 : Vec F S1x128x512 .bf16) : FVec F S128x2048 .bf16 :=
  k0_pay207 (k0_pay202 v16) (iota .tc S128x512 32 [0] iota_S128x512_d0_w32) (k0_pay203 v16) (k0_pay204 v16) k0_pay205 (k0_pay206 (F := F))

/-- The largest score of the first chunk, query by query. -/
abbrev m0 (v16 : Vec F S1x128x512 .bf16) (v55 : Vec F S1x512x128 .bf16) : FVec F S1x2048 .f32 :=
  k0_pay213 (k0_pay202 v16) (iota .tc S128x512 32 [0] iota_S128x512_d0_w32) (k0_pay203 v16) (k0_pay204 v16) k0_pay205 (k0_pay206 (F := F)) v55

/-- The bound on the distance of the scores from the first chunk's maximum. -/
abbrev bnd (v16 : Vec F S1x128x512 .bf16) (v55 : Vec F S1x512x128 .bf16) (v63 : Vec F S8x128 .f32) : F .f32 :=
  k0_pay214 (k0_pay202 v16) (iota .tc S128x512 32 [0] iota_S128x512_d0_w32) (k0_pay203 v16) (k0_pay204 v16) k0_pay205 (k0_pay206 (F := F)) v55 v63

/-- The kernel body after its first branch: the sweep over the keys, then the two heads' results stored. -/
def tail (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v0 : Vec F S4x32 .f32) (v16 : Vec F S1x128x512 .bf16) :
    Prog (TpuEff nD τ sig (Elt F) Λ₀ .tc) PUnit := do
  let v55 : Vec F S1x512x128 .bf16 ← Prog.lift (.load arg6 (Rect.unit (s := S1x16384x128) ![0, 0, 0] S1x512x128.size inb_S1x16384x128_S1x512x128_0_0_0).toLoadRect (View.loadsAt_vmem h_S1x512x128))
  let v58 : Vec F S1x512x2048 .f32 ← Prog.lift (.load arg9 (Rect.unit (s := S4x512x2048) ![0, 0, 0] S1x512x2048.size inb_S4x512x2048_S1x512x2048_0_0_0).toLoadRect (View.loadsAt_vmem h_S1x512x2048))
  Prog.lift (.store arg9 (Rect.unit (s := S4x512x2048) ![0, 0, 0] S1x512x2048.size inb_S4x512x2048_S1x512x2048_0_0_0) (k0_pay212 (k0_pay202 v16) (iota .tc S128x512 32 [0] iota_S128x512_d0_w32) (k0_pay203 v16) (k0_pay204 v16) k0_pay205 (k0_pay206 (F := F)) v55) Finset.univ (View.stores_vmem_bits_univ h_S1x512x2048 rfl) (.inl rfl))
  let v63 : Vec F S8x128 .f32 ← Prog.lift (.load arg11 (Rect.unit (s := S8x128) ![0, 0] S8x128.size inb_S8x128_S8x128_0_0).toLoadRect (View.loadsAt_vmem h_S8x128))
  let v77 : BitVec 1 := Scalar.cmpi .ne (Scalar.extui (Scalar.cmpf .ole (bnd v16 v55 v63) (Scalar.ofBits .f32 0x42C80000#32)) : BitVec 32) 0#32
  let ⟨v82, v120, v125⟩ : Σ' (v82 : FVec F S64x1 .f32) (v120 : FVec F S64x512 .f32), FVec F S1x512 .f32 ← (do
    let (v78_0, v78_1) : FVec F S80x1024 .f32 × FVec F S80x1024 .f32 ← if v77 = 1#1 then do
        let ⟨v891, v897, v899⟩ : Σ' (v891 : FVec F S80x1024 .f32) (v897 : FVec F S80x1024 .f32), FVec F S80x512 .bf16 ← k0_part27 i arg3 harg3 arg4 harg4 arg5 harg5 arg6 harg6 arg7 harg7 arg8 harg8 arg9 harg9 arg10 harg10 arg11 harg11 (wq v16) (m0 v16 v55)
        let v900 : Vec F S1x512x1024 .bf16 ← Prog.lift (.load arg10 (Rect.unit (s := S4x512x2048) ![3, 0, 1024] S1x512x1024.size inb_S4x512x2048_S1x512x1024_3_0_1024).toLoadRect (View.loadsAt_vmem h_S1x512x1024))
        pure (v897, k0_pay215 v891 v899 v900)
      else do
        let ⟨v165_3, v165_4⟩ : Σ' (v165_3 : FVec F S80x1024 .f32), FVec F S80x1024 .f32 ← k0_part39 i arg3 harg3 arg4 harg4 arg5 harg5 arg6 harg6 arg7 harg7 arg8 harg8 arg9 harg9 arg10 harg10 arg11 harg11 (wq v16)
        let v166 : Vec F S1x1x1x80x512 .bf16 ← Prog.lift (.load arg7 (Rect.unit (s := S1x2x32x80x512) ![0, 0, 31, 0, 0] S1x1x1x80x512.size inb_S1x2x32x80x512_S1x1x1x80x512_0_0_31_0_0).toLoadRect (View.loadsAt_vmem h_S1x1x1x80x512))
        let v168 : Vec F S1x512x1024 .bf16 ← Prog.lift (.load arg10 (Rect.unit (s := S4x512x2048) ![1, 0, 0] S1x512x1024.size inb_S4x512x2048_S1x512x1024_1_0_0).toLoadRect (View.loadsAt_vmem h_S1x512x1024))
        let v172 : Vec F S1x1x1x80x512 .bf16 ← Prog.lift (.load arg7 (Rect.unit (s := S1x2x32x80x512) ![0, 1, 31, 0, 0] S1x1x1x80x512.size inb_S1x2x32x80x512_S1x1x1x80x512_0_1_31_0_0).toLoadRect (View.loadsAt_vmem h_S1x1x1x80x512))
        let v174 : Vec F S1x512x1024 .bf16 ← Prog.lift (.load arg10 (Rect.unit (s := S4x512x2048) ![1, 0, 1024] S1x512x1024.size inb_S4x512x2048_S1x512x1024_1_0_1024).toLoadRect (View.loadsAt_vmem h_S1x512x1024))
        pure (k0_pay216 v165_3 v166 v168, k0_pay217 v165_4 v172 v174)
    let v79 : Vec F S64x1 .f32 ← Prog.lift (.load arg4 (Rect.unit (s := S64x1) ![0, 0] S64x1.size inb_S64x1_S64x1_0_0).toLoadRect (View.loadsAt_vmem h_S64x1))
    let v107 : Vec F S1x64x512 .bf16 ← Prog.lift (.load arg8 (Rect.unit (s := S1x128x512) ![0, 0, 0] S1x64x512.size inb_S1x128x512_S1x64x512_0_0_0).toLoadRect (View.loadsAt_vmem h_S1x64x512))
    Prog.lift (.store arg8 (Rect.unit (s := S1x128x512) ![0, 0, 0] S1x64x512.size inb_S1x128x512_S1x64x512_0_0_0) (k0_pay219 (k0_pay201 v0) v78_0 v79) Finset.univ (View.stores_vmem h_S1x64x512 (harg8.storeExact_slice rfl _ packedbf16_S1x128x512_S1x64x512_0_0_0) (fun _ => rfl)) (.inl rfl))
    pure ⟨k0_pay218 v79, k0_pay220 (k0_pay201 v0) v78_1, k0_pay221 (k0_pay201 v0) v78_1⟩)
  let v134 : Vec F S1x64x512 .bf16 ← Prog.lift (.load arg8 (Rect.unit (s := S1x128x512) ![0, 64, 0] S1x64x512.size inb_S1x128x512_S1x64x512_0_64_0).toLoadRect (View.loadsAt_vmem h_S1x64x512))
  Prog.lift (.store arg8 (Rect.unit (s := S1x128x512) ![0, 64, 0] S1x64x512.size inb_S1x128x512_S1x64x512_0_64_0) (k0_pay1 v82 v120 v125) Finset.univ (View.stores_vmem h_S1x64x512 (harg8.storeExact_slice rfl _ packedbf16_S1x128x512_S1x64x512_0_64_0) (fun _ => rfl)) (.inl rfl))
  pure ⟨⟩

/-- The condition the body branches on: the bound on the scores' distance from the first chunk's maximum is at most a hundred. -/
def Safe (x5 : Vec F S1x128x512 .bf16) (x6 : Vec F S1x512x128 .bf16) (x11 : Vec F S8x128 .f32) : Prop :=
  Scalar.cmpi .ne (Scalar.extui (Scalar.cmpf .ole (bnd x5 x6 x11) (Scalar.ofBits .f32 0x42C80000#32)) : BitVec 32) 0#32 = 1#1

set_option maxHeartbeats 8000000 in
/-- The sweep against the fixed maximum: what it leaves in the result block. -/
@[irreducible] def runFix (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v0 : Vec F S4x32 .f32) (v16 : Vec F S1x128x512 .bf16) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (hs : Safe v16 (View.readAt (Elt F) arg6.view (Rect.unit (s := S1x16384x128) ![0, 0, 0] S1x512x128.size inb_S1x16384x128_S1x512x128_0_0_0).toLoadRect f6) (View.readAt (Elt F) arg11.view (Rect.unit (s := S8x128) ![0, 0] S8x128.size inb_S8x128_S8x128_0_0).toLoadRect f11)) :
    { L : List (View.Piece (Elt F) S1x128x512 .bf16) // ∀ (E : Set ℕ),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) E (tail i arg3 harg3 arg4 harg4 arg5 harg5 arg6 harg6 arg7 harg7 arg8 harg8 arg9 harg9 arg10 harg10 arg11 harg11 v0 v16) (fun _ =>
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} (arg8.view.writes (Elt F) f8 L)) ∗ (∃ g, (arg9.view.loc (c : Thread nD τ) ↦[arg9.view.set]{fullShare} g)) ∗ (∃ g, (arg10.view.loc (c : Thread nD τ) ↦[arg10.view.set]{fullShare} g)) ∗ (arg11.view.loc (c : Thread nD τ) ↦[arg11.view.set]{fullShare} f11))) } := by
  refine ⟨?_, fun E => ?run⟩
  case run =>
    unfold Safe at hs
    unfold tail
    iintro ⟨H3, H4, H5, H6, H7, H8, H9, H10, H11⟩
    sl_exec (disch := exact hs)
    sl_step
    sl_close

set_option maxHeartbeats 8000000 in
/-- The sweep with a running maximum: what it leaves in the result block. -/
@[irreducible] def runFlash (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v0 : Vec F S4x32 .f32) (v16 : Vec F S1x128x512 .bf16) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (hs : ¬ Safe v16 (View.readAt (Elt F) arg6.view (Rect.unit (s := S1x16384x128) ![0, 0, 0] S1x512x128.size inb_S1x16384x128_S1x512x128_0_0_0).toLoadRect f6) (View.readAt (Elt F) arg11.view (Rect.unit (s := S8x128) ![0, 0] S8x128.size inb_S8x128_S8x128_0_0).toLoadRect f11)) :
    { L : List (View.Piece (Elt F) S1x128x512 .bf16) // ∀ (E : Set ℕ),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) E (tail i arg3 harg3 arg4 harg4 arg5 harg5 arg6 harg6 arg7 harg7 arg8 harg8 arg9 harg9 arg10 harg10 arg11 harg11 v0 v16) (fun _ =>
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} (arg8.view.writes (Elt F) f8 L)) ∗ (∃ g, (arg9.view.loc (c : Thread nD τ) ↦[arg9.view.set]{fullShare} g)) ∗ (∃ g, (arg10.view.loc (c : Thread nD τ) ↦[arg10.view.set]{fullShare} g)) ∗ (arg11.view.loc (c : Thread nD τ) ↦[arg11.view.set]{fullShare} f11))) } := by
  refine ⟨?_, fun E => ?run⟩
  case run =>
    unfold Safe at hs
    unfold tail
    iintro ⟨H3, H4, H5, H6, H7, H8, H9, H10, H11⟩
    sl_exec (disch := exact hs)
    sl_step
    sl_close

end Cert.Kernel3Ideal.Diff
end
-- ==== Proof.Diff.Vocab.lean ====
module

public import proofs.«01_k».proof.Proof.Diff.Body
public import proofs.«01_k».proof.Proof.Att.Trip
public import Idealize.ShloMosaic.Lib.Pipeline.ReadBack
public import Idealize.ShloMosaic.Lib.Pipeline.ValueKit.Acc

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the sweep: what one chunk of 512 keys contributes -/

/-- The scores of a chunk of keys against the four copies of the queries. -/
def sc (w : FVec F S128x2048 .bf16) (kc : Vec F S1x512x128 .bf16) : FVec F S512x2048 .f32 :=
  matmul dot_S512x128_S128x2048_S512x2048_1_0_0_1_n_n none (shapeCast S512x128 kc shapeCasts_S1x512x128_S512x128) w (constant S512x2048 .f32 0x00000000#32)

/-- The largest score of a chunk, query by query. -/
def cmax (s : FVec F S512x2048 .f32) : FVec F S1x2048 .f32 :=
  shapeCast S1x2048 (multiReduction .maximumf [0] S2048 s 0xFF800000#32 reduces_S512x2048_S2048 (.inl rfl) rfl) shapeCasts_S2048_S1x2048

/-- The weights of a chunk whose scores are `s`, with the running maximum `m` taken off. -/
def pr (s : FVec F S512x2048 .f32) (m : FVec F S1x2048 .f32) : FVec F S1x512x2048 .bf16 :=
  shapeCast S1x512x2048 (truncf .bf16 (exp2 (subf s (broadcastTo S512x2048 m broadcasts_S1x2048_S512x2048))) bitsLt_bf16_f32) shapeCasts_S512x2048_S1x512x2048

/-- The values of a chunk (and its row of ones) times the weights of one head. -/
def pv (vc : Vec F S1x1x1x80x512 .bf16) (p : FVec F S1x512x1024 .bf16) : FVec F S80x1024 .f32 :=
  matmul dot_S80x512_S512x1024_S80x1024_1_0_0_1_n_n none (shapeCast S80x512 vc shapeCasts_S1x1x1x80x512_S80x512) (shapeCast S512x1024 p shapeCasts_S1x512x1024_S512x1024) (constant S80x1024 .f32 0x00000000#32)

/-- A score slab put into a slot of the ring and taken out again. -/
def slab (s : FVec F S512x2048 .f32) : FVec F S512x2048 .f32 :=
  shapeCast S512x2048 (shapeCast S1x512x2048 s shapeCasts_S512x2048_S1x512x2048) shapeCasts_S1x512x2048_S512x2048

theorem slices_lo : S1x512x2048.Slices ![0, 0, 0] S1x512x1024 :=
  ⟨rfl, fun a => by fin_cases a <;> decide⟩

theorem slices_hi : S1x512x2048.Slices ![0, 0, 1024] S1x512x1024 :=
  ⟨rfl, fun a => by fin_cases a <;> decide⟩

/-- One head's half of a slab of weights. -/
def half (b : Bool) (p : FVec F S1x512x2048 .bf16) : FVec F S1x512x1024 .bf16 :=
  match b with
  | false => extractStridedSlice S1x512x1024 ![0, 0, 0] p slices_lo
  | true => extractStridedSlice S1x512x1024 ![0, 0, 1024] p slices_hi

/-- One head's half of a row. -/
def halfRow (b : Bool) (m : FVec F S1x2048 .f32) : FVec F S1x1024 .f32 :=
  match b with
  | false => extractStridedSlice S1x1024 ![0, 0] m slices_S1x2048_o0_0_S1x1024
  | true => extractStridedSlice S1x1024 ![0, 1024] m slices_S1x2048_o0_1024_S1x1024

/-- The weights of chunk `c` in the sweep with the fixed maximum `m`. -/
def fixP (w : FVec F S128x2048 .bf16) (kc : ℕ → Vec F S1x512x128 .bf16) (m : FVec F S1x2048 .f32) : ℕ → FVec F S1x512x2048 .bf16
  | 0 => pr (slab (sc w (kc 0))) m
  | c + 1 => pr (sc w (kc (c + 1))) m

/-- The sums of one head over the first `n` chunks in the sweep with the fixed maximum `m`. -/
def fixAcc (b : Bool) (w : FVec F S128x2048 .bf16) (kc : ℕ → Vec F S1x512x128 .bf16) (vc : ℕ → Vec F S1x1x1x80x512 .bf16) (m : FVec F S1x2048 .f32) : ℕ → FVec F S80x1024 .f32
  | 0 => k0_pay3
  | n + 1 => addf (fixAcc b w kc vc m n) (pv (vc n) (half b (fixP w kc m n)))

theorem inb_key (c : ℕ) : ∀ a, (![0, 512 * (c % 32), 0] : Fin 3 → ℕ) a + S1x512x128.size a ≤ S1x16384x128.size a := by
  have := Nat.mod_lt c (show 0 < 32 by decide)
  intro a; fin_cases a
  · show 0 + 1 ≤ 1; omega
  · show 512 * (c % 32) + 512 ≤ 16384; omega
  · show 0 + 128 ≤ 128; omega

theorem inb_val (b : Bool) (c : ℕ) : ∀ a, (![0, b.toNat, c % 32, 0, 0] : Fin 5 → ℕ) a + S1x1x1x80x512.size a ≤ S1x2x32x80x512.size a := by
  have := Nat.mod_lt c (show 0 < 32 by decide)
  have := b.toNat_lt
  intro a; fin_cases a
  · show 0 + 1 ≤ 1; omega
  · show b.toNat + 1 ≤ 2; omega
  · show c % 32 + 1 ≤ 32; omega
  · show 0 + 80 ≤ 80; omega
  · show 0 + 512 ≤ 512; omega

/-- Chunk `c` of the keys. -/
def kc (arg6 : Memref sig .tc .vmem S1x16384x128 .bf16) (f6 : BufTy.Contents (Elt F) arg6.view.ty) (c : ℕ) : Vec F S1x512x128 .bf16 :=
  View.readAt (Elt F) arg6.view (Rect.unit (s := S1x16384x128) ![0, 512 * (c % 32), 0] S1x512x128.size (inb_key c)).toLoadRect f6

/-- Chunk `c` of one head's values. -/
def vc (b : Bool) (arg7 : Memref sig .tc .vmem S1x2x32x80x512 .bf16) (f7 : BufTy.Contents (Elt F) arg7.view.ty) (c : ℕ) : Vec F S1x1x1x80x512 .bf16 :=
  View.readAt (Elt F) arg7.view (Rect.unit (s := S1x2x32x80x512) ![0, b.toNat, c % 32, 0, 0] S1x1x1x80x512.size (inb_val b c)).toLoadRect f7

/-- The gain. -/
def gl (arg4 : Memref sig .tc .vmem S64x1 .f32) (f4 : BufTy.Contents (Elt F) arg4.view.ty) : Vec F S64x1 .f32 :=
  View.readAt (Elt F) arg4.view (Rect.unit (s := S64x1) ![0, 0] S64x1.size inb_S64x1_S64x1_0_0).toLoadRect f4

/-- The two stores of the body's end, the later first: each head's sums normalised. -/
def outL (v0 : Vec F S4x32 .f32) (g : Vec F S64x1 .f32) (A B : FVec F S80x1024 .f32) : List (View.Piece (Elt F) S1x128x512 .bf16) :=
  [⟨(Rect.unit (s := S1x128x512) ![0, 64, 0] S1x64x512.size inb_S1x128x512_S1x64x512_0_64_0), k0_pay1 (k0_pay218 g) (k0_pay220 (k0_pay201 v0) B) (k0_pay221 (k0_pay201 v0) B)⟩,
   ⟨(Rect.unit (s := S1x128x512) ![0, 0, 0] S1x64x512.size inb_S1x128x512_S1x64x512_0_0_0), k0_pay219 (k0_pay201 v0) A g⟩]

theorem inb_slot (s : ℕ) (h : s + 1 ≤ 4) : ∀ a, (![s, 0, 0] : Fin 3 → ℕ) a + S1x512x2048.size a ≤ S4x512x2048.size a := by
  intro a; fin_cases a
  · show s + 1 ≤ 4; omega
  · show 0 + 512 ≤ 512; omega
  · show 0 + 2048 ≤ 2048; omega

/-- A load of the first half of a slot is the first half of the load of the slot. -/
theorem readAt_lo {κ : Kind} {sp : Space} (v : View sig κ sp S4x512x2048 .bf16) (f : v.ty.Contents (Elt F)) (s : ℕ) (h) :
    v.readAt (Elt F) (Rect.unit (s := S4x512x2048) ![s, 0, 0] S1x512x1024.size h).toLoadRect f
      = half false (v.readAt (Elt F) (Rect.unit (s := S4x512x2048) ![s, 0, 0] S1x512x2048.size (inb_slot s (h 0))).toLoadRect f) := by
  funext j
  show v.read (Elt F) f _ = v.read (Elt F) f _
  refine congrArg _ (funext fun a => Fin.ext ?_)
  fin_cases a
  · show s + 1 * (j 0).val = s + 1 * (0 + (j 0).val); omega
  · show 0 + 1 * (j 1).val = 0 + 1 * (0 + (j 1).val); omega
  · show 0 + 1 * (j 2).val = 0 + 1 * (0 + (j 2).val); omega

/-- A load of the second half of a slot is the second half of the load of the slot. -/
theorem readAt_hi {κ : Kind} {sp : Space} (v : View sig κ sp S4x512x2048 .bf16) (f : v.ty.Contents (Elt F)) (s : ℕ) (h) :
    v.readAt (Elt F) (Rect.unit (s := S4x512x2048) ![s, 0, 1024] S1x512x1024.size h).toLoadRect f
      = half true (v.readAt (Elt F) (Rect.unit (s := S4x512x2048) ![s, 0, 0] S1x512x2048.size (inb_slot s (h 0))).toLoadRect f) := by
  funext j
  show v.read (Elt F) f _ = v.read (Elt F) f _
  refine congrArg _ (funext fun a => Fin.ext ?_)
  fin_cases a
  · show s + 1 * (j 0).val = s + 1 * (0 + (j 0).val); omega
  · show 0 + 1 * (j 1).val = 0 + 1 * (0 + (j 1).val); omega
  · show 1024 + 1 * (j 2).val = 0 + 1 * (1024 + (j 2).val); omega

/-- The same of what a list of stores leaves. -/
theorem readCov_lo {κ : Kind} {sp : Space} (v : View sig κ sp S4x512x2048 .bf16) (L : List (View.Piece (Elt F) S4x512x2048 .bf16)) (s : ℕ) (h) :
    v.readCov L (Rect.unit (s := S4x512x2048) ![s, 0, 0] S1x512x1024.size h).toLoadRect
      = half false (v.readCov L (Rect.unit (s := S4x512x2048) ![s, 0, 0] S1x512x2048.size (inb_slot s (h 0))).toLoadRect) := readAt_lo v _ s h

theorem readCov_hi {κ : Kind} {sp : Space} (v : View sig κ sp S4x512x2048 .bf16) (L : List (View.Piece (Elt F) S4x512x2048 .bf16)) (s : ℕ) (h) :
    v.readCov L (Rect.unit (s := S4x512x2048) ![s, 0, 1024] S1x512x1024.size h).toLoadRect
      = half true (v.readCov L (Rect.unit (s := S4x512x2048) ![s, 0, 0] S1x512x2048.size (inb_slot s (h 0))).toLoadRect) := readAt_hi v _ s h

end Cert.Kernel3Ideal.Diff
end
-- ==== Proof.Diff.FixVal.lean ====
module

public import proofs.«01_k».proof.Proof.Diff.Vocab

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The sweep with the fixed maximum leaves the two heads' sums over all 32 chunks, normalised. -/
theorem runFix_val (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v0 : Vec F S4x32 .f32) (v16 : Vec F S1x128x512 .bf16) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (hs : Safe v16 (View.readAt (Elt F) arg6.view (Rect.unit (s := S1x16384x128) ![0, 0, 0] S1x512x128.size inb_S1x16384x128_S1x512x128_0_0_0).toLoadRect f6) (View.readAt (Elt F) arg11.view (Rect.unit (s := S8x128) ![0, 0] S8x128.size inb_S8x128_S8x128_0_0).toLoadRect f11)) :
    (runFix c i arg3 harg3 arg4 harg4 arg5 harg5 arg6 harg6 arg7 harg7 arg8 harg8 arg9 harg9 arg10 harg10 arg11 harg11 v0 v16 f3 f4 f5 f6 f7 f8 f9 f10 f11 hs).1 = outL v0 (gl arg4 f4)
      (fixAcc false (wq v16) (kc arg6 f6) (vc false arg7 f7) (cmax (sc (wq v16) (kc arg6 f6 0))) 32)
      (fixAcc true (wq v16) (kc arg6 f6) (vc true arg7 f7) (cmax (sc (wq v16) (kc arg6 f6 0))) 32) := by
  frame_open
  simp (disch := decide) only [↓ readCov_lo, ↓ readCov_hi, ↓ View.readCov_skip, ↓ View.readCov_cons_toLoadRect]
  rfl

end Cert.Kernel3Ideal.Diff
end
-- ==== Proof.Diff.Trip.lean ====
module

public import proofs.«01_k».proof.Proof.Diff.Vocab

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Att (readAt_hit readAt_skip)

/-! ## The sweep with the running maximum -/

/-- A score slab as the ring holds it. -/
def up (s : FVec F S512x2048 .f32) : FVec F S1x512x2048 .f32 := shapeCast S1x512x2048 s shapeCasts_S512x2048_S1x512x2048

/-- The running maximum after `n` chunks with scores `S`, from `m`. -/
def flM (S : ℕ → FVec F S512x2048 .f32) (m : FVec F S1x2048 .f32) : ℕ → FVec F S1x2048 .f32
  | 0 => m
  | n + 1 => maximumf (flM S m n) (cmax (S n))

/-- The weights of the chunk before the `n`-th, `p` before the first. -/
def flP (S : ℕ → FVec F S512x2048 .f32) (m : FVec F S1x2048 .f32) (p : FVec F S1x512x2048 .bf16) : ℕ → FVec F S1x512x2048 .bf16
  | 0 => p
  | n + 1 => pr (slab (S n)) (flM S m (n + 1))

/-- One head's running sums before the `n`-th chunk: the chunk before it added, then rescaled to the new maximum. -/
def flA (b : Bool) (S : ℕ → FVec F S512x2048 .f32) (V : ℕ → Vec F S1x1x1x80x512 .bf16) (m : FVec F S1x2048 .f32) (p : FVec F S1x512x2048 .bf16) (a : FVec F S80x1024 .f32) : ℕ → FVec F S80x1024 .f32
  | 0 => a
  | n + 1 => mulf (addf (flA b S V m p a n) (pv (V n) (half b (flP S m p n)))) (broadcastTo S80x1024 (halfRow b (exp2 (subf (flM S m n) (flM S m (n + 1))))) broadcasts_S1x1024_S80x1024)

/-- The scores a trip sees: two from before it, then its own. -/
def Sloc (s0 s1 : FVec F S512x2048 .f32) (w : FVec F S128x2048 .bf16) (K : ℕ → Vec F S1x512x128 .bf16) : ℕ → FVec F S512x2048 .f32
  | 0 => s0
  | 1 => s1
  | n + 2 => sc w (K n)

/-- The chunk of keys step `j` of trip `k` multiplies (for the scores two steps ahead). -/
def kT (arg6 : Memref sig .tc .vmem S1x16384x128 .bf16) (f6 : BufTy.Contents (Elt F) arg6.view.ty) (k : Fin k0_t2_loop.trips) (j : ℕ) : Vec F S1x512x128 .bf16 :=
  View.readAt (Elt F) arg6.view (Rect.unit (s := S1x16384x128) (k0_off2 k (BitVec.ofNat 32 (j % 8))) S1x512x128.size (k0_off2_inb k ⟨j % 8, Nat.mod_lt _ (by decide)⟩)).toLoadRect f6

/-- The chunk of one head's values step `j` of trip `k` multiplies (one step behind). -/
def vT (b : Bool) (arg7 : Memref sig .tc .vmem S1x2x32x80x512 .bf16) (f7 : BufTy.Contents (Elt F) arg7.view.ty) (k : Fin k0_t2_loop.trips) (j : ℕ) : Vec F S1x1x1x80x512 .bf16 :=
  match b with
  | false => View.readAt (Elt F) arg7.view (Rect.unit (s := S1x2x32x80x512) (k0_off3 k (BitVec.ofNat 32 (j % 8))) S1x1x1x80x512.size (k0_off3_inb k ⟨j % 8, Nat.mod_lt _ (by decide)⟩)).toLoadRect f7
  | true => View.readAt (Elt F) arg7.view (Rect.unit (s := S1x2x32x80x512) (k0_off4 k (BitVec.ofNat 32 (j % 8))) S1x1x1x80x512.size (k0_off4_inb k ⟨j % 8, Nat.mod_lt _ (by decide)⟩)).toLoadRect f7

set_option maxHeartbeats 4000000 in
/-- What a trip of eight steps carries on. -/
theorem trip_res (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (w : FVec F S128x2048 .bf16) (f6 : BufTy.Contents (Elt F) arg6.view.ty) (f7 : BufTy.Contents (Elt F) arg7.view.ty) (k : Fin k0_t2_loop.trips)
    (m : FVec F S1x2048 .f32) (s0 s1 : FVec F S512x2048 .f32) (a a' : FVec F S80x1024 .f32) (f9 : BufTy.Contents (Elt F) arg9.view.ty) (f10 : BufTy.Contents (Elt F) arg10.view.ty)
    (h0 : View.readAt (Elt F) arg9.view (Rect.unit (s := S4x512x2048) ![0, 0, 0] S1x512x2048.size inb_S4x512x2048_S1x512x2048_0_0_0).toLoadRect f9 = up s0) (h1 : View.readAt (Elt F) arg9.view (Rect.unit (s := S4x512x2048) ![1, 0, 0] S1x512x2048.size inb_S4x512x2048_S1x512x2048_1_0_0).toLoadRect f9 = up s1) :
    (trip_k0_t2 (F := F) 𝒱 c bd i arg3 harg3 arg4 harg4 arg5 harg5 arg6 harg6 arg7 harg7 arg8 harg8 arg9 harg9 arg10 harg10 arg11 harg11 w f6 f7 k).1 (m, cmax s0, cmax s1, a, a') f9 f10 = (flM (Sloc s0 s1 w (kT arg6 f6 k)) m 8, cmax ((Sloc s0 s1 w (kT arg6 f6 k)) 8), cmax ((Sloc s0 s1 w (kT arg6 f6 k)) 9), flA false (Sloc s0 s1 w (kT arg6 f6 k)) (vT false arg7 f7 k) m (View.readAt (Elt F) arg10.view (Rect.unit (s := S4x512x2048) ![1, 0, 0] S1x512x2048.size inb_S4x512x2048_S1x512x2048_1_0_0).toLoadRect f10) a 8, flA true (Sloc s0 s1 w (kT arg6 f6 k)) (vT true arg7 f7 k) m (View.readAt (Elt F) arg10.view (Rect.unit (s := S4x512x2048) ![1, 0, 0] S1x512x2048.size inb_S4x512x2048_S1x512x2048_1_0_0).toLoadRect f10) a' 8) := by
  unfold trip_k0_t2
  dsimp only
  frame_open
  simp (disch := decide) only [↓ readCov_lo, ↓ readCov_hi, ↓ readAt_lo, ↓ readAt_hi, ↓ View.readCov_skip, ↓ View.readCov_cons_toLoadRect, h0, h1]
  rfl

set_option maxHeartbeats 4000000 in
/-- The slab a trip leaves in the ring's first slot. -/
theorem trip_slot0 (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (w : FVec F S128x2048 .bf16) (f6 : BufTy.Contents (Elt F) arg6.view.ty) (f7 : BufTy.Contents (Elt F) arg7.view.ty) (k : Fin k0_t2_loop.trips)
    (m : FVec F S1x2048 .f32) (s0 s1 : FVec F S512x2048 .f32) (a a' : FVec F S80x1024 .f32) (f9 : BufTy.Contents (Elt F) arg9.view.ty) (f10 : BufTy.Contents (Elt F) arg10.view.ty) (g : BufTy.Contents (Elt F) arg9.view.ty) (L : List (View.Piece (Elt F) S4x512x2048 .f32)) :
    View.readAt (Elt F) arg9.view (Rect.unit (s := S4x512x2048) ![0, 0, 0] S1x512x2048.size inb_S4x512x2048_S1x512x2048_0_0_0).toLoadRect (arg9.view.writes (Elt F) g ((trip_k0_t2 (F := F) 𝒱 c bd i arg3 harg3 arg4 harg4 arg5 harg5 arg6 harg6 arg7 harg7 arg8 harg8 arg9 harg9 arg10 harg10 arg11 harg11 w f6 f7 k).2.1 (m, cmax s0, cmax s1, a, a') f9 f10 ++ L)) = up ((Sloc s0 s1 w (kT arg6 f6 k)) 8) := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

set_option maxHeartbeats 4000000 in
/-- The slab a trip leaves in the ring's second slot. -/
theorem trip_slot1 (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (w : FVec F S128x2048 .bf16) (f6 : BufTy.Contents (Elt F) arg6.view.ty) (f7 : BufTy.Contents (Elt F) arg7.view.ty) (k : Fin k0_t2_loop.trips)
    (m : FVec F S1x2048 .f32) (s0 s1 : FVec F S512x2048 .f32) (a a' : FVec F S80x1024 .f32) (f9 : BufTy.Contents (Elt F) arg9.view.ty) (f10 : BufTy.Contents (Elt F) arg10.view.ty) (g : BufTy.Contents (Elt F) arg9.view.ty) (L : List (View.Piece (Elt F) S4x512x2048 .f32)) :
    View.readAt (Elt F) arg9.view (Rect.unit (s := S4x512x2048) ![1, 0, 0] S1x512x2048.size inb_S4x512x2048_S1x512x2048_1_0_0).toLoadRect (arg9.view.writes (Elt F) g ((trip_k0_t2 (F := F) 𝒱 c bd i arg3 harg3 arg4 harg4 arg5 harg5 arg6 harg6 arg7 harg7 arg8 harg8 arg9 harg9 arg10 harg10 arg11 harg11 w f6 f7 k).2.1 (m, cmax s0, cmax s1, a, a') f9 f10 ++ L)) = up ((Sloc s0 s1 w (kT arg6 f6 k)) 9) := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

set_option maxHeartbeats 4000000 in
/-- The weights a trip leaves for the next. -/
theorem trip_wt (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (w : FVec F S128x2048 .bf16) (f6 : BufTy.Contents (Elt F) arg6.view.ty) (f7 : BufTy.Contents (Elt F) arg7.view.ty) (k : Fin k0_t2_loop.trips)
    (m : FVec F S1x2048 .f32) (s0 s1 : FVec F S512x2048 .f32) (a a' : FVec F S80x1024 .f32) (f9 : BufTy.Contents (Elt F) arg9.view.ty) (f10 : BufTy.Contents (Elt F) arg10.view.ty) (g : BufTy.Contents (Elt F) arg10.view.ty) (L : List (View.Piece (Elt F) S4x512x2048 .bf16)) :
    View.readAt (Elt F) arg10.view (Rect.unit (s := S4x512x2048) ![1, 0, 0] S1x512x2048.size inb_S4x512x2048_S1x512x2048_1_0_0).toLoadRect (arg10.view.writes (Elt F) g ((trip_k0_t2 (F := F) 𝒱 c bd i arg3 harg3 arg4 harg4 arg5 harg5 arg6 harg6 arg7 harg7 arg8 harg8 arg9 harg9 arg10 harg10 arg11 harg11 w f6 f7 k).2.2.1 (m, cmax s0, cmax s1, a, a') f9 f10 ++ L)) = flP (Sloc s0 s1 w (kT arg6 f6 k)) m (View.readAt (Elt F) arg10.view (Rect.unit (s := S4x512x2048) ![1, 0, 0] S1x512x2048.size inb_S4x512x2048_S1x512x2048_1_0_0).toLoadRect f10) 8 := by
  unfold trip_k0_t2
  dsimp only
  frame_open
  simp only [List.cons_append, List.append_assoc, List.nil_append]
  simp (disch := decide) only [↓ View.readCov_skip, ↓ View.readCov_cons_toLoadRect, ↓ readAt_skip, ↓ readAt_hit]
  rfl

end Cert.Kernel3Ideal.Diff
end
-- ==== Proof.Diff.Flash.lean ====
module

public import proofs.«01_k».proof.Proof.Diff.Trip

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Att (readAt_hit readAt_skip)

/-! ## The sweep with the running maximum: its four trips together -/

theorem flM_congr {S S' : ℕ → FVec F S512x2048 .f32} {N : ℕ} (h : ∀ j < N, S j = S' j) (m : FVec F S1x2048 .f32) : ∀ n ≤ N, flM S m n = flM S' m n
  | 0, _ => rfl
  | n + 1, hn => by unfold flM; rw [flM_congr h m n (by omega), h n (by omega)]

theorem flP_congr {S S' : ℕ → FVec F S512x2048 .f32} {N : ℕ} (h : ∀ j < N, S j = S' j) (m : FVec F S1x2048 .f32) (p : FVec F S1x512x2048 .bf16) : ∀ n ≤ N, flP S m p n = flP S' m p n
  | 0, _ => rfl
  | n + 1, hn => by show pr (slab (S n)) (flM S m (n + 1)) = pr (slab (S' n)) (flM S' m (n + 1)); rw [flM_congr h m (n + 1) hn, h n (by omega)]

theorem flA_congr (b : Bool) {S S' : ℕ → FVec F S512x2048 .f32} {V V' : ℕ → Vec F S1x1x1x80x512 .bf16} {N : ℕ} (h : ∀ j < N, S j = S' j) (hV : ∀ j < N, V j = V' j) (m : FVec F S1x2048 .f32)
    (p : FVec F S1x512x2048 .bf16) (a : FVec F S80x1024 .f32) : ∀ n ≤ N, flA b S V m p a n = flA b S' V' m p a n
  | 0, _ => rfl
  | n + 1, hn => by
    unfold flA
    rw [flA_congr b h hV m p a n (by omega), flP_congr h m p n (by omega), flM_congr h m n (by omega), flM_congr h m (n + 1) hn, hV n (by omega)]

theorem flM_add (S : ℕ → FVec F S512x2048 .f32) (m : FVec F S1x2048 .f32) (n : ℕ) : ∀ j, flM S m (n + j) = flM (fun j => S (n + j)) (flM S m n) j
  | 0 => rfl
  | j + 1 => by show maximumf (flM S m (n + j)) _ = _; rw [flM_add S m n j]; rfl

theorem flP_add (S : ℕ → FVec F S512x2048 .f32) (m : FVec F S1x2048 .f32) (p : FVec F S1x512x2048 .bf16) (n : ℕ) : ∀ j, flP S m p (n + j) = flP (fun j => S (n + j)) (flM S m n) (flP S m p n) j
  | 0 => rfl
  | j + 1 => by show pr _ (flM S m (n + (j + 1))) = _; rw [flM_add S m n (j + 1)]; rfl

theorem flA_add (b : Bool) (S : ℕ → FVec F S512x2048 .f32) (V : ℕ → Vec F S1x1x1x80x512 .bf16) (m : FVec F S1x2048 .f32) (p : FVec F S1x512x2048 .bf16) (a : FVec F S80x1024 .f32) (n : ℕ) :
    ∀ j, flA b S V m p a (n + j) = flA b (fun j => S (n + j)) (fun j => V (n + j)) (flM S m n) (flP S m p n) (flA b S V m p a n) j
  | 0 => rfl
  | j + 1 => by
    show mulf (addf (flA b S V m p a (n + j)) (pv (V (n + j)) (half b (flP S m p (n + j))))) (broadcastTo S80x1024 (halfRow b (exp2 (subf (flM S m (n + j)) (flM S m (n + (j + 1)))))) _) = _
    rw [flA_add b S V m p a n j, flP_add S m p n j, flM_add S m n j, flM_add S m n (j + 1)]; rfl

/-- The scores chunk by chunk; past the last chunk, the last again. -/
def Sg (w : FVec F S128x2048 .bf16) (arg6 : Memref sig .tc .vmem S1x16384x128 .bf16) (f6 : BufTy.Contents (Elt F) arg6.view.ty) (c : ℕ) : FVec F S512x2048 .f32 :=
  sc w (kc arg6 f6 (min c 31))

/-- One head's values one chunk behind; before the first, the first. -/
def Vg (b : Bool) (arg7 : Memref sig .tc .vmem S1x2x32x80x512 .bf16) (f7 : BufTy.Contents (Elt F) arg7.view.ty) (c : ℕ) : Vec F S1x1x1x80x512 .bf16 :=
  vc b arg7 f7 (c - 1)

theorem off3_eq : ∀ k : Fin k0_t2_loop.trips, ∀ (r : Fin 8), k0_off3 k (BitVec.ofNat 32 r.val) = ![0, 0, 8 * k.val + r.val - 1, 0, 0] := by decide +kernel

theorem off4_eq : ∀ k : Fin k0_t2_loop.trips, ∀ (r : Fin 8), k0_off4 k (BitVec.ofNat 32 r.val) = ![0, 1, 8 * k.val + r.val - 1, 0, 0] := by decide +kernel

theorem kT_eq (arg6 : Memref sig .tc .vmem S1x16384x128 .bf16) (f6 : BufTy.Contents (Elt F) arg6.view.ty) (k : Fin k0_t2_loop.trips) (j : ℕ) (hj : j < 8) :
    kT arg6 f6 k j = kc arg6 f6 (min (8 * k.val + (j + 2)) 31) := by
  unfold kT kc
  have h := k0_off2_eq k ⟨j % 8, Nat.mod_lt _ (by decide)⟩
  have h2 : (![0, 512 * (min (8 * k.val + j % 8 + 2) 31), 0] : Fin 3 → ℕ) = ![0, 512 * (min (8 * k.val + (j + 2)) 31 % 32), 0] := by
    have e1 : j % 8 = j := Nat.mod_eq_of_lt hj
    have e2 : min (8 * k.val + (j + 2)) 31 % 32 = min (8 * k.val + (j + 2)) 31 := Nat.mod_eq_of_lt (by omega)
    rw [e1, e2, Nat.add_assoc]
  exact View.readAt_unit_eq_of_eq arg6.view _ (h.trans h2) f6

theorem vT_eq (b : Bool) (arg7 : Memref sig .tc .vmem S1x2x32x80x512 .bf16) (f7 : BufTy.Contents (Elt F) arg7.view.ty) (k : Fin k0_t2_loop.trips) (j : ℕ) (hj : j < 8) :
    vT b arg7 f7 k j = Vg b arg7 f7 (8 * k.val + j) := by
  have hk : k.val < 4 := Nat.lt_of_lt_of_le k.isLt k0_t2_abs.2.1
  have e1 : j % 8 = j := Nat.mod_eq_of_lt hj
  have e2 : (8 * k.val + j - 1) % 32 = 8 * k.val + j - 1 := Nat.mod_eq_of_lt (by omega)
  unfold vT Vg vc
  match b with
  | false =>
    have h := off3_eq k ⟨j % 8, Nat.mod_lt _ (by decide)⟩
    have h2 : (![0, 0, 8 * k.val + j % 8 - 1, 0, 0] : Fin 5 → ℕ) = ![0, false.toNat, (8 * k.val + j - 1) % 32, 0, 0] := by
      rw [e1, e2]; rfl
    exact View.readAt_unit_eq_of_eq arg7.view _ (h.trans h2) f7
  | true =>
    have h := off4_eq k ⟨j % 8, Nat.mod_lt _ (by decide)⟩
    have h2 : (![0, 1, 8 * k.val + j % 8 - 1, 0, 0] : Fin 5 → ℕ) = ![0, true.toNat, (8 * k.val + j - 1) % 32, 0, 0] := by
      rw [e1, e2]; rfl
    exact View.readAt_unit_eq_of_eq arg7.view _ (h.trans h2) f7

theorem Sloc_eq (w : FVec F S128x2048 .bf16) (arg6 : Memref sig .tc .vmem S1x16384x128 .bf16) (f6 : BufTy.Contents (Elt F) arg6.view.ty) (k : Fin k0_t2_loop.trips) (j : ℕ) (hj : j < 10) :
    Sloc (Sg w arg6 f6 (8 * k.val)) (Sg w arg6 f6 (8 * k.val + 1)) w (kT arg6 f6 k) j = Sg w arg6 f6 (8 * k.val + j) := by
  match j, hj with
  | 0, _ => rfl
  | 1, _ => rfl
  | j + 2, h => show sc w (kT arg6 f6 k j) = sc w _; rw [kT_eq arg6 f6 k j (by omega)]

/-- What the trips before the `k`-th have left: the carried state after `8 k` chunks, the two slabs ahead, the weights behind. -/
theorem st_inv (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (w : FVec F S128x2048 .bf16) (f6 : BufTy.Contents (Elt F) arg6.view.ty) (f7 : BufTy.Contents (Elt F) arg7.view.ty)
    (m : FVec F S1x2048 .f32) (a a' : FVec F S80x1024 .f32) (G9 : BufTy.Contents (Elt F) arg9.view.ty) (G10 : BufTy.Contents (Elt F) arg10.view.ty) (p : FVec F S1x512x2048 .bf16)
    (h0 : View.readAt (Elt F) arg9.view (Rect.unit (s := S4x512x2048) ![0, 0, 0] S1x512x2048.size inb_S4x512x2048_S1x512x2048_0_0_0).toLoadRect G9 = up ((Sg w arg6 f6) 0))
    (h1 : View.readAt (Elt F) arg9.view (Rect.unit (s := S4x512x2048) ![1, 0, 0] S1x512x2048.size inb_S4x512x2048_S1x512x2048_1_0_0).toLoadRect G9 = up ((Sg w arg6 f6) 1))
    (hp : View.readAt (Elt F) arg10.view (Rect.unit (s := S4x512x2048) ![1, 0, 0] S1x512x2048.size inb_S4x512x2048_S1x512x2048_1_0_0).toLoadRect G10 = p) :
    ∀ k ≤ 4, (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).1 = (flM (Sg w arg6 f6) m (8 * k), cmax ((Sg w arg6 f6) (8 * k)), cmax ((Sg w arg6 f6) (8 * k + 1)), flA false (Sg w arg6 f6) (Vg false arg7 f7) m p a (8 * k), flA true (Sg w arg6 f6) (Vg true arg7 f7) m p a' (8 * k))
      ∧ View.readAt (Elt F) arg9.view (Rect.unit (s := S4x512x2048) ![0, 0, 0] S1x512x2048.size inb_S4x512x2048_S1x512x2048_0_0_0).toLoadRect (arg9.view.writes (Elt F) G9 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.1) = up ((Sg w arg6 f6) (8 * k))
      ∧ View.readAt (Elt F) arg9.view (Rect.unit (s := S4x512x2048) ![1, 0, 0] S1x512x2048.size inb_S4x512x2048_S1x512x2048_1_0_0).toLoadRect (arg9.view.writes (Elt F) G9 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.1) = up ((Sg w arg6 f6) (8 * k + 1))
      ∧ View.readAt (Elt F) arg10.view (Rect.unit (s := S4x512x2048) ![1, 0, 0] S1x512x2048.size inb_S4x512x2048_S1x512x2048_1_0_0).toLoadRect (arg10.view.writes (Elt F) G10 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.2) = flP (Sg w arg6 f6) m p (8 * k)
  | 0, _ => ⟨rfl, h0, h1, hp⟩
  | k + 1, hk => by
    obtain ⟨e1, e2, e3, e4⟩ := st_inv 𝒱 c bd i arg3 harg3 arg4 harg4 arg5 harg5 arg6 harg6 arg7 harg7 arg8 harg8 arg9 harg9 arg10 harg10 arg11 harg11 w f6 f7 m a a' G9 G10 p h0 h1 hp k (by omega)
    have hlt : k < k0_t2_loop.trips := Nat.lt_of_lt_of_le (show k < 4 by omega) (by decide)
    have hS := st_k0_t2_succ (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') ⟨k, hlt⟩
    have hl : ∀ j < 10, Sloc ((Sg w arg6 f6) (8 * k)) ((Sg w arg6 f6) (8 * k + 1)) w (kT arg6 f6 ⟨k, hlt⟩) j = (Sg w arg6 f6) (8 * k + j) := fun j hj => Sloc_eq w arg6 f6 ⟨k, hlt⟩ j hj
    have hv : ∀ b, ∀ j < 8, vT b arg7 f7 ⟨k, hlt⟩ j = (Vg b arg7 f7) (8 * k + j) := fun b j hj => vT_eq b arg7 f7 ⟨k, hlt⟩ j hj
    simp only at hS
    rw [hS, e1]
    clear hS
    have t := trip_res 𝒱 c bd i arg3 harg3 arg4 harg4 arg5 harg5 arg6 harg6 arg7 harg7 arg8 harg8 arg9 harg9 arg10 harg10 arg11 harg11 w f6 f7 ⟨k, hlt⟩ (flM (Sg w arg6 f6) m (8 * k)) ((Sg w arg6 f6) (8 * k)) ((Sg w arg6 f6) (8 * k + 1)) (flA false (Sg w arg6 f6) (Vg false arg7 f7) m p a (8 * k)) (flA true (Sg w arg6 f6) (Vg true arg7 f7) m p a' (8 * k)) _ (arg10.view.writes (Elt F) G10 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.2) e2 e3
    refine ⟨t.trans ?_, (trip_slot0 𝒱 c bd i arg3 harg3 arg4 harg4 arg5 harg5 arg6 harg6 arg7 harg7 arg8 harg8 arg9 harg9 arg10 harg10 arg11 harg11 w f6 f7 ⟨k, hlt⟩ (flM (Sg w arg6 f6) m (8 * k)) ((Sg w arg6 f6) (8 * k)) ((Sg w arg6 f6) (8 * k + 1)) (flA false (Sg w arg6 f6) (Vg false arg7 f7) m p a (8 * k)) (flA true (Sg w arg6 f6) (Vg true arg7 f7) m p a' (8 * k)) (arg9.view.writes (Elt F) G9 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.1) (arg10.view.writes (Elt F) G10 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.2) G9 _).trans ?_, (trip_slot1 𝒱 c bd i arg3 harg3 arg4 harg4 arg5 harg5 arg6 harg6 arg7 harg7 arg8 harg8 arg9 harg9 arg10 harg10 arg11 harg11 w f6 f7 ⟨k, hlt⟩ (flM (Sg w arg6 f6) m (8 * k)) ((Sg w arg6 f6) (8 * k)) ((Sg w arg6 f6) (8 * k + 1)) (flA false (Sg w arg6 f6) (Vg false arg7 f7) m p a (8 * k)) (flA true (Sg w arg6 f6) (Vg true arg7 f7) m p a' (8 * k)) (arg9.view.writes (Elt F) G9 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.1) (arg10.view.writes (Elt F) G10 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.2) G9 _).trans ?_, (trip_wt 𝒱 c bd i arg3 harg3 arg4 harg4 arg5 harg5 arg6 harg6 arg7 harg7 arg8 harg8 arg9 harg9 arg10 harg10 arg11 harg11 w f6 f7 ⟨k, hlt⟩ (flM (Sg w arg6 f6) m (8 * k)) ((Sg w arg6 f6) (8 * k)) ((Sg w arg6 f6) (8 * k + 1)) (flA false (Sg w arg6 f6) (Vg false arg7 f7) m p a (8 * k)) (flA true (Sg w arg6 f6) (Vg true arg7 f7) m p a' (8 * k)) (arg9.view.writes (Elt F) G9 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.1) (arg10.view.writes (Elt F) G10 (st_k0_t2 (F := F) 𝒱 c bd i arg3 harg3 arg4 harg4 arg5 harg5 arg6 harg6 arg7 harg7 arg8 harg8 arg9 harg9 arg10 harg10 arg11 harg11 w f6 f7 G9 G10 (m, cmax (Sg w arg6 f6 0), cmax (Sg w arg6 f6 1), a, a') k).2.2) G10 _).trans ?_⟩
    · rw [e4, flM_congr (fun j (hj : j < 8) => hl j (by omega)) _ 8 le_rfl, flA_congr false (fun j (hj : j < 8) => hl j (by omega)) (hv false) _ _ _ 8 le_rfl, flA_congr true (fun j (hj : j < 8) => hl j (by omega)) (hv true) _ _ _ 8 le_rfl, hl 8 (by omega), hl 9 (by omega),
        show 8 * (k + 1) = 8 * k + 8 by omega, flM_add, flA_add, flA_add]
    · rw [hl 8 (by omega)]; rfl
    · rw [hl 9 (by omega)]; rfl
    · refine (congrArg (fun z => flP _ _ z 8) e4).trans ?_
      rw [flP_congr (fun j (hj : j < 8) => hl j (by omega)) _ _ 8 le_rfl, show 8 * (k + 1) = 8 * k + 8 by omega, flP_add]

/-- One head's sums the sweep with the running maximum ends with. -/
def flTot (b : Bool) (w : FVec F S128x2048 .bf16) (arg6 : Memref sig .tc .vmem S1x16384x128 .bf16) (f6 : BufTy.Contents (Elt F) arg6.view.ty) (arg7 : Memref sig .tc .vmem S1x2x32x80x512 .bf16) (f7 : BufTy.Contents (Elt F) arg7.view.ty) : FVec F S80x1024 .f32 :=
  addf (flA b (Sg w arg6 f6) (Vg b arg7 f7) k0_pay189 k0_pay188 k0_pay3 32) (pv (vc b arg7 f7 31) (half b (flP (Sg w arg6 f6) k0_pay189 k0_pay188 32)))

set_option maxHeartbeats 800000 in
/-- The sweep with the running maximum leaves the two heads' last sums, normalised. -/
theorem runFlash_val (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v0 : Vec F S4x32 .f32) (v16 : Vec F S1x128x512 .bf16) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (hs : ¬ Safe v16 (View.readAt (Elt F) arg6.view (Rect.unit (s := S1x16384x128) ![0, 0, 0] S1x512x128.size inb_S1x16384x128_S1x512x128_0_0_0).toLoadRect f6) (View.readAt (Elt F) arg11.view (Rect.unit (s := S8x128) ![0, 0] S8x128.size inb_S8x128_S8x128_0_0).toLoadRect f11)) :
    (runFlash c i arg3 harg3 arg4 harg4 arg5 harg5 arg6 harg6 arg7 harg7 arg8 harg8 arg9 harg9 arg10 harg10 arg11 harg11 v0 v16 f3 f4 f5 f6 f7 f8 f9 f10 f11 hs).1 = outL v0 (gl arg4 f4) (flTot false (wq v16) arg6 f6 arg7 f7) (flTot true (wq v16) arg6 f6 arg7 f7) := by
  have key : ∀ (G9 : BufTy.Contents (Elt F) arg9.view.ty), View.readAt (Elt F) arg9.view (Rect.unit (s := S4x512x2048) ![0, 0, 0] S1x512x2048.size inb_S4x512x2048_S1x512x2048_0_0_0).toLoadRect G9 = up (Sg (wq v16) arg6 f6 0) → View.readAt (Elt F) arg9.view (Rect.unit (s := S4x512x2048) ![1, 0, 0] S1x512x2048.size inb_S4x512x2048_S1x512x2048_1_0_0).toLoadRect G9 = up (Sg (wq v16) arg6 f6 1) →
      (st_k0_t2 (F := F) Variants.none c none i arg3 harg3 arg4 harg4 arg5 harg5 arg6 harg6 arg7 harg7 arg8 harg8 arg9 harg9 arg10 harg10 arg11 harg11 (wq v16) f6 f7 G9 (arg10.view.writes (Elt F) f10 [⟨(Rect.unit (s := S4x512x2048) ![1, 0, 0] S1x512x2048.size inb_S4x512x2048_S1x512x2048_1_0_0), k0_pay188⟩]) (k0_pay189, cmax (Sg (wq v16) arg6 f6 0), cmax (Sg (wq v16) arg6 f6 1), k0_pay196, k0_pay197) 4).1.2.2.2.1 = flA false (Sg (wq v16) arg6 f6) (Vg false arg7 f7) k0_pay189 k0_pay188 k0_pay3 32
      ∧ (st_k0_t2 (F := F) Variants.none c none i arg3 harg3 arg4 harg4 arg5 harg5 arg6 harg6 arg7 harg7 arg8 harg8 arg9 harg9 arg10 harg10 arg11 harg11 (wq v16) f6 f7 G9 (arg10.view.writes (Elt F) f10 [⟨(Rect.unit (s := S4x512x2048) ![1, 0, 0] S1x512x2048.size inb_S4x512x2048_S1x512x2048_1_0_0), k0_pay188⟩]) (k0_pay189, cmax (Sg (wq v16) arg6 f6 0), cmax (Sg (wq v16) arg6 f6 1), k0_pay196, k0_pay197) 4).1.2.2.2.2 = flA true (Sg (wq v16) arg6 f6) (Vg true arg7 f7) k0_pay189 k0_pay188 k0_pay3 32
      ∧ arg10.view.readCov ((st_k0_t2 (F := F) Variants.none c none i arg3 harg3 arg4 harg4 arg5 harg5 arg6 harg6 arg7 harg7 arg8 harg8 arg9 harg9 arg10 harg10 arg11 harg11 (wq v16) f6 f7 G9 (arg10.view.writes (Elt F) f10 [⟨(Rect.unit (s := S4x512x2048) ![1, 0, 0] S1x512x2048.size inb_S4x512x2048_S1x512x2048_1_0_0), k0_pay188⟩]) (k0_pay189, cmax (Sg (wq v16) arg6 f6 0), cmax (Sg (wq v16) arg6 f6 1), k0_pay196, k0_pay197) 4).2.2 ++ [⟨(Rect.unit (s := S4x512x2048) ![1, 0, 0] S1x512x2048.size inb_S4x512x2048_S1x512x2048_1_0_0), k0_pay188⟩]) (Rect.unit (s := S4x512x2048) ![1, 0, 0] S1x512x2048.size inb_S4x512x2048_S1x512x2048_1_0_0).toLoadRect = flP (Sg (wq v16) arg6 f6) k0_pay189 k0_pay188 32 := by
    intro G9 h0 h1
    obtain ⟨e1, -, -, e4⟩ := st_inv (F := F) Variants.none c none i arg3 harg3 arg4 harg4 arg5 harg5 arg6 harg6 arg7 harg7 arg8 harg8 arg9 harg9 arg10 harg10 arg11 harg11 (wq v16) f6 f7 k0_pay189 k0_pay196 k0_pay197 G9 (arg10.view.writes (Elt F) f10 [⟨(Rect.unit (s := S4x512x2048) ![1, 0, 0] S1x512x2048.size inb_S4x512x2048_S1x512x2048_1_0_0), k0_pay188⟩]) k0_pay188 h0 h1 (readAt_hit ..) 4 le_rfl
    have hw : LoadRect.within (Rect.unit (s := S4x512x2048) ![1, 0, 0] S1x512x2048.size inb_S4x512x2048_S1x512x2048_1_0_0) (Rect.unit (s := S4x512x2048) ![1, 0, 0] S1x512x2048.size inb_S4x512x2048_S1x512x2048_1_0_0).toLoadRect = true := by decide
    refine ⟨by rw [e1]; rfl, by rw [e1]; rfl, ?_⟩
    rw [← View.readAt_writes_of_cover arg10.view f10 _ _ (fun j => ⟨⟨(Rect.unit (s := S4x512x2048) ![1, 0, 0] S1x512x2048.size inb_S4x512x2048_S1x512x2048_1_0_0), k0_pay188⟩, by simp, LoadRect.idx_mem_of_within hw j⟩), View.writes_append, e4]
  have ht : Scf.trips k0_t2_loop.lb k0_t2_loop.ub k0_t2_loop.st = 4 := by decide +kernel
  have comb : ∀ (x y : FVec F S80x1024 .f32) (z z' : FVec F S1x512x1024 .bf16),
      x = flA false (Sg (wq v16) arg6 f6) (Vg false arg7 f7) k0_pay189 k0_pay188 k0_pay3 32 → y = flA true (Sg (wq v16) arg6 f6) (Vg true arg7 f7) k0_pay189 k0_pay188 k0_pay3 32 →
      z = half false (flP (Sg (wq v16) arg6 f6) k0_pay189 k0_pay188 32) → z' = half true (flP (Sg (wq v16) arg6 f6) k0_pay189 k0_pay188 32) →
      outL v0 (gl arg4 f4) (k0_pay216 x (vc false arg7 f7 31) z) (k0_pay217 y (vc true arg7 f7 31) z') = outL v0 (gl arg4 f4) (flTot false (wq v16) arg6 f6 arg7 f7) (flTot true (wq v16) arg6 f6 arg7 f7) := by
    intro x y z z' hx hy hz hz'
    rw [hx, hy, hz, hz']; rfl
  frame_open
  rw [ht]
  refine comb _ _ _ _ ?_ ?_ ?_ ?_
  · refine (key _ ?_ ?_).1
    · simp (disch := decide) only [↓ readAt_skip, ↓ readAt_hit]; rfl
    · simp (disch := decide) only [↓ readAt_skip, ↓ readAt_hit]; rfl
  · refine (key _ ?_ ?_).2.1
    · simp (disch := decide) only [↓ readAt_skip, ↓ readAt_hit]; rfl
    · simp (disch := decide) only [↓ readAt_skip, ↓ readAt_hit]; rfl
  · refine (readCov_lo _ _ _ _).trans (congrArg (half false) (key _ ?_ ?_).2.2)
    · simp (disch := decide) only [↓ readAt_skip, ↓ readAt_hit]; rfl
    · simp (disch := decide) only [↓ readAt_skip, ↓ readAt_hit]; rfl
  · refine (readCov_hi _ _ _ _).trans (congrArg (half true) (key _ ?_ ?_).2.2)
    · simp (disch := decide) only [↓ readAt_skip, ↓ readAt_hit]; rfl
    · simp (disch := decide) only [↓ readAt_skip, ↓ readAt_hit]; rfl

end Cert.Kernel3Ideal.Diff
end
-- ==== Proof.Diff.Run.lean ====
module

public import proofs.«01_k».proof.Proof.Diff.FixVal
public import proofs.«01_k».proof.Proof.Diff.Flash
public import proofs.«01_k».proof.Proof.Att.Head

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Att (readAt_hit readAt_skip ite_bind)

/-- The two loads the body begins with: the parameters of lambda and the block of queries. -/
def firstTwo (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) : Prog (TpuEff nD τ sig (Elt F) Λ₀ .tc) (Vec F S4x32 .f32 × Vec F S1x128x512 .bf16) := do
  let v0 : Vec F S4x32 .f32 ← Prog.lift (.load arg3 (Rect.unit (s := S4x32) ![0, 0] S4x32.size inb_S4x32_S4x32_0_0).toLoadRect (View.loadsAt_vmem h_S4x32))
  let v16 : Vec F S1x128x512 .bf16 ← Prog.lift (.load arg5 (Rect.unit (s := S1x128x512) ![0, 0, 0] S1x128x512.size inb_S1x128x512_S1x128x512_0_0_0).toLoadRect (View.loadsAt_vmem h_S1x128x512))
  pure (v0, v16)

/-- The norms of the keys, measured and stored. -/
def norms (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v16 : Vec F S1x128x512 .bf16) (k0_h1 : k0_cond1 i = 1#1) : Prog (TpuEff nD τ sig (Elt F) Λ₀ .tc) PUnit := do
  let v139 : FVec F S1x128 .f32 ← Scf.Loop.for k0_t1_loop (k0_t1_ok i k0_h1) (k0_pay208 (F := F)) (k0_t1_body i arg3 harg3 arg4 harg4 arg5 harg5 arg6 harg6 arg7 harg7 arg8 harg8 arg9 harg9 arg10 harg10 arg11 harg11 (BitVec.ofNat 32 (i 2).val) (k0_pay202 v16) (iota .tc S128x512 32 [0] iota_S128x512_d0_w32) (k0_pay203 v16) (k0_pay204 v16) k0_pay205 (k0_pay206 (F := F)) k0_h1)
  let v142 : Vec F S8x128 .f32 ← Prog.lift (.load arg11 (Rect.unit (s := S8x128) ![0, 0] S8x128.size inb_S8x128_S8x128_0_0).toLoadRect (View.loadsAt_vmem h_S8x128))
  Prog.lift (.store arg11 (Rect.unit (s := S8x128) ![0, 0] S8x128.size inb_S8x128_S8x128_0_0) (k0_pay210 v139) Finset.univ (View.stores_vmem_bits_univ h_S8x128 rfl) (.inl rfl))
  pure ⟨⟩

set_option maxRecDepth 65536 in
/-- Away from the first block of queries the body is the sweep alone. -/
theorem body_eq_neg (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (k0_h1 : ¬ k0_cond1 i = 1#1) :
    cc0_diff_attention (F := F) i arg3 harg3 arg4 harg4 arg5 harg5 arg6 harg6 arg7 harg7 arg8 harg8 arg9 harg9 arg10 harg10 arg11 harg11 = (firstTwo i arg3 harg3 arg4 harg4 arg5 harg5 arg6 harg6 arg7 harg7 arg8 harg8 arg9 harg9 arg10 harg10 arg11 harg11 >>= fun v => tail i arg3 harg3 arg4 harg4 arg5 harg5 arg6 harg6 arg7 harg7 arg8 harg8 arg9 harg9 arg10 harg10 arg11 harg11 v.1 v.2) := by
  rw [cc0_diff_attention_eq_skeleton]; unfold cc0_diff_attention_skel
  rw [k0_part40_eq_skeleton, k0_part41_eq_skeleton, k0_part42_eq_skeleton]; unfold k0_part40_skel k0_part41_skel k0_part42_skel tail firstTwo
  simp only [dif_neg k0_h1, bind_assoc, pure_bind, ite_bind]

set_option maxRecDepth 65536 in
/-- At the first block of queries the body measures the keys, stores their norm and then sweeps. -/
theorem body_eq_pos (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (k0_h1 : k0_cond1 i = 1#1) :
    cc0_diff_attention (F := F) i arg3 harg3 arg4 harg4 arg5 harg5 arg6 harg6 arg7 harg7 arg8 harg8 arg9 harg9 arg10 harg10 arg11 harg11 = (firstTwo i arg3 harg3 arg4 harg4 arg5 harg5 arg6 harg6 arg7 harg7 arg8 harg8 arg9 harg9 arg10 harg10 arg11 harg11 >>= fun v => norms i arg3 harg3 arg4 harg4 arg5 harg5 arg6 harg6 arg7 harg7 arg8 harg8 arg9 harg9 arg10 harg10 arg11 harg11 v.2 k0_h1 >>= fun _ => tail i arg3 harg3 arg4 harg4 arg5 harg5 arg6 harg6 arg7 harg7 arg8 harg8 arg9 harg9 arg10 harg10 arg11 harg11 v.1 v.2) := by
  rw [cc0_diff_attention_eq_skeleton]; unfold cc0_diff_attention_skel
  rw [k0_part40_eq_skeleton, k0_part41_eq_skeleton, k0_part42_eq_skeleton]; unfold k0_part40_skel k0_part41_skel k0_part42_skel tail firstTwo norms
  simp only [dif_pos k0_h1, bind_assoc, pure_bind, ite_bind]

/-- The parameters of lambda as the body loads them. -/
def lb (X3 : Vec F S4x32 .f32) : Vec F S4x32 .f32 := View.ld X3 (Rect.unit (s := S4x32) ![0, 0] S4x32.size inb_S4x32_S4x32_0_0)

/-- The gain as the body loads it. -/
def gb (X4 : Vec F S64x1 .f32) : Vec F S64x1 .f32 := View.ld X4 (Rect.unit (s := S64x1) ![0, 0] S64x1.size inb_S64x1_S64x1_0_0)

/-- The block of queries as the body loads it. -/
def qb (X5 : Vec F S1x128x512 .bf16) : Vec F S1x128x512 .bf16 := View.ld X5 (Rect.unit (s := S1x128x512) ![0, 0, 0] S1x128x512.size inb_S1x128x512_S1x128x512_0_0_0)

/-- Chunk `c` of a block of keys. -/
def kb (X6 : Vec F S1x16384x128 .bf16) (c : ℕ) : Vec F S1x512x128 .bf16 :=
  View.ld X6 (Rect.unit (s := S1x16384x128) ![0, 512 * (c % 32), 0] S1x512x128.size (inb_key c))

/-- Chunk `c` of one head's values. -/
def vb (b : Bool) (X7 : Vec F S1x2x32x80x512 .bf16) (c : ℕ) : Vec F S1x1x1x80x512 .bf16 :=
  View.ld X7 (Rect.unit (s := S1x2x32x80x512) ![0, b.toNat, c % 32, 0, 0] S1x1x1x80x512.size (inb_val b c))

/-- The sums the sweep with the fixed maximum ends with. -/
def fixT (b : Bool) (w : FVec F S128x2048 .bf16) (X6 : Vec F S1x16384x128 .bf16) (X7 : Vec F S1x2x32x80x512 .bf16) : FVec F S80x1024 .f32 :=
  fixAcc b w (kb X6) (vb b X7) (cmax (sc w (kb X6 0))) 32

/-- The sums the sweep with the running maximum ends with. -/
def flashT (b : Bool) (w : FVec F S128x2048 .bf16) (X6 : Vec F S1x16384x128 .bf16) (X7 : Vec F S1x2x32x80x512 .bf16) : FVec F S80x1024 .f32 :=
  addf (flA b (fun c => sc w (kb X6 (min c 31))) (fun c => vb b X7 (c - 1)) k0_pay189 k0_pay188 k0_pay3 32)
    (pv (vb b X7 31) (half b (flP (fun c => sc w (kb X6 (min c 31))) k0_pay189 k0_pay188 32)))

/-- A result block whose two heads are the given sums normalised. -/
def Two (v0 : Vec F S4x32 .f32) (g : Vec F S64x1 .f32) (A B : FVec F S80x1024 .f32) (Y : Vec F S1x128x512 .bf16) : Prop :=
  View.ld Y (Rect.unit (s := S1x128x512) ![0, 64, 0] S1x64x512.size inb_S1x128x512_S1x64x512_0_64_0) = k0_pay1 (k0_pay218 g) (k0_pay220 (k0_pay201 v0) B) (k0_pay221 (k0_pay201 v0) B)
  ∧ View.ld Y (Rect.unit (s := S1x128x512) ![0, 0, 0] S1x64x512.size inb_S1x128x512_S1x64x512_0_0_0) = k0_pay219 (k0_pay201 v0) A g

/-- The two stores leave such a block. -/
theorem two_of (v : View sig .tc .vmem S1x128x512 .bf16) (f : v.ty.Contents (Elt F)) (v0 : Vec F S4x32 .f32) (g : Vec F S64x1 .f32) (A B : FVec F S80x1024 .f32) :
    Two v0 g A B (v.read (Elt F) (v.writes (Elt F) f (outL v0 g A B))) := by
  constructor
  · exact readAt_hit v f _ _ _
  · exact (readAt_skip v f _ _ _ _ (by decide)).trans (readAt_hit v f _ _ _)

/-- What the body may leave in the result block: the sums of the one sweep or of the other, normalised. -/
def Swept (X3 : Vec F S4x32 .f32) (X4 : Vec F S64x1 .f32) (X5 : Vec F S1x128x512 .bf16) (X6 : Vec F S1x16384x128 .bf16) (X7 : Vec F S1x2x32x80x512 .bf16) (Y : Vec F S1x128x512 .bf16) : Prop :=
  Two (lb X3) (gb X4) (fixT false (wq (qb X5)) X6 X7) (fixT true (wq (qb X5)) X6 X7) Y ∨ Two (lb X3) (gb X4) (flashT false (wq (qb X5)) X6 X7) (flashT true (wq (qb X5)) X6 X7) Y

/-- The sweep, whichever it is, leaves its sums normalised. -/
theorem tail_run (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄) ⊢ wp frame (wpE (defs₀ (F := F)) Variants.none (c : Thread nD τ) none) E (tail i arg3 harg3 arg4 harg4 arg5 harg5 arg6 harg6 arg7 harg7 arg8 harg8 arg9 harg9 arg10 harg10 arg11 harg11 (lb (arg3.view.read (Elt F) f3)) (qb (arg5.view.read (Elt F) f5))) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g, ⌜Swept (arg3.view.read (Elt F) f3) (arg4.view.read (Elt F) f4) (arg5.view.read (Elt F) f5) (arg6.view.read (Elt F) f6) (arg7.view.read (Elt F) f7) (arg8.view.read (Elt F) g)⌝ ∗ (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)))) := by
  by_cases hs : Safe (qb (arg5.view.read (Elt F) f5)) (View.readAt (Elt F) arg6.view (Rect.unit (s := S1x16384x128) ![0, 0, 0] S1x512x128.size inb_S1x16384x128_S1x512x128_0_0_0).toLoadRect f6) (View.readAt (Elt F) arg11.view (Rect.unit (s := S8x128) ![0, 0] S8x128.size inb_S8x128_S8x128_0_0).toLoadRect f11)
  · refine ((runFix c i arg3 harg3 arg4 harg4 arg5 harg5 arg6 harg6 arg7 harg7 arg8 harg8 arg9 harg9 arg10 harg10 arg11 harg11 (lb (arg3.view.read (Elt F) f3)) (qb (arg5.view.read (Elt F) f5)) f3 f4 f5 f6 f7 f8 f9 f10 f11 hs).2 E).trans (wp_mono _ _ _ fun _ => ?_)
    rw [runFix_val]
    iintro ⟨H3, H4, H5, H6, H7, H8, H9, H10, H11⟩
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      exact Or.inl (two_of arg8.view f8 _ _ _ _)
    isplitl [H9]; · iexact H9
    isplitl [H10]; · iexact H10
    iexists _; iexact H11
  · refine ((runFlash c i arg3 harg3 arg4 harg4 arg5 harg5 arg6 harg6 arg7 harg7 arg8 harg8 arg9 harg9 arg10 harg10 arg11 harg11 (lb (arg3.view.read (Elt F) f3)) (qb (arg5.view.read (Elt F) f5)) f3 f4 f5 f6 f7 f8 f9 f10 f11 hs).2 E).trans (wp_mono _ _ _ fun _ => ?_)
    rw [runFlash_val]
    iintro ⟨H3, H4, H5, H6, H7, H8, H9, H10, H11⟩
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      exact Or.inr (two_of arg8.view f8 _ _ _ _)
    isplitl [H9]; · iexact H9
    isplitl [H10]; · iexact H10
    iexists _; iexact H11

/-- The first two loads read what they load. -/
theorem firstTwo_run (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (f3 : BufTy.Contents (Elt F) arg3.view.ty) (f5 : BufTy.Contents (Elt F) arg5.view.ty) (E : Set ℕ) :
    (iprop((arg3.view.loc (c : Thread nD τ) ↦[arg3.view.set]{fullShare} f3) ∗ (arg5.view.loc (c : Thread nD τ) ↦[arg5.view.set]{fullShare} f5)) : sProp 𝕄) ⊢ wp frame (wpE (defs₀ (F := F)) Variants.none (c : Thread nD τ) none) E (firstTwo i arg3 harg3 arg4 harg4 arg5 harg5 arg6 harg6 arg7 harg7 arg8 harg8 arg9 harg9 arg10 harg10 arg11 harg11) (fun v => iprop(⌜v = (lb (arg3.view.read (Elt F) f3), qb (arg5.view.read (Elt F) f5))⌝ ∗ (arg3.view.loc (c : Thread nD τ) ↦[arg3.view.set]{fullShare} f3) ∗ (arg5.view.loc (c : Thread nD τ) ↦[arg5.view.set]{fullShare} f5))) := by
  unfold firstTwo
  iintro ⟨H3, H5⟩
  sl_exec
  sl_step
  isplitr
  · ipureintro; rfl
  isplitl [H3]; · iexact H3
  iexact H5

/-- Measuring the keys leaves them as they are and something in the place of the norms. -/
theorem norms_run (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (v16 : Vec F S1x128x512 .bf16) (k0_h1 : k0_cond1 i = 1#1) (f6 : BufTy.Contents (Elt F) arg6.view.ty) (f11 : BufTy.Contents (Elt F) arg11.view.ty) (E : Set ℕ) :
    (iprop((arg6.view.loc (c : Thread nD τ) ↦[arg6.view.set]{fullShare} f6) ∗ (arg11.view.loc (c : Thread nD τ) ↦[arg11.view.set]{fullShare} f11)) : sProp 𝕄) ⊢ wp frame (wpE (defs₀ (F := F)) Variants.none (c : Thread nD τ) none) E (norms i arg3 harg3 arg4 harg4 arg5 harg5 arg6 harg6 arg7 harg7 arg8 harg8 arg9 harg9 arg10 harg10 arg11 harg11 v16 k0_h1) (fun _ => iprop((arg6.view.loc (c : Thread nD τ) ↦[arg6.view.set]{fullShare} f6) ∗ (∃ g, (arg11.view.loc (c : Thread nD τ) ↦[arg11.view.set]{fullShare} g)))) := by
  unfold norms
  iintro ⟨H6, H11⟩
  sl_exec
  sl_step
  isplitl [H6]; · iexact H6
  iexists _; iexact H11

/-- The whole body: its five inputs as they were, the result block the sums of one sweep or the other normalised, the scratch anything. -/
theorem body_run (c : Dev nD) (i : grid0.Coords) (arg3 : Memref sig .tc .vmem S4x32 .f32) (harg3 : arg3.IsWhole) (arg4 : Memref sig .tc .vmem S64x1 .f32) (harg4 : arg4.IsWhole) (arg5 : Memref sig .tc .vmem S1x128x512 .bf16) (harg5 : arg5.IsWhole) (arg6 : Memref sig .tc .vmem S1x16384x128 .bf16) (harg6 : arg6.IsWhole) (arg7 : Memref sig .tc .vmem S1x2x32x80x512 .bf16) (harg7 : arg7.IsWhole) (arg8 : Memref sig .tc .vmem S1x128x512 .bf16) (harg8 : arg8.IsWhole) (arg9 : Memref sig .tc .vmem S4x512x2048 .f32) (harg9 : arg9.IsWhole) (arg10 : Memref sig .tc .vmem S4x512x2048 .bf16) (harg10 : arg10.IsWhole) (arg11 : Memref sig .tc .vmem S8x128 .f32) (harg11 : arg11.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄) ⊢ wp frame (wpE (defs₀ (F := F)) Variants.none (c : Thread nD τ) none) E (cc0_diff_attention i arg3 harg3 arg4 harg4 arg5 harg5 arg6 harg6 arg7 harg7 arg8 harg8 arg9 harg9 arg10 harg10 arg11 harg11) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g, ⌜Swept (arg3.view.read (Elt F) f3) (arg4.view.read (Elt F) f4) (arg5.view.read (Elt F) f5) (arg6.view.read (Elt F) f6) (arg7.view.read (Elt F) f7) (arg8.view.read (Elt F) g)⌝ ∗ (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)))) := by
  by_cases h1 : k0_cond1 i = 1#1
  · rw [body_eq_pos (k0_h1 := h1), wp_bind]
    iintro ⟨H3, H4, H5, H6, H7, H8, H9, H10, H11⟩
    iapply wp_wand_r
    isplitl [H3 H5]
    · iapply (firstTwo_run c i arg3 harg3 arg4 harg4 arg5 harg5 arg6 harg6 arg7 harg7 arg8 harg8 arg9 harg9 arg10 harg10 arg11 harg11 f3 f5 E)
      isplitl [H3]; · iexact H3
      iexact H5
    iintro %v ⟨%hv, H3, H5⟩
    subst hv
    rw [wp_bind]
    iapply wp_wand_r
    isplitl [H6 H11]
    · iapply (norms_run c i arg3 harg3 arg4 harg4 arg5 harg5 arg6 harg6 arg7 harg7 arg8 harg8 arg9 harg9 arg10 harg10 arg11 harg11 _ h1 f6 f11 E)
      isplitl [H6]; · iexact H6
      iexact H11
    iintro %u ⟨H6, ⟨%g, H11⟩⟩
    iapply (tail_run c i arg3 harg3 arg4 harg4 arg5 harg5 arg6 harg6 arg7 harg7 arg8 harg8 arg9 harg9 arg10 harg10 arg11 harg11 f3 f4 f5 f6 f7 f8 f9 f10 g E)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [body_eq_neg (k0_h1 := h1), wp_bind]
    iintro ⟨H3, H4, H5, H6, H7, H8, H9, H10, H11⟩
    iapply wp_wand_r
    isplitl [H3 H5]
    · iapply (firstTwo_run c i arg3 harg3 arg4 harg4 arg5 harg5 arg6 harg6 arg7 harg7 arg8 harg8 arg9 harg9 arg10 harg10 arg11 harg11 f3 f5 E)
      isplitl [H3]; · iexact H3
      iexact H5
    iintro %v ⟨%hv, H3, H5⟩
    subst hv
    iapply (tail_run c i arg3 harg3 arg4 harg4 arg5 harg5 arg6 harg6 arg7 harg7 arg8 harg8 arg9 harg9 arg10 harg10 arg11 harg11 f3 f4 f5 f6 f7 f8 f9 f10 f11 E)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel3Ideal.Diff
end
-- ==== Proof.Diff.Launch.lean ====
module

public import proofs.«01_k».proof.Proof.Diff.Run
public import proofs.«01_k».proof.Proof.Gen.Kernel3Ideal.Points
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.Kernel3Ideal.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memref of window 0 at a point. -/
abbrev ms0 (t : Fin cfg0.N) : Memref sig .tc .vmem S4x32 .f32 := win0_0.stage (cfg0.slots t 0)
/-- The staging memref of window 1 at a point. -/
abbrev ms1 (t : Fin cfg0.N) : Memref sig .tc .vmem S64x1 .f32 := win0_1.stage (cfg0.slots t 1)
/-- The staging memref of window 2 at a point. -/
abbrev ms2 (t : Fin cfg0.N) : Memref sig .tc .vmem S1x128x512 .bf16 := win0_2.stage (cfg0.slots t 2)
/-- The staging memref of window 3 at a point. -/
abbrev ms3 (t : Fin cfg0.N) : Memref sig .tc .vmem S1x16384x128 .bf16 := win0_3.stage (cfg0.slots t 3)
/-- The staging memref of window 4 at a point. -/
abbrev ms4 (t : Fin cfg0.N) : Memref sig .tc .vmem S1x2x32x80x512 .bf16 := win0_4.stage (cfg0.slots t 4)
/-- The staging memref of window 5 at a point. -/
abbrev ms5 (t : Fin cfg0.N) : Memref sig .tc .vmem S1x128x512 .bf16 := win0_5.stage (cfg0.slots t 5)

/-- The window whose contents are told by a relation: the result's. -/
def byRel : Fin 6 → Bool := fun w => w == 5

/-- What the body may leave in the result's block at a point: one quotient or the other of the point's blocks. -/
def Leaves0 (c : Dev nD) : (w : Fin cfg0.W) → Fin cfg0.N → ((cfg0.win w).block.Idx → Elt F (cfg0.win w).elt) → Prop
  | ⟨5, _⟩ => fun t X => Swept (iblk m c 0 t) (iblk m c 1 t) (iblk m c 2 t) (iblk m c 3 t) (iblk m c 4 t) X
  | _ => fun _ _ => True

/-- The data of the launch: the arrays as the call finds them, each input left as it was, the scratch held at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem leaves_5 (c : Dev nD) (t : Fin cfg0.N) (X : Vec F S1x128x512 .bf16) : Leaves0 m c 5 t X = Swept (iblk m c 0 t) (iblk m c 1 t) (iblk m c 2 t) (iblk m c 3 t) (iblk m c 4 t) X := rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜((dats m 0 c).toRRel byRel (Leaves0 m c)).Finds 5 t Y⌝ ∗ owns (c : Thread nD τ) (ms5 t) fullShare Y))
/-- What the body returns at a point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜Leaves0 m c 5 t X⌝ ∗ owns (c : Thread nD τ) (ms5 t) fullShare X))

/-- The invariant between the points, buffer by buffer. -/
theorem PhiA0_eq (c : Dev nD) :
    (Pipeline.ΦA spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)) ∗ (∃ r, prngReg c r)) := by
  unfold Pipeline.ΦA; rw [scopedRest0_eq]

/-- The body at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold owns
  iintro ⟨⟨⟨⟨%g0, HS0⟩, ⟨%g1, HS1⟩, ⟨%g2, HS2⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%Y, -, %f5, -, H5⟩⟩
  rw [before0_0_of m (dats m 0 c) (A_eq m c 0) (after_0 m c)] at e0
  rw [before0_1_of m (dats m 0 c) (A_eq m c 1) (after_1 m c)] at e1
  rw [before0_2_of m (dats m 0 c) (A_eq m c 2) (after_2 m c)] at e2
  rw [before0_3_of m (dats m 0 c) (A_eq m c 3) (after_3 m c)] at e3
  rw [before0_4_of m (dats m 0 c) (A_eq m c 4) (after_4 m c)] at e4
  have hrun := body_run (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _) f0 f1 f2 f3 f4 f5 g0 g1 g2 Set.univ
  rw [e0, e1, e2, e3, e4] at hrun
  iapply wp_wand_r
  isplitl [H0 H1 H2 H3 H4 H5 HS0 HS1 HS2]
  · iapply hrun
    isplitl [H0]; · iexact H0
    isplitl [H1]; · iexact H1
    isplitl [H2]; · iexact H2
    isplitl [H3]; · iexact H3
    isplitl [H4]; · iexact H4
    isplitl [H5]; · iexact H5
    simp only [Memref.view_whole, View.set_whole]
    isplitl [HS0]; · iexact HS0
    isplitl [HS1]; · iexact HS1
    iexact HS2
  simp only [Memref.view_whole, View.set_whole]
  iintro %u ⟨H0, H1, H2, H3, H4, ⟨%g5, %hg5, H5⟩, HS⟩
  isplitl [HS Hg]
  · isplitl [HS]; · iexact HS
    iexact Hg
  isplitl [HO]; · iexact HO
  isplitl [H0]
  · iexists _; isplitr; swap; · iexact H0
    ipureintro; rw [after_0]; exact e0
  isplitl [H1]
  · iexists _; isplitr; swap; · iexact H1
    ipureintro; rw [after_1]; exact e1
  isplitl [H2]
  · iexists _; isplitr; swap; · iexact H2
    ipureintro; rw [after_2]; exact e2
  isplitl [H3]
  · iexists _; isplitr; swap; · iexact H3
    ipureintro; rw [after_3]; exact e3
  isplitl [H4]
  · iexists _; isplitr; swap; · iexact H4
    ipureintro; rw [after_4]; exact e4
  iexists _; isplitr; swap
  · iexists _; isplitr; swap; · iexact H5
    ipureintro; rfl
  ipureintro; rw [leaves_5]; exact hg5

/-- The body the launch runs at a point. -/
theorem defs₀_row (t : Fin cfg0.N) : defs₀ (F := F) .tc cfg0.body (cfg0.bodyArgs t (cfg0.slots t)) = bodyAt0 t := by
  unfold defs₀; rw [Defs.onTc_tc]

/-- The body meets the launch's data at every point. -/
theorem body_obligation (c : Dev nD) :
    Pipeline.BodyObligationRel (dats (F := F) m 0 c) (defs₀ (F := F)) Variants.none () Set.univ byRel (Leaves0 m c) := fun t => by
  rw [bigSep_W0, bigSep_W0, defs₀_row]
  exact triple_restated (sound_body m c t) rfl .rfl fun _ => .rfl

set_option backward.isDefEq.respectTransparency.types false in
/-- Every execution of the whole program ends, with the result told by the relation, every other buffer as the call found
    it, and every counter at zero. -/
theorem run_main :
    θ_run defs (onTc (τ := τ) (main (F := F))) (s₀ m ρ)
      (fun r => Pipeline.RDat.FramePost (cfgs 0) (fun c => (dats m 0 c).toRRel byRel (Leaves0 m c)) (V m) r ∧ r.2.sem = fun _ => 0) :=
  Pipeline.RDat.θ_run_frame_track (Q' := _) cfgs (0 : Fin 1) launch0 defs₀ Variants.none (fun c => (dats m 0 c).toRRel byRel (Leaves0 m c)) m ρ main
    (hbody := fun c => (body_obligation m c).toRRel) (hshare := fun c w => (dats m 0 c).share_full (fun _ => rfl) w)
    (howed := fun _ _ => rfl) (V := V m) (hmain := hmain m Variants.none) (hA := A_eq m)
    (hin := fun _ => .rfl) (hout := fun _ => .rfl) (hQ' := fun _ h => h)

variable {m ρ}

/-- The rows that give lambda, which a window reads and none writes, end as the call found them. -/
theorem arg0_kept {r : PUnit × MemSt nD τ sig (Elt F)}
    (h : Pipeline.RDat.FramePost (cfgs 0) (fun c => (dats m 0 c).toRRel byRel (Leaves0 m c)) (V m) r) (c : Dev nD) :
    r.2.mem ((c : Thread nD τ).loc main_arg0) = V m c main_arg0 := by
  have h0 := (h c).1 0
  rw [Pipeline.RDat.ArrAt_in _ 0 rfl] at h0
  exact Eq.trans h0 (A_eq m c 0)

/-- A buffer that no window writes ends as the call found it. -/
theorem rest_eq {r : PUnit × MemSt nD τ sig (Elt F)}
    (h : Pipeline.RDat.FramePost (cfgs 0) (fun c => (dats m 0 c).toRRel byRel (Leaves0 m c)) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(arg0_kept h c).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel3Ideal.Diff
end
-- ==== Proof.Diff.Same.lean ====
module

public import proofs.«01_k».proof.Defs
public import proofs.«01_k».proof.Proof.Diff.Launch
public import proofs.«01_k».proof.Proof.Gen.Kernel3

@[expose] public section

noncomputable section

namespace Cert.Kernel3Ideal.Diff

open Idealize.ShloMosaic Idealize.ShloMosaic.TcCoe Idealize.SL.Sem

variable {F : FTy → Type} [FloatOps F]

/-! ## The kernel and its idealization are the same text -/

/-- The two bodies are the same. -/
theorem body_same : Cert.Kernel3.cc0_diff_attention (F := F) = Cert.Kernel3Ideal.cc0_diff_attention (F := F) := rfl

set_option backward.isDefEq.respectTransparency.types false

/-- The two body tables are the same. -/
theorem defs₀_same : (Cert.Kernel3.defs₀ (F := F)) = (Cert.Kernel3Ideal.defs₀ (F := F)) := by
  unfold Cert.Kernel3.defs₀ Cert.Kernel3Ideal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (body_same (F := F)) _) _) _) _) _) _) _) _) _) _) _) _) _) _) _) _) _) _) _

/-- The two host programs are the same. -/
theorem main_same : (Cert.Kernel3.main (F := F)) = (Cert.Kernel3Ideal.main (F := F)) := rfl

/-- The two tables of calls are the same. -/
theorem defs_same : (Cert.Kernel3.defs (F := F)) = (Cert.Kernel3Ideal.defs (F := F)) := congrArg (fun d => Pipeline.defs Cert.Kernel3Ideal.pcfgs d) defs₀_same

end Cert.Kernel3Ideal.Diff
end
-- ==== Proof.Diff.HostV.lean ====
module

public import Idealize.ShloMosaic.PureOps.Ideal
public import proofs.«01_k».proof.Proof.Gen.Kernel3Ideal.Frame
public import Idealize.ShloMosaic.Lib.StableHlo.RunRead

@[expose] public section

set_option maxRecDepth 16384

noncomputable section

namespace Cert.Kernel3Ideal.Diff

open Cert.Kernel3Ideal Cert.Kernel3Ideal.Gen
open Idealize.ShloMosaic

/-! ## The operands of the launch, as the host lines compute them -/

/-- The number by which the host divides the queries. -/
def den : FVec Ideal S_ .f32 := mulf (Host.log (constant S_ .f32 0x40000000#32)) (Host.sqrt (constant S_ .f32 0x42000000#32))

/-- The queries as the launch reads them. -/
def qArr (x : FVec Ideal S2x16384x4x2x32 .f32) : FVec Ideal S2x256x16384 .bf16 :=
  truncf .bf16 (transpose S2x256x16384 [0, 2, 1] (Host.divf (shapeCast S2x16384x256 x shapeCasts_S2x16384x4x2x32_S2x16384x256) (broadcastInDim S2x16384x256 ![] bcast_S_S2x16384x256 den)) transposes_S2x16384x256_S2x256x16384_0_2_1) bitsLt_bf16_f32

/-- The keys as the launch reads them. -/
def kArr (x : FVec Ideal S2x16384x4x2x32 .f32) : FVec Ideal S2x16384x256 .bf16 :=
  truncf .bf16 (shapeCast S2x16384x256 x shapeCasts_S2x16384x4x2x32_S2x16384x256) bitsLt_bf16_f32

/-- The values as the launch reads them: feature major, in blocks of keys, rows of ones below. -/
def vArr (x : FVec Ideal S2x16384x4x64 .f32) : FVec Ideal S2x4x32x80x512 .bf16 :=
  concatenate S2x4x32x80x512 3 [⟨S2x4x32x64x512, transpose S2x4x32x64x512 [0, 3, 1, 4, 2] (shapeCast S2x32x512x4x64 (truncf .bf16 x bitsLt_bf16_f32) shapeCasts_S2x16384x4x64_S2x32x512x4x64) transposes_S2x32x512x4x64_S2x4x32x64x512_0_3_1_4_2⟩,
    ⟨S2x4x32x16x512, broadcastInDim S2x4x32x16x512 ![] bcast_S_S2x4x32x16x512 (constant S_ .bf16 0x3F80#16)⟩] concatenates_S2x4x32x64x512_S2x4x32x16x512_S2x4x32x80x512_d3

/-- The gain as the launch reads it. -/
def gArr (x : FVec Ideal S64 .f32) : FVec Ideal S64x1 .f32 := broadcastInDim S64x1 ![0] bcast_S64_S64x1_0 x

variable (m : (ℓ : Loc nD τ sig) → Buf (Elt Ideal) ℓ) (c : Dev nD)

/-- The gain's operand when the region is entered. -/
theorem V_g : V m c main_v15 = gArr (m (c.tc.loc main_arg1)) := by
  unfold V
  after_reads_simp
  rfl

/-- The queries' operand when the region is entered. -/
theorem V_q : V m c main_v7 = qArr (m (c.tc.loc main_arg2)) := by
  unfold V
  after_reads_simp
  rfl

/-- The keys' operand when the region is entered. -/
theorem V_k : V m c main_v9 = kArr (m (c.tc.loc main_arg3)) := by
  unfold V
  after_reads_simp
  rfl

/-- The values' operand when the region is entered. -/
theorem V_v : V m c main_v14 = vArr (m (c.tc.loc main_arg4)) := by
  unfold V
  after_reads_simp
  rfl

end Cert.Kernel3Ideal.Diff
end
-- ==== Proof.Diff.Form.lean ====
module

public import proofs.«01_k».proof.Proof.Att.Form

@[expose] public section

set_option maxRecDepth 16384

noncomputable section

namespace Cert.Diff

open Idealize.ShloMosaic Idealize.ShloMosaic.ValueIdx Cert.Soft
open scoped BigOperators

/-! ## The differential attention as a formula: what both programs compute, at an element -/

/-- The four rows that give lambda. -/
abbrev LL := (⟨2, ![4, 32]⟩ : Shape).Idx → EReal
/-- The gain of the norm. -/
abbrev GG := (⟨1, ![64]⟩ : Shape).Idx → EReal
/-- An array of queries or of keys: batch, position, head, map, feature. -/
abbrev QQ := (⟨5, ![2, 16384, 4, 2, 32]⟩ : Shape).Idx → EReal

/-- Every entry is a real number. -/
def Reals {s : Shape} (x : s.Idx → EReal) : Prop := ∀ i, x i = ((x i).toReal : EReal)

/-- Lambda. -/
def lam (x0 : LL) : EReal :=
  Ideal.exp (∑ d : Fin 32, x0 (ix2 0 d) * x0 (ix2 1 d)) - Ideal.exp (∑ d : Fin 32, x0 (ix2 2 d) * x0 (ix2 3 d)) + Ideal.ofBits .f32 0x3E4CCCCD#32

/-- The score in map `u` of the key at `k` for the query at `q`. -/
def mapScore (x2 x3 : QQ) (u : Fin 2) (b : Fin 2) (h : Fin 4) (q k : Fin 16384) : ℝ :=
  (∑ d : Fin 32, (x2 (ix5 b q h u d)).toReal * (x3 (ix5 b k h u d)).toReal) / Real.sqrt 32

/-- The difference of the two maps for the query at `q`, feature `r` of head `h`. -/
def dif (x0 : LL) (x2 x3 : QQ) (x4 : VV) (b : Fin 2) (h : Fin 4) (q : Fin 16384) (r : Fin 64) : EReal :=
  soft (fun k => x4 (ix4 b k h r)) (mapScore x2 x3 0 b h q) - lam x0 * soft (fun k => x4 (ix4 b k h r)) (mapScore x2 x3 1 b h q)

/-- A head's 64 features over the root of their mean square, times the gain and what is left of one when the first lambda is taken off. -/
def nrm (o : Fin 64 → EReal) (g : EReal) (r : Fin 64) : EReal :=
  o r * Ideal.rsqrt (Ideal.div (∑ r, o r * o r) (Ideal.ofBits .f32 0x42800000#32) + Ideal.ofBits .f32 0x358637BD#32) * (g * Ideal.ofBits .f32 0x3F4CCCCD#32)

/-- The differential attention as one array, feature major: batch, head and feature, position. -/
def diffArr (x0 : LL) (x1 : GG) (x2 x3 : QQ) (x4 : VV) : (⟨3, ![2, 256, 16384]⟩ : Shape).Idx → EReal := fun i =>
  nrm (dif x0 x2 x3 x4 (i 0) ⟨(i 1).val / 64, by have h : (i 1).val < 256 := (i 1).isLt; omega⟩ (i 2))
    (x1 (ix1 ⟨(i 1).val % 64, Nat.mod_lt _ (by norm_num)⟩)) ⟨(i 1).val % 64, Nat.mod_lt _ (by norm_num)⟩

/-- Feature `e` of the `n`-th group of 32 among 128. -/
def grp (n : Fin 4) (e : Fin 32) : Fin 128 := ⟨32 * n.val + e.val, by have := n.isLt; have := e.isLt; omega⟩

/-- Queries of which only one group of features is kept give the scores of that group; the scale taken off the queries is the score's, up to
    the change from powers of `e` to powers of two. -/
theorem sum_group (n : Fin 4) (κ f : Fin 128 → ℝ) :
    (∑ d : Fin 128, κ d * (if 32 * n.val ≤ d.val ∧ d.val < 32 * (n.val + 1) then f d / (Real.log 2 * Real.sqrt 32) else 0)) * Real.log 2
      = (∑ e : Fin 32, f (grp n e) * κ (grp n e)) / Real.sqrt 32 := by
  have hl : Real.log 2 ≠ 0 := (Real.log_pos (by norm_num)).ne'
  have hs : Real.sqrt 32 ≠ 0 := (Real.sqrt_pos.2 (by norm_num)).ne'
  rw [← Fintype.sum_of_injective (grp n) (fun a b h => Fin.ext (by have := congrArg Fin.val h; simp only [grp] at this; omega))
    (fun e => κ (grp n e) * (f (grp n e) / (Real.log 2 * Real.sqrt 32))) _ ?_ ?_]
  · rw [Finset.sum_mul, Finset.sum_div]
    refine Finset.sum_congr rfl fun e _ => ?_
    field_simp
  · intro d hd
    rw [if_neg, mul_zero]
    rintro ⟨h1, h2⟩
    exact hd ⟨⟨d.val - 32 * n.val, by omega⟩, Fin.ext (by simp only [grp]; omega)⟩
  · intro e
    have := e.isLt
    rw [if_pos]
    simp only [grp]
    omega

end Cert.Diff
end
-- ==== Proof.Diff.Fin.lean ====
module

public import proofs.«01_k».proof.Proof.Diff.Form
public import proofs.«01_k».proof.Proof.Att.Fin
public import proofs.«01_k».proof.Pre_all_finite
public import Idealize.ShloMosaic.Lib.ReduceAll

@[expose] public section

set_option maxRecDepth 16384

noncomputable section

namespace Cert.Diff

open Idealize.ShloMosaic Idealize.ShloMosaic.ValueIdx Cert.Soft
open scoped BigOperators

/-! ## The constants, and what the precondition gives -/

/-- `32.0`. -/
theorem f32_f32 : Ideal.ofBits .f32 0x42000000#32 = ((32 : ℝ) : EReal) := by
  delta Ideal.ofBits Ideal.ieee
  simp [-EReal.coe_mul]; norm_num

/-- The first lambda is a real. -/
theorem first_real : ∃ r : ℝ, Ideal.ofBits .f32 0x3E4CCCCD#32 = (r : EReal) := by
  delta Ideal.ofBits Ideal.ieee
  simp [-EReal.coe_mul]

/-- Under the precondition the four rows, the queries, the keys and the values are reals. -/
theorem reals_of_pre [hF : Cert.Pre_all_finite.Facts] (x0 : LL) (x1 : GG) (x2 x3 : QQ) (x4 : VV)
    (h : Cert.Pre_all_finite.fn (F := Ideal) x0 x1 x2 x3 x4 = fun _ => 1#1) : Reals x0 ∧ Reals x2 ∧ Reals x3 ∧ Reals x4 := by
  have one : Subsingleton Cert.Pre_all_finite.S_.Idx := ⟨fun a b => funext fun k => k.elim0⟩
  have h' := congrFun h (fun a => a.elim0)
  obtain ⟨h123, h4⟩ := bits_and _ _ h'
  obtain ⟨h12, h3⟩ := bits_and _ _ h123
  obtain ⟨h1, h2⟩ := bits_and _ _ h12
  refine ⟨fun i => real_of_cmp (p := .f32) _ ?_, fun i => real_of_cmp (p := .f32) _ ?_, fun i => real_of_cmp (p := .f32) _ ?_, fun i => real_of_cmp (p := .f32) _ ?_⟩
  · have := Host.reduce_andi_all _ _ _ _ _ h1 i
    rw [← Consts.pinf_f32]
    exact this
  · have := Host.reduce_andi_all _ _ _ _ _ h2 i
    rw [← Consts.pinf_f32]
    exact this
  · have := Host.reduce_andi_all _ _ _ _ _ h3 i
    rw [← Consts.pinf_f32]
    exact this
  · have := Host.reduce_andi_all _ _ _ _ _ h4 i
    rw [← Consts.pinf_f32]
    exact this

/-- Of real rows, lambda is a real. -/
theorem lam_real {x0 : LL} (h : Reals x0) : ∃ L : ℝ, lam x0 = (L : EReal) := by
  obtain ⟨r, hr⟩ := first_real
  have hs : ∀ a b : Fin 4, (∑ d : Fin 32, x0 (ix2 a d) * x0 (ix2 b d)) = ((∑ d : Fin 32, (x0 (ix2 a d)).toReal * (x0 (ix2 b d)).toReal : ℝ) : EReal) := fun a b => by
    rw [← sum_coe]
    exact Finset.sum_congr rfl fun d _ => by rw [EReal.coe_mul, ← h, ← h]
  refine ⟨Real.exp (∑ d : Fin 32, (x0 (ix2 0 d)).toReal * (x0 (ix2 1 d)).toReal) - Real.exp (∑ d : Fin 32, (x0 (ix2 2 d)).toReal * (x0 (ix2 3 d)).toReal) + r, ?_⟩
  unfold lam
  rw [hs, hs, hr, Ideal.exp_coe, Ideal.exp_coe, EReal.coe_add, EReal.coe_sub]

/-- Of real values, the softmax mean is a real. -/
theorem soft_coe {ι : Type} [Fintype ι] (V t : ι → ℝ) : soft (fun k => (V k : EReal)) t = ((∑ k, V k * (Real.exp (t k) / ∑ j, Real.exp (t j)) : ℝ) : EReal) := by
  unfold soft
  rw [← sum_coe]
  exact Finset.sum_congr rfl fun k _ => (EReal.coe_mul _ _).symm

/-- A weight of the softmax, whatever number was taken off the scores. -/
theorem weight {ι : Type} [Fintype ι] [Nonempty ι] (t : ι → ℝ) (M : ℝ) (k : ι) :
    Ideal.div ((Real.exp (t k - M) : ℝ) : EReal) (((∑ j, Real.exp (t j - M)) : ℝ) : EReal) = ((Real.exp (t k) / ∑ j, Real.exp (t j) : ℝ) : EReal) := by
  have hpos : 0 < ∑ i, Real.exp (t i - M) := Finset.sum_pos (fun i _ => Real.exp_pos _) Finset.univ_nonempty
  rw [Ideal.div_coe hpos.ne', ← EReal.coe_mul]
  congr 1
  have hf : (∑ j, Real.exp (t j - M)) = (∑ j, Real.exp (t j)) / Real.exp M := by
    rw [Finset.sum_div]
    exact Finset.sum_congr rfl fun j _ => Real.exp_sub _ _
  have hq : 0 < ∑ i, Real.exp (t i) := Finset.sum_pos (fun i _ => Real.exp_pos _) Finset.univ_nonempty
  have hM := Real.exp_pos M
  rw [hf, Real.exp_sub]
  field_simp

/-- The mean under the difference of two maps is the difference of the means. -/
theorem diff_sum {ι : Type} [Fintype ι] (V t u : ι → ℝ) (L : ℝ) :
    (∑ k, (V k : EReal) * (((Real.exp (t k) / ∑ j, Real.exp (t j) : ℝ) : EReal) - (L : EReal) * ((Real.exp (u k) / ∑ j, Real.exp (u j) : ℝ) : EReal)))
      = soft (fun k => (V k : EReal)) t - (L : EReal) * soft (fun k => (V k : EReal)) u := by
  rw [soft_coe, soft_coe, ← EReal.coe_mul, ← EReal.coe_sub, Finset.mul_sum, ← Finset.sum_sub_distrib, ← sum_coe]
  refine Finset.sum_congr rfl fun k _ => ?_
  rw [← EReal.coe_mul, ← EReal.coe_sub, ← EReal.coe_mul]
  congr 1
  ring

end Cert.Diff
end
-- ==== Proof.Diff.Host.lean ====
module

public import proofs.«01_k».proof.Proof.Diff.HostV
public import proofs.«01_k».proof.Proof.Diff.Fin
public import Idealize.ShloMosaic.Lib.Pipeline.Value
public import Idealize.ShloMosaic.Lib.KernelVsHost
public import Idealize.ShloMosaic.Lib.IdealHost

@[expose] public section

set_option maxRecDepth 16384

noncomputable section

namespace Cert.Kernel3Ideal.Diff

open Cert.Kernel3Ideal Cert.Kernel3Ideal.Gen Cert.Soft Cert.Diff
open Idealize.ShloMosaic Idealize.ShloMosaic.ValueIdx
open scoped BigOperators

/-! ## The operands of the launch at an element -/

/-- The number by which the host divides the queries. -/
theorem den_apply (i : S_.Idx) : den i = ((Real.log 2 * Real.sqrt 32 : ℝ) : EReal) := by
  show Ideal.log (Ideal.ofBits .f32 0x40000000#32) * Ideal.sqrt (Ideal.ofBits .f32 0x42000000#32) = _
  rw [Consts.two_f32, f32_f32, Ideal.log_coe, Ideal.sqrt_coe, if_neg (by norm_num), if_neg (by norm_num), ← EReal.coe_mul]

/-- Feature `e` of the 256 of a position, as a real. -/
def fl (x : QQ) (b : Fin 2) (s : Fin 16384) (e : Fin 256) : ℝ :=
  (x (ix5 b s ⟨e.val / 64, by have := e.isLt; omega⟩ ⟨e.val / 32 % 2, Nat.mod_lt _ (by norm_num)⟩ ⟨e.val % 32, Nat.mod_lt _ (by norm_num)⟩)).toReal

/-- It is the feature of its head and its map. -/
theorem fl_eq (x : QQ) (b : Fin 2) (s : Fin 16384) (h : Fin 4) (u : Fin 2) (d : Fin 32) (e : Fin 256) (he : e.val = (h.val * 2 + u.val) * 32 + d.val) :
    fl x b s e = (x (ix5 b s h u d)).toReal := by
  have := h.isLt
  have := u.isLt
  have := d.isLt
  unfold fl
  congr 2
  funext a
  match a with
  | ⟨0, _⟩ => rfl
  | ⟨1, _⟩ => rfl
  | ⟨2, _⟩ => exact Fin.ext (by show e.val / 64 = h.val; omega)
  | ⟨3, _⟩ => exact Fin.ext (by show e.val / 32 % 2 = u.val; omega)
  | ⟨4, _⟩ => exact Fin.ext (by show e.val % 32 = d.val; omega)

/-- An array with its heads, maps and features in one axis. -/
theorem flat_apply {x : QQ} (hx : Reals x) (b : Fin 2) (s : Fin 16384) (e : Fin 256) :
    shapeCast S2x16384x256 x shapeCasts_S2x16384x4x2x32_S2x16384x256 (ix3 b s e) = (fl x b s e : EReal) := by
  unfold fl
  rw [← hx]
  refine shapeCast_apply _ _ (ix3 b s e) (ix5 b s ⟨e.val / 64, by have := e.isLt; omega⟩ ⟨e.val / 32 % 2, Nat.mod_lt _ (by norm_num)⟩ ⟨e.val % 32, Nat.mod_lt _ (by norm_num)⟩) ?_
  rw [Shape.rowMajor_val_five, Shape.rowMajor_val_three]
  show (((b.val * 16384 + s.val) * 4 + e.val / 64) * 2 + e.val / 32 % 2) * 32 + e.val % 32 = (b.val * 16384 + s.val) * 256 + e.val
  omega

/-- The keys' operand at an element. -/
theorem kArr_apply {x : QQ} (hx : Reals x) (b : Fin 2) (s : Fin 16384) (e : Fin 256) : kArr x (ix3 b s e) = (fl x b s e : EReal) := flat_apply hx b s e

/-- The queries' operand at an element. -/
theorem qArr_apply {x : QQ} (hx : Reals x) (b : Fin 2) (s : Fin 16384) (e : Fin 256) :
    qArr x (ix3 b e s) = ((fl x b s e / (Real.log 2 * Real.sqrt 32) : ℝ) : EReal) := by
  have hl : Real.log 2 * Real.sqrt 32 ≠ 0 := mul_ne_zero (Real.log_pos (by norm_num)).ne' (Real.sqrt_pos.2 (by norm_num)).ne'
  rw [show qArr x (ix3 b e s) = transpose S2x256x16384 [0, 2, 1] (Host.divf (shapeCast S2x16384x256 x shapeCasts_S2x16384x4x2x32_S2x16384x256)
    (broadcastInDim S2x16384x256 ![] bcast_S_S2x16384x256 den)) transposes_S2x16384x256_S2x256x16384_0_2_1 (ix3 b e s) from rfl]
  refine (transpose_apply [0, 2, 1] _ transposes_S2x16384x256_S2x256x16384_0_2_1 (ix3 b e s) (ix3 b s e) (fun a => match a with
    | ⟨0, _⟩ => rfl
    | ⟨1, _⟩ => rfl
    | ⟨2, _⟩ => rfl)).trans ?_
  rw [hostDivf_apply, flat_apply hx b s e,
    broadcastInDim_apply ![] bcast_S_S2x16384x256 den (ix3 b s e) (fun a => a.elim0) (fun a => a.elim0), den_apply, Ideal.div_coe hl, ← EReal.coe_mul]
  congr 1
  ring

/-- The gain's operand at an element. -/
theorem gArr_apply (x : GG) (r : Fin 64) : gArr x (ix2 r 0) = x (ix1 r) :=
  broadcastInDim_apply ![0] bcast_S64_S64x1_0 x (ix2 r 0) (ix1 r) (fun a => match a with | ⟨0, _⟩ => rfl)

/-- The values' operand at an element of the first 64 rows. -/
theorem vArr_apply (x : VV) (b : Fin 2) (h : Fin 4) (c : Fin 32) (r : Fin 80) (j : Fin 512) (hr : r.val < 64) (s : Fin 16384) (hs : s.val = c.val * 512 + j.val) :
    vArr x (ix5 b h c r j) = x (ix4 b s h ⟨r.val, hr⟩) := by
  refine (concatenate_pair_apply_left (t := S2x4x32x80x512) 3 _ _ concatenates_S2x4x32x64x512_S2x4x32x16x512_S2x4x32x80x512_d3 (ix5 b h c r j) rfl (ix5 b h c ⟨r.val, hr⟩ j) (fun a => match a with
    | ⟨0, _⟩ => rfl
    | ⟨1, _⟩ => rfl
    | ⟨2, _⟩ => rfl
    | ⟨3, _⟩ => rfl
    | ⟨4, _⟩ => rfl)).trans ?_
  refine (transpose_apply [0, 3, 1, 4, 2] _ transposes_S2x32x512x4x64_S2x4x32x64x512_0_3_1_4_2 (ix5 b h c ⟨r.val, hr⟩ j) (ix5 b c j h ⟨r.val, hr⟩) (fun a => match a with
    | ⟨0, _⟩ => rfl
    | ⟨1, _⟩ => rfl
    | ⟨2, _⟩ => rfl
    | ⟨3, _⟩ => rfl
    | ⟨4, _⟩ => rfl)).trans ?_
  refine (shapeCast_apply _ _ (ix5 b c j h ⟨r.val, hr⟩) (ix4 b s h ⟨r.val, hr⟩) ?_).trans rfl
  rw [Shape.rowMajor_val_four, Shape.rowMajor_val_five]
  show ((b.val * 16384 + s.val) * 4 + h.val) * 64 + r.val = (((b.val * 32 + c.val) * 512 + j.val) * 4 + h.val) * 64 + r.val
  omega

/-- The values' operand at an element below: one. -/
theorem vArr_one (x : VV) (b : Fin 2) (h : Fin 4) (c : Fin 32) (r : Fin 80) (j : Fin 512) (hr : 64 ≤ r.val) : vArr x (ix5 b h c r j) = 1 := by
  refine (concatenate_pair_apply_right (t := S2x4x32x80x512) 3 _ _ concatenates_S2x4x32x64x512_S2x4x32x16x512_S2x4x32x80x512_d3 (ix5 b h c r j) rfl rfl
    (ix5 b h c ⟨r.val - 64, by have := r.isLt; omega⟩ j) (fun a ha => match a with
    | ⟨0, _⟩ => rfl
    | ⟨1, _⟩ => rfl
    | ⟨2, _⟩ => rfl
    | ⟨3, _⟩ => absurd rfl ha
    | ⟨4, _⟩ => rfl) (by show r.val - 64 + 64 = r.val; omega)).trans ?_
  exact Consts.one_bf16

end Cert.Kernel3Ideal.Diff
end
-- ==== Proof.Diff.Sweep.lean ====
module

public import proofs.«01_k».proof.Proof.Diff.Run
public import proofs.«01_k».proof.Proof.Att.Soft
public import proofs.«01_k».proof.Proof.Att.Consts
public import Idealize.ShloMosaic.Lib.Pipeline.Value
public import Idealize.ShloMosaic.Lib.MatmulPlain
public import Idealize.ShloMosaic.Lib.ValueIdx

@[expose] public section

set_option maxRecDepth 16384

noncomputable section

namespace Cert.Kernel3Ideal.Diff

open Cert.Kernel3Ideal Cert.Kernel3Ideal.Gen Cert.Soft
open Idealize.ShloMosaic Idealize.ShloMosaic.ValueIdx
open scoped BigOperators

/-! ## The words of the sweep read at an element, among the extended reals -/

/-- A score is the product of a key and a query. -/
theorem sc_apply (w : FVec Ideal S128x2048 .bf16) (kc : Vec Ideal S1x512x128 .bf16) (j : Fin 512) (q : Fin 2048) :
    sc w kc (ix2 j q) = ∑ d : Fin 128, kc (ix3 0 j d) * w (ix2 d q) := by
  refine (Ideal.matmul_plain_apply (M := 512) (K := 128) (N := 2048) none (shapeCast S512x128 kc shapeCasts_S1x512x128_S512x128) w (constant S512x2048 .f32 0x00000000#32) j q).trans ?_
  rw [constant_apply, Ideal.ofBits_zero_f32, zero_add]
  refine Finset.sum_congr rfl fun d _ => ?_
  congr 1
  refine (shapeCast_dropUnit_apply ![512, 128] kc shapeCasts_S1x512x128_S512x128 (ix2 j d)).trans (congrArg kc (funext fun a => ?_))
  match a with
  | ⟨0, _⟩ => rfl
  | ⟨1, _⟩ => rfl
  | ⟨2, _⟩ => rfl

/-- A weight is a power of two. -/
theorem pr_apply (s : FVec Ideal S512x2048 .f32) (m : FVec Ideal S1x2048 .f32) (j : Fin 512) (q : Fin 2048) :
    pr s m (ix3 0 j q) = Ideal.exp2 (s (ix2 j q) - m (ix2 0 q)) := by
  unfold pr
  refine (shapeCast_addUnit_apply ![512, 2048] _ shapeCasts_S512x2048_S1x512x2048 (ix3 0 j q)).trans ?_
  have e : (fun a : Fin 2 => (ix3 (0 : Fin 1) j q) a.succ) = (ix2 j q : S512x2048.Idx) := funext fun a => match a with | ⟨0, _⟩ => rfl | ⟨1, _⟩ => rfl
  refine (congrArg (truncf .bf16 (exp2 (subf s (broadcastTo S512x2048 m broadcasts_S1x2048_S512x2048))) bitsLt_bf16_f32) e).trans ?_
  show Ideal.exp2 (s (ix2 j q) - broadcastTo S512x2048 m broadcasts_S1x2048_S512x2048 (ix2 j q)) = _
  rw [broadcastTo_apply m broadcasts_S1x2048_S512x2048 (ix2 j q) (ix2 0 q) (fun a => match a with | ⟨0, _⟩ => rfl | ⟨1, _⟩ => rfl)]

/-- A chunk's contribution to a sum. -/
theorem pv_apply (vc : Vec Ideal S1x1x1x80x512 .bf16) (p : FVec Ideal S1x512x1024 .bf16) (r : Fin 80) (q : Fin 1024) :
    pv vc p (ix2 r q) = ∑ j : Fin 512, vc (ix5 0 0 0 r j) * p (ix3 0 j q) := by
  refine (Ideal.matmul_plain_apply (M := 80) (K := 512) (N := 1024) none (shapeCast S80x512 vc shapeCasts_S1x1x1x80x512_S80x512) (shapeCast S512x1024 p shapeCasts_S1x512x1024_S512x1024) (constant S80x1024 .f32 0x00000000#32) r q).trans ?_
  rw [constant_apply, Ideal.ofBits_zero_f32, zero_add]
  refine Finset.sum_congr rfl fun j _ => ?_
  congr 1
  · refine shapeCast_apply vc shapeCasts_S1x1x1x80x512_S80x512 (ix2 r j) (ix5 0 0 0 r j) ?_
    rw [Shape.rowMajor_val_five, Shape.rowMajor_val_two]
    show (((0 * 1 + 0) * 1 + 0) * 80 + r.val) * 512 + j.val = r.val * 512 + j.val
    omega
  · refine (shapeCast_dropUnit_apply ![512, 1024] p shapeCasts_S1x512x1024_S512x1024 (ix2 j q)).trans (congrArg p (funext fun a => ?_))
    match a with
    | ⟨0, _⟩ => rfl
    | ⟨1, _⟩ => rfl
    | ⟨2, _⟩ => rfl

/-- The largest of a chunk of finite scores is finite. -/
theorem cmax_real (s : FVec Ideal S512x2048 .f32) (q : Fin 2048) (σ : Fin 512 → ℝ) (h : ∀ j, s (ix2 j q) = (σ j : EReal)) :
    ∃ r : ℝ, cmax s (ix2 0 q) = (r : EReal) := by
  unfold cmax
  rw [shapeCast_addUnit_apply ![2048] _ shapeCasts_S2048_S1x2048 (ix2 0 q)]
  have e := Ideal.multiReduction_maximumf_single s 0xFF800000#32 reduces_S512x2048_S2048 (.inl rfl) rfl (ix1 q)
  have e2 : (s ∘ Shape.Reduces.lift (s := S512x2048) (a := 0) (t := S2048) reduces_S512x2048_S2048 (ix1 q)) = fun k => (σ k : EReal) := funext fun k => by
    refine Eq.trans (congrArg s (funext fun a => ?_)) (h k)
    match a with
    | ⟨0, _⟩ => rfl
    | ⟨1, _⟩ => rfl
  rw [e2] at e
  obtain ⟨r, hr⟩ := fold_max_real (κ := Fin 512) (Ideal.ofBits .f32 0xFF800000#32) (by rw [Consts.ninf_f32]; exact bot_ne_top) σ
  exact ⟨r, Eq.trans (congrArg _ (funext fun a => match a with | ⟨0, _⟩ => rfl)) (e.trans hr)⟩

/-- A slab put away and taken out is the slab. -/
theorem slab_eq (s : FVec Ideal S512x2048 .f32) : slab s = s := shapeCast_shapeCast s _ _

/-- The block of queries is loaded whole. -/
theorem qb_eq (X5 : Vec Ideal S1x128x512 .bf16) : qb X5 = X5 :=
  View.ld_unit_zero (funext fun a => match a with | ⟨0, _⟩ => rfl | ⟨1, _⟩ => rfl | ⟨2, _⟩ => rfl) _ X5

/-- So are the rows that give lambda. -/
theorem lb_eq (X3 : Vec Ideal S4x32 .f32) : lb X3 = X3 :=
  View.ld_unit_zero (funext fun a => match a with | ⟨0, _⟩ => rfl | ⟨1, _⟩ => rfl) _ X3

/-- So is the gain. -/
theorem gb_eq (X4 : Vec Ideal S64x1 .f32) : gb X4 = X4 :=
  View.ld_unit_zero (funext fun a => match a with | ⟨0, _⟩ => rfl | ⟨1, _⟩ => rfl) _ X4

/-- An element of a chunk of keys. -/
theorem kb_apply (X6 : Vec Ideal S1x16384x128 .bf16) (c : ℕ) (j : Fin 512) (d : Fin 128) :
    kb X6 c (ix3 0 j d) = X6 (ix3 0 ⟨512 * (c % 32) + j.val, by have := Nat.mod_lt c (show 0 < 32 by decide); have := j.isLt; omega⟩ d) := by
  unfold kb
  rw [View.ld_unit]
  refine extractStridedSlice_apply _ X6 _ _ _ fun a => ?_
  match a with
  | ⟨0, _⟩ => rfl
  | ⟨1, _⟩ => rfl
  | ⟨2, _⟩ => exact (Nat.zero_add _).symm

/-- One head of a block of two. -/
def hd (b : Bool) : Fin 2 := ⟨b.toNat, b.toNat_lt⟩

/-- An element of a chunk of one head's values. -/
theorem vb_apply (b : Bool) (X7 : Vec Ideal S1x2x32x80x512 .bf16) (c : ℕ) (r : Fin 80) (j : Fin 512) :
    vb b X7 c (ix5 0 0 0 r j) = X7 (ix5 0 (hd b) ⟨c % 32, Nat.mod_lt c (by decide)⟩ r j) := by
  unfold vb
  rw [View.ld_unit]
  refine extractStridedSlice_apply _ X7 _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

/-- The column of the whole slab that is column `p` of one head's half. -/
def col (b : Bool) (p : Fin 1024) : Fin 2048 := ⟨b.toNat * 1024 + p.val, by have := b.toNat_lt; have := p.isLt; omega⟩

/-- One head's half of a slab of weights, at an element. -/
theorem half_apply (b : Bool) (P : FVec Ideal S1x512x2048 .bf16) (j : Fin 512) (p : Fin 1024) : half b P (ix3 0 j p) = P (ix3 0 j (col b p)) := by
  cases b with
  | false =>
    refine extractStridedSlice_apply _ P slices_lo _ _ fun a => ?_
    match a with
    | ⟨0, _⟩ => rfl
    | ⟨1, _⟩ => exact (Nat.zero_add _).symm
    | ⟨2, _⟩ => show 0 * 1024 + p.val = 0 + p.val; omega
  | true =>
    refine extractStridedSlice_apply _ P slices_hi _ _ fun a => ?_
    match a with
    | ⟨0, _⟩ => rfl
    | ⟨1, _⟩ => exact (Nat.zero_add _).symm
    | ⟨2, _⟩ => show 1 * 1024 + p.val = 1024 + p.val; omega

/-- One head's half of a row, at an element. -/
theorem halfRow_apply (b : Bool) (P : FVec Ideal S1x2048 .f32) (p : Fin 1024) : halfRow b P (ix2 0 p) = P (ix2 0 (col b p)) := by
  cases b with
  | false =>
    refine extractStridedSlice_apply _ P slices_S1x2048_o0_0_S1x1024 _ _ fun a => ?_
    match a with
    | ⟨0, _⟩ => rfl
    | ⟨1, _⟩ => show 0 * 1024 + p.val = 0 + p.val; omega
  | true =>
    refine extractStridedSlice_apply _ P slices_S1x2048_o0_1024_S1x1024 _ _ fun a => ?_
    match a with
    | ⟨0, _⟩ => rfl
    | ⟨1, _⟩ => show 1 * 1024 + p.val = 1024 + p.val; omega

theorem pay3_apply (i : S80x1024.Idx) : (k0_pay3 (F := Ideal)) i = 0 := Ideal.ofBits_zero_f32
theorem pay188_apply (i : S1x512x2048.Idx) : (k0_pay188 (F := Ideal)) i = 0 := Consts.zero_bf16
theorem pay189_real (i : S1x2048.Idx) : ∃ r : ℝ, (k0_pay189 (F := Ideal)) i = (r : EReal) := ⟨_, Consts.big_f32⟩

end Cert.Kernel3Ideal.Diff
end
-- ==== Proof.Diff.Head.lean ====
module

public import proofs.«01_k».proof.Proof.Diff.Sweep
public import proofs.«01_k».proof.Proof.Diff.Form
public import Idealize.ShloMosaic.Lib.WordCmp

@[expose] public section

set_option maxRecDepth 16384

noncomputable section

namespace Cert.Kernel3Ideal.Diff

open Cert.Kernel3Ideal Cert.Kernel3Ideal.Gen Cert.Soft Cert.Diff
open Idealize.ShloMosaic Idealize.ShloMosaic.ValueIdx
open scoped BigOperators

/-! ## The four copies of the queries, lambda and the norm, at an element -/

/-- The word that tells whether feature `d` is of the `n`-th group. -/
theorem group_word : ∀ (n : Fin 4) (d : Fin 128),
    IntOp.andi (IntOp.cmpi .sge (BitVec.ofNat 32 (0 * 128 + d.val)) (BitVec.ofNat 32 (32 * n.val))) (IntOp.cmpi .slt (BitVec.ofNat 32 (0 * 128 + d.val)) (BitVec.ofNat 32 (32 * (n.val + 1))))
      = if 32 * n.val ≤ d.val ∧ d.val < 32 * (n.val + 1) then 1#1 else 0#1 := by decide +kernel

/-- A choice by that word. -/
theorem group_select (n : Fin 4) (d : Fin 128) (x : EReal) :
    Scalar.select (IntOp.andi (IntOp.cmpi .sge (BitVec.ofNat 32 (0 * 128 + d.val)) (BitVec.ofNat 32 (32 * n.val))) (IntOp.cmpi .slt (BitVec.ofNat 32 (0 * 128 + d.val)) (BitVec.ofNat 32 (32 * (n.val + 1))))) x (Ideal.ofBits .f32 0x00000000#32)
      = if 32 * n.val ≤ d.val ∧ d.val < 32 * (n.val + 1) then x else 0 := by
  rw [group_word, Ideal.ofBits_zero_f32]
  split_ifs <;> rfl

/-- The queries without their unit axis. -/
theorem pay202_apply (X5 : Vec Ideal S1x128x512 .bf16) (d : Fin 128) (q : Fin 512) : k0_pay202 X5 (ix2 d q) = X5 (ix3 0 d q) := by
  refine (shapeCast_dropUnit_apply ![128, 512] X5 shapeCasts_S1x128x512_S128x512 (ix2 d q)).trans (congrArg X5 (funext fun a => ?_))
  match a with
  | ⟨0, _⟩ => rfl
  | ⟨1, _⟩ => rfl
  | ⟨2, _⟩ => rfl

/-- Column `q` of the `n`-th of four copies side by side. -/
def cp (n : Fin 4) (q : Fin 512) : Fin 2048 := ⟨512 * n.val + q.val, by have := n.isLt; have := q.isLt; omega⟩

/-- Four blocks side by side, read in the `n`-th. -/
theorem cat_apply (A B C D : FVec Ideal S128x512 .f32) (n : Fin 4) (d : Fin 128) (q : Fin 512) :
    concatenate S128x2048 1 [⟨S128x512, A⟩, ⟨S128x512, B⟩, ⟨S128x512, C⟩, ⟨S128x512, D⟩] concatenates_S128x512_S128x512_S128x512_S128x512_S128x2048_d1 (ix2 d (cp n q))
      = (match n with | ⟨0, _⟩ => A | ⟨1, _⟩ => B | ⟨2, _⟩ => C | ⟨3, _⟩ => D) (ix2 d q) := by
  match n with
  | ⟨0, _⟩ =>
    exact concatenate_apply_piece (t := S128x2048) 1 [⟨S128x512, A⟩, ⟨S128x512, B⟩, ⟨S128x512, C⟩, ⟨S128x512, D⟩] concatenates_S128x512_S128x512_S128x512_S128x512_S128x2048_d1 _ 0 (show 0 < 4 by decide) S128x512 A rfl rfl 0 rfl (ix2 d q)
        (fun b hb => match b, hb with | ⟨0, _⟩, _ => rfl | ⟨1, _⟩, hb => absurd rfl hb) rfl
  | ⟨1, _⟩ =>
    exact concatenate_apply_piece (t := S128x2048) 1 [⟨S128x512, A⟩, ⟨S128x512, B⟩, ⟨S128x512, C⟩, ⟨S128x512, D⟩] concatenates_S128x512_S128x512_S128x512_S128x512_S128x2048_d1 _ 1 (show 1 < 4 by decide) S128x512 B rfl rfl 512 rfl (ix2 d q)
        (fun b hb => match b, hb with | ⟨0, _⟩, _ => rfl | ⟨1, _⟩, hb => absurd rfl hb) rfl
  | ⟨2, _⟩ =>
    exact concatenate_apply_piece (t := S128x2048) 1 [⟨S128x512, A⟩, ⟨S128x512, B⟩, ⟨S128x512, C⟩, ⟨S128x512, D⟩] concatenates_S128x512_S128x512_S128x512_S128x512_S128x2048_d1 _ 2 (show 2 < 4 by decide) S128x512 C rfl rfl 1024 rfl (ix2 d q)
        (fun b hb => match b, hb with | ⟨0, _⟩, _ => rfl | ⟨1, _⟩, hb => absurd rfl hb) rfl
  | ⟨3, _⟩ =>
    exact concatenate_apply_piece (t := S128x2048) 1 [⟨S128x512, A⟩, ⟨S128x512, B⟩, ⟨S128x512, C⟩, ⟨S128x512, D⟩] concatenates_S128x512_S128x512_S128x512_S128x512_S128x2048_d1 _ 3 (show 3 < 4 by decide) S128x512 D rfl rfl 1536 rfl (ix2 d q)
        (fun b hb => match b, hb with | ⟨0, _⟩, _ => rfl | ⟨1, _⟩, hb => absurd rfl hb) rfl

/-- The copies of the queries: the `n`-th keeps the `n`-th group of features. -/
theorem wq_apply (X5 : Vec Ideal S1x128x512 .bf16) (n : Fin 4) (d : Fin 128) (q : Fin 512) :
    wq X5 (ix2 d (cp n q)) = if 32 * n.val ≤ d.val ∧ d.val < 32 * (n.val + 1) then X5 (ix3 0 d q) else 0 := by
  refine (cat_apply (k0_pay203 X5) (k0_pay204 X5) _ _ n d q).trans ?_
  rw [← pay202_apply X5 d q, ← group_select n d]
  match n with
  | ⟨0, _⟩ => rfl
  | ⟨1, _⟩ => rfl
  | ⟨2, _⟩ => rfl
  | ⟨3, _⟩ => rfl

/-- A row given to every one of 64 rows. -/
theorem row64 (v : FVec Ideal S1x512 .f32) (r : Fin 64) (q : Fin 512) : broadcastTo S64x512 v broadcasts_S1x512_S64x512 (ix2 r q) = v (ix2 0 q) :=
  broadcastTo_apply v broadcasts_S1x512_S64x512 (ix2 r q) (ix2 0 q) (fun a => match a with | ⟨0, _⟩ => rfl | ⟨1, _⟩ => rfl)

/-- One number for each of 64 rows, given to every column. -/
theorem col64 (v : FVec Ideal S64x1 .f32) (r : Fin 64) (q : Fin 512) : broadcastTo S64x512 v broadcasts_S64x1_S64x512 (ix2 r q) = v (ix2 r 0) :=
  broadcastTo_apply v broadcasts_S64x1_S64x512 (ix2 r q) (ix2 r 0) (fun a => match a with | ⟨0, _⟩ => rfl | ⟨1, _⟩ => rfl)

/-- One number given to all. -/
theorem one64 (v : FVec Ideal S1x1 .f32) (r : Fin 64) (q : Fin 512) : broadcastTo S64x512 v broadcasts_S1x1_S64x512 (ix2 r q) = v (ix2 0 0) :=
  broadcastTo_apply v broadcasts_S1x1_S64x512 (ix2 r q) (ix2 0 0) (fun a => match a with | ⟨0, _⟩ => rfl | ⟨1, _⟩ => rfl)

/-- Column `q` of the half of map `u`. -/
def mp (u : Fin 2) (q : Fin 512) : Fin 1024 := ⟨512 * u.val + q.val, by have := u.isLt; have := q.isLt; omega⟩

/-- The mean that map `u` gives: a sum over the sum of the weights. -/
def quo (T : FVec Ideal S80x1024 .f32) (u : Fin 2) (r : Fin 64) (q : Fin 512) : EReal :=
  Ideal.div (T (ix2 ⟨r.val, by have := r.isLt; omega⟩ (mp u q))) (T (ix2 64 (mp u q)))

/-- The difference of the two maps' means. -/
theorem pay220_apply (v : FVec Ideal S1x1 .f32) (T : FVec Ideal S80x1024 .f32) (r : Fin 64) (q : Fin 512) :
    k0_pay220 v T (ix2 r q) = quo T 0 r q - v (ix2 0 0) * quo T 1 r q := by
  unfold k0_pay220 quo
  refine congrArg₂ (· - ·) (congrArg₂ Ideal.div ?_ ((row64 _ r q).trans ?_)) (congrArg₂ (· * ·) (one64 v r q) (congrArg₂ Ideal.div ?_ ((row64 _ r q).trans ?_)))
  · refine extractStridedSlice_apply _ T slices_S80x1024_o0_0_S64x512 _ _ fun a => ?_
    match a with
    | ⟨0, _⟩ => exact (Nat.zero_add _).symm
    | ⟨1, _⟩ => show 512 * 0 + q.val = 0 + q.val; omega
  · refine extractStridedSlice_apply _ T slices_S80x1024_o64_0_S1x512 _ _ fun a => ?_
    match a with
    | ⟨0, _⟩ => rfl
    | ⟨1, _⟩ => show 512 * 0 + q.val = 0 + q.val; omega
  · refine extractStridedSlice_apply _ T slices_S80x1024_o0_512_S64x512 _ _ fun a => ?_
    match a with
    | ⟨0, _⟩ => exact (Nat.zero_add _).symm
    | ⟨1, _⟩ => show 512 * 1 + q.val = 512 + q.val; omega
  · refine extractStridedSlice_apply _ T slices_S80x1024_o64_512_S1x512 _ _ fun a => ?_
    match a with
    | ⟨0, _⟩ => rfl
    | ⟨1, _⟩ => show 512 * 1 + q.val = 512 + q.val; omega

/-- Its mean square. -/
theorem pay221_apply (v : FVec Ideal S1x1 .f32) (T : FVec Ideal S80x1024 .f32) (q : Fin 512) :
    k0_pay221 v T (ix2 0 q) = Ideal.div (∑ r : Fin 64, k0_pay220 v T (ix2 r q) * k0_pay220 v T (ix2 r q)) (Ideal.ofBits .f32 0x42800000#32) := by
  unfold k0_pay221
  refine congrArg (Ideal.div · (Ideal.ofBits .f32 0x42800000#32)) ?_
  refine (shapeCast_addUnit_apply ![512] _ shapeCasts_S512_S1x512 (ix2 0 q)).trans ?_
  have e : (fun a : Fin 1 => (ix2 (0 : Fin 1) q) a.succ) = (ix1 q : S512.Idx) := funext fun a => match a with | ⟨0, _⟩ => rfl
  refine (congrArg _ e).trans ?_
  refine (Ideal.multiReduction_add_single (mulf (k0_pay220 v T) (k0_pay220 v T)) 0x00000000#32 reduces_S64x512_S512 (.inl rfl) rfl (ix1 q)).trans ?_
  refine Finset.sum_congr rfl fun k _ => congrArg (mulf (k0_pay220 v T) (k0_pay220 v T)) (funext fun a => ?_)
  match a with
  | ⟨0, _⟩ => rfl
  | ⟨1, _⟩ => rfl

/-- The gain times what is left of one when the first lambda is taken off. -/
theorem pay218_apply (g : Vec Ideal S64x1 .f32) (r : Fin 64) : k0_pay218 g (ix2 r 0) = g (ix2 r 0) * Ideal.ofBits .f32 0x3F4CCCCD#32 := by
  unfold k0_pay218
  rw [shapeCast_self]
  rfl

/-- One head's block of the result. -/
theorem pay1_apply (G : FVec Ideal S64x1 .f32) (O : FVec Ideal S64x512 .f32) (M : FVec Ideal S1x512 .f32) (r : Fin 64) (q : Fin 512) :
    k0_pay1 G O M (ix3 0 r q) = O (ix2 r q) * Ideal.rsqrt (M (ix2 0 q) + Ideal.ofBits .f32 0x358637BD#32) * G (ix2 r 0) := by
  unfold k0_pay1
  refine (shapeCast_addUnit_apply ![64, 512] _ shapeCasts_S64x512_S1x64x512 (ix3 0 r q)).trans ?_
  have e : (fun a : Fin 2 => (ix3 (0 : Fin 1) r q) a.succ) = (ix2 r q : S64x512.Idx) := funext fun a => match a with | ⟨0, _⟩ => rfl | ⟨1, _⟩ => rfl
  refine (congrArg _ e).trans ?_
  exact congrArg₂ (· * ·) (congrArg (O (ix2 r q) * ·) (row64 _ r q)) (col64 G r q)

/-- The first head's block is of the same text. -/
theorem pay219_eq (v : FVec Ideal S1x1 .f32) (T : FVec Ideal S80x1024 .f32) (g : Vec Ideal S64x1 .f32) :
    k0_pay219 v T g = k0_pay1 (k0_pay218 g) (k0_pay220 v T) (k0_pay221 v T) := rfl

/-- One head's block is the difference of the means, normed. -/
theorem block_apply (v : FVec Ideal S1x1 .f32) (T : FVec Ideal S80x1024 .f32) (g : Vec Ideal S64x1 .f32) (r : Fin 64) (q : Fin 512) :
    k0_pay1 (k0_pay218 g) (k0_pay220 v T) (k0_pay221 v T) (ix3 0 r q) = nrm (fun r => quo T 0 r q - v (ix2 0 0) * quo T 1 r q) (g (ix2 r 0)) r := by
  rw [pay1_apply, pay218_apply, pay221_apply]
  simp only [pay220_apply]
  rfl

/-- A row of the four, as the body takes it out. -/
theorem row_apply (X3 : Vec Ideal S4x32 .f32) (n : ℕ) (h : S4x32.Slices ![n, 0] S1x32) (hn : n < 4) (d : Fin 32) :
    extractStridedSlice S1x32 ![n, 0] X3 h (ix2 0 d) = X3 (ix2 ⟨n, hn⟩ d) := by
  refine extractStridedSlice_apply _ X3 h _ _ fun a => ?_
  match a with
  | ⟨0, _⟩ => rfl
  | ⟨1, _⟩ => exact (Nat.zero_add _).symm

/-- The sum of a row's products with another. -/
theorem rowsum (z : FVec Ideal S1x32 .f32) : shapeCast S1x1 (multiReduction .add [1] S1 z 0x00000000#32 reduces_S1x32_S1 (.inl rfl) rfl) shapeCasts_S1_S1x1 (ix2 0 0) = ∑ d : Fin 32, z (ix2 0 d) := by
  refine (shapeCast_apply _ shapeCasts_S1_S1x1 (ix2 0 0) (ix1 0) rfl).trans ?_
  refine (Ideal.multiReduction_add_single z 0x00000000#32 reduces_S1x32_S1 (.inl rfl) rfl (ix1 0)).trans ?_
  refine Finset.sum_congr rfl fun k _ => congrArg z (funext fun a => ?_)
  match a with
  | ⟨0, _⟩ => rfl
  | ⟨1, _⟩ => rfl

/-- Lambda, as the body computes it. -/
theorem pay201_apply (X3 : Vec Ideal S4x32 .f32) : k0_pay201 X3 (ix2 0 0) = lam X3 := by
  unfold k0_pay201 lam
  refine congrArg (· + Ideal.ofBits .f32 0x3E4CCCCD#32) (congrArg₂ (· - ·) (congrArg Ideal.exp ((rowsum _).trans ?_)) (congrArg Ideal.exp ((rowsum _).trans ?_)))
  · exact Finset.sum_congr rfl fun d _ => congrArg₂ (· * ·) (row_apply X3 0 _ (by decide) d) (row_apply X3 1 _ (by decide) d)
  · exact Finset.sum_congr rfl fun d _ => congrArg₂ (· * ·) (row_apply X3 2 _ (by decide) d) (row_apply X3 3 _ (by decide) d)

end Cert.Kernel3Ideal.Diff
end
-- ==== Proof.Diff.Mean.lean ====
module

public import proofs.«01_k».proof.Proof.Diff.Sweep
public import proofs.«01_k».proof.Proof.Att.Mean

@[expose] public section

set_option maxRecDepth 16384

noncomputable section

namespace Cert.Kernel3Ideal.Diff

open Cert.Kernel3Ideal Cert.Kernel3Ideal.Gen Cert.Soft
open Cert.KernelIdeal.Att (keyOf chunks_eq exp2_sub)
open Idealize.ShloMosaic Idealize.ShloMosaic.ValueIdx
open scoped BigOperators

/-! ## Either sweep ends with one head's values weighed by powers of two, over one and the same sum of weights -/

/-- The value of key `k` in row `r` of one head of a block of values. -/
def vAt (b : Bool) (X7 : Vec Ideal S1x2x32x80x512 .bf16) (r : Fin 80) (k : Fin 16384) : EReal :=
  X7 (ix5 0 (hd b) ⟨k.val / 512, by have := k.isLt; omega⟩ r ⟨k.val % 512, Nat.mod_lt _ (by decide)⟩)

/-- The score of key `k` against column `q` of the queries. -/
def sAt (κ : Fin 16384 → Fin 128 → ℝ) (w : Fin 128 → Fin 2048 → ℝ) (q : Fin 2048) (k : Fin 16384) : ℝ := ∑ d, κ k d * w d q

variable (W : FVec Ideal S128x2048 .bf16) (X4 : Vec Ideal S1x16384x128 .bf16) (X5 : Vec Ideal S1x2x32x80x512 .bf16)
  (w : Fin 128 → Fin 2048 → ℝ) (κ : Fin 16384 → Fin 128 → ℝ)

variable {W X4 w κ} in
/-- A chunk's scores are the scores of its keys. -/
theorem sc_key (h3 : ∀ d q, W (ix2 d q) = (w d q : EReal)) (h4 : ∀ k d, X4 (ix3 0 k d) = (κ k d : EReal)) (c : ℕ) (j : Fin 512) (q : Fin 2048) :
    sc W (kb X4 c) (ix2 j q) = (sAt κ w q (keyOf c j) : EReal) := by
  rw [sc_apply]
  unfold sAt
  rw [← sum_coe]
  refine Finset.sum_congr rfl fun d _ => ?_
  rw [kb_apply, h3, h4, EReal.coe_mul]
  rfl

variable {X5} in
/-- A value of a chunk is the value of its key. -/
theorem vb_key (b : Bool) (c : ℕ) (r : Fin 80) (j : Fin 512) : vb b X5 c (ix5 0 0 0 r j) = vAt b X5 r (keyOf c j) := by
  rw [vb_apply]
  unfold vAt keyOf
  have := j.isLt
  refine congrArg X5 (funext fun a => ?_)
  match a with
  | ⟨0, _⟩ => rfl
  | ⟨1, _⟩ => rfl
  | ⟨2, _⟩ => exact Fin.ext (show c % 32 = (512 * (c % 32) + j.val) / 512 by omega)
  | ⟨3, _⟩ => rfl
  | ⟨4, _⟩ => exact Fin.ext (show j.val = (512 * (c % 32) + j.val) % 512 by omega)

variable {W X4 w κ}

/-- The sweep with the fixed maximum. -/
theorem fixT_val (h3 : ∀ d q, W (ix2 d q) = (w d q : EReal)) (h4 : ∀ k d, X4 (ix3 0 k d) = (κ k d : EReal)) (b : Bool) (q : Fin 1024) :
    ∃ m : ℝ, ∀ r : Fin 80, fixT b W X4 X5 (ix2 r q) = ∑ k, vAt b X5 r k * ((Real.rpow 2 (sAt κ w (col b q) k - m) : ℝ) : EReal) := by
  obtain ⟨m, hm⟩ := cmax_real (sc W (kb X4 0)) (col b q) _ (fun j => sc_key h3 h4 0 j (col b q))
  refine ⟨m, fun r => ?_⟩
  rw [← chunks_eq]
  unfold fixT
  generalize cmax (sc W (kb X4 0)) = M at hm ⊢
  have hP : ∀ c j, fixP W (kb X4) M c (ix3 0 j (col b q)) = ((Real.rpow 2 (sAt κ w (col b q) (keyOf c j) - m) : ℝ) : EReal) := fun c j => by
    match c with
    | 0 => show pr (slab _) M _ = _; rw [slab_eq, pr_apply, sc_key h3 h4, hm, exp2_sub]
    | c + 1 => show pr _ M _ = _; rw [pr_apply, sc_key h3 h4, hm, exp2_sub]
  have key : ∀ n, fixAcc b W (kb X4) (vb b X5) M n (ix2 r q)
      = ∑ c ∈ Finset.range n, ∑ j : Fin 512, vAt b X5 r (keyOf c j) * ((Real.rpow 2 (sAt κ w (col b q) (keyOf c j) - m) : ℝ) : EReal) := fun n => by
    induction n with
    | zero => rw [Finset.sum_range_zero]; exact pay3_apply _
    | succ n ih =>
      show fixAcc b W (kb X4) (vb b X5) M n (ix2 r q) + pv (vb b X5 n) (half b (fixP W (kb X4) M n)) (ix2 r q) = _
      rw [ih, pv_apply, Finset.sum_range_succ]
      congr 1
      exact Finset.sum_congr rfl fun j _ => by rw [half_apply, hP, vb_key]
  exact key 32

/-- The sweep with the running maximum. -/
theorem flashT_val (h3 : ∀ d q, W (ix2 d q) = (w d q : EReal)) (h4 : ∀ k d, X4 (ix3 0 k d) = (κ k d : EReal)) (b : Bool) (q : Fin 1024) :
    ∃ m : ℝ, ∀ r : Fin 80, flashT b W X4 X5 (ix2 r q) = ∑ k, vAt b X5 r k * ((Real.rpow 2 (sAt κ w (col b q) k - m) : ℝ) : EReal) := by
  have hM : ∀ n, ∃ m : ℝ, flM (fun c => sc W (kb X4 (min c 31))) k0_pay189 n (ix2 0 (col b q)) = (m : EReal) := fun n => by
    induction n with
    | zero => exact pay189_real _
    | succ n ih =>
      obtain ⟨a, ha⟩ := ih
      obtain ⟨b₁, hb⟩ := cmax_real (sc W (kb X4 (min n 31))) (col b q) _ (fun j => sc_key h3 h4 _ j (col b q))
      refine ⟨max a b₁, ?_⟩
      show max (flM (fun c => sc W (kb X4 (min c 31))) k0_pay189 n (ix2 0 (col b q))) (cmax (sc W (kb X4 (min n 31))) (ix2 0 (col b q))) = _
      rw [ha, hb]
      exact (EReal.coe_strictMono.monotone.map_max).symm
  choose m hm using hM
  refine ⟨m 32, fun r => ?_⟩
  rw [← chunks_eq]
  have hP : ∀ n j, flP (fun c => sc W (kb X4 (min c 31))) k0_pay189 k0_pay188 (n + 1) (ix3 0 j (col b q))
      = ((Real.rpow 2 (sAt κ w (col b q) (keyOf (min n 31) j) - m (n + 1)) : ℝ) : EReal) := fun n j => by
    show pr (slab _) (flM _ _ (n + 1)) _ = _
    rw [slab_eq, pr_apply, hm, ← exp2_sub]
    exact congrArg (fun z => Ideal.exp2 (z - (m (n + 1) : EReal))) (sc_key h3 h4 _ j (col b q))
  have hA : ∀ n, flA b (fun c => sc W (kb X4 (min c 31))) (fun c => vb b X5 (c - 1)) k0_pay189 k0_pay188 k0_pay3 (n + 1) (ix2 r q)
      = (flA b (fun c => sc W (kb X4 (min c 31))) (fun c => vb b X5 (c - 1)) k0_pay189 k0_pay188 k0_pay3 n (ix2 r q)
          + ∑ j : Fin 512, vAt b X5 r (keyOf (n - 1) j) * flP (fun c => sc W (kb X4 (min c 31))) k0_pay189 k0_pay188 n (ix3 0 j (col b q)))
        * ((Real.rpow 2 (m n - m (n + 1)) : ℝ) : EReal) := fun n => by
    show (flA b _ _ _ _ _ n (ix2 r q) + pv (vb b X5 (n - 1)) (half b (flP _ _ _ n)) (ix2 r q)) * broadcastTo S80x1024 (halfRow b (exp2 (subf (flM _ _ n) (flM _ _ (n + 1))))) _ (ix2 r q) = _
    rw [pv_apply, broadcastTo_apply (t := S80x1024) _ broadcasts_S1x1024_S80x1024 (ix2 r q) (ix2 0 q) (fun a => match a with | ⟨0, _⟩ => rfl | ⟨1, _⟩ => rfl), halfRow_apply]
    show _ * Ideal.exp2 (flM (fun c => sc W (kb X4 (min c 31))) k0_pay189 n (ix2 0 (col b q)) - flM (fun c => sc W (kb X4 (min c 31))) k0_pay189 (n + 1) (ix2 0 (col b q))) = _
    rw [hm, hm, exp2_sub]
    simp only [vb_key, half_apply]
  have inv := flash_inv (K := 512) (fun c j => sAt κ w (col b q) (keyOf (min c 31) j)) (fun c j => vAt b X5 r (keyOf c j)) m
    (fun n => flA b (fun c => sc W (kb X4 (min c 31))) (fun c => vb b X5 (c - 1)) k0_pay189 k0_pay188 k0_pay3 n (ix2 r q))
    (fun n j => flP (fun c => sc W (kb X4 (min c 31))) k0_pay189 k0_pay188 n (ix3 0 j (col b q)))
    (pay3_apply _) (fun j => pay188_apply _) hA hP 32
  show flA b (fun c => sc W (kb X4 (min c 31))) (fun c => vb b X5 (c - 1)) k0_pay189 k0_pay188 k0_pay3 32 (ix2 r q)
    + pv (vb b X5 31) (half b (flP (fun c => sc W (kb X4 (min c 31))) k0_pay189 k0_pay188 32)) (ix2 r q) = _
  rw [pv_apply]
  simp only [vb_key, half_apply]
  refine inv.trans (Finset.sum_congr rfl fun c hc => Finset.sum_congr rfl fun j _ => ?_)
  have : min c 31 = c := by have := Finset.mem_range.1 hc; omega
  simp only [this]

end Cert.Kernel3Ideal.Diff
end
-- ==== Proof.Diff.Val.lean ====
module

public import proofs.«01_k».proof.Proof.Diff.Head
public import proofs.«01_k».proof.Proof.Diff.Mean

@[expose] public section

set_option maxRecDepth 16384

noncomputable section

namespace Cert.Kernel3Ideal.Diff

open Cert.Kernel3Ideal Cert.Kernel3Ideal.Gen Cert.Soft Cert.Diff
open Idealize.ShloMosaic Idealize.ShloMosaic.ValueIdx
open scoped BigOperators

/-! ## What the body leaves in the result block, at an element -/

/-- A box of rows of the result block. -/
theorem rows_apply (Y : Vec Ideal S1x128x512 .bf16) (o : ℕ) (h : ∀ a : Fin 3, (![0, o, 0] : Fin 3 → ℕ) a + S1x64x512.size a ≤ S1x128x512.size a) (r : Fin 64) (q : Fin 512) (d : Fin 128) (hd : d.val = o + r.val) :
    View.ld Y (Rect.unit (s := S1x128x512) ![0, o, 0] S1x64x512.size h) (ix3 0 r q) = Y (ix3 0 d q) := by
  rw [View.ld_unit]
  refine extractStridedSlice_apply _ Y _ _ _ fun a => ?_
  match a with
  | ⟨0, _⟩ => rfl
  | ⟨1, _⟩ => exact hd
  | ⟨2, _⟩ => exact (Nat.zero_add _).symm

/-- Row `r` of the block of head `b`. -/
def rowOf (b : Bool) (r : Fin 64) : Fin 128 := ⟨b.toNat * 64 + r.val, by have := b.toNat_lt; have := r.isLt; omega⟩

variable {W : FVec Ideal S128x2048 .bf16} {X3 : Vec Ideal S4x32 .f32} {X4 : Vec Ideal S64x1 .f32} {X5 : Vec Ideal S1x128x512 .bf16}
  {X6 : Vec Ideal S1x16384x128 .bf16} (X7 : Vec Ideal S1x2x32x80x512 .bf16) {w : Fin 128 → Fin 2048 → ℝ} {κ : Fin 16384 → Fin 128 → ℝ}

/-- The mean that a map gives. -/
def mean (w : Fin 128 → Fin 2048 → ℝ) (κ : Fin 16384 → Fin 128 → ℝ) (b : Bool) (u : Fin 2) (r : Fin 64) (q : Fin 512) : EReal :=
  soft (vAt b X7 ⟨r.val, by have := r.isLt; omega⟩) (fun k => sAt κ w (col b (mp u q)) k * Real.log 2)

/-- Sums by the powers of two of the scores, over the sum of those powers: the softmax mean. -/
theorem quo_eq (h5 : ∀ b k, vAt b X7 64 k = 1) (b : Bool) (T : FVec Ideal S80x1024 .f32)
    (hT : ∀ q : Fin 1024, ∃ m : ℝ, ∀ r : Fin 80, T (ix2 r q) = ∑ k, vAt b X7 r k * ((Real.rpow 2 (sAt κ w (col b q) k - m) : ℝ) : EReal))
    (u : Fin 2) (r : Fin 64) (q : Fin 512) : quo T u r q = mean X7 w κ b u r q := by
  obtain ⟨m, h⟩ := hT (mp u q)
  unfold quo mean
  rw [h, h]
  simp only [h5]
  exact div_sums _ _ m

/-- What the body leaves, whichever sweep it took: the difference of the two maps' means, normed. -/
theorem swept_val (h3 : ∀ d q, wq X5 (ix2 d q) = (w d q : EReal)) (h4 : ∀ k d, X6 (ix3 0 k d) = (κ k d : EReal))
    (h5 : ∀ b k, vAt b X7 64 k = 1) {Y : Vec Ideal S1x128x512 .bf16} (h : Swept X3 X4 X5 X6 X7 Y) (b : Bool) (r : Fin 64) (q : Fin 512) :
    Y (ix3 0 (rowOf b r) q) = nrm (fun r => mean X7 w κ b 0 r q - lam X3 * mean X7 w κ b 1 r q) (X4 (ix2 r 0)) r := by
  have two : ∀ A B : FVec Ideal S80x1024 .f32, (∀ u r q, quo A u r q = mean X7 w κ false u r q) → (∀ u r q, quo B u r q = mean X7 w κ true u r q) →
      Two (lb X3) (gb X4) A B Y → Y (ix3 0 (rowOf b r) q) = nrm (fun r => mean X7 w κ b 0 r q - lam X3 * mean X7 w κ b 1 r q) (X4 (ix2 r 0)) r := fun A B hA hB hY => by
    rw [lb_eq, gb_eq] at hY
    cases b with
    | false =>
      rw [← rows_apply Y 0 inb_S1x128x512_S1x64x512_0_0_0 r q (rowOf false r) (by simp only [rowOf, Bool.toNat_false]), hY.2, pay219_eq, block_apply, pay201_apply]
      simp only [hA]
    | true =>
      rw [← rows_apply Y 64 inb_S1x128x512_S1x64x512_0_64_0 r q (rowOf true r) (by simp only [rowOf, Bool.toNat_true]), hY.1, block_apply, pay201_apply]
      simp only [hB]
  rcases h with h | h
  · rw [qb_eq] at h
    exact two _ _ (quo_eq X7 h5 false _ fun q => fixT_val X7 h3 h4 false q) (quo_eq X7 h5 true _ fun q => fixT_val X7 h3 h4 true q) h
  · rw [qb_eq] at h
    exact two _ _ (quo_eq X7 h5 false _ fun q => flashT_val X7 h3 h4 false q) (quo_eq X7 h5 true _ fun q => flashT_val X7 h3 h4 true q) h

end Cert.Kernel3Ideal.Diff
end
-- ==== Proof.Diff.Out.lean ====
module

public import proofs.«01_k».proof.Proof.Diff.Host
public import proofs.«01_k».proof.Proof.Diff.Val
public import proofs.«01_k».proof.Proof.Diff.Launch
public import Idealize.ShloMosaic.Lib.Pipeline.ArrRel
public import Idealize.ShloMosaic.Lib.Pipeline.ValueKit.Geometry

@[expose] public section

set_option maxRecDepth 16384

noncomputable section

namespace Cert.Kernel3Ideal.Diff

open Cert.Kernel3Ideal Cert.Kernel3Ideal.Gen Cert.Soft Cert.Diff
open Idealize.ShloMosaic Idealize.ShloMosaic.TcCoe Idealize.SL.Sem Idealize.ShloMosaic.ValueIdx
open scoped BigOperators

/-! ## The blocks of the launch at an element, and the array it leaves -/

/-- The batch of a point. -/
abbrev pb (t : Fin cfg0.N) : Fin 2 := cfg0.grid.coords t 0
/-- The pair of heads of a point. -/
abbrev pp (t : Fin cfg0.N) : Fin 2 := cfg0.grid.coords t 1
/-- The block of queries of a point. -/
abbrev pq (t : Fin cfg0.N) : Fin 32 := cfg0.grid.coords t 2

/-- A coordinate of the grid survives the passage through a word. -/
theorem word_coord (n : ℕ) (h : n < 32) : (BitVec.ofNat 32 n).toNat = n := by
  rw [BitVec.toNat_ofNat]; omega

theorem at_b (t : Fin cfg0.N) : (BitVec.ofNat 32 (cfg0.grid.coords t 0).val).toNat = (pb t).val := word_coord _ (Nat.lt_of_lt_of_le (pb t).isLt (by norm_num))
theorem at_p (t : Fin cfg0.N) : (BitVec.ofNat 32 (cfg0.grid.coords t 1).val).toNat = (pp t).val := word_coord _ (Nat.lt_of_lt_of_le (pp t).isLt (by norm_num))
theorem at_q (t : Fin cfg0.N) : (BitVec.ofNat 32 (cfg0.grid.coords t 2).val).toNat = (pq t).val := word_coord _ (pq t).isLt

variable (m : (ℓ : Loc nD τ sig) → Buf (Elt Ideal) ℓ) (c : Dev nD)

/-- A block of the rows that give lambda is read at the place of its array that it covers. -/
theorem read_l (t : Fin cfg0.N) (y : ((cfg0.win 0).xblock (cfg0.grid.coords t)).Idx) (A : Vec Ideal S4x32 .f32) :
    ((cfg0.win 0).blk t).view.read (Elt Ideal) A y = A (((cfg0.win 0).blk t).view.emb y) := by
  rw [View.read_apply]
  rfl

/-- A block of the rows that give lambda, at an element, of any array. -/
theorem place_l (t : Fin cfg0.N) (a : Fin 4) (d : Fin 32) (A : Vec Ideal S4x32 .f32) :
    ((cfg0.win 0).blk t).view.read (Elt Ideal) A (ix2 a d : S4x32.Idx)
      = A (ix2 a d) := by
  rw [read_l]
  congr 1
  funext a
  apply Fin.ext
  match a with
  | ⟨0, _⟩ => exact (Pipeline.Window.rect_emb_val win0_0 t _ 0 rfl).trans (by rw [show win0_0.index t 0 = 0 from rfl, Nat.zero_mul, Nat.zero_add]; rfl)
  | ⟨1, _⟩ => exact (Pipeline.Window.rect_emb_val win0_0 t _ 1 rfl).trans (by rw [show win0_0.index t 1 = 0 from rfl, Nat.zero_mul, Nat.zero_add]; rfl)

/-- The block of the rows that give lambda of a point, at an element. -/
theorem iblk_l (t : Fin cfg0.N) (a : Fin 4) (d : Fin 32) :
    (iblk m c 0 t : Vec Ideal S4x32 .f32) (ix2 a d) = (m (c.tc.loc main_arg0)) (ix2 a d) := by
  have e : V m c (Pipeline.arrRef spec0 0) = (m (c.tc.loc main_arg0)) := V_main_arg0 m c
  unfold iblk
  rw [e]
  exact place_l t a d _

/-- A block of gains is read at the place of its array that it covers. -/
theorem read_g (t : Fin cfg0.N) (y : ((cfg0.win 1).xblock (cfg0.grid.coords t)).Idx) (A : Vec Ideal S64x1 .f32) :
    ((cfg0.win 1).blk t).view.read (Elt Ideal) A y = A (((cfg0.win 1).blk t).view.emb y) := by
  rw [View.read_apply]
  rfl

/-- A block of gains, at an element, of any array. -/
theorem place_g (t : Fin cfg0.N) (r : Fin 64) (z : Fin 1) (A : Vec Ideal S64x1 .f32) :
    ((cfg0.win 1).blk t).view.read (Elt Ideal) A (ix2 r z : S64x1.Idx)
      = A (ix2 r z) := by
  rw [read_g]
  congr 1
  funext a
  apply Fin.ext
  match a with
  | ⟨0, _⟩ => exact (Pipeline.Window.rect_emb_val win0_1 t _ 0 rfl).trans (by rw [show win0_1.index t 0 = 0 from rfl, Nat.zero_mul, Nat.zero_add]; rfl)
  | ⟨1, _⟩ => exact (Pipeline.Window.rect_emb_val win0_1 t _ 1 rfl).trans (by rw [show win0_1.index t 1 = 0 from rfl, Nat.zero_mul, Nat.zero_add]; rfl)

/-- The block of gains of a point, at an element. -/
theorem iblk_g (t : Fin cfg0.N) (r : Fin 64) (z : Fin 1) :
    (iblk m c 1 t : Vec Ideal S64x1 .f32) (ix2 r z) = gArr (m (c.tc.loc main_arg1)) (ix2 r z) := by
  have e : V m c (Pipeline.arrRef spec0 1) = gArr (m (c.tc.loc main_arg1)) := V_g m c
  unfold iblk
  rw [e]
  exact place_g t r z _

/-- A block of queries is read at the place of its array that it covers. -/
theorem read_q (t : Fin cfg0.N) (y : ((cfg0.win 2).xblock (cfg0.grid.coords t)).Idx) (A : Vec Ideal S2x256x16384 .bf16) :
    ((cfg0.win 2).blk t).view.read (Elt Ideal) A y = A (((cfg0.win 2).blk t).view.emb y) := by
  rw [View.read_apply]
  rfl

/-- A block of queries, at an element, of any array. -/
theorem place_q (t : Fin cfg0.N) (d : Fin 128) (q : Fin 512) (A : Vec Ideal S2x256x16384 .bf16) :
    ((cfg0.win 2).blk t).view.read (Elt Ideal) A (ix3 0 d q : S1x128x512.Idx)
      = A (ix3 (pb t) ⟨(pp t).val * 128 + d.val, by have := (pp t).isLt; have := d.isLt; omega⟩ ⟨(pq t).val * 512 + q.val, by have := (pq t).isLt; have := q.isLt; omega⟩) := by
  rw [read_q]
  congr 1
  funext a
  apply Fin.ext
  match a with
  | ⟨0, _⟩ => exact (Pipeline.Window.rect_emb_val win0_2 t _ 0 rfl).trans (by rw [show win0_2.index t 0 = (BitVec.ofNat 32 (cfg0.grid.coords t 0).val).toNat from rfl, at_b]; show (pb t).val * 1 + 0 = (pb t).val; omega)
  | ⟨1, _⟩ => exact (Pipeline.Window.rect_emb_val win0_2 t _ 1 rfl).trans (by rw [show win0_2.index t 1 = (BitVec.ofNat 32 (cfg0.grid.coords t 1).val).toNat from rfl, at_p]; rfl)
  | ⟨2, _⟩ => exact (Pipeline.Window.rect_emb_val win0_2 t _ 2 rfl).trans (by rw [show win0_2.index t 2 = (BitVec.ofNat 32 (cfg0.grid.coords t 2).val).toNat from rfl, at_q]; rfl)

/-- The block of queries of a point, at an element. -/
theorem iblk_q (t : Fin cfg0.N) (d : Fin 128) (q : Fin 512) :
    (iblk m c 2 t : Vec Ideal S1x128x512 .bf16) (ix3 0 d q) = qArr (m (c.tc.loc main_arg2)) (ix3 (pb t) ⟨(pp t).val * 128 + d.val, by have := (pp t).isLt; have := d.isLt; omega⟩ ⟨(pq t).val * 512 + q.val, by have := (pq t).isLt; have := q.isLt; omega⟩) := by
  have e : V m c (Pipeline.arrRef spec0 2) = qArr (m (c.tc.loc main_arg2)) := V_q m c
  unfold iblk
  rw [e]
  exact place_q t d q _

/-- A block of keys is read at the place of its array that it covers. -/
theorem read_k (t : Fin cfg0.N) (y : ((cfg0.win 3).xblock (cfg0.grid.coords t)).Idx) (A : Vec Ideal S2x16384x256 .bf16) :
    ((cfg0.win 3).blk t).view.read (Elt Ideal) A y = A (((cfg0.win 3).blk t).view.emb y) := by
  rw [View.read_apply]
  rfl

/-- A block of keys, at an element, of any array. -/
theorem place_k (t : Fin cfg0.N) (k : Fin 16384) (d : Fin 128) (A : Vec Ideal S2x16384x256 .bf16) :
    ((cfg0.win 3).blk t).view.read (Elt Ideal) A (ix3 0 k d : S1x16384x128.Idx)
      = A (ix3 (pb t) k ⟨(pp t).val * 128 + d.val, by have := (pp t).isLt; have := d.isLt; omega⟩) := by
  rw [read_k]
  congr 1
  funext a
  apply Fin.ext
  match a with
  | ⟨0, _⟩ => exact (Pipeline.Window.rect_emb_val win0_3 t _ 0 rfl).trans (by rw [show win0_3.index t 0 = (BitVec.ofNat 32 (cfg0.grid.coords t 0).val).toNat from rfl, at_b]; show (pb t).val * 1 + 0 = (pb t).val; omega)
  | ⟨1, _⟩ => exact (Pipeline.Window.rect_emb_val win0_3 t _ 1 rfl).trans (by rw [show win0_3.index t 1 = 0 from rfl, Nat.zero_mul, Nat.zero_add]; rfl)
  | ⟨2, _⟩ => exact (Pipeline.Window.rect_emb_val win0_3 t _ 2 rfl).trans (by rw [show win0_3.index t 2 = (BitVec.ofNat 32 (cfg0.grid.coords t 1).val).toNat from rfl, at_p]; rfl)

/-- The block of keys of a point, at an element. -/
theorem iblk_k (t : Fin cfg0.N) (k : Fin 16384) (d : Fin 128) :
    (iblk m c 3 t : Vec Ideal S1x16384x128 .bf16) (ix3 0 k d) = kArr (m (c.tc.loc main_arg3)) (ix3 (pb t) k ⟨(pp t).val * 128 + d.val, by have := (pp t).isLt; have := d.isLt; omega⟩) := by
  have e : V m c (Pipeline.arrRef spec0 3) = kArr (m (c.tc.loc main_arg3)) := V_k m c
  unfold iblk
  rw [e]
  exact place_k t k d _

/-- A block of values is read at the place of its array that it covers. -/
theorem read_v (t : Fin cfg0.N) (y : ((cfg0.win 4).xblock (cfg0.grid.coords t)).Idx) (A : Vec Ideal S2x4x32x80x512 .bf16) :
    ((cfg0.win 4).blk t).view.read (Elt Ideal) A y = A (((cfg0.win 4).blk t).view.emb y) := by
  rw [View.read_apply]
  rfl

/-- A block of values, at an element, of any array. -/
theorem place_v (t : Fin cfg0.N) (h : Fin 2) (n : Fin 32) (r : Fin 80) (j : Fin 512) (A : Vec Ideal S2x4x32x80x512 .bf16) :
    ((cfg0.win 4).blk t).view.read (Elt Ideal) A (ix5 0 h n r j : S1x2x32x80x512.Idx)
      = A (ix5 (pb t) ⟨(pp t).val * 2 + h.val, by have := (pp t).isLt; have := h.isLt; omega⟩ n r j) := by
  rw [read_v]
  congr 1
  funext a
  apply Fin.ext
  match a with
  | ⟨0, _⟩ => exact (Pipeline.Window.rect_emb_val win0_4 t _ 0 rfl).trans (by rw [show win0_4.index t 0 = (BitVec.ofNat 32 (cfg0.grid.coords t 0).val).toNat from rfl, at_b]; show (pb t).val * 1 + 0 = (pb t).val; omega)
  | ⟨1, _⟩ => exact (Pipeline.Window.rect_emb_val win0_4 t _ 1 rfl).trans (by rw [show win0_4.index t 1 = (BitVec.ofNat 32 (cfg0.grid.coords t 1).val).toNat from rfl, at_p]; rfl)
  | ⟨2, _⟩ => exact (Pipeline.Window.rect_emb_val win0_4 t _ 2 rfl).trans (by rw [show win0_4.index t 2 = 0 from rfl, Nat.zero_mul, Nat.zero_add]; rfl)
  | ⟨3, _⟩ => exact (Pipeline.Window.rect_emb_val win0_4 t _ 3 rfl).trans (by rw [show win0_4.index t 3 = 0 from rfl, Nat.zero_mul, Nat.zero_add]; rfl)
  | ⟨4, _⟩ => exact (Pipeline.Window.rect_emb_val win0_4 t _ 4 rfl).trans (by rw [show win0_4.index t 4 = 0 from rfl, Nat.zero_mul, Nat.zero_add]; rfl)

/-- The block of values of a point, at an element. -/
theorem iblk_v (t : Fin cfg0.N) (h : Fin 2) (n : Fin 32) (r : Fin 80) (j : Fin 512) :
    (iblk m c 4 t : Vec Ideal S1x2x32x80x512 .bf16) (ix5 0 h n r j) = vArr (m (c.tc.loc main_arg4)) (ix5 (pb t) ⟨(pp t).val * 2 + h.val, by have := (pp t).isLt; have := h.isLt; omega⟩ n r j) := by
  have e : V m c (Pipeline.arrRef spec0 4) = vArr (m (c.tc.loc main_arg4)) := V_v m c
  unfold iblk
  rw [e]
  exact place_v t h n r j _

/-- The copies of the queries at an element, as a real. -/
def cw (x2 : QQ) (t : Fin cfg0.N) (d : Fin 128) (p : Fin 2048) : ℝ :=
  if 32 * (p.val / 512) ≤ d.val ∧ d.val < 32 * (p.val / 512 + 1) then
    fl x2 (pb t) ⟨(pq t).val * 512 + p.val % 512, by have := (pq t).isLt; omega⟩ ⟨(pp t).val * 128 + d.val, by have := (pp t).isLt; have := d.isLt; omega⟩ / (Real.log 2 * Real.sqrt 32) else 0

/-- The keys of the point, as reals. -/
def ck (x3 : QQ) (t : Fin cfg0.N) (k : Fin 16384) (d : Fin 128) : ℝ := fl x3 (pb t) k ⟨(pp t).val * 128 + d.val, by have := (pp t).isLt; have := d.isLt; omega⟩

/-- The head of a point that the half `b` is of. -/
def hh (t : Fin cfg0.N) (b : Bool) : Fin 4 := ⟨(pp t).val * 2 + b.toNat, by have := (pp t).isLt; have := b.toNat_lt; omega⟩

/-- The scores of a map of a head. -/
theorem score_eq (x2 x3 : QQ) (t : Fin cfg0.N) (b : Bool) (u : Fin 2) (q : Fin 512) (k : Fin 16384) :
    sAt (ck x3 t) (cw x2 t) (col b (mp u q)) k * Real.log 2 = mapScore x2 x3 u (pb t) (hh t b) ⟨(pq t).val * 512 + q.val, by have := (pq t).isLt; have := q.isLt; omega⟩ k := by
  have hb := b.toNat_lt
  have hu := u.isLt
  have hq := q.isLt
  have hp := (pp t).isLt
  have hv : (col b (mp u q)).val = b.toNat * 1024 + (512 * u.val + q.val) := rfl
  have e1 : (col b (mp u q)).val / 512 = 2 * b.toNat + u.val := by omega
  have e2 : (col b (mp u q)).val % 512 = q.val := by omega
  have main := sum_group ⟨2 * b.toNat + u.val, by omega⟩ (ck x3 t k) (fun d => fl x2 (pb t) ⟨(pq t).val * 512 + q.val, by have := (pq t).isLt; have := q.isLt; omega⟩ ⟨(pp t).val * 128 + d.val, by have := (pp t).isLt; have := d.isLt; omega⟩)
  unfold sAt cw mapScore
  simp only [e1, e2]
  refine main.trans (congrArg (· / Real.sqrt 32) (Finset.sum_congr rfl fun e _ => ?_))
  have he := e.isLt
  unfold ck
  rw [fl_eq x2 _ _ (hh t b) u e _ (by show (pp t).val * 128 + (32 * (2 * b.toNat + u.val) + e.val) = (((pp t).val * 2 + b.toNat) * 2 + u.val) * 32 + e.val; omega),
    fl_eq x3 _ _ (hh t b) u e _ (by show (pp t).val * 128 + (32 * (2 * b.toNat + u.val) + e.val) = (((pp t).val * 2 + b.toNat) * 2 + u.val) * 32 + e.val; omega)]

variable {m c}
variable {x0 : LL} {x1 : GG} {x2 x3 : QQ} {x4 : VV}

/-- What the body leaves at a point, at an element: the differential attention of the query there. -/
theorem point_val (hx2 : Reals x2) (hx3 : Reals x3) (e0 : m (c.tc.loc main_arg0) = x0) (e1 : m (c.tc.loc main_arg1) = x1) (e2 : m (c.tc.loc main_arg2) = x2)
    (e3 : m (c.tc.loc main_arg3) = x3) (e4 : m (c.tc.loc main_arg4) = x4)
    (t : Fin cfg0.N) {Y : Vec Ideal S1x128x512 .bf16} (h : Swept (iblk m c 0 t) (iblk m c 1 t) (iblk m c 2 t) (iblk m c 3 t) (iblk m c 4 t) Y) (b : Bool) (r : Fin 64) (q : Fin 512) :
    Y (ix3 0 (rowOf b r) q) = nrm (dif x0 x2 x3 x4 (pb t) (hh t b) ⟨(pq t).val * 512 + q.val, by have := (pq t).isLt; have := q.isLt; omega⟩) (x1 (ix1 r)) r := by
  have hv : ∀ (b : Bool) (r : Fin 80) (k : Fin 16384), vAt b (iblk m c 4 t) r k = vArr x4 (ix5 (pb t) (hh t b) ⟨k.val / 512, by have := k.isLt; omega⟩ r ⟨k.val % 512, Nat.mod_lt _ (by norm_num)⟩) := fun b r k => by
    unfold vAt
    rw [iblk_v, e4]
    rfl
  have hl : lam (iblk m c 0 t : Vec Ideal S4x32 .f32) = lam x0 := by
    refine congrArg lam (funext fun i => ?_)
    rw [eq_ix2 i]
    exact (iblk_l m c t (i 0) (i 1)).trans (congrFun e0 _)
  have hm : ∀ (u : Fin 2) (r : Fin 64), mean (iblk m c 4 t) (cw x2 t) (ck x3 t) b u r q
      = soft (fun k => x4 (ix4 (pb t) k (hh t b) r)) (mapScore x2 x3 u (pb t) (hh t b) ⟨(pq t).val * 512 + q.val, by have := (pq t).isLt; have := q.isLt; omega⟩) := fun u r => by
    unfold mean
    have ev : vAt b (iblk m c 4 t) ⟨r.val, by have := r.isLt; omega⟩ = fun k : Fin 16384 => x4 (ix4 (pb t) k (hh t b) r) := funext fun k => by
      rw [hv]
      exact vArr_apply x4 _ _ _ _ _ r.isLt k (by show k.val = k.val / 512 * 512 + k.val % 512; omega)
    rw [ev]
    exact congrArg (soft _) (funext fun k => score_eq x2 x3 t b u q k)
  have main := swept_val (X3 := iblk m c 0 t) (X4 := iblk m c 1 t) (X5 := iblk m c 2 t) (X6 := iblk m c 3 t) (iblk m c 4 t)
    (w := cw x2 t) (κ := ck x3 t)
    (fun d p => by
      have hp : p = cp ⟨p.val / 512, by have := p.isLt; omega⟩ ⟨p.val % 512, Nat.mod_lt _ (by norm_num)⟩ := Fin.ext (by show p.val = 512 * (p.val / 512) + p.val % 512; omega)
      refine (congrArg (fun p => wq (iblk m c 2 t) (ix2 d p)) hp).trans ((wq_apply _ _ d _).trans ?_)
      rw [iblk_q, e2, qArr_apply hx2]
      unfold cw
      split_ifs <;> rfl)
    (fun k d => by rw [iblk_k, e3, kArr_apply hx3]; rfl)
    (fun b k => by rw [hv, vArr_one x4 _ _ _ _ _ (by decide)]) h b r q
  rw [main, iblk_g, e1, gArr_apply, hl]
  simp only [hm]
  rfl

/-- The place in the result of an element of a point's block. -/
theorem emb_out (t : Fin cfg0.N) (d : Fin 128) (q : Fin 512) :
    (((cfg0.win 5).blk t).view.emb (ix3 0 d q : S1x128x512.Idx) : S2x256x16384.Idx) = ix3 (pb t) ⟨(pp t).val * 128 + d.val, by have := (pp t).isLt; have := d.isLt; omega⟩ ⟨(pq t).val * 512 + q.val, by have := (pq t).isLt; have := q.isLt; omega⟩ := by
  funext a
  apply Fin.ext
  match a with
  | ⟨0, _⟩ => exact (Pipeline.Window.rect_emb_val win0_5 t _ 0 rfl).trans (by rw [show win0_5.index t 0 = (BitVec.ofNat 32 (cfg0.grid.coords t 0).val).toNat from rfl, at_b]; show (pb t).val * 1 + 0 = (pb t).val; omega)
  | ⟨1, _⟩ => exact (Pipeline.Window.rect_emb_val win0_5 t _ 1 rfl).trans (by rw [show win0_5.index t 1 = (BitVec.ofNat 32 (cfg0.grid.coords t 1).val).toNat from rfl, at_p]; rfl)
  | ⟨2, _⟩ => exact (Pipeline.Window.rect_emb_val win0_5 t _ 2 rfl).trans (by rw [show win0_5.index t 2 = (BitVec.ofNat 32 (cfg0.grid.coords t 2).val).toNat from rfl, at_q]; rfl)

/-- The array at an element of a point's block. -/
theorem arr_out (t : Fin cfg0.N) (b : Bool) (r : Fin 64) (q : Fin 512) :
    diffArr x0 x1 x2 x3 x4 (ix3 (pb t) ⟨(pp t).val * 128 + (rowOf b r).val, by have := (pp t).isLt; have := (rowOf b r).isLt; omega⟩ ⟨(pq t).val * 512 + q.val, by have := (pq t).isLt; have := q.isLt; omega⟩)
      = nrm (dif x0 x2 x3 x4 (pb t) (hh t b) ⟨(pq t).val * 512 + q.val, by have := (pq t).isLt; have := q.isLt; omega⟩) (x1 (ix1 r)) r := by
  have hb := b.toNat_lt
  have hr := r.isLt
  have hp := (pp t).isLt
  have e1 : (⟨((pp t).val * 128 + (rowOf b r).val) / 64, by have := (rowOf b r).isLt; omega⟩ : Fin 4) = hh t b :=
    Fin.ext (by show ((pp t).val * 128 + (b.toNat * 64 + r.val)) / 64 = (pp t).val * 2 + b.toNat; omega)
  have e2 : (⟨((pp t).val * 128 + (rowOf b r).val) % 64, Nat.mod_lt _ (by norm_num)⟩ : Fin 64) = r :=
    Fin.ext (by show ((pp t).val * 128 + (b.toNat * 64 + r.val)) % 64 = r.val; omega)
  show nrm (dif x0 x2 x3 x4 (pb t) (⟨((pp t).val * 128 + (rowOf b r).val) / 64, _⟩ : Fin 4) _) (x1 (ix1 (⟨((pp t).val * 128 + (rowOf b r).val) % 64, _⟩ : Fin 64))) (⟨((pp t).val * 128 + (rowOf b r).val) % 64, _⟩ : Fin 64) = _
  rw [e1, e2]

/-- Every setting of the grid's coordinates being some point's, the blocks of the result cover it. -/
theorem covers_out : (cfg0.win 5).Covers := by decide +kernel

end Cert.Kernel3Ideal.Diff
end
-- ==== Proof.Diff.Ref.lean ====
module

public import proofs.«01_k».proof.Proof.Gen.Reference3Ideal.Read
public import proofs.«01_k».proof.Proof.Diff.Fin
public import Idealize.ShloMosaic.Lib.Pointwise.Reduce

@[expose] public section

set_option maxRecDepth 16384

noncomputable section

namespace Cert.Reference3Ideal.Diff

open Cert.Reference3Ideal Cert.Reference3Ideal.Read Cert.Soft Cert.Diff
open Idealize.ShloMosaic hiding ix1 ix2 ix3 ix4 ix5 ix6
open Idealize.ShloMosaic.ValueIdx
open scoped BigOperators

/-! ## The reference at an element -/

/-- Element `d` of a row. -/
theorem row0 (x0 : LL) (d : S32.Idx) : val_main_v1 (F := Ideal) x0 d = x0 (ix2 0 (d 0)) := by
  rw [val_main_v1_apply, val_main_v0_apply]
  exact congrArg x0 (funext fun a => match a with
    | ⟨0, _⟩ => rfl
    | ⟨1, _⟩ => Fin.ext (Nat.mod_eq_of_lt (d 0).isLt))
theorem row1 (x0 : LL) (d : S32.Idx) : val_main_v3 (F := Ideal) x0 d = x0 (ix2 1 (d 0)) := by
  rw [val_main_v3_apply, val_main_v2_apply]
  exact congrArg x0 (funext fun a => match a with
    | ⟨0, _⟩ => rfl
    | ⟨1, _⟩ => Fin.ext (Nat.mod_eq_of_lt (d 0).isLt))
theorem row2 (x0 : LL) (d : S32.Idx) : val_main_v8 (F := Ideal) x0 d = x0 (ix2 2 (d 0)) := by
  rw [val_main_v8_apply, val_main_v7_apply]
  exact congrArg x0 (funext fun a => match a with
    | ⟨0, _⟩ => rfl
    | ⟨1, _⟩ => Fin.ext (Nat.mod_eq_of_lt (d 0).isLt))
theorem row3 (x0 : LL) (d : S32.Idx) : val_main_v10 (F := Ideal) x0 d = x0 (ix2 3 (d 0)) := by
  rw [val_main_v10_apply, val_main_v9_apply]
  exact congrArg x0 (funext fun a => match a with
    | ⟨0, _⟩ => rfl
    | ⟨1, _⟩ => Fin.ext (Nat.mod_eq_of_lt (d 0).isLt))

/-- A sum over the places of a row. -/
theorem sum_row (f : Fin 32 → EReal) : (∑ j : S32.Idx, f (j 0)) = ∑ d : Fin 32, f d :=
  Fintype.sum_equiv ⟨fun j => j 0, fun d => ix1 d, fun j => funext fun a => match a with | ⟨0, _⟩ => rfl, fun d => rfl⟩ _ _ (fun j => rfl)

/-- Lambda. -/
theorem v15_at (x0 : LL) (i : S_.Idx) : val_main_v15 (F := Ideal) x0 i = lam x0 := by
  have e5 : ∀ i, val_main_v5 (F := Ideal) x0 i = ∑ d : Fin 32, x0 (ix2 0 d) * x0 (ix2 1 d) := fun i => by
    rw [val_main_v5_apply, val_main_cst_apply]
    refine (congrArg (· + _) Ideal.ofBits_zero_f32).trans ((zero_add _).trans ?_)
    refine Eq.trans (Finset.sum_congr rfl fun j _ => ?_) (sum_row fun d => x0 (ix2 0 d) * x0 (ix2 1 d))
    rw [val_main_v4_apply, row0, row1]
    rfl
  have e12 : ∀ i, val_main_v12 (F := Ideal) x0 i = ∑ d : Fin 32, x0 (ix2 2 d) * x0 (ix2 3 d) := fun i => by
    rw [val_main_v12_apply, val_main_cst_0_apply]
    refine (congrArg (· + _) Ideal.ofBits_zero_f32).trans ((zero_add _).trans ?_)
    refine Eq.trans (Finset.sum_congr rfl fun j _ => ?_) (sum_row fun d => x0 (ix2 2 d) * x0 (ix2 3 d))
    rw [val_main_v11_apply, row2, row3]
    rfl
  rw [val_main_v15_apply, val_main_v14_apply, val_main_v6_apply, val_main_v13_apply, e5, e12]
  rfl

variable {x2 x3 : QQ}

/-- A query's feature in map 0. -/
theorem q0_at (b : Fin 2) (q : Fin 16384) (h : Fin 4) (d : Fin 32) : val_main_v17 (F := Ideal) x2 (ix4 b q h d) = x2 (ix5 b q h 0 d) := by
  rw [val_main_v17_apply, val_main_v16_apply]
  have hb := b.isLt
  have hq := q.isLt
  have hh := h.isLt
  have hd := d.isLt
  refine congrArg x2 (funext fun a => Fin.ext ?_)
  match a with
  | ⟨0, _⟩ => show (((b.val * 16384 + q.val) * 4 + h.val) * 32 + d.val) / 2097152 = b.val; omega
  | ⟨1, _⟩ => show (((b.val * 16384 + q.val) * 4 + h.val) * 32 + d.val) / 128 % 16384 = q.val; omega
  | ⟨2, _⟩ => show (((b.val * 16384 + q.val) * 4 + h.val) * 32 + d.val) / 32 % 4 = h.val; omega
  | ⟨3, _⟩ => rfl
  | ⟨4, _⟩ => show (((b.val * 16384 + q.val) * 4 + h.val) * 32 + d.val) % 32 = d.val; omega

/-- A key's feature in map 0. -/
theorem k0_at (b : Fin 2) (q : Fin 16384) (h : Fin 4) (d : Fin 32) : val_main_v19 (F := Ideal) x3 (ix4 b q h d) = x3 (ix5 b q h 0 d) := by
  rw [val_main_v19_apply, val_main_v18_apply]
  have hb := b.isLt
  have hq := q.isLt
  have hh := h.isLt
  have hd := d.isLt
  refine congrArg x3 (funext fun a => Fin.ext ?_)
  match a with
  | ⟨0, _⟩ => show (((b.val * 16384 + q.val) * 4 + h.val) * 32 + d.val) / 2097152 = b.val; omega
  | ⟨1, _⟩ => show (((b.val * 16384 + q.val) * 4 + h.val) * 32 + d.val) / 128 % 16384 = q.val; omega
  | ⟨2, _⟩ => show (((b.val * 16384 + q.val) * 4 + h.val) * 32 + d.val) / 32 % 4 = h.val; omega
  | ⟨3, _⟩ => rfl
  | ⟨4, _⟩ => show (((b.val * 16384 + q.val) * 4 + h.val) * 32 + d.val) % 32 = d.val; omega

/-- A scaled score in map 0. -/
theorem s0_at (hx2 : Reals x2) (hx3 : Reals x3) (b : Fin 2) (h : Fin 4) (q k : Fin 16384) : val_main_v23 (F := Ideal) x2 x3 (ix4 b h q k) = (mapScore x2 x3 0 b h q k : EReal) := by
  have hs : Real.sqrt 32 ≠ 0 := (Real.sqrt_pos.2 (by norm_num)).ne'
  have e0 : val_main_v20 (F := Ideal) x2 x3 (ix4 b h q k) = ((∑ d : Fin 32, (x2 (ix5 b q h 0 d)).toReal * (x3 (ix5 b k h 0 d)).toReal : ℝ) : EReal) := by
    rw [val_main_v20_apply, ← sum_coe]
    refine Finset.sum_congr rfl fun d _ => ?_
    have e1 : lidx_main_v20 (ix4 b h q k) d = ix4 b q h d := funext fun a => match a with
      | ⟨0, _⟩ => rfl
      | ⟨1, _⟩ => rfl
      | ⟨2, _⟩ => rfl
      | ⟨3, _⟩ => rfl
    have e2 : ridx_main_v20 (ix4 b h q k) d = ix4 b k h d := funext fun a => match a with
      | ⟨0, _⟩ => rfl
      | ⟨1, _⟩ => rfl
      | ⟨2, _⟩ => rfl
      | ⟨3, _⟩ => rfl
    rw [e1, e2, q0_at, k0_at, EReal.coe_mul, ← hx2, ← hx3]
  rw [val_main_v23_apply, val_main_v22_apply, val_main_v21_apply, val_main_cst_2_apply, e0]
  show Ideal.div _ (Ideal.sqrt (Ideal.ofBits .f32 0x42000000#32)) = _
  rw [f32_f32, Ideal.sqrt_coe, if_neg (by norm_num), Ideal.div_coe hs, ← EReal.coe_mul]
  unfold mapScore
  congr 1
  ring

/-- The largest score of a query in map 0 is a real number. -/
theorem m0_real (hx2 : Reals x2) (hx3 : Reals x3) (b : Fin 2) (h : Fin 4) (q : Fin 16384) : ∃ M : ℝ, val_main_v26 (F := Ideal) x2 x3 (ix3 b h q) = (M : EReal) := by
  have e : ∃ M : ℝ, val_main_v24 (F := Ideal) x2 x3 (ix3 b h q) = (M : EReal) := by
    obtain ⟨M, hM⟩ := fold_max_real (⊥ : EReal) (by simp) (fun k : Fin 16384 => mapScore x2 x3 0 b h q k)
    refine ⟨M, ?_⟩
    unfold val_main_v24
    rw [Host.reduce_eq_fold, Shape.ReducesTo.fold_fiber_r4_a3]
    refine Eq.trans ?_ hM
    rw [val_main_cst_3_apply]
    show Finset.univ.fold max (Ideal.ofBits .f32 0xFF800000#32) (fun k : Fin 16384 => val_main_v23 (F := Ideal) x2 x3 (ix4 b h q k)) = _
    rw [Consts.ninf_f32]
    simp only [s0_at hx2 hx3]
  obtain ⟨M, hM⟩ := e
  refine ⟨M, ?_⟩
  rw [val_main_v26_apply, val_main_v25_apply, val_main_cst_4_apply, hM]
  show max (Ideal.ofBits .f32 0xFF800000#32) (M : EReal) = _
  rw [Consts.ninf_f32]
  exact max_eq_right bot_le

/-- A weight of map 0. -/
theorem p0_at (hx2 : Reals x2) (hx3 : Reals x3) (b : Fin 2) (h : Fin 4) (q k : Fin 16384) :
    val_main_v34 (F := Ideal) x2 x3 (ix4 b h q k) = ((Real.exp (mapScore x2 x3 0 b h q k) / ∑ j, Real.exp (mapScore x2 x3 0 b h q j) : ℝ) : EReal) := by
  obtain ⟨M, hM⟩ := m0_real hx2 hx3 b h q
  have ee : ∀ k : Fin 16384, val_main_v30 (F := Ideal) x2 x3 (ix4 b h q k) = ((Real.exp (mapScore x2 x3 0 b h q k - M) : ℝ) : EReal) := fun k => by
    have e8 : idx_main_v27 (idx_main_v28 (ix4 b h q k)) = ix3 b h q := funext fun a => match a with
      | ⟨0, _⟩ => rfl
      | ⟨1, _⟩ => rfl
      | ⟨2, _⟩ => rfl
    rw [val_main_v30_apply, val_main_v29_apply, val_main_v28_apply, val_main_v27_apply, e8, hM, s0_at hx2 hx3]
    show Ideal.exp ((mapScore x2 x3 0 b h q k : EReal) - (M : EReal)) = _
    rw [← EReal.coe_sub, Ideal.exp_coe]
  have es : val_main_v31 (F := Ideal) x2 x3 (ix3 b h q) = ((∑ k : Fin 16384, Real.exp (mapScore x2 x3 0 b h q k - M) : ℝ) : EReal) := by
    rw [val_main_v31_apply, val_main_cst_5_apply, ← sum_coe]
    refine Eq.trans (congrArg (· + _) Ideal.ofBits_zero_f32) ?_
    rw [zero_add]
    refine Finset.sum_congr rfl fun k _ => ?_
    have ei : idx_main_v31 (ix3 b h q) k = ix4 b h q k := funext fun a => match a with
      | ⟨0, _⟩ => rfl
      | ⟨1, _⟩ => rfl
      | ⟨2, _⟩ => rfl
      | ⟨3, _⟩ => rfl
    rw [ei, ee]
  have e13 : idx_main_v32 (idx_main_v33 (ix4 b h q k)) = ix3 b h q := funext fun a => match a with
      | ⟨0, _⟩ => rfl
      | ⟨1, _⟩ => rfl
      | ⟨2, _⟩ => rfl
  rw [val_main_v34_apply, val_main_v33_apply, val_main_v32_apply, e13, ee, es]
  exact weight (mapScore x2 x3 0 b h q) M k

/-- A query's feature in map 1. -/
theorem q1_at (b : Fin 2) (q : Fin 16384) (h : Fin 4) (d : Fin 32) : val_main_v36 (F := Ideal) x2 (ix4 b q h d) = x2 (ix5 b q h 1 d) := by
  rw [val_main_v36_apply, val_main_v35_apply]
  have hb := b.isLt
  have hq := q.isLt
  have hh := h.isLt
  have hd := d.isLt
  refine congrArg x2 (funext fun a => Fin.ext ?_)
  match a with
  | ⟨0, _⟩ => show (((b.val * 16384 + q.val) * 4 + h.val) * 32 + d.val) / 2097152 = b.val; omega
  | ⟨1, _⟩ => show (((b.val * 16384 + q.val) * 4 + h.val) * 32 + d.val) / 128 % 16384 = q.val; omega
  | ⟨2, _⟩ => show (((b.val * 16384 + q.val) * 4 + h.val) * 32 + d.val) / 32 % 4 = h.val; omega
  | ⟨3, _⟩ => rfl
  | ⟨4, _⟩ => show (((b.val * 16384 + q.val) * 4 + h.val) * 32 + d.val) % 32 = d.val; omega

/-- A key's feature in map 1. -/
theorem k1_at (b : Fin 2) (q : Fin 16384) (h : Fin 4) (d : Fin 32) : val_main_v38 (F := Ideal) x3 (ix4 b q h d) = x3 (ix5 b q h 1 d) := by
  rw [val_main_v38_apply, val_main_v37_apply]
  have hb := b.isLt
  have hq := q.isLt
  have hh := h.isLt
  have hd := d.isLt
  refine congrArg x3 (funext fun a => Fin.ext ?_)
  match a with
  | ⟨0, _⟩ => show (((b.val * 16384 + q.val) * 4 + h.val) * 32 + d.val) / 2097152 = b.val; omega
  | ⟨1, _⟩ => show (((b.val * 16384 + q.val) * 4 + h.val) * 32 + d.val) / 128 % 16384 = q.val; omega
  | ⟨2, _⟩ => show (((b.val * 16384 + q.val) * 4 + h.val) * 32 + d.val) / 32 % 4 = h.val; omega
  | ⟨3, _⟩ => rfl
  | ⟨4, _⟩ => show (((b.val * 16384 + q.val) * 4 + h.val) * 32 + d.val) % 32 = d.val; omega

/-- A scaled score in map 1. -/
theorem s1_at (hx2 : Reals x2) (hx3 : Reals x3) (b : Fin 2) (h : Fin 4) (q k : Fin 16384) : val_main_v42 (F := Ideal) x2 x3 (ix4 b h q k) = (mapScore x2 x3 1 b h q k : EReal) := by
  have hs : Real.sqrt 32 ≠ 0 := (Real.sqrt_pos.2 (by norm_num)).ne'
  have e0 : val_main_v39 (F := Ideal) x2 x3 (ix4 b h q k) = ((∑ d : Fin 32, (x2 (ix5 b q h 1 d)).toReal * (x3 (ix5 b k h 1 d)).toReal : ℝ) : EReal) := by
    rw [val_main_v39_apply, ← sum_coe]
    refine Finset.sum_congr rfl fun d _ => ?_
    have e1 : lidx_main_v39 (ix4 b h q k) d = ix4 b q h d := funext fun a => match a with
      | ⟨0, _⟩ => rfl
      | ⟨1, _⟩ => rfl
      | ⟨2, _⟩ => rfl
      | ⟨3, _⟩ => rfl
    have e2 : ridx_main_v39 (ix4 b h q k) d = ix4 b k h d := funext fun a => match a with
      | ⟨0, _⟩ => rfl
      | ⟨1, _⟩ => rfl
      | ⟨2, _⟩ => rfl
      | ⟨3, _⟩ => rfl
    rw [e1, e2, q1_at, k1_at, EReal.coe_mul, ← hx2, ← hx3]
  rw [val_main_v42_apply, val_main_v41_apply, val_main_v40_apply, val_main_cst_6_apply, e0]
  show Ideal.div _ (Ideal.sqrt (Ideal.ofBits .f32 0x42000000#32)) = _
  rw [f32_f32, Ideal.sqrt_coe, if_neg (by norm_num), Ideal.div_coe hs, ← EReal.coe_mul]
  unfold mapScore
  congr 1
  ring

/-- The largest score of a query in map 1 is a real number. -/
theorem m1_real (hx2 : Reals x2) (hx3 : Reals x3) (b : Fin 2) (h : Fin 4) (q : Fin 16384) : ∃ M : ℝ, val_main_v45 (F := Ideal) x2 x3 (ix3 b h q) = (M : EReal) := by
  have e : ∃ M : ℝ, val_main_v43 (F := Ideal) x2 x3 (ix3 b h q) = (M : EReal) := by
    obtain ⟨M, hM⟩ := fold_max_real (⊥ : EReal) (by simp) (fun k : Fin 16384 => mapScore x2 x3 1 b h q k)
    refine ⟨M, ?_⟩
    unfold val_main_v43
    rw [Host.reduce_eq_fold, Shape.ReducesTo.fold_fiber_r4_a3]
    refine Eq.trans ?_ hM
    rw [val_main_cst_7_apply]
    show Finset.univ.fold max (Ideal.ofBits .f32 0xFF800000#32) (fun k : Fin 16384 => val_main_v42 (F := Ideal) x2 x3 (ix4 b h q k)) = _
    rw [Consts.ninf_f32]
    simp only [s1_at hx2 hx3]
  obtain ⟨M, hM⟩ := e
  refine ⟨M, ?_⟩
  rw [val_main_v45_apply, val_main_v44_apply, val_main_cst_8_apply, hM]
  show max (Ideal.ofBits .f32 0xFF800000#32) (M : EReal) = _
  rw [Consts.ninf_f32]
  exact max_eq_right bot_le

/-- A weight of map 1. -/
theorem p1_at (hx2 : Reals x2) (hx3 : Reals x3) (b : Fin 2) (h : Fin 4) (q k : Fin 16384) :
    val_main_v53 (F := Ideal) x2 x3 (ix4 b h q k) = ((Real.exp (mapScore x2 x3 1 b h q k) / ∑ j, Real.exp (mapScore x2 x3 1 b h q j) : ℝ) : EReal) := by
  obtain ⟨M, hM⟩ := m1_real hx2 hx3 b h q
  have ee : ∀ k : Fin 16384, val_main_v49 (F := Ideal) x2 x3 (ix4 b h q k) = ((Real.exp (mapScore x2 x3 1 b h q k - M) : ℝ) : EReal) := fun k => by
    have e8 : idx_main_v46 (idx_main_v47 (ix4 b h q k)) = ix3 b h q := funext fun a => match a with
      | ⟨0, _⟩ => rfl
      | ⟨1, _⟩ => rfl
      | ⟨2, _⟩ => rfl
    rw [val_main_v49_apply, val_main_v48_apply, val_main_v47_apply, val_main_v46_apply, e8, hM, s1_at hx2 hx3]
    show Ideal.exp ((mapScore x2 x3 1 b h q k : EReal) - (M : EReal)) = _
    rw [← EReal.coe_sub, Ideal.exp_coe]
  have es : val_main_v50 (F := Ideal) x2 x3 (ix3 b h q) = ((∑ k : Fin 16384, Real.exp (mapScore x2 x3 1 b h q k - M) : ℝ) : EReal) := by
    rw [val_main_v50_apply, val_main_cst_9_apply, ← sum_coe]
    refine Eq.trans (congrArg (· + _) Ideal.ofBits_zero_f32) ?_
    rw [zero_add]
    refine Finset.sum_congr rfl fun k _ => ?_
    have ei : idx_main_v50 (ix3 b h q) k = ix4 b h q k := funext fun a => match a with
      | ⟨0, _⟩ => rfl
      | ⟨1, _⟩ => rfl
      | ⟨2, _⟩ => rfl
      | ⟨3, _⟩ => rfl
    rw [ei, ee]
  have e13 : idx_main_v51 (idx_main_v52 (ix4 b h q k)) = ix3 b h q := funext fun a => match a with
      | ⟨0, _⟩ => rfl
      | ⟨1, _⟩ => rfl
      | ⟨2, _⟩ => rfl
  rw [val_main_v53_apply, val_main_v52_apply, val_main_v51_apply, e13, ee, es]
  exact weight (mapScore x2 x3 1 b h q) M k

variable {x0 : LL} {x1 : GG} {x4 : VV}

/-- The values weighed by the difference of the two maps. -/
theorem v57_at (hx0 : Reals x0) (hx2 : Reals x2) (hx3 : Reals x3) (hx4 : Reals x4) (b : Fin 2) (h : Fin 4) (r : Fin 64) (q : Fin 16384) :
    val_main_v57 (F := Ideal) x0 x2 x3 x4 (ix4 b h r q) = dif x0 x2 x3 x4 b h q r := by
  obtain ⟨L, hL⟩ := lam_real hx0
  have ev : (fun k => x4 (ix4 b k h r)) = fun k => ((x4 (ix4 b k h r)).toReal : EReal) := funext fun k => hx4 _
  unfold dif
  rw [hL, ev, ← diff_sum, val_main_v57_apply]
  refine Finset.sum_congr rfl fun k _ => ?_
  have el : lidx_main_v57 (ix4 b h r q) k = ix4 b k h r := funext fun a => match a with
      | ⟨0, _⟩ => rfl
      | ⟨1, _⟩ => rfl
      | ⟨2, _⟩ => rfl
      | ⟨3, _⟩ => rfl
  have er : ridx_main_v57 (ix4 b h r q) k = ix4 b h q k := funext fun a => match a with
      | ⟨0, _⟩ => rfl
      | ⟨1, _⟩ => rfl
      | ⟨2, _⟩ => rfl
      | ⟨3, _⟩ => rfl
  rw [el, er, val_main_v56_apply, val_main_v55_apply, val_main_v54_apply, v15_at, hL, p0_at hx2 hx3, p1_at hx2 hx3, ← hx4]
  rfl

/-- Position first, as the norm reads it. -/
theorem v58_at (hx0 : Reals x0) (hx2 : Reals x2) (hx3 : Reals x3) (hx4 : Reals x4) (b : Fin 2) (q : Fin 16384) (h : Fin 4) (r : Fin 64) :
    val_main_v58 (F := Ideal) x0 x2 x3 x4 (ix4 b q h r) = dif x0 x2 x3 x4 b h q r := by
  have e : idx_main_v58 (ix4 b q h r) = ix4 b h r q := funext fun a => match a with
      | ⟨0, _⟩ => rfl
      | ⟨1, _⟩ => rfl
      | ⟨2, _⟩ => rfl
      | ⟨3, _⟩ => rfl
  rw [val_main_v58_apply, e, v57_at hx0 hx2 hx3 hx4]

/-- One head's features, normed. -/
theorem v73_at (hx0 : Reals x0) (hx2 : Reals x2) (hx3 : Reals x3) (hx4 : Reals x4) (b : Fin 2) (q : Fin 16384) (h : Fin 4) (r : Fin 64) :
    val_main_v73 (F := Ideal) x0 x1 x2 x3 x4 (ix4 b q h r) = nrm (dif x0 x2 x3 x4 b h q) (x1 (ix1 r)) r := by
  have e60 : val_main_v60 (F := Ideal) x0 x2 x3 x4 (ix3 b q h) = ∑ r : Fin 64, dif x0 x2 x3 x4 b h q r * dif x0 x2 x3 x4 b h q r := by
    rw [val_main_v60_apply, val_main_cst_10_apply]
    refine (congrArg (· + _) Ideal.ofBits_zero_f32).trans ((zero_add _).trans (Finset.sum_congr rfl fun k _ => ?_))
    have ei : idx_main_v60 (ix3 b q h) k = ix4 b q h k := funext fun a => match a with
      | ⟨0, _⟩ => rfl
      | ⟨1, _⟩ => rfl
      | ⟨2, _⟩ => rfl
      | ⟨3, _⟩ => rfl
    rw [ei, val_main_v59_apply, v58_at hx0 hx2 hx3 hx4]
    rfl
  have ei : idx_main_v61 (idx_main_v67 (ix4 b q h r)) = ix3 b q h := funext fun a => match a with
      | ⟨0, _⟩ => rfl
      | ⟨1, _⟩ => rfl
      | ⟨2, _⟩ => rfl
  have eg : idx_main_v69 (idx_main_v70 (ix4 b q h r)) = ix1 r := funext fun a => match a with
      | ⟨0, _⟩ => rfl
  rw [val_main_v73_apply, val_main_v71_apply, val_main_v68_apply, v58_at hx0 hx2 hx3 hx4, val_main_v67_apply, val_main_v66_apply, val_main_v65_apply, val_main_v63_apply,
    val_main_v61_apply, ei, e60, val_main_v62_apply, val_main_cst_11_apply, val_main_v64_apply, val_main_cst_12_apply, val_main_v70_apply, val_main_v69_apply, eg,
    val_main_v72_apply, val_main_cst_13_apply]
  exact mul_assoc _ _ _

/-- The result of the reference is the differential attention. -/
theorem ref_at (hx0 : Reals x0) (hx2 : Reals x2) (hx3 : Reals x3) (hx4 : Reals x4) : val_main_v76 (F := Ideal) x0 x1 x2 x3 x4 = diffArr x0 x1 x2 x3 x4 := by
  funext i
  rw [val_main_v76_apply]
  show val_main_v75 (F := Ideal) x0 x1 x2 x3 x4 i = _
  rw [val_main_v75_apply, val_main_v74_apply]
  refine Eq.trans (congrArg (val_main_v73 (F := Ideal) x0 x1 x2 x3 x4) ?_) (v73_at hx0 hx2 hx3 hx4 (i 0) (i 2) ⟨(i 1).val / 64, by have h : (i 1).val < 256 := (i 1).isLt; omega⟩ ⟨(i 1).val % 64, Nat.mod_lt _ (by norm_num)⟩)
  have h0 : (i 0).val < 2 := (i 0).isLt
  have h1 : (i 1).val < 256 := (i 1).isLt
  have h2 : (i 2).val < 16384 := (i 2).isLt
  funext a
  apply Fin.ext
  match a with
  | ⟨0, _⟩ => show (((i 0).val * 16384 + (i 2).val) * 256 + (i 1).val) / 4194304 = (i 0).val; omega
  | ⟨1, _⟩ => show (((i 0).val * 16384 + (i 2).val) * 256 + (i 1).val) / 256 % 16384 = (i 2).val; omega
  | ⟨2, _⟩ => show (((i 0).val * 16384 + (i 2).val) * 256 + (i 1).val) / 64 % 4 = (i 1).val / 64; omega
  | ⟨3, _⟩ => show (((i 0).val * 16384 + (i 2).val) * 256 + (i 1).val) % 64 = (i 1).val % 64; omega

end Cert.Reference3Ideal.Diff
end
-- ==== Proof.Diff.Alg.lean ====
module

public import proofs.«01_k».proof.Proof.Diff.Out
public import proofs.«01_k».proof.Proof.Diff.Ref
public import proofs.«01_k».proof.Proof.Gen.Reference3Ideal.Run

@[expose] public section

set_option maxRecDepth 16384

noncomputable section

namespace Cert.Kernel3Ideal.Diff

open Cert.Kernel3Ideal Cert.Kernel3Ideal.Gen Cert.Soft Cert.Diff
open Idealize.ShloMosaic hiding ix1 ix2 ix3 ix4 ix5 ix6
open Idealize.ShloMosaic.TcCoe Idealize.SL.Sem Idealize.ShloMosaic.ValueIdx

/-! ## The kernel computes the differential attention -/

variable {m : (ℓ : Loc nD τ sig) → Buf (Elt Ideal) ℓ} {c : Dev nD} {x0 : LL} {x1 : GG} {x2 x3 : QQ} {x4 : VV}

/-- Whatever the body may have left at each point, the array written back from it is the differential attention. -/
theorem out_diff (hx2 : Reals x2) (hx3 : Reals x3) (e0 : m (c.tc.loc main_arg0) = x0) (e1 : m (c.tc.loc main_arg1) = x1) (e2 : m (c.tc.loc main_arg2) = x2) (e3 : m (c.tc.loc main_arg3) = x3) (e4 : m (c.tc.loc main_arg4) = x4)
    (after : (w : Fin cfg0.W) → Fin cfg0.N → (cfg0.win w).block.Idx → Elt Ideal (cfg0.win w).elt)
    (hL : ∀ w u, (cfg0.win w).flush u = true → ((dats m 0 c).toRRel byRel (Leaves0 m c)).Leaves w u (after w u)) :
    (((dats m 0 c).toRRel byRel (Leaves0 m c)).withAfter after).arrAt 5 cfg0.N = diffArr x0 x1 x2 x3 x4 := by
  refine Pipeline.Dat.arrAt_eq_of_covers _ 5 _ covers_out fun t hf y => ?_
  have hs : Swept (iblk m c 0 t) (iblk m c 1 t) (iblk m c 2 t) (iblk m c 3 t) (iblk m c 4 t) (after 5 t) := by
    have h := Pipeline.Dat.toRRel_leaves _ (rfl : byRel 5 = true) (hL 5 t hf)
    rw [leaves_5] at h
    exact h
  show (after 5 t : Vec Ideal S1x128x512 .bf16) y = diffArr x0 x1 x2 x3 x4 (((cfg0.win 5).blk t).view.emb y)
  have hy : ∃ (b : Bool) (r : Fin 64) (q : Fin 512), (y : S1x128x512.Idx) = (ix3 0 (rowOf b r) q : S1x128x512.Idx) := by
    have hlt : (y 1).val < 128 := (y 1).isLt
    refine ⟨decide (64 ≤ (y 1).val), ⟨(y 1).val % 64, Nat.mod_lt _ (by norm_num)⟩, y 2, funext fun a => ?_⟩
    match a with
    | ⟨0, _⟩ => exact Subsingleton.elim (α := Fin 1) _ _
    | ⟨1, _⟩ =>
      refine Fin.ext ?_
      show (y 1).val = (decide (64 ≤ (y 1).val)).toNat * 64 + (y 1).val % 64
      by_cases h : 64 ≤ (y 1).val
      · rw [decide_eq_true h, Bool.toNat_true]; omega
      · rw [decide_eq_false h, Bool.toNat_false]; omega
    | ⟨2, _⟩ => rfl
  obtain ⟨b, r, q, hy⟩ := hy
  rw [hy]
  exact (point_val hx2 hx3 e0 e1 e2 e3 e4 t hs b r q).trans ((arr_out t b r q).symm.trans (congrArg (diffArr x0 x1 x2 x3 x4) (emb_out t (rowOf b r) q).symm))

/-- The kernel ends with the differential attention of its arguments in its result, and its arguments as they were. -/
theorem run_diff (m : (ℓ : Loc nD τ sig) → Buf (Elt Ideal) ℓ) (ρ : Dev nD → PrngReg) (h2 : ∀ c : Dev nD, Cert.Diff.Reals (m (c.tc.loc main_arg2))) (h3 : ∀ c : Dev nD, Cert.Diff.Reals (m (c.tc.loc main_arg3))) :
    θ_run defs (onTc (τ := τ) (main (F := Ideal))) ⟨m, fun _ => 0, ρ⟩ (fun r => ∀ c : Dev nD,
      r.2.mem (c.tc.loc main_v16) = diffArr (m (c.tc.loc main_arg0)) (m (c.tc.loc main_arg1)) (m (c.tc.loc main_arg2)) (m (c.tc.loc main_arg3)) (m (c.tc.loc main_arg4))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)) := by
  refine (θ_run defs _ _).mono (fun r h c => ?_) (run_main (F := Ideal) m ρ)
  refine ⟨?_, rest_eq h.1 c⟩
  obtain ⟨after, hL, hA⟩ := h.1.exists_exact c
  exact (hA 5).trans (out_diff (h2 c) (h3 c) rfl rfl rfl rfl rfl after hL)

end Cert.Kernel3Ideal.Diff

namespace Cert.Reference3Ideal.Diff

open Cert.Reference3Ideal Cert.Soft Cert.Diff
open Idealize.ShloMosaic Idealize.ShloMosaic.TcCoe Idealize.SL.Sem

/-- The reference ends with the differential attention of its arguments in its result, and its arguments as they were. -/
theorem run_diff (m : (ℓ : Loc nD τ sig) → Buf (Elt Ideal) ℓ) (ρ : Dev nD → PrngReg) {x0 : Dev nD → LL} {x1 : Dev nD → GG} {x2 x3 : Dev nD → QQ} {x4 : Dev nD → VV}
    (hx0 : ∀ c, Reals (x0 c)) (hx2 : ∀ c, Reals (x2 c)) (hx3 : ∀ c, Reals (x3 c)) (hx4 : ∀ c, Reals (x4 c)) (e0 : ∀ c : Dev nD, m (c.tc.loc main_arg0) = x0 c) (e1 : ∀ c : Dev nD, m (c.tc.loc main_arg1) = x1 c) (e2 : ∀ c : Dev nD, m (c.tc.loc main_arg2) = x2 c) (e3 : ∀ c : Dev nD, m (c.tc.loc main_arg3) = x3 c) (e4 : ∀ c : Dev nD, m (c.tc.loc main_arg4) = x4 c) :
    θ_run defs (onTc (τ := τ) (main (F := Ideal))) ⟨m, fun _ => 0, ρ⟩ (fun r => ∀ c : Dev nD,
      r.2.mem (c.tc.loc main_v76) = diffArr (x0 c) (x1 c) (x2 c) (x3 c) (x4 c)
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)) := by
  refine (θ_run defs _ _).mono (fun r h c => ⟨?_, (h c).2⟩) (Value.run (F := Ideal) m ρ)
  refine (h c).1.trans ((Read.val_main_v76_eq _ _).trans ?_)
  rw [e0, e1, e2, e3, e4]
  exact ref_at (hx0 c) (hx2 c) (hx3 c) (hx4 c)

end Cert.Reference3Ideal.Diff
end
-- ==== Proof.lean ====
/- The certificate's proof: the parts that Defs.lean's claim asks for, each proved from the modules under Proof/. -/
module

public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Gen.ReferenceIdeal.Read
public import proofs.«01_k».proof.Defs
public import proofs.«01_k».proof.Proof.Att.Same
public import proofs.«01_k».proof.Proof.Att.Alg
public import proofs.«01_k».proof.Proof.Ffn.Alg
public import proofs.«01_k».proof.Proof.Outp.Alg
public import proofs.«01_k».proof.Proof.Diff.Same
public import proofs.«01_k».proof.Proof.Diff.Alg
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-- The precondition's own stated fact: a scalar may be broadcast to the shape of the queries. -/
theorem preFacts : Cert.Pre_finite.Facts where
  bcast_S_S2x16384x4x96 := by decide

/-- The run of the kernel's own text, whatever its numbers are: its arguments end as they were and every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => Cert.KernelIdeal.Att.rest_eq h.1 c, h.2⟩) (Cert.KernelIdeal.Att.run_main (F := F) m ρ)

/-- The idealized kernel ends with its arguments as they were and every counter at zero. -/
theorem frame_ideal : Cert.quiescent_KernelIdeal := fun m ρ _ => frame_any (F := Ideal) m ρ

set_option backward.isDefEq.respectTransparency.types false in
/-- The same run over bit patterns is the kernel's. -/
theorem frame_kernel : Cert.quiescent_Kernel := fun m ρ _ => by
  have h := frame_any (F := Bits) m ρ
  rw [← Cert.KernelIdeal.Att.defs_same, ← Cert.KernelIdeal.Att.main_same] at h
  exact h

/-- The reference ends with its arguments as they were; it has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite queries and keys, the idealized kernel and the idealized reference both end with the attention. -/
theorem attention : haveI := preFacts; Cert.algebraic_KernelIdeal_ReferenceIdeal_pre_finite := fun m g m' g' hp hm =>
  have hr := fun c => Cert.Soft.real_of_pre (hF := preFacts) _ _ _ (hp c)
  ⟨fun c => Cert.Soft.attArr (m (c.tc.loc Cert.KernelIdeal.main_arg0)) (m (c.tc.loc Cert.KernelIdeal.main_arg1)) (m (c.tc.loc Cert.KernelIdeal.main_arg2)),
    Cert.KernelIdeal.Att.run_att m g (fun c => (hr c).1) (fun c => (hr c).2),
    Cert.ReferenceIdeal.Att.run_att m' g' (fun c => (hr c).1) (fun c => (hr c).2) (fun c => (hm c).1) (fun c => (hm c).2.1) (fun c => (hm c).2.2)⟩

/-- The second kernel ends with its arguments as they were and every counter at zero. -/
theorem frame_kernel2 : Cert.quiescent_Kernel2 := fun m ρ _ => Cert.Kernel2.Gen.frame m ρ

/-- So does its idealization. -/
theorem frame_ideal2 : Cert.quiescent_Kernel2Ideal := fun m ρ _ => Cert.Kernel2Ideal.Gen.frame m ρ

/-- The second reference ends with its arguments as they were; it has no counters. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From any arguments, the second kernel and the second reference both end with the feed-forward network and its norm. -/
theorem ffn : Cert.algebraic_Kernel2Ideal_Reference2Ideal := fun m g m' g' _ hm =>
  ⟨fun c => Cert.Ffn.ffnArr (m (c.tc.loc Cert.Kernel2Ideal.main_arg0)) (m (c.tc.loc Cert.Kernel2Ideal.main_arg1)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)) (m (c.tc.loc Cert.Kernel2Ideal.main_arg6)),
    Cert.Kernel2Ideal.Ffn.run_ffn m g, Cert.Reference2Ideal.Ffn.run_ffn m' g' hm⟩

/-- The third precondition's own stated facts: a scalar may be broadcast to the arrays' shapes and each array reduced to a scalar. -/
theorem preFacts3 : Cert.Pre_all_finite.Facts where
  bcast_S_S4x32 := by decide
  reducesTo_S4x32_S_d0_1 := by decide
  h_S_ := by decide
  bcast_S_S2x16384x4x2x32 := by decide
  reducesTo_S2x16384x4x2x32_S_d0_1_2_3_4 := by decide
  bcast_S_S2x16384x4x64 := by decide
  reducesTo_S2x16384x4x64_S_d0_1_2_3 := by decide

/-- The run of the third kernel's own text, whatever its numbers are: its arguments end as they were and every counter at zero. -/
theorem frame_any3 {F : FTy → Type} [FloatOps F] (m : (ℓ : Loc Cert.Kernel3Ideal.nD Cert.Kernel3Ideal.τ Cert.Kernel3Ideal.sig) → Buf (Elt F) ℓ) (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  (θ_run Cert.Kernel3Ideal.defs _ _).mono (fun _ h => ⟨fun c => Cert.Kernel3Ideal.Diff.rest_eq h.1 c, h.2⟩) (Cert.Kernel3Ideal.Diff.run_main (F := F) m ρ)

/-- The third idealized kernel ends with its arguments as they were and every counter at zero. -/
theorem frame_ideal3 : Cert.quiescent_Kernel3Ideal := fun m ρ _ => frame_any3 (F := Ideal) m ρ

set_option backward.isDefEq.respectTransparency.types false in
/-- The same run over bit patterns is the third kernel's. -/
theorem frame_kernel3 : Cert.quiescent_Kernel3 := fun m ρ _ => by
  have h := frame_any3 (F := Bits) m ρ
  rw [← Cert.Kernel3Ideal.Diff.defs_same, ← Cert.Kernel3Ideal.Diff.main_same] at h
  exact h

/-- The third reference ends with its arguments as they were; it has no counters. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From finite queries, keys, values and rows of lambda, the third kernel and the third reference both end with the differential attention. -/
theorem differential : haveI := preFacts3; Cert.algebraic_Kernel3Ideal_Reference3Ideal_pre_all_finite := fun m g m' g' hp hm =>
  have hr := fun c => Cert.Diff.reals_of_pre (hF := preFacts3) _ _ _ _ _ (hp c)
  ⟨fun c => Cert.Diff.diffArr (m (c.tc.loc Cert.Kernel3Ideal.main_arg0)) (m (c.tc.loc Cert.Kernel3Ideal.main_arg1)) (m (c.tc.loc Cert.Kernel3Ideal.main_arg2)) (m (c.tc.loc Cert.Kernel3Ideal.main_arg3))
      (m (c.tc.loc Cert.Kernel3Ideal.main_arg4)),
    Cert.Kernel3Ideal.Diff.run_diff m g (fun c => (hr c).2.1) (fun c => (hr c).2.2.1),
    Cert.Reference3Ideal.Diff.run_diff m' g' (fun c => (hr c).1) (fun c => (hr c).2.1) (fun c => (hr c).2.2.1) (fun c => (hr c).2.2.2)
      (fun c => (hm c).1) (fun c => (hm c).2.1) (fun c => (hm c).2.2.1) (fun c => (hm c).2.2.2.1) (fun c => (hm c).2.2.2.2)⟩

/-- The fourth kernel ends with its arguments as they were and every counter at zero. -/
theorem frame_kernel4 : Cert.quiescent_Kernel4 := fun m ρ _ => Cert.Kernel4.Gen.frame m ρ

/-- So does its idealization. -/
theorem frame_ideal4 : Cert.quiescent_Kernel4Ideal := fun m ρ _ => Cert.Kernel4Ideal.Gen.frame m ρ

/-- The fourth reference ends with its arguments as they were; it has no counters. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From any arguments, the fourth kernel and the fourth reference both end with the output projection and its norm. -/
theorem outproj : Cert.algebraic_Kernel4Ideal_Reference4Ideal := fun m g m' g' _ hm =>
  ⟨fun c => Cert.Outp.outArr (m (c.tc.loc Cert.Kernel4Ideal.main_arg0)) (m (c.tc.loc Cert.Kernel4Ideal.main_arg1)) (m (c.tc.loc Cert.Kernel4Ideal.main_arg2)) (m (c.tc.loc Cert.Kernel4Ideal.main_arg3))
      (m (c.tc.loc Cert.Kernel4Ideal.main_arg4)) (m (c.tc.loc Cert.Kernel4Ideal.main_arg5)) (m (c.tc.loc Cert.Kernel4Ideal.main_arg6)) (m (c.tc.loc Cert.Kernel4Ideal.main_arg7)),
    Cert.Kernel4Ideal.Outp.run_out m g, Cert.Reference4Ideal.Outp.run_out m' g' hm⟩

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, preFacts, preFacts3,
  frame_kernel, frame_ideal, fun m ρ _ => frame_ideal m ρ trivial, frame_ref, fun m ρ _ => frame_ref m ρ trivial,
  frame_kernel2, frame_ideal2, frame_ref2,
  frame_kernel3, frame_ideal3, fun m ρ _ => frame_ideal3 m ρ trivial, frame_ref3, fun m ρ _ => frame_ref3 m ρ trivial,
  frame_kernel4, frame_ideal4, frame_ref4,
  trivial, attention, trivial, ffn, trivial, differential, trivial, outproj⟩

end Cert.Proof

end
